-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v94_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v94_0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
-- ==== Pre_finite_scores.lean ====
abbrev S4x8192x1024 : Shape := ⟨3, ![4, 8192, 1024]⟩
abbrev S4x8192x384 : Shape := ⟨3, ![4, 8192, 384]⟩
abbrev S4x8192x256 : Shape := ⟨3, ![4, 8192, 256]⟩
abbrev S2x1024 : Shape := ⟨2, ![2, 1024]⟩
abbrev S2x6x257 : Shape := ⟨3, ![2, 6, 257]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S_ : Shape := ⟨0, ![]⟩
abbrev S1x6x257 : Shape := ⟨3, ![1, 6, 257]⟩
abbrev S6x257 : Shape := ⟨2, ![6, 257]⟩

class Facts : Prop where
  bcast_S_S4x8192x384 : S_.BroadcastsInDim S4x8192x384 (![] : Fin 0 → Fin S4x8192x384.rank)
  reducesTo_S4x8192x384_S_d0_1_2 : S4x8192x384.ReducesTo [0, 1, 2] S_
  h_S_ : 0 < S_.numel
  slices_S2x6x257_S1x6x257_0_0_0 : S2x6x257.Slices ![0, 0, 0] S1x6x257
  shapeCasts_S1x6x257_S6x257 : S1x6x257.ShapeCasts S6x257
  bcast_S_S6x257 : S_.BroadcastsInDim S6x257 (![] : Fin 0 → Fin S6x257.rank)
  reducesTo_S6x257_S_d0_1 : S6x257.ReducesTo [0, 1] S_

variable [Facts]

def fn {F : FTy → Type} [FloatOps F] (main_arg0 : FVec F S4x8192x1024 .f32) (main_arg1 : FVec F S4x8192x384 .f32) (main_arg2 : FVec F S4x8192x384 .f32) (main_arg3 : FVec F S4x8192x384 .f32) (main_arg4 : FVec F S4x8192x256 .f32) (main_arg5 : FVec F S4x8192x384 .f32) (main_arg6 : FVec F S2x1024 .f32) (main_arg7 : FVec F S2x1024 .f32) (main_arg8 : FVec F S2x1024 .f32) (main_arg9 : FVec F S2x6x257 .f32) (main_arg10 : FVec F S2x1024x1024 .f32) (main_arg11 : FVec F S2x1024x4096 .f32) (main_arg12 : FVec F S2x4096x1024 .f32) : IVec S_ 1 :=
  let main_v0 : FVec F S4x8192x384 .f32 := Host.absf main_arg1
  let main_cst : FVec F S_ .f32 := constant S_ .f32 0x7F800000#32
  let main_v1 : FVec F S4x8192x384 .f32 := broadcastInDim S4x8192x384 ![] bcast_S_S4x8192x384 main_cst
  let main_v2 : IVec S4x8192x384 1 := cmpf .olt main_v0 main_v1
  let main_c : IVec S_ 1 := constantI S_ 1 1#1
  let main_v3 : IVec S_ 1 := (fun x v => Host.reduce IntOp.andi x v reducesTo_S4x8192x384_S_d0_1_2 h_S_) main_v2 main_c
  let main_v4 : FVec F S4x8192x384 .f32 := Host.absf main_arg2
  let main_cst_0 : FVec F S_ .f32 := constant S_ .f32 0x7F800000#32
  let main_v5 : FVec F S4x8192x384 .f32 := broadcastInDim S4x8192x384 ![] bcast_S_S4x8192x384 main_cst_0
  let main_v6 : IVec S4x8192x384 1 := cmpf .olt main_v4 main_v5
  let main_c_1 : IVec S_ 1 := constantI S_ 1 1#1
  let main_v7 : IVec S_ 1 := (fun x v => Host.reduce IntOp.andi x v reducesTo_S4x8192x384_S_d0_1_2 h_S_) main_v6 main_c_1
  let main_v8 : IVec S_ 1 := andi main_v3 main_v7
  let main_v9 : FVec F S1x6x257 .f32 := (extractStridedSlice S1x6x257 ![0, 0, 0] · slices_S2x6x257_S1x6x257_0_0_0) main_arg9
  let main_v10 : FVec F S6x257 .f32 := shapeCast S6x257 main_v9 shapeCasts_S1x6x257_S6x257
  let main_v11 : FVec F S6x257 .f32 := Host.absf main_v10
  let main_cst_2 : FVec F S_ .f32 := constant S_ .f32 0x7F800000#32
  let main_v12 : FVec F S6x257 .f32 := broadcastInDim S6x257 ![] bcast_S_S6x257 main_cst_2
  let main_v13 : IVec S6x257 1 := cmpf .olt main_v11 main_v12
  let main_c_3 : IVec S_ 1 := constantI S_ 1 1#1
  let main_v14 : IVec S_ 1 := (fun x v => Host.reduce IntOp.andi x v reducesTo_S6x257_S_d0_1 h_S_) main_v13 main_c_3
  let main_v15 : IVec S_ 1 := andi main_v8 main_v14
  main_v15
-- ==== Kernel.lean ====
abbrev S4x8192x1024 : Shape := ⟨3, ![4, 8192, 1024]⟩
abbrev S4x8192x384 : Shape := ⟨3, ![4, 8192, 384]⟩
abbrev S4x8192x256 : Shape := ⟨3, ![4, 8192, 256]⟩
abbrev S2x1024 : Shape := ⟨2, ![2, 1024]⟩
abbrev S2x6x257 : Shape := ⟨3, ![2, 6, 257]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S_ : Shape := ⟨0, ![]⟩
abbrev S4x8192x1152 : Shape := ⟨3, ![4, 8192, 1152]⟩
abbrev S32768x1152 : Shape := ⟨2, ![32768, 1152]⟩
abbrev S32768x1024 : Shape := ⟨2, ![32768, 1024]⟩
abbrev S32768x256 : Shape := ⟨2, ![32768, 256]⟩
abbrev S32768x384 : Shape := ⟨2, ![32768, 384]⟩
abbrev S1x6x257 : Shape := ⟨3, ![1, 6, 257]⟩
abbrev S6x257 : Shape := ⟨2, ![6, 257]⟩
abbrev S6x1 : Shape := ⟨2, ![6, 1]⟩
abbrev S6x128 : Shape := ⟨2, ![6, 128]⟩
abbrev S6x256 : Shape := ⟨2, ![6, 256]⟩
abbrev S6x384 : Shape := ⟨2, ![6, 384]⟩
abbrev S6x768 : Shape := ⟨2, ![6, 768]⟩
abbrev S1x1024 : Shape := ⟨2, ![1, 1024]⟩
abbrev S1024 : Shape := ⟨1, ![1024]⟩
abbrev S512x1024 : Shape := ⟨2, ![512, 1024]⟩
abbrev S512x256 : Shape := ⟨2, ![512, 256]⟩
abbrev S512x384 : Shape := ⟨2, ![512, 384]⟩
abbrev S384x1024 : Shape := ⟨2, ![384, 1024]⟩
abbrev S2x640x256 : Shape := ⟨3, ![2, 640, 256]⟩
abbrev S6x640x128 : Shape := ⟨3, ![6, 640, 128]⟩
abbrev S2x512x1024 : Shape := ⟨3, ![2, 512, 1024]⟩
abbrev S1024x1024 : Shape := ⟨2, ![1024, 1024]⟩
abbrev S1024x4096 : Shape := ⟨2, ![1024, 4096]⟩
abbrev S4096x1024 : Shape := ⟨2, ![4096, 1024]⟩
abbrev S3 : Shape := ⟨1, ![3]⟩
abbrev S1 : Shape := ⟨1, ![1]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S128x128 : Shape := ⟨2, ![128, 128]⟩
abbrev S1x128 : Shape := ⟨2, ![1, 128]⟩
abbrev S1x256 : Shape := ⟨2, ![1, 256]⟩
abbrev S1x640 : Shape := ⟨2, ![1, 640]⟩
abbrev S128x1024 : Shape := ⟨2, ![128, 1024]⟩
abbrev S1x128x128 : Shape := ⟨3, ![1, 128, 128]⟩
abbrev S640x128 : Shape := ⟨2, ![640, 128]⟩
abbrev S384x512 : Shape := ⟨2, ![384, 512]⟩
abbrev S256x128 : Shape := ⟨2, ![256, 128]⟩
abbrev S512x128 : Shape := ⟨2, ![512, 128]⟩
abbrev S640x256 : Shape := ⟨2, ![640, 256]⟩
abbrev S1x640x128 : Shape := ⟨3, ![1, 640, 128]⟩
abbrev S128 : Shape := ⟨1, ![128]⟩
abbrev S64x640 : Shape := ⟨2, ![64, 640]⟩
abbrev S64x128 : Shape := ⟨2, ![64, 128]⟩
abbrev S384x128 : Shape := ⟨2, ![384, 128]⟩
abbrev S128x384 : Shape := ⟨2, ![128, 384]⟩
abbrev S1024x256 : Shape := ⟨2, ![1024, 256]⟩
abbrev S512 : Shape := ⟨1, ![512]⟩
abbrev S512x1 : Shape := ⟨2, ![512, 1]⟩
abbrev S1x512x256 : Shape := ⟨3, ![1, 512, 256]⟩
abbrev S1x512x1024 : Shape := ⟨3, ![1, 512, 1024]⟩

abbrev nBuf : Space → Nat
  | .hbm => 44
  | .vmem => 35
  | .smem => 0
  | _ => 0

abbrev bufTy : (tb : Table) → Fin (tcTables nBuf tb) → BufTy
  | .hbm, ⟨0, _⟩ => ⟨S4x8192x1024, .f32⟩
  | .hbm, ⟨1, _⟩ => ⟨S4x8192x384, .f32⟩
  | .hbm, ⟨2, _⟩ => ⟨S4x8192x384, .f32⟩
  | .hbm, ⟨3, _⟩ => ⟨S4x8192x384, .f32⟩
  | .hbm, ⟨4, _⟩ => ⟨S4x8192x256, .f32⟩
  | .hbm, ⟨5, _⟩ => ⟨S4x8192x384, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x6x257, .f32⟩
  | .hbm, ⟨10, _⟩ => ⟨S2x1024x1024, .f32⟩
  | .hbm, ⟨11, _⟩ => ⟨S2x1024x4096, .f32⟩
  | .hbm, ⟨12, _⟩ => ⟨S2x4096x1024, .f32⟩
  | .hbm, ⟨13, _⟩ => ⟨S2x1024x1024, .bf16⟩
  | .hbm, ⟨14, _⟩ => ⟨S2x1024x4096, .bf16⟩
  | .hbm, ⟨15, _⟩ => ⟨S2x4096x1024, .bf16⟩
  | .hbm, ⟨16, _⟩ => ⟨S_, .f32⟩
  | .hbm, ⟨17, _⟩ => ⟨S4x8192x384, .f32⟩
  | .hbm, ⟨18, _⟩ => ⟨S4x8192x384, .f32⟩
  | .hbm, ⟨19, _⟩ => ⟨S4x8192x1152, .f32⟩
  | .hbm, ⟨20, _⟩ => ⟨S4x8192x1152, .bf16⟩
  | .hbm, ⟨21, _⟩ => ⟨S32768x1152, .bf16⟩
  | .hbm, ⟨22, _⟩ => ⟨S32768x1024, .f32⟩
  | .hbm, ⟨23, _⟩ => ⟨S4x8192x256, .bf16⟩
  | .hbm, ⟨24, _⟩ => ⟨S32768x256, .bf16⟩
  | .hbm, ⟨25, _⟩ => ⟨S4x8192x384, .bf16⟩
  | .hbm, ⟨26, _⟩ => ⟨S32768x384, .bf16⟩
  | .hbm, ⟨27, _⟩ => ⟨S1x6x257, .f32⟩
  | .hbm, ⟨28, _⟩ => ⟨S6x257, .f32⟩
  | .hbm, ⟨29, _⟩ => ⟨S6x1, .f32⟩
  | .hbm, ⟨30, _⟩ => ⟨S6x128, .f32⟩
  | .hbm, ⟨31, _⟩ => ⟨S6x256, .f32⟩
  | .hbm, ⟨32, _⟩ => ⟨S6x384, .f32⟩
  | .hbm, ⟨33, _⟩ => ⟨S6x768, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S1x1024, .f32⟩
  | .hbm, ⟨38, _⟩ => ⟨S1024, .f32⟩
  | .hbm, ⟨39, _⟩ => ⟨S1x1024, .f32⟩
  | .hbm, ⟨40, _⟩ => ⟨S1x1024, .f32⟩
  | .hbm, ⟨41, _⟩ => ⟨S1024, .f32⟩
  | .hbm, ⟨42, _⟩ => ⟨S1x1024, .f32⟩
  | .hbm, ⟨43, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x384, .bf16⟩
  | .local _ .vmem, ⟨5, _⟩ => ⟨S512x384, .bf16⟩
  | .local _ .vmem, ⟨6, _⟩ => ⟨S512x384, .bf16⟩
  | .local _ .vmem, ⟨7, _⟩ => ⟨S512x384, .bf16⟩
  | .local _ .vmem, ⟨8, _⟩ => ⟨S512x384, .bf16⟩
  | .local _ .vmem, ⟨9, _⟩ => ⟨S512x384, .bf16⟩
  | .local _ .vmem, ⟨10, _⟩ => ⟨S512x384, .bf16⟩
  | .local _ .vmem, ⟨11, _⟩ => ⟨S512x384, .bf16⟩
  | .local _ .vmem, ⟨12, _⟩ => ⟨S512x384, .bf16⟩
  | .local _ .vmem, ⟨13, _⟩ => ⟨S512x384, .bf16⟩
  | .local _ .vmem, ⟨14, _⟩ => ⟨S512x384, .bf16⟩
  | .local _ .vmem, ⟨15, _⟩ => ⟨S512x384, .bf16⟩
  | .local _ .vmem, ⟨16, _⟩ => ⟨S6x768, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S512x384, .bf16⟩
  | .local _ .vmem, ⟨23, _⟩ => ⟨S384x1024, .bf16⟩
  | .local _ .vmem, ⟨24, _⟩ => ⟨S2x640x256, .f32⟩
  | .local _ .vmem, ⟨25, _⟩ => ⟨S6x640x128, .f32⟩
  | .local _ .vmem, ⟨26, _⟩ => ⟨S512x1024, .bf16⟩
  | .local _ .vmem, ⟨27, _⟩ => ⟨S512x1024, .bf16⟩
  | .local _ .vmem, ⟨28, _⟩ => ⟨S2x512x1024, .bf16⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S1024x1024, .bf16⟩
  | .local _ .vmem, ⟨33, _⟩ => ⟨S1024x4096, .bf16⟩
  | .local _ .vmem, ⟨34, _⟩ => ⟨S4096x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_scratch10 : Ref sig .tc := ⟨.vmem, 32, rfl⟩
abbrev cc0_scratch11 : Ref sig .tc := ⟨.vmem, 33, rfl⟩
abbrev cc0_scratch12 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c64_i32 : BitVec 32 := 64#32
  let v4 : BitVec 1 := Scalar.cmpi .slt arg0 c64_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c64_i32_3 : BitVec 32 := 64#32
  let v8 : BitVec 1 := Scalar.cmpi .eq arg0 c64_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let c0_i32 : BitVec 32 := 0#32
  ![v0.toNat, c1_i32.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_7 (i : grid0.Coords) : Fin 2 → Nat :=
  let arg0 : BitVec 32 := BitVec.ofNat 32 (i 0).val
  let c63_i32 : BitVec 32 := 63#32
  let v0 : BitVec 32 := Scalar.minsi arg0 c63_i32
  let c2_i32 : BitVec 32 := 2#32
  let c0_i32 : BitVec 32 := 0#32
  ![v0.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S6x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4x8192x1024 : Shape := ⟨3, ![4, 8192, 1024]⟩
abbrev S4x8192x384 : Shape := ⟨3, ![4, 8192, 384]⟩
abbrev S4x8192x256 : Shape := ⟨3, ![4, 8192, 256]⟩
abbrev S2x1024 : Shape := ⟨2, ![2, 1024]⟩
abbrev S2x6x257 : Shape := ⟨3, ![2, 6, 257]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S1x6x257 : Shape := ⟨3, ![1, 6, 257]⟩
abbrev S6x257 : Shape := ⟨2, ![6, 257]⟩
abbrev S4x128x64x6x64 : Shape := ⟨5, ![4, 128, 64, 6, 64]⟩
abbrev S_ : Shape := ⟨0, ![]⟩
abbrev S4x136x64x6x64 : Shape := ⟨5, ![4, 136, 64, 6, 64]⟩
abbrev S128 : Shape := ⟨1, ![128]⟩
abbrev S128x1 : Shape := ⟨2, ![128, 1]⟩
abbrev S9 : Shape := ⟨1, ![9]⟩
abbrev S1x9 : Shape := ⟨2, ![1, 9]⟩
abbrev S128x9 : Shape := ⟨2, ![128, 9]⟩
abbrev S128x9x1 : Shape := ⟨3, ![128, 9, 1]⟩
abbrev S4x128x9x64x6x64 : Shape := ⟨6, ![4, 128, 9, 64, 6, 64]⟩
abbrev S4x128x576x6x64 : Shape := ⟨5, ![4, 128, 576, 6, 64]⟩
abbrev S4x128x6x64x576 : Shape := ⟨5, ![4, 128, 6, 64, 576]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S6x64x576 : Shape := ⟨3, ![6, 64, 576]⟩
abbrev S128x576 : Shape := ⟨2, ![128, 576]⟩
abbrev S1x128x1x1x576 : Shape := ⟨5, ![1, 128, 1, 1, 576]⟩
abbrev S1x1x6x64x576 : Shape := ⟨5, ![1, 1, 6, 64, 576]⟩
abbrev S4x128x6x64 : Shape := ⟨4, ![4, 128, 6, 64]⟩
abbrev S4x128x6x64x1 : Shape := ⟨5, ![4, 128, 6, 64, 1]⟩
abbrev S4x128x6x64x64 : Shape := ⟨5, ![4, 128, 6, 64, 64]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S4x8192x4096 : Shape := ⟨3, ![4, 8192, 4096]⟩
abbrev S1x4096x1024 : Shape := ⟨3, ![1, 4096, 1024]⟩
abbrev S4096x1024 : Shape := ⟨2, ![4096, 1024]⟩
abbrev S32768x1024 : Shape := ⟨2, ![32768, 1024]⟩

abbrev nBuf : Space → Nat
  | .hbm => 212
  | .vmem => 0
  | .smem => 0
  | _ => 0

abbrev hbmTy0_0 (i : Nat) : BufTy := match i % 128 with
  | 0 => ⟨S4x8192x1024, .f32⟩
  | 1 => ⟨S4x8192x384, .f32⟩
  | 2 => ⟨S4x8192x384, .f32⟩
  | 3 => ⟨S4x8192x384, .f32⟩
  | 4 => ⟨S4x8192x256, .f32⟩
  | 5 => ⟨S4x8192x384, .f32⟩
  | 6 => ⟨S2x1024, .f32⟩
  | 7 => ⟨S2x1024, .f32⟩
  | 8 => ⟨S2x1024, .f32⟩
  | 9 => ⟨S2x6x257, .f32⟩
  | 10 => ⟨S2x1024x1024, .f32⟩
  | 11 => ⟨S2x1024x4096, .f32⟩
  | 12 => ⟨S2x4096x1024, .f32⟩
  | 13 => ⟨S1x6x257, .f32⟩
  | 14 => ⟨S6x257, .f32⟩
  | 15 => ⟨S4x128x64x6x64, .f32⟩
  | 16 => ⟨S_, .f32⟩
  | 17 => ⟨S4x128x64x6x64, .f32⟩
  | 18 => ⟨S4x128x64x6x64, .f32⟩
  | 19 => ⟨S4x128x64x6x64, .f32⟩
  | 20 => ⟨S_, .i32⟩
  | 21 => ⟨S_, .f32⟩
  | 22 => ⟨S4x136x64x6x64, .f32⟩
  | 23 => ⟨S4x128x64x6x64, .f32⟩
  | 24 => ⟨S_, .i32⟩
  | 25 => ⟨S_, .f32⟩
  | 26 => ⟨S4x136x64x6x64, .f32⟩
  | 27 => ⟨S128, .i32⟩
  | 28 => ⟨S128x1, .i32⟩
  | 29 => ⟨S9, .i32⟩
  | 30 => ⟨S1x9, .i32⟩
  | 31 => ⟨S128x9, .i32⟩
  | 32 => ⟨S128x9, .i32⟩
  | 33 => ⟨S128x9, .i32⟩
  | 34 => ⟨S_, .i32⟩
  | 35 => ⟨S128x9, .i32⟩
  | 36 => ⟨S128x9, .i1⟩
  | 37 => ⟨S_, .i32⟩
  | 38 => ⟨S128x9, .i32⟩
  | 39 => ⟨S128x9, .i32⟩
  | 40 => ⟨S128x9, .i32⟩
  | 41 => ⟨S128x9x1, .i32⟩
  | 42 => ⟨S4x128x9x64x6x64, .f32⟩
  | 43 => ⟨S4x128x576x6x64, .f32⟩
  | 44 => ⟨S_, .i32⟩
  | 45 => ⟨S128x9, .i32⟩
  | 46 => ⟨S128x9, .i1⟩
  | 47 => ⟨S_, .i32⟩
  | 48 => ⟨S128x9, .i32⟩
  | 49 => ⟨S128x9, .i32⟩
  | 50 => ⟨S128x9, .i32⟩
  | 51 => ⟨S128x9x1, .i32⟩
  | 52 => ⟨S4x128x9x64x6x64, .f32⟩
  | 53 => ⟨S4x128x576x6x64, .f32⟩
  | 54 => ⟨S4x128x6x64x576, .f32⟩
  | 55 => ⟨S64, .i32⟩
  | 56 => ⟨S576, .i32⟩
  | 57 => ⟨S64x1, .i32⟩
  | 58 => ⟨S_, .i32⟩
  | 59 => ⟨S64x1, .i32⟩
  | 60 => ⟨S64x1, .i32⟩
  | 61 => ⟨S1x576, .i32⟩
  | 62 => ⟨S64x576, .i32⟩
  | 63 => ⟨S64x576, .i32⟩
  | 64 => ⟨S64x576, .i32⟩
  | 65 => ⟨S_, .i32⟩
  | 66 => ⟨S_, .i32⟩
  | 67 => ⟨S_, .i32⟩
  | 68 => ⟨S64x576, .i32⟩
  | 69 => ⟨S64x576, .i32⟩
  | 70 => ⟨S_, .i32⟩
  | 71 => ⟨S64x576, .i32⟩
  | 72 => ⟨S64x576, .i32⟩
  | 73 => ⟨S_, .i32⟩
  | 74 => ⟨S64x576, .i32⟩
  | 75 => ⟨S64x576, .i32⟩
  | 76 => ⟨S_, .i32⟩
  | 77 => ⟨S64x576, .i32⟩
  | 78 => ⟨S64x576, .i1⟩
  | 79 => ⟨S_, .i32⟩
  | 80 => ⟨S64x576, .i32⟩
  | 81 => ⟨S64x576, .i32⟩
  | 82 => ⟨S64x576, .i32⟩
  | 83 => ⟨S64x576x1, .i32⟩
  | 84 => ⟨S6x64x576, .f32⟩
  | 85 => ⟨S128, .i32⟩
  | 86 => ⟨S128x1, .i32⟩
  | 87 => ⟨S_, .i32⟩
  | 88 => ⟨S_, .i32⟩
  | 89 => ⟨S576, .i32⟩
  | 90 => ⟨S576, .i32⟩
  | 91 => ⟨S576, .i32⟩
  | 92 => ⟨S_, .i32⟩
  | 93 => ⟨S576, .i32⟩
  | 94 => ⟨S576, .i1⟩
  | 95 => ⟨S576, .i32⟩
  | 96 => ⟨S576, .i32⟩
  | 97 => ⟨S_, .i32⟩
  | 98 => ⟨S576, .i32⟩
  | 99 => ⟨S576, .i1⟩
  | 100 => ⟨S576, .i1⟩
  | 101 => ⟨S_, .i32⟩
  | 102 => ⟨S576, .i32⟩
  | 103 => ⟨S576, .i32⟩
  | 104 => ⟨S576, .i32⟩
  | 105 => ⟨S1x576, .i32⟩
  | 106 => ⟨S128x576, .i32⟩
  | 107 => ⟨S128x576, .i32⟩
  | 108 => ⟨S128x576, .i32⟩
  | 109 => ⟨S_, .i32⟩
  | 110 => ⟨S128x576, .i32⟩
  | 111 => ⟨S128x576, .i32⟩
  | 112 => ⟨S_, .i32⟩
  | 113 => ⟨S128x576, .i32⟩
  | 114 => ⟨S128x576, .i1⟩
  | 115 => ⟨S1x128x1x1x576, .i1⟩
  | 116 => ⟨S1x1x6x64x576, .f32⟩
  | 117 => ⟨S4x128x6x64x576, .f32⟩
  | 118 => ⟨S4x128x6x64x576, .f32⟩
  | 119 => ⟨S_, .f32⟩
  | 120 => ⟨S_, .f32⟩
  | 121 => ⟨S4x128x6x64x576, .i1⟩
  | 122 => ⟨S4x128x6x64x576, .f32⟩
  | 123 => ⟨S4x128x6x64x576, .f32⟩
  | 124 => ⟨S_, .f32⟩
  | 125 => ⟨S4x128x6x64, .f32⟩
  | 126 => ⟨S_, .f32⟩
  | 127 => ⟨S4x128x6x64, .f32⟩
  | _ => ⟨S4x8192x1024, .f32⟩

abbrev hbmTy0_1 (i : Nat) : BufTy := match i % 128 with
  | 0 => ⟨S4x128x6x64, .f32⟩
  | 1 => ⟨S4x128x6x64x1, .f32⟩
  | 2 => ⟨S4x128x6x64x576, .f32⟩
  | 3 => ⟨S4x128x6x64x576, .f32⟩
  | 4 => ⟨S4x128x6x64x576, .f32⟩
  | 5 => ⟨S_, .f32⟩
  | 6 => ⟨S4x128x6x64, .f32⟩
  | 7 => ⟨S4x128x6x64x1, .f32⟩
  | 8 => ⟨S4x128x6x64x576, .f32⟩
  | 9 => ⟨S4x128x6x64x576, .f32⟩
  | 10 => ⟨S4x128x6x64x64, .f32⟩
  | 11 => ⟨S4x128x64x6x64, .f32⟩
  | 12 => ⟨S4x8192x384, .f32⟩
  | 13 => ⟨S4x8192x1024, .f32⟩
  | 14 => ⟨S1x1024x1024, .f32⟩
  | 15 => ⟨S1024x1024, .f32⟩
  | 16 => ⟨S4x8192x1024, .f32⟩
  | 17 => ⟨S1x1024, .f32⟩
  | 18 => ⟨S1024, .f32⟩
  | 19 => ⟨S4x8192x1024, .f32⟩
  | 20 => ⟨S_, .f32⟩
  | 21 => ⟨S4x8192, .f32⟩
  | 22 => ⟨S4x8192x1, .f32⟩
  | 23 => ⟨S_, .f32⟩
  | 24 => ⟨S4x8192x1, .f32⟩
  | 25 => ⟨S4x8192x1, .f32⟩
  | 26 => ⟨S_, .f32⟩
  | 27 => ⟨S4x8192x1, .f32⟩
  | 28 => ⟨S4x8192x1, .f32⟩
  | 29 => ⟨S4x8192x1, .f32⟩
  | 30 => ⟨S4x8192x1024, .f32⟩
  | 31 => ⟨S4x8192x1024, .f32⟩
  | 32 => ⟨S1x1x1024, .f32⟩
  | 33 => ⟨S4x8192x1024, .f32⟩
  | 34 => ⟨S4x8192x1024, .f32⟩
  | 35 => ⟨S4x8192x1024, .f32⟩
  | 36 => ⟨S1x1024, .f32⟩
  | 37 => ⟨S1024, .f32⟩
  | 38 => ⟨S4x8192x1024, .f32⟩
  | 39 => ⟨S_, .f32⟩
  | 40 => ⟨S4x8192, .f32⟩
  | 41 => ⟨S4x8192x1, .f32⟩
  | 42 => ⟨S_, .f32⟩
  | 43 => ⟨S4x8192x1, .f32⟩
  | 44 => ⟨S4x8192x1, .f32⟩
  | 45 => ⟨S_, .f32⟩
  | 46 => ⟨S4x8192x1, .f32⟩
  | 47 => ⟨S4x8192x1, .f32⟩
  | 48 => ⟨S4x8192x1, .f32⟩
  | 49 => ⟨S4x8192x1024, .f32⟩
  | 50 => ⟨S4x8192x1024, .f32⟩
  | 51 => ⟨S1x1x1024, .f32⟩
  | 52 => ⟨S4x8192x1024, .f32⟩
  | 53 => ⟨S4x8192x1024, .f32⟩
  | 54 => ⟨S1x1024x4096, .f32⟩
  | 55 => ⟨S1024x4096, .f32⟩
  | 56 => ⟨S4x8192x4096, .f32⟩
  | 57 => ⟨S_, .f32⟩
  | 58 => ⟨S4x8192x4096, .f32⟩
  | 59 => ⟨S4x8192x4096, .f32⟩
  | 60 => ⟨S4x8192x4096, .f32⟩
  | 61 => ⟨S1x4096x1024, .f32⟩
  | 62 => ⟨S4096x1024, .f32⟩
  | 63 => ⟨S4x8192x1024, .f32⟩
  | 64 => ⟨S1x1024, .f32⟩
  | 65 => ⟨S1024, .f32⟩
  | 66 => ⟨S4x8192x1024, .f32⟩
  | 67 => ⟨S_, .f32⟩
  | 68 => ⟨S4x8192, .f32⟩
  | 69 => ⟨S4x8192x1, .f32⟩
  | 70 => ⟨S_, .f32⟩
  | 71 => ⟨S4x8192x1, .f32⟩
  | 72 => ⟨S4x8192x1, .f32⟩
  | 73 => ⟨S_, .f32⟩
  | 74 => ⟨S4x8192x1, .f32⟩
  | 75 => ⟨S4x8192x1, .f32⟩
  | 76 => ⟨S4x8192x1, .f32⟩
  | 77 => ⟨S4x8192x1024, .f32⟩
  | 78 => ⟨S4x8192x1024, .f32⟩
  | 79 => ⟨S1x1x1024, .f32⟩
  | 80 => ⟨S4x8192x1024, .f32⟩
  | 81 => ⟨S4x8192x1024, .f32⟩
  | 82 => ⟨S4x8192x1024, .f32⟩
  | 83 => ⟨S32768x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_call0_v0 : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_call1_v0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_3 : Ref sig .tc := ⟨.hbm, 44, rfl⟩
abbrev main_v24 : Ref sig .tc := ⟨.hbm, 45, rfl⟩
abbrev main_v25 : Ref sig .tc := ⟨.hbm, 46, rfl⟩
abbrev main_c_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_6 : Ref sig .tc := ⟨.hbm, 65, rfl⟩
abbrev main_c_7 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_v42 : Ref sig .tc := ⟨.hbm, 72, rfl⟩
abbrev main_c_8 : Ref sig .tc := ⟨.hbm, 73, rfl⟩
abbrev main_v43 : Ref sig .tc := ⟨.hbm, 74, rfl⟩
abbrev main_v44 : Ref sig .tc := ⟨.hbm, 75, rfl⟩
abbrev main_c_9 : Ref sig .tc := ⟨.hbm, 76, rfl⟩
abbrev main_v45 : Ref sig .tc := ⟨.hbm, 77, rfl⟩
abbrev main_v46 : Ref sig .tc := ⟨.hbm, 78, rfl⟩
abbrev main_c_10 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_c_11 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_v6 : Ref sig .tc := ⟨.hbm, 94, rfl⟩
abbrev main_call3_v7 : Ref sig .tc := ⟨.hbm, 95, rfl⟩
abbrev main_call3_v8 : Ref sig .tc := ⟨.hbm, 96, rfl⟩
abbrev main_call3_c : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_c_0 : Ref sig .tc := ⟨.hbm, 101, rfl⟩
abbrev main_call3_v12 : Ref sig .tc := ⟨.hbm, 102, rfl⟩
abbrev main_call3_v13 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_c_12 : Ref sig .tc := ⟨.hbm, 109, rfl⟩
abbrev main_v59 : Ref sig .tc := ⟨.hbm, 110, rfl⟩
abbrev main_v60 : Ref sig .tc := ⟨.hbm, 111, rfl⟩
abbrev main_c_13 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_cst_14 : Ref sig .tc := ⟨.hbm, 119, rfl⟩
abbrev main_call4_v0 : Ref sig .tc := ⟨.hbm, 120, rfl⟩
abbrev main_call4_v1 : Ref sig .tc := ⟨.hbm, 121, rfl⟩
abbrev main_call4_v2 : Ref sig .tc := ⟨.hbm, 122, rfl⟩
abbrev main_v67 : Ref sig .tc := ⟨.hbm, 123, rfl⟩
abbrev main_cst_15 : Ref sig .tc := ⟨.hbm, 124, rfl⟩
abbrev main_v68 : Ref sig .tc := ⟨.hbm, 125, rfl⟩
abbrev main_cst_16 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_cst_17 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_cst_18 : Ref sig .tc := ⟨.hbm, 148, rfl⟩
abbrev main_v89 : Ref sig .tc := ⟨.hbm, 149, rfl⟩
abbrev main_v90 : Ref sig .tc := ⟨.hbm, 150, rfl⟩
abbrev main_cst_19 : Ref sig .tc := ⟨.hbm, 151, rfl⟩
abbrev main_v91 : Ref sig .tc := ⟨.hbm, 152, rfl⟩
abbrev main_v92 : Ref sig .tc := ⟨.hbm, 153, rfl⟩
abbrev main_cst_20 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_cst_21 : Ref sig .tc := ⟨.hbm, 167, rfl⟩
abbrev main_v105 : Ref sig .tc := ⟨.hbm, 168, rfl⟩
abbrev main_v106 : Ref sig .tc := ⟨.hbm, 169, rfl⟩
abbrev main_cst_22 : Ref sig .tc := ⟨.hbm, 170, rfl⟩
abbrev main_v107 : Ref sig .tc := ⟨.hbm, 171, rfl⟩
abbrev main_v108 : Ref sig .tc := ⟨.hbm, 172, rfl⟩
abbrev main_cst_23 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_call5_cst : Ref sig .tc := ⟨.hbm, 185, rfl⟩
abbrev main_call5_v0 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_cst_24 : Ref sig .tc := ⟨.hbm, 195, rfl⟩
abbrev main_v128 : Ref sig .tc := ⟨.hbm, 196, rfl⟩
abbrev main_v129 : Ref sig .tc := ⟨.hbm, 197, rfl⟩
abbrev main_cst_25 : Ref sig .tc := ⟨.hbm, 198, rfl⟩
abbrev main_v130 : Ref sig .tc := ⟨.hbm, 199, rfl⟩
abbrev main_v131 : Ref sig .tc := ⟨.hbm, 200, rfl⟩
abbrev main_cst_26 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩

abbrev nD : Nat := 1
abbrev τ : Topo := Topo.v7x

variable {F : FTy → Type} [FloatOps F]

def κ : String → Option EReal := fun
  | "mask" => some ⊥
  | _ => none
-- ==== Kernel2.lean ====
abbrev S4x8192x1024 : Shape := ⟨3, ![4, 8192, 1024]⟩
abbrev S2x1024 : Shape := ⟨2, ![2, 1024]⟩
abbrev S2x1024x3200 : Shape := ⟨3, ![2, 1024, 3200]⟩
abbrev S2x31x256 : Shape := ⟨3, ![2, 31, 256]⟩
abbrev S2x256 : Shape := ⟨2, ![2, 256]⟩
abbrev S128x128 : Shape := ⟨2, ![128, 128]⟩
abbrev S_ : Shape := ⟨0, ![]⟩
abbrev S31 : Shape := ⟨1, ![31]⟩
abbrev S1 : Shape := ⟨1, ![1]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S6 : Shape := ⟨1, ![6]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S6x1x1 : Shape := ⟨3, ![6, 1, 1]⟩
abbrev S1x256x256 : Shape := ⟨3, ![1, 256, 256]⟩
abbrev S6x256x256 : Shape := ⟨3, ![6, 256, 256]⟩
abbrev S3x2x256x256 : Shape := ⟨4, ![3, 2, 256, 256]⟩
abbrev S3x256x2x256 : Shape := ⟨4, ![3, 256, 2, 256]⟩
abbrev S3x256x512 : Shape := ⟨3, ![3, 256, 512]⟩
abbrev S6x1 : Shape := ⟨2, ![6, 1]⟩
abbrev S6x256 : Shape := ⟨2, ![6, 256]⟩
abbrev S6x64x256 : Shape := ⟨3, ![6, 64, 256]⟩
abbrev S384x256 : Shape := ⟨2, ![384, 256]⟩
abbrev S3x128x256 : Shape := ⟨3, ![3, 128, 256]⟩
abbrev S256x6 : Shape := ⟨2, ![256, 6]⟩
abbrev S256x6x64 : Shape := ⟨3, ![256, 6, 64]⟩
abbrev S256x384 : Shape := ⟨2, ![256, 384]⟩
abbrev S6x64 : Shape := ⟨2, ![6, 64]⟩
abbrev S384 : Shape := ⟨1, ![384]⟩
abbrev S3x128x1 : Shape := ⟨3, ![3, 128, 1]⟩
abbrev S3x128x128 : Shape := ⟨3, ![3, 128, 128]⟩
abbrev S32768x1024 : Shape := ⟨2, ![32768, 1024]⟩
abbrev S1x1024 : Shape := ⟨2, ![1, 1024]⟩
abbrev S1024 : Shape := ⟨1, ![1024]⟩
abbrev S1x31x256 : Shape := ⟨3, ![1, 31, 256]⟩
abbrev S31x256 : Shape := ⟨2, ![31, 256]⟩
abbrev S32768x1152 : Shape := ⟨2, ![32768, 1152]⟩
abbrev S32768x256 : Shape := ⟨2, ![32768, 256]⟩
abbrev S32768x384 : Shape := ⟨2, ![32768, 384]⟩
abbrev S512x1024 : Shape := ⟨2, ![512, 1024]⟩
abbrev S512x128 : Shape := ⟨2, ![512, 128]⟩
abbrev S512x1152 : Shape := ⟨2, ![512, 1152]⟩
abbrev S512x256 : Shape := ⟨2, ![512, 256]⟩
abbrev S512x384 : Shape := ⟨2, ![512, 384]⟩
abbrev S512x3200 : Shape := ⟨2, ![512, 3200]⟩
abbrev S8x544x256 : Shape := ⟨3, ![8, 544, 256]⟩
abbrev S1024x3200 : Shape := ⟨2, ![1024, 3200]⟩
abbrev S1x1024x3200 : Shape := ⟨3, ![1, 1024, 3200]⟩
abbrev S544x256 : Shape := ⟨2, ![544, 256]⟩
abbrev S1x544x256 : Shape := ⟨3, ![1, 544, 256]⟩
abbrev S512 : Shape := ⟨1, ![512]⟩
abbrev S512x1 : Shape := ⟨2, ![512, 1]⟩
abbrev S1024x256 : Shape := ⟨2, ![1024, 256]⟩
abbrev S1024x128 : Shape := ⟨2, ![1024, 128]⟩
abbrev S512x768 : Shape := ⟨2, ![512, 768]⟩
abbrev S256x128 : Shape := ⟨2, ![256, 128]⟩
abbrev S1x32x256 : Shape := ⟨3, ![1, 32, 256]⟩
abbrev S32x256 : Shape := ⟨2, ![32, 256]⟩
abbrev S512x512 : Shape := ⟨2, ![512, 512]⟩
abbrev S1x512x256 : Shape := ⟨3, ![1, 512, 256]⟩
abbrev S1x536x256 : Shape := ⟨3, ![1, 536, 256]⟩
abbrev S536x256 : Shape := ⟨2, ![536, 256]⟩
abbrev S64x256 : Shape := ⟨2, ![64, 256]⟩
abbrev S1x64x256 : Shape := ⟨3, ![1, 64, 256]⟩
abbrev S64 : Shape := ⟨1, ![64]⟩
abbrev S64x1 : Shape := ⟨2, ![64, 1]⟩
abbrev S1x128 : Shape := ⟨2, ![1, 128]⟩
abbrev S1x384 : Shape := ⟨2, ![1, 384]⟩
abbrev S256x512 : Shape := ⟨2, ![256, 512]⟩
abbrev S1x256x512 : Shape := ⟨3, ![1, 256, 512]⟩
abbrev S128x256 : Shape := ⟨2, ![128, 256]⟩
abbrev S1x128x128 : Shape := ⟨3, ![1, 128, 128]⟩
abbrev S1x128x256 : Shape := ⟨3, ![1, 128, 256]⟩

abbrev nBuf : Space → Nat
  | .hbm => 140
  | .vmem => 29
  | .smem => 0
  | _ => 0

abbrev hbmTy0_0 (i : Nat) : BufTy := match i % 128 with
  | 0 => ⟨S4x8192x1024, .f32⟩
  | 1 => ⟨S2x1024, .f32⟩
  | 2 => ⟨S2x1024x3200, .f32⟩
  | 3 => ⟨S2x31x256, .f32⟩
  | 4 => ⟨S2x256, .f32⟩
  | 5 => ⟨S2x256, .f32⟩
  | 6 => ⟨S2x256, .f32⟩
  | 7 => ⟨S128x128, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S31, .f32⟩
  | 16 => ⟨S_, .f32⟩
  | 17 => ⟨S31, .f32⟩
  | 18 => ⟨S31, .f32⟩
  | 19 => ⟨S1, .f32⟩
  | 20 => ⟨S_, .f32⟩
  | 21 => ⟨S31, .f32⟩
  | 22 => ⟨S31, .f32⟩
  | 23 => ⟨S31, .f32⟩
  | 24 => ⟨S31, .f32⟩
  | 25 => ⟨S1, .f32⟩
  | 26 => ⟨S31, .f32⟩
  | 27 => ⟨S31, .f32⟩
  | 28 => ⟨S31, .f32⟩
  | 29 => ⟨S1, .f32⟩
  | 30 => ⟨S32, .f32⟩
  | 31 => ⟨S_, .f32⟩
  | 32 => ⟨S32, .f32⟩
  | 33 => ⟨S32, .f32⟩
  | 34 => ⟨S_, .f32⟩
  | 35 => ⟨S32, .f32⟩
  | 36 => ⟨S32, .f32⟩
  | 37 => ⟨S8192, .f32⟩
  | 38 => ⟨S8192x1, .f32⟩
  | 39 => ⟨S1x32, .f32⟩
  | 40 => ⟨S8192x32, .f32⟩
  | 41 => ⟨S8192x32, .f32⟩
  | 42 => ⟨S8192x32, .f32⟩
  | 43 => ⟨S8192x32, .f32⟩
  | 44 => ⟨S8192x32, .f32⟩
  | 45 => ⟨S8192x64, .f32⟩
  | 46 => ⟨S1x8192x1x64, .f32⟩
  | 47 => ⟨S1x8192x2x64, .f32⟩
  | 48 => ⟨S8192x128, .f32⟩
  | 49 => ⟨S8192x32, .f32⟩
  | 50 => ⟨S8192x64, .f32⟩
  | 51 => ⟨S1x8192x1x64, .f32⟩
  | 52 => ⟨S1x8192x2x64, .f32⟩
  | 53 => ⟨S8192x128, .f32⟩
  | 54 => ⟨S6, .f32⟩
  | 55 => ⟨S_, .f32⟩
  | 56 => ⟨S6, .f32⟩
  | 57 => ⟨S6, .f32⟩
  | 58 => ⟨S_, .f32⟩
  | 59 => ⟨S6, .f32⟩
  | 60 => ⟨S6, .f32⟩
  | 61 => ⟨S6, .f32⟩
  | 62 => ⟨S6, .f32⟩
  | 63 => ⟨S256, .f32⟩
  | 64 => ⟨S1x256, .f32⟩
  | 65 => ⟨S256x1, .f32⟩
  | 66 => ⟨S256x256, .f32⟩
  | 67 => ⟨S256x256, .f32⟩
  | 68 => ⟨S256x256, .f32⟩
  | 69 => ⟨S_, .f32⟩
  | 70 => ⟨S256x256, .f32⟩
  | 71 => ⟨S256x256, .i1⟩
  | 72 => ⟨S_, .f32⟩
  | 73 => ⟨S256x256, .f32⟩
  | 74 => ⟨S256x256, .f32⟩
  | 75 => ⟨S6x1x1, .f32⟩
  | 76 => ⟨S1x256x256, .f32⟩
  | 77 => ⟨S6x256x256, .f32⟩
  | 78 => ⟨S6x256x256, .f32⟩
  | 79 => ⟨S6x256x256, .f32⟩
  | 80 => ⟨S6x256x256, .f32⟩
  | 81 => ⟨S_, .f32⟩
  | 82 => ⟨S_, .f32⟩
  | 83 => ⟨S6x256x256, .i1⟩
  | 84 => ⟨S6x256x256, .f32⟩
  | 85 => ⟨S6x256x256, .f32⟩
  | 86 => ⟨S3x2x256x256, .f32⟩
  | 87 => ⟨S3x256x2x256, .f32⟩
  | 88 => ⟨S3x256x512, .f32⟩
  | 89 => ⟨S_, .f32⟩
  | 90 => ⟨S256, .f32⟩
  | 91 => ⟨S256, .f32⟩
  | 92 => ⟨S1x256, .f32⟩
  | 93 => ⟨S6x1, .f32⟩
  | 94 => ⟨S6x256, .f32⟩
  | 95 => ⟨S6x256, .f32⟩
  | 96 => ⟨S6x256, .f32⟩
  | 97 => ⟨S6x256, .f32⟩
  | 98 => ⟨S6x64x256, .f32⟩
  | 99 => ⟨S384x256, .f32⟩
  | 100 => ⟨S3x128x256, .f32⟩
  | 101 => ⟨S_, .f32⟩
  | 102 => ⟨S256, .f32⟩
  | 103 => ⟨S256, .f32⟩
  | 104 => ⟨S1x256, .f32⟩
  | 105 => ⟨S6x1, .f32⟩
  | 106 => ⟨S6x256, .f32⟩
  | 107 => ⟨S6x256, .f32⟩
  | 108 => ⟨S6x256, .f32⟩
  | 109 => ⟨S6x256, .f32⟩
  | 110 => ⟨S256x6, .f32⟩
  | 111 => ⟨S256x6x64, .f32⟩
  | 112 => ⟨S256x384, .f32⟩
  | 113 => ⟨S_, .f32⟩
  | 114 => ⟨S6, .f32⟩
  | 115 => ⟨S6, .f32⟩
  | 116 => ⟨S6, .f32⟩
  | 117 => ⟨S6x64, .f32⟩
  | 118 => ⟨S384, .f32⟩
  | 119 => ⟨S3x128x1, .f32⟩
  | 120 => ⟨S3x128x128, .f32⟩
  | 121 => ⟨S32768x1024, .f32⟩
  | 122 => ⟨S1x1024, .f32⟩
  | 123 => ⟨S1024, .f32⟩
  | 124 => ⟨S1x1024, .f32⟩
  | 125 => ⟨S2x1024x3200, .bf16⟩
  | 126 => ⟨S1x31x256, .f32⟩
  | 127 => ⟨S31x256, .f32⟩
  | _ => ⟨S4x8192x1024, .f32⟩

abbrev hbmTy0_1 (i : Nat) : BufTy := match i % 128 with
  | 0 => ⟨S1x256, .f32⟩
  | 1 => ⟨S256, .f32⟩
  | 2 => ⟨S1x256, .f32⟩
  | 3 => ⟨S1x256, .f32⟩
  | 4 => ⟨S256, .f32⟩
  | 5 => ⟨S1x256, .f32⟩
  | 6 => ⟨S1x256, .f32⟩
  | 7 => ⟨S256, .f32⟩
  | 8 => ⟨S1x256, .f32⟩
  | 9 => ⟨S32768x1152, .bf16⟩
  | 10 => ⟨S32768x256, .bf16⟩
  | 11 => ⟨S32768x384, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S31x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S3x256x512, .f32⟩
  | .local _ .vmem, ⟨12, _⟩ => ⟨S3x128x256, .f32⟩
  | .local _ .vmem, ⟨13, _⟩ => ⟨S256x384, .f32⟩
  | .local _ .vmem, ⟨14, _⟩ => ⟨S3x128x128, .f32⟩
  | .local _ .vmem, ⟨15, _⟩ => ⟨S128x128, .f32⟩
  | .local _ .vmem, ⟨16, _⟩ => ⟨S512x1152, .bf16⟩
  | .local _ .vmem, ⟨17, _⟩ => ⟨S512x1152, .bf16⟩
  | .local _ .vmem, ⟨18, _⟩ => ⟨S512x256, .bf16⟩
  | .local _ .vmem, ⟨19, _⟩ => ⟨S512x256, .bf16⟩
  | .local _ .vmem, ⟨20, _⟩ => ⟨S512x384, .bf16⟩
  | .local _ .vmem, ⟨21, _⟩ => ⟨S512x384, .bf16⟩
  | .local _ .vmem, ⟨22, _⟩ => ⟨S512x3200, .f32⟩
  | .local _ .vmem, ⟨23, _⟩ => ⟨S8x544x256, .f32⟩
  | .local _ .vmem, ⟨24, _⟩ => ⟨S512x1024, .bf16⟩
  | .local _ .vmem, ⟨25, _⟩ => ⟨S512x1152, .bf16⟩
  | .local _ .vmem, ⟨26, _⟩ => ⟨S512x384, .f32⟩
  | .local _ .vmem, ⟨27, _⟩ => ⟨S3x128x128, .f32⟩
  | .local _ .vmem, ⟨28, _⟩ => ⟨S1024x3200, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_cst : Ref sig .tc := ⟨.hbm, 13, rfl⟩
abbrev main_call0_v3 : Ref sig .tc := ⟨.hbm, 14, rfl⟩
abbrev main_call0_v4 : Ref sig .tc := ⟨.hbm, 15, rfl⟩
abbrev main_call0_cst_0 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_v0 : Ref sig .tc := ⟨.hbm, 30, rfl⟩
abbrev main_cst_2 : Ref sig .tc := ⟨.hbm, 31, rfl⟩
abbrev main_v1 : Ref sig .tc := ⟨.hbm, 32, rfl⟩
abbrev main_v2 : Ref sig .tc := ⟨.hbm, 33, rfl⟩
abbrev main_cst_3 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_4 : Ref sig .tc := ⟨.hbm, 55, rfl⟩
abbrev main_v23 : Ref sig .tc := ⟨.hbm, 56, rfl⟩
abbrev main_v24 : Ref sig .tc := ⟨.hbm, 57, rfl⟩
abbrev main_cst_5 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_6 : Ref sig .tc := ⟨.hbm, 69, rfl⟩
abbrev main_v35 : Ref sig .tc := ⟨.hbm, 70, rfl⟩
abbrev main_v36 : Ref sig .tc := ⟨.hbm, 71, rfl⟩
abbrev main_cst_7 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_8 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_cst_9 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_10 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_11 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94_0 : Ref sig .tc := ⟨.hbm, 137, rfl⟩
abbrev main_v94_1 : Ref sig .tc := ⟨.hbm, 138, rfl⟩
abbrev main_v94_2 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c0_i32_5 : BitVec 32 := 0#32
  let v12 : BitVec 1 := Scalar.cmpi .eq arg0 c0_i32_5
  let v13 : BitVec 32 := Scalar.extui v12
  let c0_i32_6 : BitVec 32 := 0#32
  let v14 : BitVec 1 := Scalar.cmpi .ne v13 c0_i32_6
  v14

def k0_cond2 (i : grid0.Coords) : BitVec 1 :=
  let arg0 : BitVec 32 := BitVec.ofNat 32 (i 0).val
  let c0_i32_7 : BitVec 32 := 0#32
  let v15 : BitVec 1 := Scalar.cmpi .sgt arg0 c0_i32_7
  let c64_i32 : BitVec 32 := 64#32
  let v16 : BitVec 1 := Scalar.cmpi .slt arg0 c64_i32
  let v17 : BitVec 1 := Scalar.andi v15 v16
  let v18 : BitVec 32 := Scalar.extui v17
  let c0_i32_8 : BitVec 32 := 0#32
  let v19 : BitVec 1 := Scalar.cmpi .ne v18 c0_i32_8
  v19

def k0_cond3 (i : grid0.Coords) : BitVec 1 :=
  let arg0 : BitVec 32 := BitVec.ofNat 32 (i 0).val
  let c64_i32_9 : BitVec 32 := 64#32
  let v20 : BitVec 1 := Scalar.cmpi .eq arg0 c64_i32_9
  let v21 : BitVec 32 := Scalar.extui v20
  let c0_i32_10 : BitVec 32 := 0#32
  let v22 : BitVec 1 := Scalar.cmpi .ne v21 c0_i32_10
  v22

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1152 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x384 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S4x8192x1024 : Shape := ⟨3, ![4, 8192, 1024]⟩
abbrev S2x1024 : Shape := ⟨2, ![2, 1024]⟩
abbrev S2x1024x3200 : Shape := ⟨3, ![2, 1024, 3200]⟩
abbrev S2x31x256 : Shape := ⟨3, ![2, 31, 256]⟩
abbrev S2x256 : Shape := ⟨2, ![2, 256]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x3200 : Shape := ⟨3, ![1, 1024, 3200]⟩
abbrev S1024x3200 : Shape := ⟨2, ![1024, 3200]⟩
abbrev S4x8192x3200 : Shape := ⟨3, ![4, 8192, 3200]⟩
abbrev S4x8192x384 : Shape := ⟨3, ![4, 8192, 384]⟩
abbrev S4x8192x2048 : Shape := ⟨3, ![4, 8192, 2048]⟩
abbrev S4x8192x1152 : Shape := ⟨3, ![4, 8192, 1152]⟩
abbrev S32768x1152 : Shape := ⟨2, ![32768, 1152]⟩

abbrev nBuf : Space → Nat
  | .hbm => 38
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S2x1024x3200, .f32⟩
  | .hbm, ⟨3, _⟩ => ⟨S2x31x256, .f32⟩
  | .hbm, ⟨4, _⟩ => ⟨S2x256, .f32⟩
  | .hbm, ⟨5, _⟩ => ⟨S2x256, .f32⟩
  | .hbm, ⟨6, _⟩ => ⟨S2x256, .f32⟩
  | .hbm, ⟨7, _⟩ => ⟨S1x1024, .f32⟩
  | .hbm, ⟨8, _⟩ => ⟨S1024, .f32⟩
  | .hbm, ⟨9, _⟩ => ⟨S4x8192x1024, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | .hbm, ⟨25, _⟩ => ⟨S1x1024x3200, .f32⟩
  | .hbm, ⟨26, _⟩ => ⟨S1024x3200, .f32⟩
  | .hbm, ⟨27, _⟩ => ⟨S4x8192x3200, .f32⟩
  | .hbm, ⟨28, _⟩ => ⟨S4x8192x384, .f32⟩
  | .hbm, ⟨29, _⟩ => ⟨S4x8192x384, .f32⟩
  | .hbm, ⟨30, _⟩ => ⟨S4x8192x384, .f32⟩
  | .hbm, ⟨31, _⟩ => ⟨S4x8192x2048, .f32⟩
  | .hbm, ⟨32, _⟩ => ⟨S_, .f32⟩
  | .hbm, ⟨33, _⟩ => ⟨S4x8192x384, .f32⟩
  | .hbm, ⟨34, _⟩ => ⟨S4x8192x384, .f32⟩
  | .hbm, ⟨35, _⟩ => ⟨S4x8192x1152, .f32⟩
  | .hbm, ⟨36, _⟩ => ⟨S32768x1152, .f32⟩
  | .hbm, ⟨37, _⟩ => ⟨S32768x1152, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Proof.Ideal.RunC.lean ====
/- The run of the body at the last point of the grid, where only the feed-forward part runs: the pieces that each
   buffer ends with, and the proof that the body leaves them. -/
module

public import proofs.«01_k».proof.Proof.Gen.KernelIdeal.Frame.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
noncomputable def kernelRun0_C (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x384 .bf16) (harg5 : arg5.IsWhole) (arg6 : Memref sig .tc .vmem S512x384 .bf16) (harg6 : arg6.IsWhole) (arg7 : Memref sig .tc .vmem S512x384 .bf16) (harg7 : arg7.IsWhole) (arg8 : Memref sig .tc .vmem S512x384 .bf16) (harg8 : arg8.IsWhole) (arg9 : Memref sig .tc .vmem S6x768 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x384 .bf16) (harg17 : arg17.IsWhole) (arg18 : Memref sig .tc .vmem S384x1024 .bf16) (harg18 : arg18.IsWhole) (arg19 : Memref sig .tc .vmem S2x640x256 .f32) (harg19 : arg19.IsWhole) (arg20 : Memref sig .tc .vmem S6x640x128 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S2x512x1024 .bf16) (harg23 : arg23.IsWhole) (arg24 : Memref sig .tc .vmem S512x1024 .f32) (harg24 : arg24.IsWhole) (arg25 : Memref sig .tc .vmem S512x1024 .f32) (harg25 : arg25.IsWhole) (arg26 : Memref sig .tc .vmem S512x1024 .f32) (harg26 : arg26.IsWhole) (arg27 : Memref sig .tc .vmem S1024x1024 .bf16) (harg27 : arg27.IsWhole) (arg28 : Memref sig .tc .vmem S1024x4096 .bf16) (harg28 : arg28.IsWhole) (arg29 : Memref sig .tc .vmem S4096x1024 .bf16) (harg29 : arg29.IsWhole) (hc0 : ¬cond0_0 i) (hc1 : ¬cond0_1 i) (hc2 : cond0_2 i)
    (x0 : Vec F S512x1024 .f32) (x1 : Vec F S512x256 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S6x768 .f32) (x9 : Vec F S1x1024 .f32) (x10 : Vec F S1x1024 .f32) (x11 : Vec F S1x1024 .f32) (xs0 : Vec F S512x384 .bf16) (xs3 : Vec F S6x640x128 .f32) (xs10 : Vec F S1024x1024 .bf16) (xs11 : Vec F S1024x4096 .bf16) (xs12 : Vec F S4096x1024 .bf16) (fh0 : HbBuf0 (F := F) c hbM0_0) (fh1 : HbBuf0 (F := F) c hbM0_1) (fh2 : HbBuf0 (F := F) c hbM0_2) :
    Σ' (L12 : List (View.Piece (Elt F) S512x1024 .f32)), Σ' (LS0 : List (View.Piece (Elt F) S512x384 .bf16)), Σ' (LS3 : List (View.Piece (Elt F) S6x640x128 .f32)), Σ' (LS10 : List (View.Piece (Elt F) S1024x1024 .bf16)), Σ' (LS11 : List (View.Piece (Elt F) S1024x4096 .bf16)), Σ' (LS12 : List (View.Piece (Elt F) S4096x1024 .bf16)), Σ' (LT1 : List (View.Piece (Elt F) S384x1024 .bf16)), Σ' (LT2 : List (View.Piece (Elt F) S2x640x256 .f32)), Σ' (LT4 : List (View.Piece (Elt F) S512x1024 .bf16)), Σ' (LT5 : List (View.Piece (Elt F) S512x1024 .bf16)), Σ' (LT6 : List (View.Piece (Elt F) S2x512x1024 .bf16)), Σ' (LT7 : List (View.Piece (Elt F) S512x1024 .f32)), Σ' (LT8 : List (View.Piece (Elt F) S512x1024 .f32)), { LT9 : List (View.Piece (Elt F) S512x1024 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg13 fullShare x9 ∗ owns (c : Thread nD τ) arg14 fullShare x10 ∗ owns (c : Thread nD τ) arg15 fullShare x11 ∗ (∃ d, owns (c : Thread nD τ) arg16 fullShare d) ∗ owns (c : Thread nD τ) arg17 fullShare xs0 ∗ (∃ d, owns (c : Thread nD τ) arg18 fullShare d) ∗ (∃ d, owns (c : Thread nD τ) arg19 fullShare d) ∗ owns (c : Thread nD τ) arg20 fullShare xs3 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ owns (c : Thread nD τ) arg27 fullShare xs10 ∗ owns (c : Thread nD τ) arg28 fullShare xs11 ∗ owns (c : Thread nD τ) arg29 fullShare xs12 ∗ semVal ((c : Thread nD τ), SemLoc.dma 22) 0 ∗ semVal ((c : Thread nD τ), SemLoc.dma 23) 0 ∗ semVal ((c : Thread nD τ), SemLoc.dma 24) 0 ∗ hbPt0 c hbM0_0 fh0 ∗ hbPt0 c hbM0_1 fh1 ∗ hbPt0 c hbM0_2 fh2 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg13 fullShare x9 ∗ owns (c : Thread nD τ) arg14 fullShare x10 ∗ owns (c : Thread nD τ) arg15 fullShare x11 ∗ (∃ f, arg16.view.loc (c : Thread nD τ) ↦[arg16.view.set]{fullShare} arg16.view.writes (Elt F) f L12) ∗ owns (c : Thread nD τ) arg17 fullShare xs0 ∗ (∃ d, owns (c : Thread nD τ) arg18 fullShare d) ∗ (∃ d, owns (c : Thread nD τ) arg19 fullShare d) ∗ owns (c : Thread nD τ) arg20 fullShare xs3 ∗ (∃ f, arg21.view.loc (c : Thread nD τ) ↦[arg21.view.set]{fullShare} arg21.view.writes (Elt F) f LT4) ∗ (∃ f, arg22.view.loc (c : Thread nD τ) ↦[arg22.view.set]{fullShare} arg22.view.writes (Elt F) f LT5) ∗ (∃ f, arg23.view.loc (c : Thread nD τ) ↦[arg23.view.set]{fullShare} arg23.view.writes (Elt F) f LT6) ∗ (∃ f, arg24.view.loc (c : Thread nD τ) ↦[arg24.view.set]{fullShare} arg24.view.writes (Elt F) f LT7) ∗ (∃ f, arg25.view.loc (c : Thread nD τ) ↦[arg25.view.set]{fullShare} arg25.view.writes (Elt F) f LT8) ∗ (∃ f, arg26.view.loc (c : Thread nD τ) ↦[arg26.view.set]{fullShare} arg26.view.writes (Elt F) f LT9) ∗ owns (c : Thread nD τ) arg27 fullShare xs10 ∗ owns (c : Thread nD τ) arg28 fullShare xs11 ∗ owns (c : Thread nD τ) arg29 fullShare xs12 ∗ semVal ((c : Thread nD τ), SemLoc.dma 22) 0 ∗ semVal ((c : Thread nD τ), SemLoc.dma 23) 0 ∗ semVal ((c : Thread nD τ), SemLoc.dma 24) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_mlp_attn i arg1 harg1 arg2 harg2 arg3 harg3 arg4 harg4 arg5 harg5 arg6 harg6 arg7 harg7 arg8 harg8 arg9 harg9 (Memref.whole main_v0) (Memref.isWhole_whole _) (Memref.whole main_v1) (Memref.isWhole_whole _) (Memref.whole main_v2) (Memref.isWhole_whole _) arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 cc0_scratch13) K } := by
  refine ⟨?_, [], [], [], [], [], [], [], ?_, ?_, ?_, ?_, ?_, ?_, fun W K => ?run⟩
  case run =>
    simp only [cc0_mlp_attn_eq_skeleton]; unfold cc0_mlp_attn_skel
    rw [k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, ⟨%ds1, %fs1, -, HS1⟩, ⟨%ds2, %fs2, -, HS2⟩, ⟨%fs3, %hfs3, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%fs10, %hfs10, HS10⟩, ⟨%fs11, %hfs11, HS11⟩, ⟨%fs12, %hfs12, HS12⟩, Hq0, Hq1, Hq2, Hh0, Hh1, Hh2, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hf9; obtain rfl := harg14.eq_unread hf10; obtain rfl := harg15.eq_unread hf11; obtain rfl := harg17.eq_unread hfs0; obtain rfl := harg20.eq_unread hfs3; obtain rfl := harg27.eq_unread hfs10; obtain rfl := harg28.eq_unread hfs11; obtain rfl := harg29.eq_unread hfs12
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg13.read_unread _
      iexact H9
    isplitl [H10]
    · iexists _; isplitr; · ipureintro; exact harg14.read_unread _
      iexact H10
    isplitl [H11]
    · iexists _; isplitr; · ipureintro; exact harg15.read_unread _
      iexact H11
    isplitl [H12]; · iexists _; iexact H12
    isplitl [HS0]
    · iexists _; isplitr; · ipureintro; exact harg17.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _; isplitr; · ipureintro; exact harg20.read_unread _
      iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]
    · iexists _; isplitr; · ipureintro; exact harg27.read_unread _
      iexact HS10
    isplitl [HS11]
    · iexists _; isplitr; · ipureintro; exact harg28.read_unread _
      iexact HS11
    isplitl [HS12]
    · iexists _; isplitr; · ipureintro; exact harg29.read_unread _
      iexact HS12
    isplitl [Hq0]; · iexact Hq0
    isplitl [Hq1]; · iexact Hq1
    isplitl [Hq2]; · iexact Hq2
    isplitl [Hh0]; · iexact Hh0
    isplitl [Hh1]; · iexact Hh1
    isplitl [Hh2]; · iexact Hh2
    iexists _; iexact HW

end Cert.KernelIdeal.Gen

end
-- ==== Proof.Ideal.FrameA.lean ====
/- What each case of the body leaves in the output window and in the carried scratch, with the
   proofs that the stores cover the buffers. -/
module

public import proofs.«01_k».proof.Proof.Ideal.RunC
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)
variable (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x384 .bf16) (harg5 : arg5.IsWhole) (arg6 : Memref sig .tc .vmem S512x384 .bf16) (harg6 : arg6.IsWhole) (arg7 : Memref sig .tc .vmem S512x384 .bf16) (harg7 : arg7.IsWhole) (arg8 : Memref sig .tc .vmem S512x384 .bf16) (harg8 : arg8.IsWhole) (arg9 : Memref sig .tc .vmem S6x768 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x384 .bf16) (harg17 : arg17.IsWhole) (arg18 : Memref sig .tc .vmem S384x1024 .bf16) (harg18 : arg18.IsWhole) (arg19 : Memref sig .tc .vmem S2x640x256 .f32) (harg19 : arg19.IsWhole) (arg20 : Memref sig .tc .vmem S6x640x128 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S2x512x1024 .bf16) (harg23 : arg23.IsWhole) (arg24 : Memref sig .tc .vmem S512x1024 .f32) (harg24 : arg24.IsWhole) (arg25 : Memref sig .tc .vmem S512x1024 .f32) (harg25 : arg25.IsWhole) (arg26 : Memref sig .tc .vmem S512x1024 .f32) (harg26 : arg26.IsWhole) (arg27 : Memref sig .tc .vmem S1024x1024 .bf16) (harg27 : arg27.IsWhole) (arg28 : Memref sig .tc .vmem S1024x4096 .bf16) (harg28 : arg28.IsWhole) (arg29 : Memref sig .tc .vmem S4096x1024 .bf16) (harg29 : arg29.IsWhole)

def out0_A_12 (hc0 : cond0_0 i) (hc1 : ¬cond0_1 i) (hc2 : ¬cond0_2 i)
    (x0 : Vec F S512x1024 .f32) (x1 : Vec F S512x256 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S6x768 .f32) (x9 : Vec F S1x1024 .f32) (x10 : Vec F S1x1024 .f32) (x11 : Vec F S1x1024 .f32) (fh0 : HbBuf0 (F := F) c hbM0_0) (fh1 : HbBuf0 (F := F) c hbM0_1) (fh2 : HbBuf0 (F := F) c hbM0_2) : Vec F S512x1024 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 fh0 fh1 fh2).1)

theorem scover0_A_0 (hc0 : cond0_0 i) (hc1 : ¬cond0_1 i) (hc2 : ¬cond0_2 i)
    (x0 : Vec F S512x1024 .f32) (x1 : Vec F S512x256 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S6x768 .f32) (x9 : Vec F S1x1024 .f32) (x10 : Vec F S1x1024 .f32) (x11 : Vec F S1x1024 .f32) (fh0 : HbBuf0 (F := F) c hbM0_0) (fh1 : HbBuf0 (F := F) c hbM0_1) (fh2 : HbBuf0 (F := F) c hbM0_2) (y : S512x384.Idx) :
    ∃ pc ∈ (kernelRun0_A c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 fh0 fh1 fh2).2.1, y ∈ pc.1.set :=
  View.cover_of_tiledL (kernelRun0_A c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 fh0 fh1 fh2).2.1 S128x384.size (by sl_kernel_rfl) y

def sout0_A_0 (hc0 : cond0_0 i) (hc1 : ¬cond0_1 i) (hc2 : ¬cond0_2 i)
    (x0 : Vec F S512x1024 .f32) (x1 : Vec F S512x256 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S6x768 .f32) (x9 : Vec F S1x1024 .f32) (x10 : Vec F S1x1024 .f32) (x11 : Vec F S1x1024 .f32) (fh0 : HbBuf0 (F := F) c hbM0_0) (fh1 : HbBuf0 (F := F) c hbM0_1) (fh2 : HbBuf0 (F := F) c hbM0_2) : Vec F S512x384 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 fh0 fh1 fh2).2.1)

theorem scover0_A_3 (hc0 : cond0_0 i) (hc1 : ¬cond0_1 i) (hc2 : ¬cond0_2 i)
    (x0 : Vec F S512x1024 .f32) (x1 : Vec F S512x256 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S6x768 .f32) (x9 : Vec F S1x1024 .f32) (x10 : Vec F S1x1024 .f32) (x11 : Vec F S1x1024 .f32) (fh0 : HbBuf0 (F := F) c hbM0_0) (fh1 : HbBuf0 (F := F) c hbM0_1) (fh2 : HbBuf0 (F := F) c hbM0_2) (y : S6x640x128.Idx) :
    ∃ pc ∈ (kernelRun0_A c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 fh0 fh1 fh2).2.2.1, y ∈ pc.1.set :=
  View.cover_of_tiledL (kernelRun0_A c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 fh0 fh1 fh2).2.2.1 S1x128x128.size (by sl_kernel_rfl) y

def sout0_A_3 (hc0 : cond0_0 i) (hc1 : ¬cond0_1 i) (hc2 : ¬cond0_2 i)
    (x0 : Vec F S512x1024 .f32) (x1 : Vec F S512x256 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S6x768 .f32) (x9 : Vec F S1x1024 .f32) (x10 : Vec F S1x1024 .f32) (x11 : Vec F S1x1024 .f32) (fh0 : HbBuf0 (F := F) c hbM0_0) (fh1 : HbBuf0 (F := F) c hbM0_1) (fh2 : HbBuf0 (F := F) c hbM0_2) : Vec F S6x640x128 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 fh0 fh1 fh2).2.2.1)

theorem scover0_A_10 (hc0 : cond0_0 i) (hc1 : ¬cond0_1 i) (hc2 : ¬cond0_2 i)
    (x0 : Vec F S512x1024 .f32) (x1 : Vec F S512x256 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S6x768 .f32) (x9 : Vec F S1x1024 .f32) (x10 : Vec F S1x1024 .f32) (x11 : Vec F S1x1024 .f32) (fh0 : HbBuf0 (F := F) c hbM0_0) (fh1 : HbBuf0 (F := F) c hbM0_1) (fh2 : HbBuf0 (F := F) c hbM0_2) (y : S1024x1024.Idx) :
    ∃ pc ∈ (kernelRun0_A c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 fh0 fh1 fh2).2.2.2.1, y ∈ pc.1.set :=
  View.cover_of_tiledL (kernelRun0_A c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 fh0 fh1 fh2).2.2.2.1 S1024x1024.size (by sl_kernel_rfl) y

def sout0_A_10 (hc0 : cond0_0 i) (hc1 : ¬cond0_1 i) (hc2 : ¬cond0_2 i)
    (x0 : Vec F S512x1024 .f32) (x1 : Vec F S512x256 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S6x768 .f32) (x9 : Vec F S1x1024 .f32) (x10 : Vec F S1x1024 .f32) (x11 : Vec F S1x1024 .f32) (fh0 : HbBuf0 (F := F) c hbM0_0) (fh1 : HbBuf0 (F := F) c hbM0_1) (fh2 : HbBuf0 (F := F) c hbM0_2) : Vec F S1024x1024 .bf16 :=
  VS0_10.read (Elt F) (VS0_10.writes (Elt F) VS0_10.junk (kernelRun0_A c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 fh0 fh1 fh2).2.2.2.1)

theorem scover0_A_11 (hc0 : cond0_0 i) (hc1 : ¬cond0_1 i) (hc2 : ¬cond0_2 i)
    (x0 : Vec F S512x1024 .f32) (x1 : Vec F S512x256 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S6x768 .f32) (x9 : Vec F S1x1024 .f32) (x10 : Vec F S1x1024 .f32) (x11 : Vec F S1x1024 .f32) (fh0 : HbBuf0 (F := F) c hbM0_0) (fh1 : HbBuf0 (F := F) c hbM0_1) (fh2 : HbBuf0 (F := F) c hbM0_2) (y : S1024x4096.Idx) :
    ∃ pc ∈ (kernelRun0_A c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 fh0 fh1 fh2).2.2.2.2.1, y ∈ pc.1.set :=
  View.cover_of_tiledL (kernelRun0_A c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 fh0 fh1 fh2).2.2.2.2.1 S1024x4096.size (by sl_kernel_rfl) y

def sout0_A_11 (hc0 : cond0_0 i) (hc1 : ¬cond0_1 i) (hc2 : ¬cond0_2 i)
    (x0 : Vec F S512x1024 .f32) (x1 : Vec F S512x256 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S6x768 .f32) (x9 : Vec F S1x1024 .f32) (x10 : Vec F S1x1024 .f32) (x11 : Vec F S1x1024 .f32) (fh0 : HbBuf0 (F := F) c hbM0_0) (fh1 : HbBuf0 (F := F) c hbM0_1) (fh2 : HbBuf0 (F := F) c hbM0_2) : Vec F S1024x4096 .bf16 :=
  VS0_11.read (Elt F) (VS0_11.writes (Elt F) VS0_11.junk (kernelRun0_A c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 fh0 fh1 fh2).2.2.2.2.1)

theorem scover0_A_12 (hc0 : cond0_0 i) (hc1 : ¬cond0_1 i) (hc2 : ¬cond0_2 i)
    (x0 : Vec F S512x1024 .f32) (x1 : Vec F S512x256 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S6x768 .f32) (x9 : Vec F S1x1024 .f32) (x10 : Vec F S1x1024 .f32) (x11 : Vec F S1x1024 .f32) (fh0 : HbBuf0 (F := F) c hbM0_0) (fh1 : HbBuf0 (F := F) c hbM0_1) (fh2 : HbBuf0 (F := F) c hbM0_2) (y : S4096x1024.Idx) :
    ∃ pc ∈ (kernelRun0_A c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 fh0 fh1 fh2).2.2.2.2.2.1, y ∈ pc.1.set :=
  View.cover_of_tiledL (kernelRun0_A c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 fh0 fh1 fh2).2.2.2.2.2.1 S4096x1024.size (by sl_kernel_rfl) y

def sout0_A_12 (hc0 : cond0_0 i) (hc1 : ¬cond0_1 i) (hc2 : ¬cond0_2 i)
    (x0 : Vec F S512x1024 .f32) (x1 : Vec F S512x256 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S6x768 .f32) (x9 : Vec F S1x1024 .f32) (x10 : Vec F S1x1024 .f32) (x11 : Vec F S1x1024 .f32) (fh0 : HbBuf0 (F := F) c hbM0_0) (fh1 : HbBuf0 (F := F) c hbM0_1) (fh2 : HbBuf0 (F := F) c hbM0_2) : Vec F S4096x1024 .bf16 :=
  VS0_12.read (Elt F) (VS0_12.writes (Elt F) VS0_12.junk (kernelRun0_A c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 fh0 fh1 fh2).2.2.2.2.2.1)

theorem cover0_B_12 (hc0 : ¬cond0_0 i) (hc1 : cond0_1 i) (hc2 : ¬cond0_2 i)
    (x0 : Vec F S512x1024 .f32) (x1 : Vec F S512x256 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S6x768 .f32) (x9 : Vec F S1x1024 .f32) (x10 : Vec F S1x1024 .f32) (x11 : Vec F S1x1024 .f32) (xs0 : Vec F S512x384 .bf16) (xs3 : Vec F S6x640x128 .f32) (xs10 : Vec F S1024x1024 .bf16) (xs11 : Vec F S1024x4096 .bf16) (xs12 : Vec F S4096x1024 .bf16) (fh0 : HbBuf0 (F := F) c hbM0_0) (fh1 : HbBuf0 (F := F) c hbM0_1) (fh2 : HbBuf0 (F := F) c hbM0_2) (y : S512x1024.Idx) :
    ∃ pc ∈ (kernelRun0_B c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 xs0 xs3 xs10 xs11 xs12 fh0 fh1 fh2).1, y ∈ pc.1.set :=
  View.cover_of_tiledL (kernelRun0_B c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 xs0 xs3 xs10 xs11 xs12 fh0 fh1 fh2).1 S512x1024.size (by sl_kernel_rfl) y

def out0_B_12 (hc0 : ¬cond0_0 i) (hc1 : cond0_1 i) (hc2 : ¬cond0_2 i)
    (x0 : Vec F S512x1024 .f32) (x1 : Vec F S512x256 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S6x768 .f32) (x9 : Vec F S1x1024 .f32) (x10 : Vec F S1x1024 .f32) (x11 : Vec F S1x1024 .f32) (xs0 : Vec F S512x384 .bf16) (xs3 : Vec F S6x640x128 .f32) (xs10 : Vec F S1024x1024 .bf16) (xs11 : Vec F S1024x4096 .bf16) (xs12 : Vec F S4096x1024 .bf16) (fh0 : HbBuf0 (F := F) c hbM0_0) (fh1 : HbBuf0 (F := F) c hbM0_1) (fh2 : HbBuf0 (F := F) c hbM0_2) : Vec F S512x1024 .f32 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 xs0 xs3 xs10 xs11 xs12 fh0 fh1 fh2).1)

theorem scover0_B_0 (hc0 : ¬cond0_0 i) (hc1 : cond0_1 i) (hc2 : ¬cond0_2 i)
    (x0 : Vec F S512x1024 .f32) (x1 : Vec F S512x256 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S6x768 .f32) (x9 : Vec F S1x1024 .f32) (x10 : Vec F S1x1024 .f32) (x11 : Vec F S1x1024 .f32) (xs0 : Vec F S512x384 .bf16) (xs3 : Vec F S6x640x128 .f32) (xs10 : Vec F S1024x1024 .bf16) (xs11 : Vec F S1024x4096 .bf16) (xs12 : Vec F S4096x1024 .bf16) (fh0 : HbBuf0 (F := F) c hbM0_0) (fh1 : HbBuf0 (F := F) c hbM0_1) (fh2 : HbBuf0 (F := F) c hbM0_2) (y : S512x384.Idx) :
    ∃ pc ∈ (kernelRun0_B c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 xs0 xs3 xs10 xs11 xs12 fh0 fh1 fh2).2.1, y ∈ pc.1.set :=
  View.cover_of_tiledL (kernelRun0_B c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 xs0 xs3 xs10 xs11 xs12 fh0 fh1 fh2).2.1 S128x384.size (by sl_kernel_rfl) y

def sout0_B_0 (hc0 : ¬cond0_0 i) (hc1 : cond0_1 i) (hc2 : ¬cond0_2 i)
    (x0 : Vec F S512x1024 .f32) (x1 : Vec F S512x256 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S6x768 .f32) (x9 : Vec F S1x1024 .f32) (x10 : Vec F S1x1024 .f32) (x11 : Vec F S1x1024 .f32) (xs0 : Vec F S512x384 .bf16) (xs3 : Vec F S6x640x128 .f32) (xs10 : Vec F S1024x1024 .bf16) (xs11 : Vec F S1024x4096 .bf16) (xs12 : Vec F S4096x1024 .bf16) (fh0 : HbBuf0 (F := F) c hbM0_0) (fh1 : HbBuf0 (F := F) c hbM0_1) (fh2 : HbBuf0 (F := F) c hbM0_2) : Vec F S512x384 .bf16 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 xs0 xs3 xs10 xs11 xs12 fh0 fh1 fh2).2.1)

def sout0_B_3 (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x384 .bf16) (harg5 : arg5.IsWhole) (arg6 : Memref sig .tc .vmem S512x384 .bf16) (harg6 : arg6.IsWhole) (arg7 : Memref sig .tc .vmem S512x384 .bf16) (harg7 : arg7.IsWhole) (arg8 : Memref sig .tc .vmem S512x384 .bf16) (harg8 : arg8.IsWhole) (arg9 : Memref sig .tc .vmem S6x768 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x384 .bf16) (harg17 : arg17.IsWhole) (arg18 : Memref sig .tc .vmem S384x1024 .bf16) (harg18 : arg18.IsWhole) (arg19 : Memref sig .tc .vmem S2x640x256 .f32) (harg19 : arg19.IsWhole) (arg20 : Memref sig .tc .vmem S6x640x128 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S2x512x1024 .bf16) (harg23 : arg23.IsWhole) (arg24 : Memref sig .tc .vmem S512x1024 .f32) (harg24 : arg24.IsWhole) (arg25 : Memref sig .tc .vmem S512x1024 .f32) (harg25 : arg25.IsWhole) (arg26 : Memref sig .tc .vmem S512x1024 .f32) (harg26 : arg26.IsWhole) (arg27 : Memref sig .tc .vmem S1024x1024 .bf16) (harg27 : arg27.IsWhole) (arg28 : Memref sig .tc .vmem S1024x4096 .bf16) (harg28 : arg28.IsWhole) (arg29 : Memref sig .tc .vmem S4096x1024 .bf16) (harg29 : arg29.IsWhole) (hc0 : ¬cond0_0 i) (hc1 : cond0_1 i) (hc2 : ¬cond0_2 i)
    (x0 : Vec F S512x1024 .f32) (x1 : Vec F S512x256 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S6x768 .f32) (x9 : Vec F S1x1024 .f32) (x10 : Vec F S1x1024 .f32) (x11 : Vec F S1x1024 .f32) (xs0 : Vec F S512x384 .bf16) (xs3 : Vec F S6x640x128 .f32) (xs10 : Vec F S1024x1024 .bf16) (xs11 : Vec F S1024x4096 .bf16) (xs12 : Vec F S4096x1024 .bf16) (fh0 : HbBuf0 (F := F) c hbM0_0) (fh1 : HbBuf0 (F := F) c hbM0_1) (fh2 : HbBuf0 (F := F) c hbM0_2) : Vec F S6x640x128 .f32 := xs3

def sout0_B_10 (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x384 .bf16) (harg5 : arg5.IsWhole) (arg6 : Memref sig .tc .vmem S512x384 .bf16) (harg6 : arg6.IsWhole) (arg7 : Memref sig .tc .vmem S512x384 .bf16) (harg7 : arg7.IsWhole) (arg8 : Memref sig .tc .vmem S512x384 .bf16) (harg8 : arg8.IsWhole) (arg9 : Memref sig .tc .vmem S6x768 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x384 .bf16) (harg17 : arg17.IsWhole) (arg18 : Memref sig .tc .vmem S384x1024 .bf16) (harg18 : arg18.IsWhole) (arg19 : Memref sig .tc .vmem S2x640x256 .f32) (harg19 : arg19.IsWhole) (arg20 : Memref sig .tc .vmem S6x640x128 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S2x512x1024 .bf16) (harg23 : arg23.IsWhole) (arg24 : Memref sig .tc .vmem S512x1024 .f32) (harg24 : arg24.IsWhole) (arg25 : Memref sig .tc .vmem S512x1024 .f32) (harg25 : arg25.IsWhole) (arg26 : Memref sig .tc .vmem S512x1024 .f32) (harg26 : arg26.IsWhole) (arg27 : Memref sig .tc .vmem S1024x1024 .bf16) (harg27 : arg27.IsWhole) (arg28 : Memref sig .tc .vmem S1024x4096 .bf16) (harg28 : arg28.IsWhole) (arg29 : Memref sig .tc .vmem S4096x1024 .bf16) (harg29 : arg29.IsWhole) (hc0 : ¬cond0_0 i) (hc1 : cond0_1 i) (hc2 : ¬cond0_2 i)
    (x0 : Vec F S512x1024 .f32) (x1 : Vec F S512x256 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S6x768 .f32) (x9 : Vec F S1x1024 .f32) (x10 : Vec F S1x1024 .f32) (x11 : Vec F S1x1024 .f32) (xs0 : Vec F S512x384 .bf16) (xs3 : Vec F S6x640x128 .f32) (xs10 : Vec F S1024x1024 .bf16) (xs11 : Vec F S1024x4096 .bf16) (xs12 : Vec F S4096x1024 .bf16) (fh0 : HbBuf0 (F := F) c hbM0_0) (fh1 : HbBuf0 (F := F) c hbM0_1) (fh2 : HbBuf0 (F := F) c hbM0_2) : Vec F S1024x1024 .bf16 := xs10

def sout0_B_11 (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x384 .bf16) (harg5 : arg5.IsWhole) (arg6 : Memref sig .tc .vmem S512x384 .bf16) (harg6 : arg6.IsWhole) (arg7 : Memref sig .tc .vmem S512x384 .bf16) (harg7 : arg7.IsWhole) (arg8 : Memref sig .tc .vmem S512x384 .bf16) (harg8 : arg8.IsWhole) (arg9 : Memref sig .tc .vmem S6x768 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x384 .bf16) (harg17 : arg17.IsWhole) (arg18 : Memref sig .tc .vmem S384x1024 .bf16) (harg18 : arg18.IsWhole) (arg19 : Memref sig .tc .vmem S2x640x256 .f32) (harg19 : arg19.IsWhole) (arg20 : Memref sig .tc .vmem S6x640x128 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S2x512x1024 .bf16) (harg23 : arg23.IsWhole) (arg24 : Memref sig .tc .vmem S512x1024 .f32) (harg24 : arg24.IsWhole) (arg25 : Memref sig .tc .vmem S512x1024 .f32) (harg25 : arg25.IsWhole) (arg26 : Memref sig .tc .vmem S512x1024 .f32) (harg26 : arg26.IsWhole) (arg27 : Memref sig .tc .vmem S1024x1024 .bf16) (harg27 : arg27.IsWhole) (arg28 : Memref sig .tc .vmem S1024x4096 .bf16) (harg28 : arg28.IsWhole) (arg29 : Memref sig .tc .vmem S4096x1024 .bf16) (harg29 : arg29.IsWhole) (hc0 : ¬cond0_0 i) (hc1 : cond0_1 i) (hc2 : ¬cond0_2 i)
    (x0 : Vec F S512x1024 .f32) (x1 : Vec F S512x256 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S6x768 .f32) (x9 : Vec F S1x1024 .f32) (x10 : Vec F S1x1024 .f32) (x11 : Vec F S1x1024 .f32) (xs0 : Vec F S512x384 .bf16) (xs3 : Vec F S6x640x128 .f32) (xs10 : Vec F S1024x1024 .bf16) (xs11 : Vec F S1024x4096 .bf16) (xs12 : Vec F S4096x1024 .bf16) (fh0 : HbBuf0 (F := F) c hbM0_0) (fh1 : HbBuf0 (F := F) c hbM0_1) (fh2 : HbBuf0 (F := F) c hbM0_2) : Vec F S1024x4096 .bf16 := xs11

def sout0_B_12 (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x384 .bf16) (harg5 : arg5.IsWhole) (arg6 : Memref sig .tc .vmem S512x384 .bf16) (harg6 : arg6.IsWhole) (arg7 : Memref sig .tc .vmem S512x384 .bf16) (harg7 : arg7.IsWhole) (arg8 : Memref sig .tc .vmem S512x384 .bf16) (harg8 : arg8.IsWhole) (arg9 : Memref sig .tc .vmem S6x768 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x384 .bf16) (harg17 : arg17.IsWhole) (arg18 : Memref sig .tc .vmem S384x1024 .bf16) (harg18 : arg18.IsWhole) (arg19 : Memref sig .tc .vmem S2x640x256 .f32) (harg19 : arg19.IsWhole) (arg20 : Memref sig .tc .vmem S6x640x128 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S2x512x1024 .bf16) (harg23 : arg23.IsWhole) (arg24 : Memref sig .tc .vmem S512x1024 .f32) (harg24 : arg24.IsWhole) (arg25 : Memref sig .tc .vmem S512x1024 .f32) (harg25 : arg25.IsWhole) (arg26 : Memref sig .tc .vmem S512x1024 .f32) (harg26 : arg26.IsWhole) (arg27 : Memref sig .tc .vmem S1024x1024 .bf16) (harg27 : arg27.IsWhole) (arg28 : Memref sig .tc .vmem S1024x4096 .bf16) (harg28 : arg28.IsWhole) (arg29 : Memref sig .tc .vmem S4096x1024 .bf16) (harg29 : arg29.IsWhole) (hc0 : ¬cond0_0 i) (hc1 : cond0_1 i) (hc2 : ¬cond0_2 i)
    (x0 : Vec F S512x1024 .f32) (x1 : Vec F S512x256 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S6x768 .f32) (x9 : Vec F S1x1024 .f32) (x10 : Vec F S1x1024 .f32) (x11 : Vec F S1x1024 .f32) (xs0 : Vec F S512x384 .bf16) (xs3 : Vec F S6x640x128 .f32) (xs10 : Vec F S1024x1024 .bf16) (xs11 : Vec F S1024x4096 .bf16) (xs12 : Vec F S4096x1024 .bf16) (fh0 : HbBuf0 (F := F) c hbM0_0) (fh1 : HbBuf0 (F := F) c hbM0_1) (fh2 : HbBuf0 (F := F) c hbM0_2) : Vec F S4096x1024 .bf16 := xs12

theorem cover0_C_12 (hc0 : ¬cond0_0 i) (hc1 : ¬cond0_1 i) (hc2 : cond0_2 i)
    (x0 : Vec F S512x1024 .f32) (x1 : Vec F S512x256 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S6x768 .f32) (x9 : Vec F S1x1024 .f32) (x10 : Vec F S1x1024 .f32) (x11 : Vec F S1x1024 .f32) (xs0 : Vec F S512x384 .bf16) (xs3 : Vec F S6x640x128 .f32) (xs10 : Vec F S1024x1024 .bf16) (xs11 : Vec F S1024x4096 .bf16) (xs12 : Vec F S4096x1024 .bf16) (fh0 : HbBuf0 (F := F) c hbM0_0) (fh1 : HbBuf0 (F := F) c hbM0_1) (fh2 : HbBuf0 (F := F) c hbM0_2) (y : S512x1024.Idx) :
    ∃ pc ∈ (kernelRun0_C c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 xs0 xs3 xs10 xs11 xs12 fh0 fh1 fh2).1, y ∈ pc.1.set :=
  View.cover_of_tiledL (kernelRun0_C c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 xs0 xs3 xs10 xs11 xs12 fh0 fh1 fh2).1 S512x1024.size (by sl_kernel_rfl) y

def out0_C_12 (hc0 : ¬cond0_0 i) (hc1 : ¬cond0_1 i) (hc2 : cond0_2 i)
    (x0 : Vec F S512x1024 .f32) (x1 : Vec F S512x256 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S6x768 .f32) (x9 : Vec F S1x1024 .f32) (x10 : Vec F S1x1024 .f32) (x11 : Vec F S1x1024 .f32) (xs0 : Vec F S512x384 .bf16) (xs3 : Vec F S6x640x128 .f32) (xs10 : Vec F S1024x1024 .bf16) (xs11 : Vec F S1024x4096 .bf16) (xs12 : Vec F S4096x1024 .bf16) (fh0 : HbBuf0 (F := F) c hbM0_0) (fh1 : HbBuf0 (F := F) c hbM0_1) (fh2 : HbBuf0 (F := F) c hbM0_2) : Vec F S512x1024 .f32 :=
  VO0_12.read (Elt F) (VO0_12.writes (Elt F) VO0_12.junk (kernelRun0_C c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 xs0 xs3 xs10 xs11 xs12 fh0 fh1 fh2).1)

def sout0_C_0 (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x384 .bf16) (harg5 : arg5.IsWhole) (arg6 : Memref sig .tc .vmem S512x384 .bf16) (harg6 : arg6.IsWhole) (arg7 : Memref sig .tc .vmem S512x384 .bf16) (harg7 : arg7.IsWhole) (arg8 : Memref sig .tc .vmem S512x384 .bf16) (harg8 : arg8.IsWhole) (arg9 : Memref sig .tc .vmem S6x768 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x384 .bf16) (harg17 : arg17.IsWhole) (arg18 : Memref sig .tc .vmem S384x1024 .bf16) (harg18 : arg18.IsWhole) (arg19 : Memref sig .tc .vmem S2x640x256 .f32) (harg19 : arg19.IsWhole) (arg20 : Memref sig .tc .vmem S6x640x128 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S2x512x1024 .bf16) (harg23 : arg23.IsWhole) (arg24 : Memref sig .tc .vmem S512x1024 .f32) (harg24 : arg24.IsWhole) (arg25 : Memref sig .tc .vmem S512x1024 .f32) (harg25 : arg25.IsWhole) (arg26 : Memref sig .tc .vmem S512x1024 .f32) (harg26 : arg26.IsWhole) (arg27 : Memref sig .tc .vmem S1024x1024 .bf16) (harg27 : arg27.IsWhole) (arg28 : Memref sig .tc .vmem S1024x4096 .bf16) (harg28 : arg28.IsWhole) (arg29 : Memref sig .tc .vmem S4096x1024 .bf16) (harg29 : arg29.IsWhole) (hc0 : ¬cond0_0 i) (hc1 : ¬cond0_1 i) (hc2 : cond0_2 i)
    (x0 : Vec F S512x1024 .f32) (x1 : Vec F S512x256 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S6x768 .f32) (x9 : Vec F S1x1024 .f32) (x10 : Vec F S1x1024 .f32) (x11 : Vec F S1x1024 .f32) (xs0 : Vec F S512x384 .bf16) (xs3 : Vec F S6x640x128 .f32) (xs10 : Vec F S1024x1024 .bf16) (xs11 : Vec F S1024x4096 .bf16) (xs12 : Vec F S4096x1024 .bf16) (fh0 : HbBuf0 (F := F) c hbM0_0) (fh1 : HbBuf0 (F := F) c hbM0_1) (fh2 : HbBuf0 (F := F) c hbM0_2) : Vec F S512x384 .bf16 := xs0

def sout0_C_3 (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x384 .bf16) (harg5 : arg5.IsWhole) (arg6 : Memref sig .tc .vmem S512x384 .bf16) (harg6 : arg6.IsWhole) (arg7 : Memref sig .tc .vmem S512x384 .bf16) (harg7 : arg7.IsWhole) (arg8 : Memref sig .tc .vmem S512x384 .bf16) (harg8 : arg8.IsWhole) (arg9 : Memref sig .tc .vmem S6x768 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x384 .bf16) (harg17 : arg17.IsWhole) (arg18 : Memref sig .tc .vmem S384x1024 .bf16) (harg18 : arg18.IsWhole) (arg19 : Memref sig .tc .vmem S2x640x256 .f32) (harg19 : arg19.IsWhole) (arg20 : Memref sig .tc .vmem S6x640x128 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S2x512x1024 .bf16) (harg23 : arg23.IsWhole) (arg24 : Memref sig .tc .vmem S512x1024 .f32) (harg24 : arg24.IsWhole) (arg25 : Memref sig .tc .vmem S512x1024 .f32) (harg25 : arg25.IsWhole) (arg26 : Memref sig .tc .vmem S512x1024 .f32) (harg26 : arg26.IsWhole) (arg27 : Memref sig .tc .vmem S1024x1024 .bf16) (harg27 : arg27.IsWhole) (arg28 : Memref sig .tc .vmem S1024x4096 .bf16) (harg28 : arg28.IsWhole) (arg29 : Memref sig .tc .vmem S4096x1024 .bf16) (harg29 : arg29.IsWhole) (hc0 : ¬cond0_0 i) (hc1 : ¬cond0_1 i) (hc2 : cond0_2 i)
    (x0 : Vec F S512x1024 .f32) (x1 : Vec F S512x256 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S6x768 .f32) (x9 : Vec F S1x1024 .f32) (x10 : Vec F S1x1024 .f32) (x11 : Vec F S1x1024 .f32) (xs0 : Vec F S512x384 .bf16) (xs3 : Vec F S6x640x128 .f32) (xs10 : Vec F S1024x1024 .bf16) (xs11 : Vec F S1024x4096 .bf16) (xs12 : Vec F S4096x1024 .bf16) (fh0 : HbBuf0 (F := F) c hbM0_0) (fh1 : HbBuf0 (F := F) c hbM0_1) (fh2 : HbBuf0 (F := F) c hbM0_2) : Vec F S6x640x128 .f32 := xs3

def sout0_C_10 (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x384 .bf16) (harg5 : arg5.IsWhole) (arg6 : Memref sig .tc .vmem S512x384 .bf16) (harg6 : arg6.IsWhole) (arg7 : Memref sig .tc .vmem S512x384 .bf16) (harg7 : arg7.IsWhole) (arg8 : Memref sig .tc .vmem S512x384 .bf16) (harg8 : arg8.IsWhole) (arg9 : Memref sig .tc .vmem S6x768 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x384 .bf16) (harg17 : arg17.IsWhole) (arg18 : Memref sig .tc .vmem S384x1024 .bf16) (harg18 : arg18.IsWhole) (arg19 : Memref sig .tc .vmem S2x640x256 .f32) (harg19 : arg19.IsWhole) (arg20 : Memref sig .tc .vmem S6x640x128 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S2x512x1024 .bf16) (harg23 : arg23.IsWhole) (arg24 : Memref sig .tc .vmem S512x1024 .f32) (harg24 : arg24.IsWhole) (arg25 : Memref sig .tc .vmem S512x1024 .f32) (harg25 : arg25.IsWhole) (arg26 : Memref sig .tc .vmem S512x1024 .f32) (harg26 : arg26.IsWhole) (arg27 : Memref sig .tc .vmem S1024x1024 .bf16) (harg27 : arg27.IsWhole) (arg28 : Memref sig .tc .vmem S1024x4096 .bf16) (harg28 : arg28.IsWhole) (arg29 : Memref sig .tc .vmem S4096x1024 .bf16) (harg29 : arg29.IsWhole) (hc0 : ¬cond0_0 i) (hc1 : ¬cond0_1 i) (hc2 : cond0_2 i)
    (x0 : Vec F S512x1024 .f32) (x1 : Vec F S512x256 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S6x768 .f32) (x9 : Vec F S1x1024 .f32) (x10 : Vec F S1x1024 .f32) (x11 : Vec F S1x1024 .f32) (xs0 : Vec F S512x384 .bf16) (xs3 : Vec F S6x640x128 .f32) (xs10 : Vec F S1024x1024 .bf16) (xs11 : Vec F S1024x4096 .bf16) (xs12 : Vec F S4096x1024 .bf16) (fh0 : HbBuf0 (F := F) c hbM0_0) (fh1 : HbBuf0 (F := F) c hbM0_1) (fh2 : HbBuf0 (F := F) c hbM0_2) : Vec F S1024x1024 .bf16 := xs10

def sout0_C_11 (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x384 .bf16) (harg5 : arg5.IsWhole) (arg6 : Memref sig .tc .vmem S512x384 .bf16) (harg6 : arg6.IsWhole) (arg7 : Memref sig .tc .vmem S512x384 .bf16) (harg7 : arg7.IsWhole) (arg8 : Memref sig .tc .vmem S512x384 .bf16) (harg8 : arg8.IsWhole) (arg9 : Memref sig .tc .vmem S6x768 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x384 .bf16) (harg17 : arg17.IsWhole) (arg18 : Memref sig .tc .vmem S384x1024 .bf16) (harg18 : arg18.IsWhole) (arg19 : Memref sig .tc .vmem S2x640x256 .f32) (harg19 : arg19.IsWhole) (arg20 : Memref sig .tc .vmem S6x640x128 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S2x512x1024 .bf16) (harg23 : arg23.IsWhole) (arg24 : Memref sig .tc .vmem S512x1024 .f32) (harg24 : arg24.IsWhole) (arg25 : Memref sig .tc .vmem S512x1024 .f32) (harg25 : arg25.IsWhole) (arg26 : Memref sig .tc .vmem S512x1024 .f32) (harg26 : arg26.IsWhole) (arg27 : Memref sig .tc .vmem S1024x1024 .bf16) (harg27 : arg27.IsWhole) (arg28 : Memref sig .tc .vmem S1024x4096 .bf16) (harg28 : arg28.IsWhole) (arg29 : Memref sig .tc .vmem S4096x1024 .bf16) (harg29 : arg29.IsWhole) (hc0 : ¬cond0_0 i) (hc1 : ¬cond0_1 i) (hc2 : cond0_2 i)
    (x0 : Vec F S512x1024 .f32) (x1 : Vec F S512x256 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S6x768 .f32) (x9 : Vec F S1x1024 .f32) (x10 : Vec F S1x1024 .f32) (x11 : Vec F S1x1024 .f32) (xs0 : Vec F S512x384 .bf16) (xs3 : Vec F S6x640x128 .f32) (xs10 : Vec F S1024x1024 .bf16) (xs11 : Vec F S1024x4096 .bf16) (xs12 : Vec F S4096x1024 .bf16) (fh0 : HbBuf0 (F := F) c hbM0_0) (fh1 : HbBuf0 (F := F) c hbM0_1) (fh2 : HbBuf0 (F := F) c hbM0_2) : Vec F S1024x4096 .bf16 := xs11

def sout0_C_12 (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x384 .bf16) (harg5 : arg5.IsWhole) (arg6 : Memref sig .tc .vmem S512x384 .bf16) (harg6 : arg6.IsWhole) (arg7 : Memref sig .tc .vmem S512x384 .bf16) (harg7 : arg7.IsWhole) (arg8 : Memref sig .tc .vmem S512x384 .bf16) (harg8 : arg8.IsWhole) (arg9 : Memref sig .tc .vmem S6x768 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x384 .bf16) (harg17 : arg17.IsWhole) (arg18 : Memref sig .tc .vmem S384x1024 .bf16) (harg18 : arg18.IsWhole) (arg19 : Memref sig .tc .vmem S2x640x256 .f32) (harg19 : arg19.IsWhole) (arg20 : Memref sig .tc .vmem S6x640x128 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S2x512x1024 .bf16) (harg23 : arg23.IsWhole) (arg24 : Memref sig .tc .vmem S512x1024 .f32) (harg24 : arg24.IsWhole) (arg25 : Memref sig .tc .vmem S512x1024 .f32) (harg25 : arg25.IsWhole) (arg26 : Memref sig .tc .vmem S512x1024 .f32) (harg26 : arg26.IsWhole) (arg27 : Memref sig .tc .vmem S1024x1024 .bf16) (harg27 : arg27.IsWhole) (arg28 : Memref sig .tc .vmem S1024x4096 .bf16) (harg28 : arg28.IsWhole) (arg29 : Memref sig .tc .vmem S4096x1024 .bf16) (harg29 : arg29.IsWhole) (hc0 : ¬cond0_0 i) (hc1 : ¬cond0_1 i) (hc2 : cond0_2 i)
    (x0 : Vec F S512x1024 .f32) (x1 : Vec F S512x256 .bf16) (x2 : Vec F S512x384 .bf16) (x3 : Vec F S512x384 .bf16) (x4 : Vec F S512x384 .bf16) (x5 : Vec F S512x384 .bf16) (x6 : Vec F S512x384 .bf16) (x7 : Vec F S512x384 .bf16) (x8 : Vec F S6x768 .f32) (x9 : Vec F S1x1024 .f32) (x10 : Vec F S1x1024 .f32) (x11 : Vec F S1x1024 .f32) (xs0 : Vec F S512x384 .bf16) (xs3 : Vec F S6x640x128 .f32) (xs10 : Vec F S1024x1024 .bf16) (xs11 : Vec F S1024x4096 .bf16) (xs12 : Vec F S4096x1024 .bf16) (fh0 : HbBuf0 (F := F) c hbM0_0) (fh1 : HbBuf0 (F := F) c hbM0_1) (fh2 : HbBuf0 (F := F) c hbM0_2) : Vec F S4096x1024 .bf16 := xs12

end Cert.KernelIdeal.Gen

end
-- ==== Proof.Ideal.FrameB.lean ====
/- The contents of the output window and of the carried scratch after each point of the grid. -/
module

public import proofs.«01_k».proof.Proof.Ideal.FrameA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The block of the result and the scratch arrays that are carried from one grid point to the next. -/
abbrev Carried (F : FTy → Type) : Type := Vec F S512x1024 .f32 × Vec F S512x384 .bf16 × Vec F S6x640x128 .f32 × Vec F S1024x1024 .bf16 × Vec F S1024x4096 .bf16 × Vec F S4096x1024 .bf16

/-- What the first grid point leaves. -/
def pointA (c : Dev nD) (t : Fin cfg0.N) (h0 : t.val % 65 = 0) (h1 : ¬(1 ≤ t.val % 65 ∧ t.val % 65 ≤ 63)) (h2 : ¬t.val % 65 = 64) : Carried F :=
  (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_v0) (V m c main_v1) (V m c main_v2), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_v0) (V m c main_v1) (V m c main_v2), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_v0) (V m c main_v1) (V m c main_v2), sout0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_v0) (V m c main_v1) (V m c main_v2), sout0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_v0) (V m c main_v1) (V m c main_v2), sout0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_v0) (V m c main_v1) (V m c main_v2))

/-- What a middle grid point leaves, from what the point before left. -/
def pointB (c : Dev nD) (t : Fin cfg0.N) (h0 : ¬t.val % 65 = 0) (h1 : (1 ≤ t.val % 65 ∧ t.val % 65 ≤ 63)) (h2 : ¬t.val % 65 = 64) (prev : Carried F) : Carried F :=
  (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) prev.2.1 prev.2.2.1 prev.2.2.2.1 prev.2.2.2.2.1 prev.2.2.2.2.2 (V m c main_v0) (V m c main_v1) (V m c main_v2), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) prev.2.1 prev.2.2.1 prev.2.2.2.1 prev.2.2.2.2.1 prev.2.2.2.2.2 (V m c main_v0) (V m c main_v1) (V m c main_v2), sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) prev.2.1 prev.2.2.1 prev.2.2.2.1 prev.2.2.2.2.1 prev.2.2.2.2.2 (V m c main_v0) (V m c main_v1) (V m c main_v2), sout0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) prev.2.1 prev.2.2.1 prev.2.2.2.1 prev.2.2.2.2.1 prev.2.2.2.2.2 (V m c main_v0) (V m c main_v1) (V m c main_v2), sout0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) prev.2.1 prev.2.2.1 prev.2.2.2.1 prev.2.2.2.2.1 prev.2.2.2.2.2 (V m c main_v0) (V m c main_v1) (V m c main_v2), sout0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) prev.2.1 prev.2.2.1 prev.2.2.2.1 prev.2.2.2.2.1 prev.2.2.2.2.2 (V m c main_v0) (V m c main_v1) (V m c main_v2))

/-- What the last grid point leaves, from what the point before left. -/
def pointC (c : Dev nD) (t : Fin cfg0.N) (h0 : ¬t.val % 65 = 0) (h1 : ¬(1 ≤ t.val % 65 ∧ t.val % 65 ≤ 63)) (h2 : t.val % 65 = 64) (prev : Carried F) : Carried F :=
  (out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) prev.2.1 prev.2.2.1 prev.2.2.2.1 prev.2.2.2.2.1 prev.2.2.2.2.2 (V m c main_v0) (V m c main_v1) (V m c main_v2), sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) prev.2.1 prev.2.2.1 prev.2.2.2.1 prev.2.2.2.2.1 prev.2.2.2.2.2 (V m c main_v0) (V m c main_v1) (V m c main_v2), sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) prev.2.1 prev.2.2.1 prev.2.2.2.1 prev.2.2.2.2.1 prev.2.2.2.2.2 (V m c main_v0) (V m c main_v1) (V m c main_v2), sout0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) prev.2.1 prev.2.2.1 prev.2.2.2.1 prev.2.2.2.2.1 prev.2.2.2.2.2 (V m c main_v0) (V m c main_v1) (V m c main_v2), sout0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) prev.2.1 prev.2.2.1 prev.2.2.2.1 prev.2.2.2.2.1 prev.2.2.2.2.2 (V m c main_v0) (V m c main_v1) (V m c main_v2), sout0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) prev.2.1 prev.2.2.1 prev.2.2.2.1 prev.2.2.2.2.1 prev.2.2.2.2.2 (V m c main_v0) (V m c main_v1) (V m c main_v2))

def outsAt0 (c : Dev nD) : (n : ℕ) → n < cfg0.N → Carried F
  | 0, hn => pointA m c ⟨0, hn⟩ (Nat.zero_mod _) (fun h => by (try dsimp only at h); omega) (fun h => by (try dsimp only at h); omega)
  | n + 1, hn =>
    if h0 : (n + 1) % 65 = 0 then
      if h1 : (1 ≤ (n + 1) % 65 ∧ (n + 1) % 65 ≤ 63) then
        False.elim (by have hN : n + 1 < 65 := lt_of_lt_of_eq hn (show cfg0.N = 65 from N_0); omega)
      else
        if h2 : (n + 1) % 65 = 64 then
          False.elim (by have hN : n + 1 < 65 := lt_of_lt_of_eq hn (show cfg0.N = 65 from N_0); omega)
        else
          pointA m c ⟨n + 1, hn⟩ h0 h1 h2
    else
      if h1 : (1 ≤ (n + 1) % 65 ∧ (n + 1) % 65 ≤ 63) then
        if h2 : (n + 1) % 65 = 64 then
          False.elim (by have hN : n + 1 < 65 := lt_of_lt_of_eq hn (show cfg0.N = 65 from N_0); omega)
        else
          pointB m c ⟨n + 1, hn⟩ h0 h1 h2 (outsAt0 c n (Nat.lt_of_succ_lt hn))
      else
        if h2 : (n + 1) % 65 = 64 then
          pointC m c ⟨n + 1, hn⟩ h0 h1 h2 (outsAt0 c n (Nat.lt_of_succ_lt hn))
        else
          False.elim (by have hN : n + 1 < 65 := lt_of_lt_of_eq hn (show cfg0.N = 65 from N_0); omega)

theorem outsAt0_A (c : Dev nD) (t : Fin cfg0.N) (h0 : t.val % 65 = 0) (h1 : ¬(1 ≤ t.val % 65 ∧ t.val % 65 ≤ 63)) (h2 : ¬t.val % 65 = 64) :
    outsAt0 m c t.val t.isLt = pointA m c t h0 h1 h2 := by
  obtain ⟨n, hn⟩ := t
  cases n with
  | zero => exact rfl
  | succ n => exact (dif_pos h0).trans ((dif_neg h1).trans ((dif_neg h2).trans rfl))

theorem outsAt0_B (c : Dev nD) (t : Fin cfg0.N) (h0 : ¬t.val % 65 = 0) (h1 : (1 ≤ t.val % 65 ∧ t.val % 65 ≤ 63)) (h2 : ¬t.val % 65 = 64) :
    outsAt0 m c t.val t.isLt = pointB m c t h0 h1 h2 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans rfl))

theorem outsAt0_C (c : Dev nD) (t : Fin cfg0.N) (h0 : ¬t.val % 65 = 0) (h1 : ¬(1 ≤ t.val % 65 ∧ t.val % 65 ≤ 63)) (h2 : t.val % 65 = 64) :
    outsAt0 m c t.val t.isLt = pointC m c t h0 h1 h2 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans rfl))

def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.1) ∗ (∃ d, owns (c : Thread nD τ) scM0_1 fullShare d) ∗ (∃ d, owns (c : Thread nD τ) scM0_2 fullShare d) ∗ owns (c : Thread nD τ) scM0_3 fullShare ((outsAt0 m c n hn).2.2.1) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ owns (c : Thread nD τ) scM0_10 fullShare ((outsAt0 m c n hn).2.2.2.1) ∗ owns (c : Thread nD τ) scM0_11 fullShare ((outsAt0 m c n hn).2.2.2.2.1) ∗ owns (c : Thread nD τ) scM0_12 fullShare ((outsAt0 m c n hn).2.2.2.2.2)) ∗ (∃ r, prngReg c r) ∗ iprop(semVal ((c : Thread nD τ), SemLoc.dma 22) 0 ∗ semVal ((c : Thread nD τ), SemLoc.dma 23) 0 ∗ semVal ((c : Thread nD τ), SemLoc.dma 24) 0) ∗ iprop(hbPt0 c hbM0_0 (V m c main_v0) ∗ hbPt0 c hbM0_1 (V m c main_v1) ∗ hbPt0 c hbM0_2 (V m c main_v2)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ (∃ d, owns (c : Thread nD τ) scM0_1 fullShare d) ∗ (∃ d, owns (c : Thread nD τ) scM0_2 fullShare d) ∗ owns (c : Thread nD τ) scM0_3 fullShare ((outsAt0 m c n hn).2.2.1) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ owns (c : Thread nD τ) scM0_10 fullShare ((outsAt0 m c n hn).2.2.2.1) ∗ owns (c : Thread nD τ) scM0_11 fullShare ((outsAt0 m c n hn).2.2.2.2.1) ∗ owns (c : Thread nD τ) scM0_12 fullShare ((outsAt0 m c n hn).2.2.2.2.2)) ∗ (∃ r, prngReg c r) ∗ iprop(semVal ((c : Thread nD τ), SemLoc.dma 22) 0 ∗ semVal ((c : Thread nD τ), SemLoc.dma 23) 0 ∗ semVal ((c : Thread nD τ), SemLoc.dma 24) 0) ∗ iprop(hbPt0 c hbM0_0 (V m c main_v0) ∗ hbPt0 c hbM0_1 (V m c main_v1) ∗ hbPt0 c hbM0_2 (V m c main_v2))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ (∃ d, owns (c : Thread nD τ) scM0_1 fullShare d) ∗ (∃ d, owns (c : Thread nD τ) scM0_2 fullShare d) ∗ owns (c : Thread nD τ) scM0_3 fullShare ((outsAt0 m c (n - 1) (by omega)).2.2.1) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ owns (c : Thread nD τ) scM0_10 fullShare ((outsAt0 m c (n - 1) (by omega)).2.2.2.1) ∗ owns (c : Thread nD τ) scM0_11 fullShare ((outsAt0 m c (n - 1) (by omega)).2.2.2.2.1) ∗ owns (c : Thread nD τ) scM0_12 fullShare ((outsAt0 m c (n - 1) (by omega)).2.2.2.2.2)) ∗ (∃ r, prngReg c r) ∗ iprop(semVal ((c : Thread nD τ), SemLoc.dma 22) 0 ∗ semVal ((c : Thread nD τ), SemLoc.dma 23) 0 ∗ semVal ((c : Thread nD τ), SemLoc.dma 24) 0) ∗ iprop(hbPt0 c hbM0_0 (V m c main_v0) ∗ hbPt0 c hbM0_1 (V m c main_v1) ∗ hbPt0 c hbM0_2 (V m c main_v2))) := by
  cases n with
  | zero => exact absurd rfl hz
  | succ n => rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

end Cert.KernelIdeal.Gen

end
-- ==== Proof.Ideal.Frame.lean ====
/- The body at every point of the grid, and the run of the whole program with its frame. -/
module

public import proofs.«01_k».proof.Proof.Ideal.FrameB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 28800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  have hN : t.val < 65 := lt_of_lt_of_eq t.isLt (show cfg0.N = 65 from N_0)
  by_cases h0 : t.val % 65 = 0
  · by_cases h1 : (1 ≤ t.val % 65 ∧ t.val % 65 ≤ 63)
    · exfalso; omega
    · by_cases h2 : t.val % 65 = 64
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [Dat.leavesExact_idle (dats m 0 c) 12 t (idleAt0_12_A t ((hcond0_0 t).mpr h0) (fun h => h1 ((hcond0_1 t).mp h)) (fun h => h2 ((hcond0_2 t).mp h))) (noFlush0_12_A t ((hcond0_0 t).mpr h0) (fun h => h1 ((hcond0_1 t).mp h)) (fun h => h2 ((hcond0_2 t).mp h)))]
        by_cases hz : t.val = 0
        · rw [PhiS_castSucc m c t, PhiS_zero m c _ _ hz, PhiD0_eq]
          rw [outsAt0_A m c t h0 h1 h2, pointA]
          unfold sout0_A_0 sout0_A_3 sout0_A_10 sout0_A_11 sout0_A_12; (try dsimp only)
          iintro ⟨⟨⟨HS0, HS1, HS2, HS3, HS4, HS5, HS6, HS7, HS8, HS9, HS10, HS11, HS12⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_v0) (V m c main_v1) (V m c main_v2)).2.2.2.2.2.2.2.2.2.2.2.2.2.2 _ W _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          isplitl [HS9]; · iexact HS9
          isplitl [HS10]; · iexact HS10
          isplitl [HS11]; · iexact HS11
          isplitl [HS12]; · iexact HS12
          isplitl [Hq0]; · iexact Hq0
          isplitl [Hq1]; · iexact Hq1
          isplitl [Hq2]; · iexact Hq2
          isplitl [Hh0]; · iexact Hh0
          isplitl [Hh1]; · iexact Hh1
          isplitl [Hh2]; · iexact Hh2
          isplitl [HW]; · iexact HW
          iintro ⟨H0, H1, H2, H3, H4, H5, H6, H7, H8, H9, H10, H11, H12, ⟨%es0, HS0⟩, ⟨%fT1, HS1⟩, ⟨%fT2, HS2⟩, ⟨%es3, HS3⟩, HS4, HS5, HS6, HS7, HS8, HS9, ⟨%es10, HS10⟩, ⟨%es11, HS11⟩, ⟨%es12, HS12⟩, Hq0, Hq1, Hq2, Hh0, Hh1, Hh2, ⟨%W', HW'⟩⟩
          isplitl [HS0 HS1 HS2 HS3 HS4 HS5 HS6 HS7 HS8 HS9 HS10 HS11 HS12 Hg Hq0 Hq1 Hq2 Hh0 Hh1 Hh2]
          · isplitl [HS0 HS1 HS2 HS3 HS4 HS5 HS6 HS7 HS8 HS9 HS10 HS11 HS12]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · iexists _; unfold owns; iexists _; isplitr
                swap; · iexact HS1
                ipureintro; rfl
              isplitl [HS2]
              · iexists _; unfold owns; iexists _; isplitr
                swap; · iexact HS2
                ipureintro; rfl
              isplitl [HS3]
              · unfold owns; iexists _; isplitr
                swap; · iexact HS3
                ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS4]; · iexact HS4
              isplitl [HS5]; · iexact HS5
              isplitl [HS6]; · iexact HS6
              isplitl [HS7]; · iexact HS7
              isplitl [HS8]; · iexact HS8
              isplitl [HS9]; · iexact HS9
              isplitl [HS10]
              · unfold owns; iexists _; isplitr
                swap; · iexact HS10
                ipureintro; exact View.read_writes_of_cover _ _ _ _ _ (scover0_A_10 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS11]
              · unfold owns; iexists _; isplitr
                swap; · iexact HS11
                ipureintro; exact View.read_writes_of_cover _ _ _ _ _ (scover0_A_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS12
              ipureintro; exact View.read_writes_of_cover _ _ _ _ _ (scover0_A_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [Hg]
            · iexact Hg
            isplitl [Hq0 Hq1 Hq2]
            · isplitl [Hq0]; · iexact Hq0
              isplitl [Hq1]; · iexact Hq1
              iexact Hq2
            isplitl [Hh0]; · iexact Hh0
            isplitl [Hh1]; · iexact Hh1
            iexact Hh2
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          iexists _; iexact H12
        · exfalso; have hN : t.val < 65 := lt_of_lt_of_eq t.isLt (show cfg0.N = 65 from N_0); omega
  · by_cases h1 : (1 ≤ t.val % 65 ∧ t.val % 65 ≤ 63)
    · by_cases h2 : t.val % 65 = 64
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12_B t (fun h => h0 ((hcond0_0 t).mp h)) ((hcond0_1 t).mpr h1) (fun h => h2 ((hcond0_2 t).mp h))], after0_12]
        by_cases hz : t.val = 0
        · exfalso; have hN : t.val < 65 := lt_of_lt_of_eq t.isLt (show cfg0.N = 65 from N_0); omega
        · rw [PhiS_castSucc m c t, PhiS_pos m c _ _ hz]
          rw [outsAt0_B m c t h0 h1 h2, pointB]
          unfold out0_B_12 sout0_B_0 sout0_B_3 sout0_B_10 sout0_B_11 sout0_B_12; (try dsimp only)
          iintro ⟨⟨⟨HS0, HS1, HS2, HS3, HS4, HS5, HS6, HS7, HS8, HS9, HS10, HS11, HS12⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _ _ (V m c main_v0) (V m c main_v1) (V m c main_v2)).2.2.2.2.2.2.2.2.2.2.2.2.2.2 W _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          isplitl [HS9]; · iexact HS9
          isplitl [HS10]; · iexact HS10
          isplitl [HS11]; · iexact HS11
          isplitl [HS12]; · iexact HS12
          isplitl [Hq0]; · iexact Hq0
          isplitl [Hq1]; · iexact Hq1
          isplitl [Hq2]; · iexact Hq2
          isplitl [Hh0]; · iexact Hh0
          isplitl [Hh1]; · iexact Hh1
          isplitl [Hh2]; · iexact Hh2
          isplitl [HW]; · iexact HW
          iintro ⟨H0, H1, H2, H3, H4, H5, H6, H7, H8, H9, H10, H11, ⟨%e12, H12⟩, ⟨%es0, HS0⟩, ⟨%fT1, HS1⟩, ⟨%fT2, HS2⟩, HS3, ⟨%fT4, HS4⟩, ⟨%fT5, HS5⟩, ⟨%fT6, HS6⟩, ⟨%fT7, HS7⟩, ⟨%fT8, HS8⟩, ⟨%fT9, HS9⟩, HS10, HS11, HS12, Hq0, Hq1, Hq2, Hh0, Hh1, Hh2, ⟨%W', HW'⟩⟩
          isplitl [HS0 HS1 HS2 HS3 HS4 HS5 HS6 HS7 HS8 HS9 HS10 HS11 HS12 Hg Hq0 Hq1 Hq2 Hh0 Hh1 Hh2]
          · isplitl [HS0 HS1 HS2 HS3 HS4 HS5 HS6 HS7 HS8 HS9 HS10 HS11 HS12]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · iexists _; unfold owns; iexists _; isplitr
                swap; · iexact HS1
                ipureintro; rfl
              isplitl [HS2]
              · iexists _; unfold owns; iexists _; isplitr
                swap; · iexact HS2
                ipureintro; rfl
              isplitl [HS3]; · iexact HS3
              isplitl [HS4]
              · iexists _; unfold owns; iexists _; isplitr
                swap; · iexact HS4
                ipureintro; rfl
              isplitl [HS5]
              · iexists _; unfold owns; iexists _; isplitr
                swap; · iexact HS5
                ipureintro; rfl
              isplitl [HS6]
              · iexists _; unfold owns; iexists _; isplitr
                swap; · iexact HS6
                ipureintro; rfl
              isplitl [HS7]
              · iexists _; unfold owns; iexists _; isplitr
                swap; · iexact HS7
                ipureintro; rfl
              isplitl [HS8]
              · iexists _; unfold owns; iexists _; isplitr
                swap; · iexact HS8
                ipureintro; rfl
              isplitl [HS9]
              · iexists _; unfold owns; iexists _; isplitr
                swap; · iexact HS9
                ipureintro; rfl
              isplitl [HS10]; · iexact HS10
              isplitl [HS11]; · iexact HS11
              iexact HS12
            isplitl [Hg]
            · iexact Hg
            isplitl [Hq0 Hq1 Hq2]
            · isplitl [Hq0]; · iexact Hq0
              isplitl [Hq1]; · iexact Hq1
              iexact Hq2
            isplitl [Hh0]; · iexact Hh0
            isplitl [Hh1]; · iexact Hh1
            iexact Hh2
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          unfold owns; iexists _; isplitr
          swap; · iexact H12
          ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · by_cases h2 : t.val % 65 = 64
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12_C t (fun h => h0 ((hcond0_0 t).mp h)) (fun h => h1 ((hcond0_1 t).mp h)) ((hcond0_2 t).mpr h2)], after0_12]
        by_cases hz : t.val = 0
        · exfalso; have hN : t.val < 65 := lt_of_lt_of_eq t.isLt (show cfg0.N = 65 from N_0); omega
        · rw [PhiS_castSucc m c t, PhiS_pos m c _ _ hz]
          rw [outsAt0_C m c t h0 h1 h2, pointC]
          unfold out0_C_12 sout0_C_0 sout0_C_3 sout0_C_10 sout0_C_11 sout0_C_12; (try dsimp only)
          iintro ⟨⟨⟨HS0, HS1, HS2, HS3, HS4, HS5, HS6, HS7, HS8, HS9, HS10, HS11, HS12⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _ _ (V m c main_v0) (V m c main_v1) (V m c main_v2)).2.2.2.2.2.2.2.2.2.2.2.2.2.2 W _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          isplitl [HS9]; · iexact HS9
          isplitl [HS10]; · iexact HS10
          isplitl [HS11]; · iexact HS11
          isplitl [HS12]; · iexact HS12
          isplitl [Hq0]; · iexact Hq0
          isplitl [Hq1]; · iexact Hq1
          isplitl [Hq2]; · iexact Hq2
          isplitl [Hh0]; · iexact Hh0
          isplitl [Hh1]; · iexact Hh1
          isplitl [Hh2]; · iexact Hh2
          isplitl [HW]; · iexact HW
          iintro ⟨H0, H1, H2, H3, H4, H5, H6, H7, H8, H9, H10, H11, ⟨%e12, H12⟩, HS0, HS1, HS2, HS3, ⟨%fT4, HS4⟩, ⟨%fT5, HS5⟩, ⟨%fT6, HS6⟩, ⟨%fT7, HS7⟩, ⟨%fT8, HS8⟩, ⟨%fT9, HS9⟩, HS10, HS11, HS12, Hq0, Hq1, Hq2, Hh0, Hh1, Hh2, ⟨%W', HW'⟩⟩
          isplitl [HS0 HS1 HS2 HS3 HS4 HS5 HS6 HS7 HS8 HS9 HS10 HS11 HS12 Hg Hq0 Hq1 Hq2 Hh0 Hh1 Hh2]
          · isplitl [HS0 HS1 HS2 HS3 HS4 HS5 HS6 HS7 HS8 HS9 HS10 HS11 HS12]
            · isplitl [HS0]; · iexact HS0
              isplitl [HS1]; · iexact HS1
              isplitl [HS2]; · iexact HS2
              isplitl [HS3]; · iexact HS3
              isplitl [HS4]
              · iexists _; unfold owns; iexists _; isplitr
                swap; · iexact HS4
                ipureintro; rfl
              isplitl [HS5]
              · iexists _; unfold owns; iexists _; isplitr
                swap; · iexact HS5
                ipureintro; rfl
              isplitl [HS6]
              · iexists _; unfold owns; iexists _; isplitr
                swap; · iexact HS6
                ipureintro; rfl
              isplitl [HS7]
              · iexists _; unfold owns; iexists _; isplitr
                swap; · iexact HS7
                ipureintro; rfl
              isplitl [HS8]
              · iexists _; unfold owns; iexists _; isplitr
                swap; · iexact HS8
                ipureintro; rfl
              isplitl [HS9]
              · iexists _; unfold owns; iexists _; isplitr
                swap; · iexact HS9
                ipureintro; rfl
              isplitl [HS10]; · iexact HS10
              isplitl [HS11]; · iexact HS11
              iexact HS12
            isplitl [Hg]
            · iexact Hg
            isplitl [Hq0 Hq1 Hq2]
            · isplitl [Hq0]; · iexact Hq0
              isplitl [Hq1]; · iexact Hq1
              iexact Hq2
            isplitl [Hh0]; · iexact Hh0
            isplitl [Hh1]; · iexact Hh1
            iexact Hh2
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          unfold owns; iexists _; isplitr
          swap; · iexact H12
          ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3, HS4, HS5, HS6, HS7, HS8, HS9, HS10, HS11, HS12⟩, Hg, ⟨Hq0, Hq1, Hq2⟩, ⟨Hh0, Hh1, Hh2⟩⟩
  isplitl [HS0 HS1 HS2 HS3 HS4 HS5 HS6 HS7 HS8 HS9 HS10 HS11 HS12]
  · isplitl [HS0]
    · iexists _; iexact HS0
    isplitl [HS1]
    · iexact HS1
    isplitl [HS2]
    · iexact HS2
    isplitl [HS3]
    · iexists _; iexact HS3
    isplitl [HS4]
    · iexact HS4
    isplitl [HS5]
    · iexact HS5
    isplitl [HS6]
    · iexact HS6
    isplitl [HS7]
    · iexact HS7
    isplitl [HS8]
    · iexact HS8
    isplitl [HS9]
    · iexact HS9
    isplitl [HS10]
    · iexists _; iexact HS10
    isplitl [HS11]
    · iexists _; iexact HS11
    iexists _; iexact HS12
  isplitl [Hg]; · iexact Hg
  isplitl [Hq0 Hq1 Hq2]
  · isplitl [Hq0]; · iexact Hq0
    isplitl [Hq1]; · iexact Hq1
    iexact Hq2
  isplitl [Hh0]; · iexact Hh0
  isplitl [Hh1]; · iexact Hh1
  iexact Hh2

theorem hout (c : Dev nD) : (dats m 0 c).Φ (Fin.last cfg0.N) ⊢ Pipeline.ΦD osem0 spec0 H0 (V m) c :=
  Phi_out m c _ (by rw [Fin.val_last]; have : cfg0.N = 65 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.KernelIdeal.Gen

end
-- ==== Proof.Ideal.Value.lean ====
/- The run of the program with the contents of its output array block by block. -/
module

public import proofs.«01_k».proof.Proof.Ideal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

theorem flushed12 (c : Dev nD) (t : Fin cfg0.N) :
    (dats m 0 c).flushed 12 t = (cfg0.win 12).cut (grid0.coords t) ((outsAt0 m c t.val t.isLt).1) := by
  show (cfg0.win 12).cut (grid0.coords t) ((dats m 0 c).after 12 t) = _
  rw [after0_12]

theorem entry12 (c : Dev nD) (i : S32768x1024.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

theorem post12 (r : PUnit × MemSt nD τ sig (Elt F)) (h : Pipeline.FramePost cfgs (dats m) 0 (V m) r) (c : Dev nD) :
    r.2.mem ((c : Thread nD τ).loc main_v29) = (dats m 0 c).arrAt 12 cfg0.N :=
  (h c).1 12

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

theorem run_blocks : θ_run defs (onTc (τ := τ) (main (F := F))) ⟨m, fun _ => 0, ρ⟩ fun r => ∀ c : Dev nD,
      r.2.mem ((c : Thread nD τ).loc main_v29) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨post12 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c⟩)
    (run_main m ρ)

end Cert.KernelIdeal.Value

end
-- ==== Proof.Blk.lean ====
/- The blocks the tiles read, at coordinates of the argument arrays. -/
module

public import proofs.«01_k».proof.Proof.Ideal.Value
public import Idealize.ShloMosaic.Lib.Pointwise
public import Idealize.ShloMosaic.Lib.Pipeline.ValueKit

@[expose] public section

set_option maxRecDepth 16384

noncomputable section

namespace Cert.Att

open Idealize.ShloMosaic Idealize.ShloMosaic.TcCoe Idealize.SL.Sem
open Cert.KernelIdeal Cert.KernelIdeal.Gen

variable (m : (ℓ : Loc nD τ sig) → Buf (Elt Ideal) ℓ)

def A0 (c : Dev nD) : FVec Ideal S4x8192x1024 .f32 := m ((c : Thread nD τ).loc main_arg0)
def A1 (c : Dev nD) : FVec Ideal S4x8192x384 .f32 := m ((c : Thread nD τ).loc main_arg1)
def A2 (c : Dev nD) : FVec Ideal S4x8192x384 .f32 := m ((c : Thread nD τ).loc main_arg2)
def A3 (c : Dev nD) : FVec Ideal S4x8192x384 .f32 := m ((c : Thread nD τ).loc main_arg3)
def A4 (c : Dev nD) : FVec Ideal S4x8192x256 .f32 := m ((c : Thread nD τ).loc main_arg4)
def A5 (c : Dev nD) : FVec Ideal S4x8192x384 .f32 := m ((c : Thread nD τ).loc main_arg5)
def A6 (c : Dev nD) : FVec Ideal S2x1024 .f32 := m ((c : Thread nD τ).loc main_arg6)
def A7 (c : Dev nD) : FVec Ideal S2x1024 .f32 := m ((c : Thread nD τ).loc main_arg7)
def A8 (c : Dev nD) : FVec Ideal S2x1024 .f32 := m ((c : Thread nD τ).loc main_arg8)
def A9 (c : Dev nD) : FVec Ideal S2x6x257 .f32 := m ((c : Thread nD τ).loc main_arg9)
def A10 (c : Dev nD) : FVec Ideal S2x1024x1024 .f32 := m ((c : Thread nD τ).loc main_arg10)
def A11 (c : Dev nD) : FVec Ideal S2x1024x4096 .f32 := m ((c : Thread nD τ).loc main_arg11)
def A12 (c : Dev nD) : FVec Ideal S2x4096x1024 .f32 := m ((c : Thread nD τ).loc main_arg12)

theorem v0_at (c : Dev nD) : V m c main_v0 = A10 m c := by
  entry_read
  rfl

theorem v1_at (c : Dev nD) : V m c main_v1 = A11 m c := by
  entry_read
  rfl

theorem v2_at (c : Dev nD) : V m c main_v2 = A12 m c := by
  entry_read
  rfl

theorem v8_at (c : Dev nD) (R : Fin 32768) (l : Fin 1024) (b : Fin 4) (s : Fin 8192) (hb : b.val = R.val / 8192) (hs : s.val = R.val % 8192) :
    V m c main_v8 (ix2 R l) = A0 m c (ix3 b s l) := by
  obtain ⟨b, hb'⟩ := b
  obtain ⟨s, hs'⟩ := s
  dsimp only at hb hs
  subst hb hs
  entry_read
  pointwise
  rfl

theorem v10_at (c : Dev nD) (R : Fin 32768) (l : Fin 256) (b : Fin 4) (s : Fin 8192) (hb : b.val = R.val / 8192) (hs : s.val = R.val % 8192) :
    V m c main_v10 (ix2 R l) = A4 m c (ix3 b s l) := by
  obtain ⟨b, hb'⟩ := b
  obtain ⟨s, hs'⟩ := s
  dsimp only at hb hs
  subst hb hs
  entry_read
  pointwise
  rfl

theorem v12_at (c : Dev nD) (R : Fin 32768) (l : Fin 384) (b : Fin 4) (s : Fin 8192) (hb : b.val = R.val / 8192) (hs : s.val = R.val % 8192) :
    V m c main_v12 (ix2 R l) = A5 m c (ix3 b s l) := by
  obtain ⟨b, hb'⟩ := b
  obtain ⟨s, hs'⟩ := s
  dsimp only at hb hs
  subst hb hs
  entry_read
  pointwise
  rfl

/-- What an operation over three operands leaves in its result. -/
theorem nary3_result {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- The packed query, key and value rows. -/
def QKV (x1 x2 x3 : FVec Ideal S4x8192x384 .f32) : FVec Ideal S32768x1152 .bf16 :=
  shapeCast S32768x1152 (truncf .bf16 (concatenate S4x8192x1152 2 [⟨S4x8192x384, mulf x1 (broadcastInDim S4x8192x384 ![] bcast_S_S4x8192x384 (constant S_ .f32 0x3E000000#32))⟩, ⟨S4x8192x384, x2⟩, ⟨S4x8192x384, x3⟩] concatenates_S4x8192x384_S4x8192x384_S4x8192x384_S4x8192x1152_d2) bitsLt_bf16_f32) shapeCasts_S4x8192x1152_S32768x1152

/-- The rows of the relative bias, extended by their last element on both sides. -/
def GROW (x9 : FVec Ideal S2x6x257 .f32) : FVec Ideal S6x768 .f32 :=
  concatenate S6x768 1 [⟨S6x128, broadcastInDim S6x128 ![0, 1] bcast_S6x1_S6x128_0_1 (extractStridedSlice S6x1 ![0, 256] (shapeCast S6x257 (extractStridedSlice S1x6x257 ![0, 0, 0] x9 slices_S2x6x257_S1x6x257_0_0_0) shapeCasts_S1x6x257_S6x257) slices_S6x257_S6x1_0_256)⟩,
    ⟨S6x256, extractStridedSlice S6x256 ![0, 0] (shapeCast S6x257 (extractStridedSlice S1x6x257 ![0, 0, 0] x9 slices_S2x6x257_S1x6x257_0_0_0) shapeCasts_S1x6x257_S6x257) slices_S6x257_S6x256_0_0⟩,
    ⟨S6x384, broadcastInDim S6x384 ![0, 1] bcast_S6x1_S6x384_0_1 (extractStridedSlice S6x1 ![0, 256] (shapeCast S6x257 (extractStridedSlice S1x6x257 ![0, 0, 0] x9 slices_S2x6x257_S1x6x257_0_0_0) shapeCasts_S1x6x257_S6x257) slices_S6x257_S6x1_0_256)⟩] concatenates_S6x128_S6x256_S6x384_S6x768_d1

theorem QKV_apply (x1 x2 x3 : FVec Ideal S4x8192x384 .f32) (R : Fin 32768) (L : Fin 1152) (b : Fin 4) (s : Fin 8192) (hb : b.val = R.val / 8192) (hs : s.val = R.val % 8192) :
    QKV x1 x2 x3 (ix2 R L) = if h : L.val < 384 then x1 (ix3 b s ⟨L.val, h⟩) * Ideal.ofBits .f32 0x3E000000#32
      else if h' : L.val - 384 < 384 then x2 (ix3 b s ⟨L.val - 384, h'⟩) else x3 (ix3 b s ⟨L.val - 384 - 384, by omega⟩) := by
  unfold QKV
  obtain ⟨b, hb'⟩ := b
  obtain ⟨s, hs'⟩ := s
  dsimp only at hb hs
  subst hb hs
  pointwise

theorem GROW_apply (x9 : FVec Ideal S2x6x257 .f32) (h : Fin 6) (l : Fin 768) (k : Fin 257) (hk : k.val = if l.val < 128 then 256 else min (l.val - 128) 256) :
    GROW x9 (ix2 h l) = x9 (ix3 0 h k) := by
  unfold GROW
  pointwise
  by_cases h1 : l.val < 128
  · rw [dif_pos h1]; rw [if_pos h1] at hk; exact congrArg (fun k => x9 (ix3 0 h k)) (Fin.ext hk.symm)
  · rw [dif_neg h1]; rw [if_neg h1] at hk
    by_cases h2 : l.val - 128 < 256
    · rw [dif_pos h2]; exact congrArg (fun k => x9 (ix3 0 h k)) (Fin.ext (show l.val - 128 = k.val by omega))
    · rw [dif_neg h2]; exact congrArg (fun k => x9 (ix3 0 h k)) (Fin.ext (show 256 = k.val by omega))

theorem v7_at (c : Dev nD) : V m c main_v7 = QKV (A1 m c) (A2 m c) (A3 m c) := by
  show StableHlo.after hostOps0 (fun b => m (c, b)) _ = _
  simp only [StableHlo.after_cons, StableHlo.after_nil]
  repeat (first
    | rw [StableHlo.nullary_result] | rw [StableHlo.unary_result] | rw [StableHlo.binary_result] | rw [StableHlo.reshape_result] | rw [nary3_result]
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide)
    | (rw [StableHlo.nary_result_ne]; rotate_left; decide))
  rfl

theorem v19_at (c : Dev nD) : V m c main_v19 = GROW (A9 m c) := by
  show StableHlo.after hostOps0 (fun b => m (c, b)) _ = _
  simp only [StableHlo.after_cons, StableHlo.after_nil]
  repeat (first
    | rw [StableHlo.nullary_result] | rw [StableHlo.unary_result] | rw [StableHlo.binary_result] | rw [StableHlo.reshape_result] | rw [nary3_result]
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide)
    | (rw [StableHlo.nary_result_ne]; rotate_left; decide))
  rfl

theorem v22_at (c : Dev nD) (l : Fin 1024) : V m c main_v22 (ix2 0 l) = A6 m c (ix2 0 l) := by
  entry_read
  pointwise
  rfl

theorem v25_at (c : Dev nD) (l : Fin 1024) : V m c main_v25 (ix2 0 l) = A7 m c (ix2 0 l) := by
  entry_read
  pointwise
  rfl

theorem v28_at (c : Dev nD) (l : Fin 1024) : V m c main_v28 (ix2 0 l) = A8 m c (ix2 0 l) := by
  entry_read
  pointwise
  rfl

theorem idx : ∀ t : Fin cfg0.N, win0_0.index t = ![t.val - 1, 0] ∧ win0_1.index t = ![t.val - 1, 0] ∧ win0_2.index t = ![t.val - 1, 0] ∧
    win0_3.index t = ![min t.val 63, 0] ∧ win0_4.index t = ![min t.val 63 - 1, 1] ∧ win0_5.index t = ![min t.val 63, 1] ∧
    win0_6.index t = ![min t.val 63 - 1, 2] ∧ win0_7.index t = ![min t.val 63, 2] ∧ win0_8.index t = ![0, 0] ∧ win0_9.index t = ![0, 0] ∧
    win0_10.index t = ![0, 0] ∧ win0_11.index t = ![0, 0] ∧ win0_12.index t = ![t.val - 1, 0] :=
  (by decide +kernel : ∀ t : Fin grid0.N, _)

theorem b0_at (c : Dev nD) (t : Fin cfg0.N) (r : Fin 512) (l : Fin 1024) (R : Fin 32768) (h : R.val = 512 * (t.val - 1) + r.val) :
    iblk m c 0 t (ix2 r l) = V m c main_v8 (ix2 R l) := by
  blk_ext [iblk, idx t]

theorem b1_at (c : Dev nD) (t : Fin cfg0.N) (r : Fin 512) (l : Fin 256) (R : Fin 32768) (h : R.val = 512 * (t.val - 1) + r.val) :
    iblk m c 1 t (ix2 r l) = V m c main_v10 (ix2 R l) := by
  blk_ext [iblk, idx t]

theorem b2_at (c : Dev nD) (t : Fin cfg0.N) (r : Fin 512) (l : Fin 384) (R : Fin 32768) (h : R.val = 512 * (t.val - 1) + r.val) :
    iblk m c 2 t (ix2 r l) = V m c main_v12 (ix2 R l) := by
  blk_ext [iblk, idx t]

theorem b3_at (c : Dev nD) (t : Fin cfg0.N) (r : Fin 512) (l : Fin 384) (R : Fin 32768) (L : Fin 1152) (h : R.val = 512 * min t.val 63 + r.val) (hl : L.val = 0 + l.val) :
    iblk m c 3 t (ix2 r l) = V m c main_v7 (ix2 R L) := by
  blk_ext [iblk, idx t]

theorem b4_at (c : Dev nD) (t : Fin cfg0.N) (r : Fin 512) (l : Fin 384) (R : Fin 32768) (L : Fin 1152) (h : R.val = 512 * (min t.val 63 - 1) + r.val) (hl : L.val = 384 + l.val) :
    iblk m c 4 t (ix2 r l) = V m c main_v7 (ix2 R L) := by
  blk_ext [iblk, idx t]

theorem b5_at (c : Dev nD) (t : Fin cfg0.N) (r : Fin 512) (l : Fin 384) (R : Fin 32768) (L : Fin 1152) (h : R.val = 512 * min t.val 63 + r.val) (hl : L.val = 384 + l.val) :
    iblk m c 5 t (ix2 r l) = V m c main_v7 (ix2 R L) := by
  blk_ext [iblk, idx t]

theorem b6_at (c : Dev nD) (t : Fin cfg0.N) (r : Fin 512) (l : Fin 384) (R : Fin 32768) (L : Fin 1152) (h : R.val = 512 * (min t.val 63 - 1) + r.val) (hl : L.val = 768 + l.val) :
    iblk m c 6 t (ix2 r l) = V m c main_v7 (ix2 R L) := by
  blk_ext [iblk, idx t]

theorem b7_at (c : Dev nD) (t : Fin cfg0.N) (r : Fin 512) (l : Fin 384) (R : Fin 32768) (L : Fin 1152) (h : R.val = 512 * min t.val 63 + r.val) (hl : L.val = 768 + l.val) :
    iblk m c 7 t (ix2 r l) = V m c main_v7 (ix2 R L) := by
  blk_ext [iblk, idx t]

theorem b8_at (c : Dev nD) (t : Fin cfg0.N) (h : Fin 6) (l : Fin 768) : iblk m c 8 t (ix2 h l) = V m c main_v19 (ix2 h l) := by
  blk_ext [iblk, idx t]

theorem b9_at (c : Dev nD) (t : Fin cfg0.N) (l : Fin 1024) : iblk m c 9 t (ix2 0 l) = V m c main_v22 (ix2 0 l) := by
  blk_ext [iblk, idx t]

theorem b10_at (c : Dev nD) (t : Fin cfg0.N) (l : Fin 1024) : iblk m c 10 t (ix2 0 l) = V m c main_v25 (ix2 0 l) := by
  blk_ext [iblk, idx t]

theorem b11_at (c : Dev nD) (t : Fin cfg0.N) (l : Fin 1024) : iblk m c 11 t (ix2 0 l) = V m c main_v28 (ix2 0 l) := by
  blk_ext [iblk, idx t]

end Cert.Att

end

end
-- ==== Proof.AttOps.lean ====
/- The operations of one unit of the attention (128 query rows of one head against 640 rows of keys and values), read
   at an index: the scores with their mask, and the weighted sum of the values. The four query blocks of a tile take
   their keys from the block before and the block of their own at four cuts. -/
module

public import proofs.«01_k».proof.Proof.Gen.KernelIdeal.Skeleton
public import Idealize.ShloMosaic.Lib.Pointwise

@[expose] public section

set_option maxRecDepth 16384

noncomputable section

namespace Cert.Att

open Idealize.ShloMosaic Idealize.ShloMosaic.TcCoe Idealize.SL.Sem
open Cert.KernelIdeal Cert.KernelIdeal.Gen

/-- The scores of two heads before bias and mask, for each of the four query blocks of a tile. -/
def MM0 (q : FVec Ideal S128x128 .bf16) (kp : FVec Ideal S512x128 .bf16) (kc : FVec Ideal S128x128 .bf16) :
    FVec Ideal S640x256 .f32 := k0_pay221 k0_pay211 q kp kc
def MM1 (q : FVec Ideal S128x128 .bf16) (kp : FVec Ideal S384x128 .bf16) (kc : FVec Ideal S256x128 .bf16) :
    FVec Ideal S640x256 .f32 := k0_pay265 k0_pay211 q kp kc
def MM2 (q : FVec Ideal S128x128 .bf16) (kp : FVec Ideal S256x128 .bf16) (kc : FVec Ideal S384x128 .bf16) :
    FVec Ideal S640x256 .f32 := k0_pay308 (k0_pay306 k0_pay211 q) (k0_pay307 kp) kc
def MM3 (q : FVec Ideal S128x128 .bf16) (kp : FVec Ideal S128x128 .bf16) (kc : FVec Ideal S512x128 .bf16) :
    FVec Ideal S640x256 .f32 := k0_pay350 k0_pay211 (k0_pay347 q) (k0_pay348 k0_pay211 q) k0_pay349 kp kc

/-- Bias and mask of the first and of the second head of the pair: rows before `n` are masked. -/
def SC0 (n : BitVec 32) (mm : FVec Ideal S640x256 .f32) (b : FVec Ideal S1x640x128 .f32) : FVec Ideal S640x128 .f32 :=
  select (cmpi .sge (iota .tc S640x128 32 [0] iota_S640x128_d0_w32) (broadcast S640x128 n))
    (addf (extractStridedSlice S640x128 ![0, 0] mm slices_S640x256_o0_0_S640x128)
      (shapeCast S640x128 b shapeCasts_S1x640x128_S640x128))
    (broadcast S640x128 (Named.named κ "mask" 0xF149F2CA#32 : Ideal .f32))
def SC1 (n : BitVec 32) (mm : FVec Ideal S640x256 .f32) (b : FVec Ideal S1x640x128 .f32) : FVec Ideal S640x128 .f32 :=
  select (cmpi .sge (iota .tc S640x128 32 [0] iota_S640x128_d0_w32) (broadcast S640x128 n))
    (addf (extractStridedSlice S640x128 ![0, 128] mm slices_S640x256_o0_128_S640x128)
      (shapeCast S640x128 b shapeCasts_S1x640x128_S640x128))
    (broadcast S640x128 (Named.named κ "mask" 0xF149F2CA#32 : Ideal .f32))

def ST (s : FVec Ideal S640x128 .f32) : FVec Ideal S1x640x128 .f32 := k0_pay226 s
def MX (s : FVec Ideal S640x128 .f32) : FVec Ideal S1x128 .f32 := k0_pay227 s
/-- The weighted values of one head, transposed, and the tile's rows from six heads. -/
def OT (s : FVec Ideal S640x128 .f32) (v : FVec Ideal S64x640 .bf16) : FVec Ideal S64x128 .f32 := k0_pay246 (MX s) (ST s) v
def FIN (o0 o1 o2 o3 o4 o5 : FVec Ideal S64x128 .f32) : FVec Ideal S128x384 .bf16 :=
  shapeCast S128x384 (truncf .bf16 (transpose S128x384 [1, 0]
    (concatenate S384x128 0 [⟨S64x128, o0⟩, ⟨S64x128, o1⟩, ⟨S64x128, o2⟩, ⟨S64x128, o3⟩, ⟨S64x128, o4⟩, ⟨S64x128, o5⟩]
      concatenates_S64x128_S64x128_S64x128_S64x128_S64x128_S64x128_S384x128_d0) transposes_S384x128_p1_0_S128x384)
    bitsLt_bf16_f32) shapeCasts_S128x384_S128x384

theorem mask_eq : (Named.named κ "mask" 0xF149F2CA#32 : Ideal .f32) = (⊥ : EReal) :=
  IdealRules.named_const.ideal_named_scalar _ _ _ _ rfl

theorem sum_low (a b : Fin 128 → EReal) :
    (∑ k : Fin 128, a k * (if k.val < 64 then b k else 0))
      = ∑ e : Fin 64, a ⟨e.val, by omega⟩ * b ⟨e.val, by omega⟩ := by
  rw [Fin.sum_univ_two_halves 64 64 rfl]
  simp

theorem sum_high (a b : Fin 128 → EReal) :
    (∑ k : Fin 128, a k * (if k.val < 64 then 0 else b k))
      = ∑ e : Fin 64, a ⟨64 + e.val, by omega⟩ * b ⟨64 + e.val, by omega⟩ := by
  rw [Fin.sum_univ_two_halves 64 64 rfl]
  simp

theorem sel_low (x : Nat) (hx : x < 128) (a b : EReal) :
    Scalar.select (IntOp.cmpi CmpIPredicate.slt (BitVec.ofNat 32 x) 64#32) a b = if x < 64 then a else b := by
  have e : IntOp.cmpi CmpIPredicate.slt (BitVec.ofNat 32 x) 64#32 = if x < 64 then 1#1 else 0#1 := by
    interval_cases x <;> rfl
  rw [e]; split <;> rfl

theorem sel_ge (x : Nat) (hx : x < 640) (n : BitVec 32) (a b : EReal) :
    Scalar.select (IntOp.cmpi CmpIPredicate.sge (BitVec.ofNat 32 x) n) a b = if n.toInt ≤ (x : ℤ) then a else b := by
  have hx' : (BitVec.ofNat 32 x).toInt = (x : ℤ) := by
    rw [BitVec.toInt_eq_toNat_of_lt (by rw [BitVec.toNat_ofNat]; omega), BitVec.toNat_ofNat]; omega
  simp only [IntOp.cmpi, BitVec.sle, hx']
  by_cases h : n.toInt ≤ (x : ℤ) <;> simp [h, Scalar.select]

theorem MM0_lo (q : FVec Ideal S128x128 .bf16) (kp : FVec Ideal S512x128 .bf16) (kc : FVec Ideal S128x128 .bf16)
    (ρ : Fin 640) (c : Fin 128) :
    MM0 q kp kc (ix2 ρ ⟨c.val, by omega⟩) = ∑ e : Fin 64,
      (if h : ρ.val < 512 then kp (ix2 ⟨ρ.val, h⟩ ⟨e.val, by omega⟩) else kc (ix2 ⟨ρ.val - 512, by omega⟩ ⟨e.val, by omega⟩))
        * q (ix2 c ⟨e.val, by omega⟩) := by
  pointwise [MM0, k0_pay221, k0_pay211]
  rw [← sum_low (fun k : Fin 128 => (if h : ρ.val < 512 then kp (ix2 ⟨ρ.val, h⟩ k) else kc (ix2 ⟨ρ.val - 512, by omega⟩ k)))
    (fun k => q (ix2 c k))]
  refine Finset.sum_congr rfl fun x _ => ?_
  rw [sel_low x.val x.isLt]
  split <;> simp

theorem MM0_hi (q : FVec Ideal S128x128 .bf16) (kp : FVec Ideal S512x128 .bf16) (kc : FVec Ideal S128x128 .bf16)
    (ρ : Fin 640) (c : Fin 128) :
    MM0 q kp kc (ix2 ρ ⟨128 + c.val, by omega⟩) = ∑ e : Fin 64,
      (if h : ρ.val < 512 then kp (ix2 ⟨ρ.val, h⟩ ⟨64 + e.val, by omega⟩) else kc (ix2 ⟨ρ.val - 512, by omega⟩ ⟨64 + e.val, by omega⟩))
        * q (ix2 c ⟨64 + e.val, by omega⟩) := by
  pointwise [MM0, k0_pay221, k0_pay211]
  rw [← sum_high (fun k : Fin 128 => (if h : ρ.val < 512 then kp (ix2 ⟨ρ.val, h⟩ k) else kc (ix2 ⟨ρ.val - 512, by omega⟩ k)))
    (fun k => q (ix2 c k))]
  refine Finset.sum_congr rfl fun x _ => ?_
  rw [sel_low x.val x.isLt]
  split <;> simp

theorem MM1_lo (q : FVec Ideal S128x128 .bf16) (kp : FVec Ideal S384x128 .bf16) (kc : FVec Ideal S256x128 .bf16)
    (ρ : Fin 640) (c : Fin 128) :
    MM1 q kp kc (ix2 ρ ⟨c.val, by omega⟩) = ∑ e : Fin 64,
      (if h : ρ.val < 384 then kp (ix2 ⟨ρ.val, h⟩ ⟨e.val, by omega⟩) else kc (ix2 ⟨ρ.val - 384, by omega⟩ ⟨e.val, by omega⟩))
        * q (ix2 c ⟨e.val, by omega⟩) := by
  pointwise [MM1, k0_pay265, k0_pay211]
  rw [← sum_low (fun k : Fin 128 => (if h : ρ.val < 384 then kp (ix2 ⟨ρ.val, h⟩ k) else kc (ix2 ⟨ρ.val - 384, by omega⟩ k)))
    (fun k => q (ix2 c k))]
  refine Finset.sum_congr rfl fun x _ => ?_
  rw [sel_low x.val x.isLt]
  split <;> simp

theorem MM1_hi (q : FVec Ideal S128x128 .bf16) (kp : FVec Ideal S384x128 .bf16) (kc : FVec Ideal S256x128 .bf16)
    (ρ : Fin 640) (c : Fin 128) :
    MM1 q kp kc (ix2 ρ ⟨128 + c.val, by omega⟩) = ∑ e : Fin 64,
      (if h : ρ.val < 384 then kp (ix2 ⟨ρ.val, h⟩ ⟨64 + e.val, by omega⟩) else kc (ix2 ⟨ρ.val - 384, by omega⟩ ⟨64 + e.val, by omega⟩))
        * q (ix2 c ⟨64 + e.val, by omega⟩) := by
  pointwise [MM1, k0_pay265, k0_pay211]
  rw [← sum_high (fun k : Fin 128 => (if h : ρ.val < 384 then kp (ix2 ⟨ρ.val, h⟩ k) else kc (ix2 ⟨ρ.val - 384, by omega⟩ k)))
    (fun k => q (ix2 c k))]
  refine Finset.sum_congr rfl fun x _ => ?_
  rw [sel_low x.val x.isLt]
  split <;> simp

theorem MM2_lo (q : FVec Ideal S128x128 .bf16) (kp : FVec Ideal S256x128 .bf16) (kc : FVec Ideal S384x128 .bf16)
    (ρ : Fin 640) (c : Fin 128) :
    MM2 q kp kc (ix2 ρ ⟨c.val, by omega⟩) = ∑ e : Fin 64,
      (if h : ρ.val < 256 then kp (ix2 ⟨ρ.val, h⟩ ⟨e.val, by omega⟩) else kc (ix2 ⟨ρ.val - 256, by omega⟩ ⟨e.val, by omega⟩))
        * q (ix2 c ⟨e.val, by omega⟩) := by
  pointwise [MM2, k0_pay306, k0_pay307, k0_pay308, k0_pay211]
  rw [← sum_low (fun k : Fin 128 => (if h : ρ.val < 256 then kp (ix2 ⟨ρ.val, h⟩ k) else kc (ix2 ⟨ρ.val - 256, by omega⟩ k)))
    (fun k => q (ix2 c k))]
  refine Finset.sum_congr rfl fun x _ => ?_
  rw [sel_low x.val x.isLt]
  split <;> simp

theorem MM2_hi (q : FVec Ideal S128x128 .bf16) (kp : FVec Ideal S256x128 .bf16) (kc : FVec Ideal S384x128 .bf16)
    (ρ : Fin 640) (c : Fin 128) :
    MM2 q kp kc (ix2 ρ ⟨128 + c.val, by omega⟩) = ∑ e : Fin 64,
      (if h : ρ.val < 256 then kp (ix2 ⟨ρ.val, h⟩ ⟨64 + e.val, by omega⟩) else kc (ix2 ⟨ρ.val - 256, by omega⟩ ⟨64 + e.val, by omega⟩))
        * q (ix2 c ⟨64 + e.val, by omega⟩) := by
  pointwise [MM2, k0_pay306, k0_pay307, k0_pay308, k0_pay211]
  rw [← sum_high (fun k : Fin 128 => (if h : ρ.val < 256 then kp (ix2 ⟨ρ.val, h⟩ k) else kc (ix2 ⟨ρ.val - 256, by omega⟩ k)))
    (fun k => q (ix2 c k))]
  refine Finset.sum_congr rfl fun x _ => ?_
  rw [sel_low x.val x.isLt]
  split <;> simp

theorem MM3_lo (q : FVec Ideal S128x128 .bf16) (kp : FVec Ideal S128x128 .bf16) (kc : FVec Ideal S512x128 .bf16)
    (ρ : Fin 640) (c : Fin 128) :
    MM3 q kp kc (ix2 ρ ⟨c.val, by omega⟩) = ∑ e : Fin 64,
      (if h : ρ.val < 128 then kp (ix2 ⟨ρ.val, h⟩ ⟨e.val, by omega⟩) else kc (ix2 ⟨ρ.val - 128, by omega⟩ ⟨e.val, by omega⟩))
        * q (ix2 c ⟨e.val, by omega⟩) := by
  pointwise [MM3, k0_pay347, k0_pay348, k0_pay349, k0_pay350, k0_pay211]
  rw [← sum_low (fun k : Fin 128 => (if h : ρ.val < 128 then kp (ix2 ⟨ρ.val, h⟩ k) else kc (ix2 ⟨ρ.val - 128, by omega⟩ k)))
    (fun k => q (ix2 c k))]
  refine Finset.sum_congr rfl fun x _ => ?_
  rw [sel_low x.val x.isLt]
  split <;> simp

theorem MM3_hi (q : FVec Ideal S128x128 .bf16) (kp : FVec Ideal S128x128 .bf16) (kc : FVec Ideal S512x128 .bf16)
    (ρ : Fin 640) (c : Fin 128) :
    MM3 q kp kc (ix2 ρ ⟨128 + c.val, by omega⟩) = ∑ e : Fin 64,
      (if h : ρ.val < 128 then kp (ix2 ⟨ρ.val, h⟩ ⟨64 + e.val, by omega⟩) else kc (ix2 ⟨ρ.val - 128, by omega⟩ ⟨64 + e.val, by omega⟩))
        * q (ix2 c ⟨64 + e.val, by omega⟩) := by
  pointwise [MM3, k0_pay347, k0_pay348, k0_pay349, k0_pay350, k0_pay211]
  rw [← sum_high (fun k : Fin 128 => (if h : ρ.val < 128 then kp (ix2 ⟨ρ.val, h⟩ k) else kc (ix2 ⟨ρ.val - 128, by omega⟩ k)))
    (fun k => q (ix2 c k))]
  refine Finset.sum_congr rfl fun x _ => ?_
  rw [sel_low x.val x.isLt]
  split <;> simp

theorem ofBits_negInf : (Ideal.ofBits FTy.f32 4286578688#32 : EReal) = ⊥ := by
  rfl

theorem OT_apply (s : FVec Ideal S640x128 .f32) (v : FVec Ideal S64x640 .bf16) (d : Fin 64) (c : Fin 128) :
    OT s v (ix2 d c) = (∑ ρ : Fin 640, v (ix2 d ρ) * Ideal.exp (s (ix2 ρ c) - Finset.univ.sup fun ρ' : Fin 640 => s (ix2 ρ' c)))
      * Ideal.div 1 (∑ ρ : Fin 640, Ideal.exp (s (ix2 ρ c) - Finset.univ.sup fun ρ' : Fin 640 => s (ix2 ρ' c))) := by
  have e : (Finset.univ.sup fun ρ' : Fin 640 => s (ix2 ρ' c))
      = Finset.fold max (Ideal.ofBits FTy.f32 4286578688#32) (fun x => s (ix2 x c)) Finset.univ := by
    rw [ofBits_negInf]; rfl
  rw [e]
  pointwise [OT, MX, ST, k0_pay246, k0_pay226, k0_pay227]

theorem SC0_apply (n : BitVec 32) (mm : FVec Ideal S640x256 .f32) (b : FVec Ideal S1x640x128 .f32) (ρ : Fin 640) (c : Fin 128) :
    SC0 n mm b (ix2 ρ c) = if n.toInt ≤ (ρ.val : ℤ) then mm (ix2 ρ ⟨c.val, by omega⟩) + b (ix3 0 ρ c) else ⊥ := by
  rw [← sel_ge ρ.val ρ.isLt]
  pointwise [SC0]
  rw [mask_eq]

theorem SC1_apply (n : BitVec 32) (mm : FVec Ideal S640x256 .f32) (b : FVec Ideal S1x640x128 .f32) (ρ : Fin 640) (c : Fin 128) :
    SC1 n mm b (ix2 ρ c) = if n.toInt ≤ (ρ.val : ℤ) then mm (ix2 ρ ⟨128 + c.val, by omega⟩) + b (ix3 0 ρ c) else ⊥ := by
  rw [← sel_ge ρ.val ρ.isLt]
  pointwise [SC1]
  rw [mask_eq]

theorem FIN_apply (o : Fin 6 → FVec Ideal S64x128 .f32) (c : Fin 128) (h : Fin 6) (d : Fin 64) :
    FIN (o 0) (o 1) (o 2) (o 3) (o 4) (o 5) (ix2 c ⟨64 * h.val + d.val, by omega⟩) = o h (ix2 d c) := by
  have hd := d.isLt
  have hh := h.isLt
  pointwise [FIN]
  obtain ⟨h, hlt⟩ := h
  interval_cases h
  · rw [dif_pos (by dsimp only; omega)]
    exact congrArg (o 0) (congrArg (ix2 · c) (Fin.ext (by dsimp only; omega)))
  · rw [dif_neg (by dsimp only; omega), dif_pos (by dsimp only; omega)]
    exact congrArg (o 1) (congrArg (ix2 · c) (Fin.ext (by dsimp only; omega)))
  · rw [dif_neg (by dsimp only; omega), dif_neg (by dsimp only; omega), dif_pos (by dsimp only; omega)]
    exact congrArg (o 2) (congrArg (ix2 · c) (Fin.ext (by dsimp only; omega)))
  · rw [dif_neg (by dsimp only; omega), dif_neg (by dsimp only; omega), dif_neg (by dsimp only; omega), dif_pos (by dsimp only; omega)]
    exact congrArg (o 3) (congrArg (ix2 · c) (Fin.ext (by dsimp only; omega)))
  · rw [dif_neg (by dsimp only; omega), dif_neg (by dsimp only; omega), dif_neg (by dsimp only; omega), dif_neg (by dsimp only; omega), dif_pos (by dsimp only; omega)]
    exact congrArg (o 4) (congrArg (ix2 · c) (Fin.ext (by dsimp only; omega)))
  · rw [dif_neg (by dsimp only; omega), dif_neg (by dsimp only; omega), dif_neg (by dsimp only; omega), dif_neg (by dsimp only; omega), dif_neg (by dsimp only; omega)]
    exact congrArg (o 5) (congrArg (ix2 · c) (Fin.ext (by dsimp only; omega)))

end Cert.Att

end
-- ==== Proof.AttBase.lean ====
/- Names for the parts of a tile of the attention: a block of an array, the scores of one query block and head with
   bias and mask, and their values at an index in terms of the arrays of the tile. -/
module

public import proofs.«01_k».proof.Proof.AttOps
public import Idealize.ShloMosaic.Lib.Pipeline.ReadBack
public import Idealize.ShloMosaic.Lib.Pipeline.ValueKit

@[expose] public section

set_option maxRecDepth 16384

noncomputable section

namespace Cert.Att

open Idealize.ShloMosaic Idealize.ShloMosaic.TcCoe Idealize.SL.Sem
open Cert.KernelIdeal Cert.KernelIdeal.Gen

theorem readCov_hit {sig : RefSig} {κ : Kind} {sp : Space} {s : Shape} {e : EltTy} {Val : EltTy → Type}
    [∀ e, Nonempty (Val e)] (v : View sig κ sp s e) (r : Rect s) (w : r.shape.Idx → Val e) (L : List (View.Piece Val s e)) :
    v.readCov (⟨r, w⟩ :: L) r.toLoadRect = w := by
  rw [View.readCov_eq_canon']
  funext j
  exact View.canon_cons_emb r w L j

/-- A matrix read at two numbers, zero outside. -/
def at2 {m n : ℕ} (x : (⟨2, ![m, n]⟩ : Shape).Idx → EReal) (r l : ℕ) : EReal :=
  if h : r < m ∧ l < n then x (ix2 ⟨r, h.1⟩ ⟨l, h.2⟩) else 0

theorem at2_ix {m n : ℕ} (x : (⟨2, ![m, n]⟩ : Shape).Idx → EReal) (r : Fin m) (l : Fin n) : at2 x r.val l.val = x (ix2 r l) := by
  unfold at2; rw [dif_pos ⟨r.isLt, l.isLt⟩]

theorem at2_of {m n : ℕ} (x : (⟨2, ![m, n]⟩ : Shape).Idx → EReal) (r l : ℕ) (i : (⟨2, ![m, n]⟩ : Shape).Idx)
    (h0 : (i 0).val = r) (h1 : (i 1).val = l) : at2 x r l = x i := by
  subst h0 h1
  rw [show i = ix2 (i 0) (i 1) from by funext a; fin_cases a <;> rfl]
  exact at2_ix x (i 0) (i 1)

/-- The block of `a` rows and `b` lanes at `(r0, l0)`. -/
def B2 {m n : ℕ} (a b r0 l0 : ℕ) (x : (⟨2, ![m, n]⟩ : Shape).Idx → EReal) : (⟨2, ![a, b]⟩ : Shape).Idx → EReal :=
  fun j => at2 x (r0 + (j 0).val) (l0 + (j 1).val)

theorem B2_ix {m n : ℕ} (a b r0 l0 : ℕ) (x : (⟨2, ![m, n]⟩ : Shape).Idx → EReal) (i : Fin a) (j : Fin b) :
    B2 a b r0 l0 x (ix2 i j) = at2 x (r0 + i.val) (l0 + j.val) := rfl

/-- One plane of the bias table. -/
def B3 (h : Fin 6) (x : FVec Ideal S6x640x128 .f32) : FVec Ideal S1x640x128 .f32 := fun j => x (ix3 h (j 1) (j 2))

theorem rd2 {m n : ℕ} (A : Memref sig .tc .vmem (⟨2, ![m, n]⟩ : Shape) .bf16) (hA : A.IsWhole)
    (x : (⟨2, ![m, n]⟩ : Shape).Idx → EReal) (a b r0 l0 : ℕ)
    (inb : ∀ k, (![r0, l0] : Fin 2 → ℕ) k + (![a, b] : Fin 2 → ℕ) k ≤ (⟨2, ![m, n]⟩ : Shape).size k) :
    View.readAt (Elt Ideal) A.view (Rect.unit ![r0, l0] ![a, b] inb).toLoadRect (hA.unread (Val := Elt Ideal) x) = B2 a b r0 l0 x := by
  funext j
  show View.read (Elt Ideal) A.view (hA.unread (Val := Elt Ideal) x) _ = _
  rw [hA.read_unread]
  exact (at2_of x _ _ _ (Rect.idx_unit_val _ _ _ j 0) (Rect.idx_unit_val _ _ _ j 1)).symm

theorem rd2f {m n : ℕ} (A : Memref sig .tc .vmem (⟨2, ![m, n]⟩ : Shape) .f32) (hA : A.IsWhole)
    (x : (⟨2, ![m, n]⟩ : Shape).Idx → EReal) (a b r0 l0 : ℕ)
    (inb : ∀ k, (![r0, l0] : Fin 2 → ℕ) k + (![a, b] : Fin 2 → ℕ) k ≤ (⟨2, ![m, n]⟩ : Shape).size k) :
    View.readAt (Elt Ideal) A.view (Rect.unit ![r0, l0] ![a, b] inb).toLoadRect (hA.unread (Val := Elt Ideal) x) = B2 a b r0 l0 x := by
  funext j
  show View.read (Elt Ideal) A.view (hA.unread (Val := Elt Ideal) x) _ = _
  rw [hA.read_unread]
  exact (at2_of x _ _ _ (Rect.idx_unit_val _ _ _ j 0) (Rect.idx_unit_val _ _ _ j 1)).symm

theorem rd3 (A : Memref sig .tc .vmem S6x640x128 .f32) (hA : A.IsWhole)
    (x : FVec Ideal S6x640x128 .f32) (h : Fin 6)
    (inb : ∀ k, (![h.val, 0, 0] : Fin 3 → ℕ) k + (![1, 640, 128] : Fin 3 → ℕ) k ≤ S6x640x128.size k) :
    View.readAt (Elt Ideal) A.view (Rect.unit ![h.val, 0, 0] ![1, 640, 128] inb).toLoadRect (hA.unread (Val := Elt Ideal) x) = B3 h x := by
  funext j
  show View.read (Elt Ideal) A.view (hA.unread (Val := Elt Ideal) x) _ = _
  rw [hA.read_unread]
  refine congrArg x (funext fun a => Fin.ext ((Rect.idx_unit_val _ _ _ j a).trans ?_))
  have h0 : (j 0).val < 1 := (j 0).isLt
  fin_cases a
  · show h.val + (j 0).val = h.val; omega
  · exact Nat.zero_add _
  · exact Nat.zero_add _

def SU00 (f : BitVec 1) (l0 : ℕ) (q kp kc : FVec Ideal S512x384 .bf16) (b : FVec Ideal S1x640x128 .f32) : FVec Ideal S640x128 .f32 :=
  SC0 (Scalar.select f 512#32 0#32) (MM0 (B2 128 128 0 l0 q) (B2 512 128 0 l0 kp) (B2 128 128 0 l0 kc)) b

def SU01 (f : BitVec 1) (l0 : ℕ) (q kp kc : FVec Ideal S512x384 .bf16) (b : FVec Ideal S1x640x128 .f32) : FVec Ideal S640x128 .f32 :=
  SC1 (Scalar.select f 512#32 0#32) (MM0 (B2 128 128 0 l0 q) (B2 512 128 0 l0 kp) (B2 128 128 0 l0 kc)) b

def SU10 (f : BitVec 1) (l0 : ℕ) (q kp kc : FVec Ideal S512x384 .bf16) (b : FVec Ideal S1x640x128 .f32) : FVec Ideal S640x128 .f32 :=
  SC0 (Scalar.select f 384#32 0#32) (MM1 (B2 128 128 128 l0 q) (B2 384 128 128 l0 kp) (B2 256 128 0 l0 kc)) b

def SU11 (f : BitVec 1) (l0 : ℕ) (q kp kc : FVec Ideal S512x384 .bf16) (b : FVec Ideal S1x640x128 .f32) : FVec Ideal S640x128 .f32 :=
  SC1 (Scalar.select f 384#32 0#32) (MM1 (B2 128 128 128 l0 q) (B2 384 128 128 l0 kp) (B2 256 128 0 l0 kc)) b

def SU20 (f : BitVec 1) (l0 : ℕ) (q kp kc : FVec Ideal S512x384 .bf16) (b : FVec Ideal S1x640x128 .f32) : FVec Ideal S640x128 .f32 :=
  SC0 (Scalar.select f 256#32 0#32) (MM2 (B2 128 128 256 l0 q) (B2 256 128 256 l0 kp) (B2 384 128 0 l0 kc)) b

def SU21 (f : BitVec 1) (l0 : ℕ) (q kp kc : FVec Ideal S512x384 .bf16) (b : FVec Ideal S1x640x128 .f32) : FVec Ideal S640x128 .f32 :=
  SC1 (Scalar.select f 256#32 0#32) (MM2 (B2 128 128 256 l0 q) (B2 256 128 256 l0 kp) (B2 384 128 0 l0 kc)) b

def SU30 (f : BitVec 1) (l0 : ℕ) (q kp kc : FVec Ideal S512x384 .bf16) (b : FVec Ideal S1x640x128 .f32) : FVec Ideal S640x128 .f32 :=
  SC0 (Scalar.select f 128#32 0#32) (MM3 (B2 128 128 384 l0 q) (B2 128 128 384 l0 kp) (B2 512 128 0 l0 kc)) b

def SU31 (f : BitVec 1) (l0 : ℕ) (q kp kc : FVec Ideal S512x384 .bf16) (b : FVec Ideal S1x640x128 .f32) : FVec Ideal S640x128 .f32 :=
  SC1 (Scalar.select f 128#32 0#32) (MM3 (B2 128 128 384 l0 q) (B2 128 128 384 l0 kp) (B2 512 128 0 l0 kc)) b

/-- Row `σ` and lane `l` of the two tiles one after the other. -/
def kcat (xp xc : FVec Ideal S512x384 .bf16) (σ l : ℕ) : EReal := if σ < 512 then at2 xp σ l else at2 xc (σ - 512) l

/-- The masked score of query `128 p + c` against row `128 p + ρ`, head `h`. -/
def SCORE (f : BitVec 1) (q kp kc : FVec Ideal S512x384 .bf16) (b : FVec Ideal S1x640x128 .f32) (p h : ℕ) (ρ : Fin 640) (c : Fin 128) : EReal :=
  if (if f = 1#1 then 512 - 128 * p else 0) ≤ ρ.val then
    (∑ e : Fin 64, kcat kp kc (128 * p + ρ.val) (64 * h + e.val) * at2 q (128 * p + c.val) (64 * h + e.val)) + b (ix3 0 ρ c)
  else ⊥

/-- The attention's value at query `128 p + c`, lane `64 h + d`. -/
def OUTV (f : BitVec 1) (q kp kc vp vc : FVec Ideal S512x384 .bf16) (b : FVec Ideal S1x640x128 .f32) (p h d : ℕ) (c : Fin 128) : EReal :=
  (∑ ρ : Fin 640, kcat vp vc (128 * p + ρ.val) (64 * h + d)
      * Ideal.exp (SCORE f q kp kc b p h ρ c - Finset.univ.sup fun ρ' => SCORE f q kp kc b p h ρ' c))
    * Ideal.div 1 (∑ ρ : Fin 640, Ideal.exp (SCORE f q kp kc b p h ρ c - Finset.univ.sup fun ρ' => SCORE f q kp kc b p h ρ' c))

theorem sel_n (f : BitVec 1) (n : ℕ) (hn : n < 1024) :
    (Scalar.select f (BitVec.ofNat 32 n) 0#32).toInt = ((if f = 1#1 then n else 0 : ℕ) : ℤ) := by
  by_cases h : f = 1#1
  · rw [if_pos h]
    rw [h, show Scalar.select 1#1 (BitVec.ofNat 32 n) 0#32 = BitVec.ofNat 32 n from rfl]
    rw [BitVec.toInt_eq_toNat_of_lt (by rw [BitVec.toNat_ofNat]; omega), BitVec.toNat_ofNat]; omega
  · rw [if_neg h]
    simp [Scalar.select, h]

theorem OT_eq (f : BitVec 1) (q kp kc vp vc : FVec Ideal S512x384 .bf16) (b : FVec Ideal S1x640x128 .f32) (p h : ℕ)
    (s : FVec Ideal S640x128 .f32) (v : FVec Ideal S64x640 .bf16)
    (hs : ∀ ρ c, s (ix2 ρ c) = SCORE f q kp kc b p h ρ c)
    (hv : ∀ (d : Fin 64) (ρ : Fin 640), v (ix2 d ρ) = kcat vp vc (128 * p + ρ.val) (64 * h + d.val)) (d : Fin 64) (c : Fin 128) :
    OT s v (ix2 d c) = OUTV f q kp kc vp vc b p h d.val c := by
  rw [OT_apply]
  simp only [hs, hv]
  rfl

theorem SU00_apply (f : BitVec 1) (hp : ℕ) (q kp kc : FVec Ideal S512x384 .bf16) (b : FVec Ideal S1x640x128 .f32) (ρ : Fin 640) (c : Fin 128) :
    SU00 f (128 * hp) q kp kc b (ix2 ρ c) = SCORE f q kp kc b 0 (2 * hp + 0) ρ c := by
  unfold SU00 SCORE
  rw [SC0_apply, sel_n f 512 (by decide), MM0_lo]
  simp only [Nat.cast_le, B2_ix, kcat]
  refine ite_congr rfl (fun _ => congrArg (· + b (ix3 0 ρ c)) (Finset.sum_congr rfl fun e _ => ?_)) (fun _ => rfl)
  by_cases hr : ρ.val < 512
  · rw [dif_pos hr, if_pos (by omega)]
    congr 2 <;> omega
  · rw [dif_neg hr, if_neg (by omega)]
    congr 2 <;> omega

theorem SU01_apply (f : BitVec 1) (hp : ℕ) (q kp kc : FVec Ideal S512x384 .bf16) (b : FVec Ideal S1x640x128 .f32) (ρ : Fin 640) (c : Fin 128) :
    SU01 f (128 * hp) q kp kc b (ix2 ρ c) = SCORE f q kp kc b 0 (2 * hp + 1) ρ c := by
  unfold SU01 SCORE
  rw [SC1_apply, sel_n f 512 (by decide), MM0_hi]
  simp only [Nat.cast_le, B2_ix, kcat]
  refine ite_congr rfl (fun _ => congrArg (· + b (ix3 0 ρ c)) (Finset.sum_congr rfl fun e _ => ?_)) (fun _ => rfl)
  by_cases hr : ρ.val < 512
  · rw [dif_pos hr, if_pos (by omega)]
    congr 2 <;> omega
  · rw [dif_neg hr, if_neg (by omega)]
    congr 2 <;> omega

theorem SU10_apply (f : BitVec 1) (hp : ℕ) (q kp kc : FVec Ideal S512x384 .bf16) (b : FVec Ideal S1x640x128 .f32) (ρ : Fin 640) (c : Fin 128) :
    SU10 f (128 * hp) q kp kc b (ix2 ρ c) = SCORE f q kp kc b 1 (2 * hp + 0) ρ c := by
  unfold SU10 SCORE
  rw [SC0_apply, sel_n f 384 (by decide), MM1_lo]
  simp only [Nat.cast_le, B2_ix, kcat]
  refine ite_congr rfl (fun _ => congrArg (· + b (ix3 0 ρ c)) (Finset.sum_congr rfl fun e _ => ?_)) (fun _ => rfl)
  by_cases hr : ρ.val < 384
  · rw [dif_pos hr, if_pos (by omega)]
    congr 2 <;> omega
  · rw [dif_neg hr, if_neg (by omega)]
    congr 2 <;> omega

theorem SU11_apply (f : BitVec 1) (hp : ℕ) (q kp kc : FVec Ideal S512x384 .bf16) (b : FVec Ideal S1x640x128 .f32) (ρ : Fin 640) (c : Fin 128) :
    SU11 f (128 * hp) q kp kc b (ix2 ρ c) = SCORE f q kp kc b 1 (2 * hp + 1) ρ c := by
  unfold SU11 SCORE
  rw [SC1_apply, sel_n f 384 (by decide), MM1_hi]
  simp only [Nat.cast_le, B2_ix, kcat]
  refine ite_congr rfl (fun _ => congrArg (· + b (ix3 0 ρ c)) (Finset.sum_congr rfl fun e _ => ?_)) (fun _ => rfl)
  by_cases hr : ρ.val < 384
  · rw [dif_pos hr, if_pos (by omega)]
    congr 2 <;> omega
  · rw [dif_neg hr, if_neg (by omega)]
    congr 2 <;> omega

theorem SU20_apply (f : BitVec 1) (hp : ℕ) (q kp kc : FVec Ideal S512x384 .bf16) (b : FVec Ideal S1x640x128 .f32) (ρ : Fin 640) (c : Fin 128) :
    SU20 f (128 * hp) q kp kc b (ix2 ρ c) = SCORE f q kp kc b 2 (2 * hp + 0) ρ c := by
  unfold SU20 SCORE
  rw [SC0_apply, sel_n f 256 (by decide), MM2_lo]
  simp only [Nat.cast_le, B2_ix, kcat]
  refine ite_congr rfl (fun _ => congrArg (· + b (ix3 0 ρ c)) (Finset.sum_congr rfl fun e _ => ?_)) (fun _ => rfl)
  by_cases hr : ρ.val < 256
  · rw [dif_pos hr, if_pos (by omega)]
    congr 2 <;> omega
  · rw [dif_neg hr, if_neg (by omega)]
    congr 2 <;> omega

theorem SU21_apply (f : BitVec 1) (hp : ℕ) (q kp kc : FVec Ideal S512x384 .bf16) (b : FVec Ideal S1x640x128 .f32) (ρ : Fin 640) (c : Fin 128) :
    SU21 f (128 * hp) q kp kc b (ix2 ρ c) = SCORE f q kp kc b 2 (2 * hp + 1) ρ c := by
  unfold SU21 SCORE
  rw [SC1_apply, sel_n f 256 (by decide), MM2_hi]
  simp only [Nat.cast_le, B2_ix, kcat]
  refine ite_congr rfl (fun _ => congrArg (· + b (ix3 0 ρ c)) (Finset.sum_congr rfl fun e _ => ?_)) (fun _ => rfl)
  by_cases hr : ρ.val < 256
  · rw [dif_pos hr, if_pos (by omega)]
    congr 2 <;> omega
  · rw [dif_neg hr, if_neg (by omega)]
    congr 2 <;> omega

theorem SU30_apply (f : BitVec 1) (hp : ℕ) (q kp kc : FVec Ideal S512x384 .bf16) (b : FVec Ideal S1x640x128 .f32) (ρ : Fin 640) (c : Fin 128) :
    SU30 f (128 * hp) q kp kc b (ix2 ρ c) = SCORE f q kp kc b 3 (2 * hp + 0) ρ c := by
  unfold SU30 SCORE
  rw [SC0_apply, sel_n f 128 (by decide), MM3_lo]
  simp only [Nat.cast_le, B2_ix, kcat]
  refine ite_congr rfl (fun _ => congrArg (· + b (ix3 0 ρ c)) (Finset.sum_congr rfl fun e _ => ?_)) (fun _ => rfl)
  by_cases hr : ρ.val < 128
  · rw [dif_pos hr, if_pos (by omega)]
    congr 2 <;> omega
  · rw [dif_neg hr, if_neg (by omega)]
    congr 2 <;> omega

theorem SU31_apply (f : BitVec 1) (hp : ℕ) (q kp kc : FVec Ideal S512x384 .bf16) (b : FVec Ideal S1x640x128 .f32) (ρ : Fin 640) (c : Fin 128) :
    SU31 f (128 * hp) q kp kc b (ix2 ρ c) = SCORE f q kp kc b 3 (2 * hp + 1) ρ c := by
  unfold SU31 SCORE
  rw [SC1_apply, sel_n f 128 (by decide), MM3_hi]
  simp only [Nat.cast_le, B2_ix, kcat]
  refine ite_congr rfl (fun _ => congrArg (· + b (ix3 0 ρ c)) (Finset.sum_congr rfl fun e _ => ?_)) (fun _ => rfl)
  by_cases hr : ρ.val < 128
  · rw [dif_pos hr, if_pos (by omega)]
    congr 2 <;> omega
  · rw [dif_neg hr, if_neg (by omega)]
    congr 2 <;> omega

/-- The tile's attention as one array. -/
def ATT (f : BitVec 1) (q kp kc vp vc : FVec Ideal S512x384 .bf16) (B : FVec Ideal S6x640x128 .f32) : FVec Ideal S512x384 .bf16 := fun j =>
  have h0 : (j 0).val < 512 := (j 0).isLt
  have h1 : (j 1).val < 384 := (j 1).isLt
  OUTV f q kp kc vp vc (B3 ⟨(j 1).val / 64, by omega⟩ B) ((j 0).val / 128) ((j 1).val / 64) ((j 1).val % 64) ⟨(j 0).val % 128, by omega⟩

theorem FIN_out (f : BitVec 1) (q kp kc vp vc : FVec Ideal S512x384 .bf16) (B : FVec Ideal S6x640x128 .f32) (p : ℕ) (hp : p < 4)
    (s0 s1 s2 s3 s4 s5 : FVec Ideal S640x128 .f32) (v0 v1 v2 v3 v4 v5 : FVec Ideal S64x640 .bf16)
    (hs0 : ∀ ρ c, s0 (ix2 ρ c) = SCORE f q kp kc (B3 0 B) p 0 ρ c) (hs1 : ∀ ρ c, s1 (ix2 ρ c) = SCORE f q kp kc (B3 1 B) p 1 ρ c) (hs2 : ∀ ρ c, s2 (ix2 ρ c) = SCORE f q kp kc (B3 2 B) p 2 ρ c) (hs3 : ∀ ρ c, s3 (ix2 ρ c) = SCORE f q kp kc (B3 3 B) p 3 ρ c) (hs4 : ∀ ρ c, s4 (ix2 ρ c) = SCORE f q kp kc (B3 4 B) p 4 ρ c) (hs5 : ∀ ρ c, s5 (ix2 ρ c) = SCORE f q kp kc (B3 5 B) p 5 ρ c) (hv0 : ∀ (d : Fin 64) (ρ : Fin 640), v0 (ix2 d ρ) = kcat vp vc (128 * p + ρ.val) (64 * 0 + d.val)) (hv1 : ∀ (d : Fin 64) (ρ : Fin 640), v1 (ix2 d ρ) = kcat vp vc (128 * p + ρ.val) (64 * 1 + d.val)) (hv2 : ∀ (d : Fin 64) (ρ : Fin 640), v2 (ix2 d ρ) = kcat vp vc (128 * p + ρ.val) (64 * 2 + d.val)) (hv3 : ∀ (d : Fin 64) (ρ : Fin 640), v3 (ix2 d ρ) = kcat vp vc (128 * p + ρ.val) (64 * 3 + d.val)) (hv4 : ∀ (d : Fin 64) (ρ : Fin 640), v4 (ix2 d ρ) = kcat vp vc (128 * p + ρ.val) (64 * 4 + d.val)) (hv5 : ∀ (d : Fin 64) (ρ : Fin 640), v5 (ix2 d ρ) = kcat vp vc (128 * p + ρ.val) (64 * 5 + d.val))
    (x : S128x384.Idx) (y : S512x384.Idx) (e0 : (y 0).val = 128 * p + (x 0).val) (e1 : (y 1).val = (x 1).val) :
    FIN (OT s0 v0) (OT s1 v1) (OT s2 v2) (OT s3 v3) (OT s4 v4) (OT s5 v5) x = ATT f q kp kc vp vc B y := by
  have hx0 : (x 0).val < 128 := (x 0).isLt
  have hx1 : (x 1).val < 384 := (x 1).isLt
  have hs : ∀ (h : Fin 6) ρ c, ![s0, s1, s2, s3, s4, s5] h (ix2 ρ c) = SCORE f q kp kc (B3 h B) p h.val ρ c := by
    intro h; fin_cases h <;> assumption
  have hv : ∀ (h : Fin 6) (d : Fin 64) (ρ : Fin 640), ![v0, v1, v2, v3, v4, v5] h (ix2 d ρ) = kcat vp vc (128 * p + ρ.val) (64 * h.val + d.val) := by
    intro h; fin_cases h <;> assumption
  have e := FIN_apply (fun h : Fin 6 => OT (![s0, s1, s2, s3, s4, s5] h) (![v0, v1, v2, v3, v4, v5] h)) (x 0) ⟨(x 1).val / 64, by omega⟩ ⟨(x 1).val % 64, by omega⟩
  have ex : x = ix2 (x 0) ⟨64 * ((x 1).val / 64) + (x 1).val % 64, by omega⟩ := by
    funext a; fin_cases a
    · rfl
    · exact Fin.ext (by show (x 1).val = 64 * ((x 1).val / 64) + (x 1).val % 64; omega)
  rw [ex]
  have key : ∀ (h : Fin 6) (d : Fin 64) (c : Fin 128), OT (![s0, s1, s2, s3, s4, s5] h) (![v0, v1, v2, v3, v4, v5] h) (ix2 d c)
      = OUTV f q kp kc vp vc (B3 h B) p h.val d.val c := fun h d c => OT_eq f q kp kc vp vc (B3 h B) p h.val _ _ (hs h) (hv h) d c
  refine e.trans ((key _ _ _).trans ?_)
  unfold ATT
  dsimp only
  congr 1
  · exact congrArg (fun h => B3 h B) (Fin.ext (by dsimp only; rw [e1]))
  · omega
  · rw [e1]
  · rw [e1]
  · exact Fin.ext (by dsimp only; omega)

end Cert.Att

end
-- ==== Proof.BiasA.lean ====
/- The bias table that the first point builds: what each of its tiles holds, and the table as a function of the
   rows of biases. -/
module

public import proofs.«01_k».proof.Proof.AttBase
public import proofs.«01_k».proof.Proof.Ideal.FrameA

@[expose] public section

set_option maxRecDepth 16384

noncomputable section

namespace Cert.Att

open Idealize.ShloMosaic Idealize.ShloMosaic.TcCoe Idealize.SL.Sem
open Cert.KernelIdeal Cert.KernelIdeal.Gen

/-- One tile of the table: rows `r0` on, of the rotated rows, masked outside the two bands. -/
def BTILE (r0 : BitVec 32) (a : FVec Ideal S1x128 .f32) (b : FVec Ideal S1x256 .f32) (d : FVec Ideal S1x640 .f32) : FVec Ideal S1x128x128 .f32 :=
  shapeCast S1x128x128 (select
    (ori (andi k0_pay3 (cmpi .slt (addi (iota .tc S128x128 32 [0] iota_S128x128_d0_w32) (broadcast S128x128 r0)) (broadcast S128x128 576#32)))
      (andi (xori k0_pay3 (constantI S128x128 1 1#1)) (cmpi .sge (addi (iota .tc S128x128 32 [0] iota_S128x128_d0_w32) (broadcast S128x128 r0)) (broadcast S128x128 64#32))))
    (extractStridedSlice S128x128 ![0, 0] (dynamicRotate 1 r0 (some (1, 0)) (k0_pay4 (F := Ideal) a b d) rotates_S128x1024_d1s1a0) slices_S128x1024_o0_0_S128x128)
    (broadcast S128x128 (Named.named κ "mask" 0xF149F2CA#32 : Ideal .f32))) shapeCasts_S128x128_S1x128x128

theorem per_apply (x8 : FVec Ideal S6x768 .f32) (h : ℕ) (r : Fin 128) (p : Fin 1024) :
    k0_pay4 (F := Ideal) (B2 1 128 h 0 x8) (B2 1 256 h 0 x8) (B2 1 640 h 128 x8) (ix2 r p) =
      if p.val < 128 then at2 x8 h p.val else if p.val < 384 then at2 x8 h (p.val - 128) else at2 x8 h (p.val - 256) := by
  pointwise [k0_pay4]
  simp only [B2_ix]
  split
  · congr 1; exact Nat.zero_add _
  · split
    · rw [if_pos (by omega)]; congr 1; exact Nat.zero_add _
    · rw [if_neg (by omega)]; congr 1; show 128 + (p.val - 128 - 256) = _; omega

theorem slt_n (a n : ℕ) (ha : a < 1024) (hn : n < 1024) : IntOp.cmpi CmpIPredicate.slt (BitVec.ofNat 32 a) (BitVec.ofNat 32 n) = if a < n then 1#1 else 0#1 := by
  have e : ∀ x, x < 1024 → (BitVec.ofNat 32 x).toInt = (x : ℤ) := by
    intro x hx
    rw [BitVec.toInt_eq_toNat_of_lt (by rw [BitVec.toNat_ofNat]; omega), BitVec.toNat_ofNat]; omega
  simp only [IntOp.cmpi, BitVec.slt, e a ha, e n hn]
  by_cases h : a < n <;> simp [h]

theorem sge_n (a n : ℕ) (ha : a < 1024) (hn : n < 1024) : IntOp.cmpi CmpIPredicate.sge (BitVec.ofNat 32 a) (BitVec.ofNat 32 n) = if n ≤ a then 1#1 else 0#1 := by
  have e : ∀ x, x < 1024 → (BitVec.ofNat 32 x).toInt = (x : ℤ) := by
    intro x hx
    rw [BitVec.toInt_eq_toNat_of_lt (by rw [BitVec.toNat_ofNat]; omega), BitVec.toNat_ofNat]; omega
  simp only [IntOp.cmpi, BitVec.sle, e a ha, e n hn]
  by_cases h : n ≤ a <;> simp [h]

/-- The table at head `h`, key row `σ` and query `q`: the bias of their distance inside the query's band, nothing outside. -/
def TABN (x8 : FVec Ideal S6x768 .f32) (h σ q : ℕ) : EReal :=
  if (q < 64 ∧ σ < 576) ∨ (64 ≤ q ∧ 64 ≤ σ) then (if σ ≤ q then at2 x8 h (q - σ) else at2 x8 h (768 + q - σ)) else ⊥

def TAB (x8 : FVec Ideal S6x768 .f32) : FVec Ideal S6x640x128 .f32 := fun y => TABN x8 (y 0).val (y 1).val (y 2).val

theorem sel_band (q σ : ℕ) (hq : q < 128) (hσ : σ < 640) (a b : EReal) :
    Scalar.select (IntOp.ori (IntOp.andi (IntOp.cmpi CmpIPredicate.slt (BitVec.ofNat 32 q) 64#32) (IntOp.cmpi CmpIPredicate.slt (BitVec.ofNat 32 σ) 576#32))
        (IntOp.andi (IntOp.xori (IntOp.cmpi CmpIPredicate.slt (BitVec.ofNat 32 q) 64#32) 1#1) (IntOp.cmpi CmpIPredicate.sge (BitVec.ofNat 32 σ) 64#32))) a b
      = if (q < 64 ∧ σ < 576) ∨ (64 ≤ q ∧ 64 ≤ σ) then a else b := by
  rw [slt_n q 64 (by omega) (by omega), slt_n σ 576 (by omega) (by omega), sge_n σ 64 (by omega) (by omega)]
  by_cases h1 : q < 64 <;> by_cases h2 : σ < 576 <;> by_cases h3 : 64 ≤ σ <;>
    simp only [h1, h2, h3, if_true, if_false, true_and, false_and, and_true, and_false, or_true, true_or, or_false, false_or, Nat.not_lt.mp, show (64 ≤ q) = ¬ (q < 64) from by simp, not_true, not_false_iff] <;> rfl

theorem tile_apply (k : Fin 5) (x8 : FVec Ideal S6x768 .f32) (h : ℕ) (r : Fin 128) (q : Fin 128) :
    BTILE (BitVec.ofNat 32 (128 * k.val)) (B2 1 128 h 0 x8) (B2 1 256 h 0 x8) (B2 1 640 h 128 x8) (ix3 0 r q) = TABN x8 h (128 * k.val + r.val) q.val := by
  pointwise [BTILE, k0_pay3]
  have hk := k.isLt
  have hr := r.isLt
  have hq := q.isLt
  have e : IntOp.addi (BitVec.ofNat 32 r.val) (BitVec.ofNat 32 (128 * k.val)) = BitVec.ofNat 32 (128 * k.val + r.val) := by
    show BitVec.ofNat 32 r.val + BitVec.ofNat 32 (128 * k.val) = _
    rw [← BitVec.ofNat_add, Nat.add_comm]
  rw [e, sel_band q.val _ hq (by omega), per_apply, mask_eq]
  unfold TABN
  refine if_congr Iff.rfl ?_ rfl
  simp only [BitVec.toNat_ofNat]
  have e2 : (q.val + 1024 - (128 * k.val % 2 ^ 32 + r.val) % 1024) % 1024 = if 128 * k.val + r.val ≤ q.val then q.val - (128 * k.val + r.val) else 1024 + q.val - (128 * k.val + r.val) := by
    split <;> omega
  rw [e2]
  by_cases hc : 128 * k.val + r.val ≤ q.val
  · rw [if_pos hc, if_pos (by omega), if_pos hc]
  · rw [if_neg hc, if_neg (by omega), if_neg (by omega), if_neg hc]
    congr 1; omega

theorem piece_of (k : Fin 5) (h : ℕ) (x8 : FVec Ideal S6x768 .f32) {P : FVec Ideal S1x128x128 .f32}
    (hP : P = BTILE (BitVec.ofNat 32 (128 * k.val)) (B2 1 128 h 0 x8) (B2 1 256 h 0 x8) (B2 1 640 h 128 x8))
    (x : S1x128x128.Idx) (y : S6x640x128.Idx) (h0 : (y 0).val = h) (h1 : (y 1).val = 128 * k.val + (x 1).val) (h2 : (y 2).val = (x 2).val) : P x = TAB x8 y := by
  subst hP
  have hx : x = ix3 0 (x 1) (x 2) := by
    funext a; fin_cases a
    · exact Fin.ext (by have : (x 0).val < 1 := (x 0).isLt; show (x 0).val = 0; omega)
    · rfl
    · rfl
  refine (congrArg _ hx).trans ((tile_apply k x8 h (x 1) (x 2)).trans ?_)
  unfold TAB
  rw [h0, h1, h2]

theorem A_table (c : Dev nD) (arg9 : Memref sig .tc .vmem S6x768 .f32) (harg9 : arg9.IsWhole) (x8 : Vec Ideal S6x768 .f32) :
    (View.canon (kernelRun0_A.sl.HS3_30 c arg9 harg9 x8) : FVec Ideal S6x640x128 .f32) = TAB x8 := by
  unfold kernelRun0_A.sl.HS3_30
  funext y
  canon_tiles x h
  · exact piece_of ⟨4, by decide⟩ 5 x8 (by rw [← rd2f arg9 harg9 x8 1 128 5 0 (by decide), ← rd2f arg9 harg9 x8 1 256 5 0 (by decide), ← rd2f arg9 harg9 x8 1 640 5 128 (by decide)]; rfl) x y (by omega) (by first | exact h1 | exact h1.trans (Nat.zero_add _).symm) (by omega)
  · exact piece_of ⟨3, by decide⟩ 5 x8 (by rw [← rd2f arg9 harg9 x8 1 128 5 0 (by decide), ← rd2f arg9 harg9 x8 1 256 5 0 (by decide), ← rd2f arg9 harg9 x8 1 640 5 128 (by decide)]; rfl) x y (by omega) (by first | exact h1 | exact h1.trans (Nat.zero_add _).symm) (by omega)
  · exact piece_of ⟨2, by decide⟩ 5 x8 (by rw [← rd2f arg9 harg9 x8 1 128 5 0 (by decide), ← rd2f arg9 harg9 x8 1 256 5 0 (by decide), ← rd2f arg9 harg9 x8 1 640 5 128 (by decide)]; rfl) x y (by omega) (by first | exact h1 | exact h1.trans (Nat.zero_add _).symm) (by omega)
  · exact piece_of ⟨1, by decide⟩ 5 x8 (by rw [← rd2f arg9 harg9 x8 1 128 5 0 (by decide), ← rd2f arg9 harg9 x8 1 256 5 0 (by decide), ← rd2f arg9 harg9 x8 1 640 5 128 (by decide)]; rfl) x y (by omega) (by first | exact h1 | exact h1.trans (Nat.zero_add _).symm) (by omega)
  · exact piece_of ⟨0, by decide⟩ 5 x8 (by rw [← rd2f arg9 harg9 x8 1 128 5 0 (by decide), ← rd2f arg9 harg9 x8 1 256 5 0 (by decide), ← rd2f arg9 harg9 x8 1 640 5 128 (by decide)]; rfl) x y (by omega) (by first | exact h1 | exact h1.trans (Nat.zero_add _).symm) (by omega)
  · exact piece_of ⟨4, by decide⟩ 4 x8 (by rw [← rd2f arg9 harg9 x8 1 128 4 0 (by decide), ← rd2f arg9 harg9 x8 1 256 4 0 (by decide), ← rd2f arg9 harg9 x8 1 640 4 128 (by decide)]; rfl) x y (by omega) (by first | exact h1 | exact h1.trans (Nat.zero_add _).symm) (by omega)
  · exact piece_of ⟨3, by decide⟩ 4 x8 (by rw [← rd2f arg9 harg9 x8 1 128 4 0 (by decide), ← rd2f arg9 harg9 x8 1 256 4 0 (by decide), ← rd2f arg9 harg9 x8 1 640 4 128 (by decide)]; rfl) x y (by omega) (by first | exact h1 | exact h1.trans (Nat.zero_add _).symm) (by omega)
  · exact piece_of ⟨2, by decide⟩ 4 x8 (by rw [← rd2f arg9 harg9 x8 1 128 4 0 (by decide), ← rd2f arg9 harg9 x8 1 256 4 0 (by decide), ← rd2f arg9 harg9 x8 1 640 4 128 (by decide)]; rfl) x y (by omega) (by first | exact h1 | exact h1.trans (Nat.zero_add _).symm) (by omega)
  · exact piece_of ⟨1, by decide⟩ 4 x8 (by rw [← rd2f arg9 harg9 x8 1 128 4 0 (by decide), ← rd2f arg9 harg9 x8 1 256 4 0 (by decide), ← rd2f arg9 harg9 x8 1 640 4 128 (by decide)]; rfl) x y (by omega) (by first | exact h1 | exact h1.trans (Nat.zero_add _).symm) (by omega)
  · exact piece_of ⟨0, by decide⟩ 4 x8 (by rw [← rd2f arg9 harg9 x8 1 128 4 0 (by decide), ← rd2f arg9 harg9 x8 1 256 4 0 (by decide), ← rd2f arg9 harg9 x8 1 640 4 128 (by decide)]; rfl) x y (by omega) (by first | exact h1 | exact h1.trans (Nat.zero_add _).symm) (by omega)
  · exact piece_of ⟨4, by decide⟩ 3 x8 (by rw [← rd2f arg9 harg9 x8 1 128 3 0 (by decide), ← rd2f arg9 harg9 x8 1 256 3 0 (by decide), ← rd2f arg9 harg9 x8 1 640 3 128 (by decide)]; rfl) x y (by omega) (by first | exact h1 | exact h1.trans (Nat.zero_add _).symm) (by omega)
  · exact piece_of ⟨3, by decide⟩ 3 x8 (by rw [← rd2f arg9 harg9 x8 1 128 3 0 (by decide), ← rd2f arg9 harg9 x8 1 256 3 0 (by decide), ← rd2f arg9 harg9 x8 1 640 3 128 (by decide)]; rfl) x y (by omega) (by first | exact h1 | exact h1.trans (Nat.zero_add _).symm) (by omega)
  · exact piece_of ⟨2, by decide⟩ 3 x8 (by rw [← rd2f arg9 harg9 x8 1 128 3 0 (by decide), ← rd2f arg9 harg9 x8 1 256 3 0 (by decide), ← rd2f arg9 harg9 x8 1 640 3 128 (by decide)]; rfl) x y (by omega) (by first | exact h1 | exact h1.trans (Nat.zero_add _).symm) (by omega)
  · exact piece_of ⟨1, by decide⟩ 3 x8 (by rw [← rd2f arg9 harg9 x8 1 128 3 0 (by decide), ← rd2f arg9 harg9 x8 1 256 3 0 (by decide), ← rd2f arg9 harg9 x8 1 640 3 128 (by decide)]; rfl) x y (by omega) (by first | exact h1 | exact h1.trans (Nat.zero_add _).symm) (by omega)
  · exact piece_of ⟨0, by decide⟩ 3 x8 (by rw [← rd2f arg9 harg9 x8 1 128 3 0 (by decide), ← rd2f arg9 harg9 x8 1 256 3 0 (by decide), ← rd2f arg9 harg9 x8 1 640 3 128 (by decide)]; rfl) x y (by omega) (by first | exact h1 | exact h1.trans (Nat.zero_add _).symm) (by omega)
  · exact piece_of ⟨4, by decide⟩ 2 x8 (by rw [← rd2f arg9 harg9 x8 1 128 2 0 (by decide), ← rd2f arg9 harg9 x8 1 256 2 0 (by decide), ← rd2f arg9 harg9 x8 1 640 2 128 (by decide)]; rfl) x y (by omega) (by first | exact h1 | exact h1.trans (Nat.zero_add _).symm) (by omega)
  · exact piece_of ⟨3, by decide⟩ 2 x8 (by rw [← rd2f arg9 harg9 x8 1 128 2 0 (by decide), ← rd2f arg9 harg9 x8 1 256 2 0 (by decide), ← rd2f arg9 harg9 x8 1 640 2 128 (by decide)]; rfl) x y (by omega) (by first | exact h1 | exact h1.trans (Nat.zero_add _).symm) (by omega)
  · exact piece_of ⟨2, by decide⟩ 2 x8 (by rw [← rd2f arg9 harg9 x8 1 128 2 0 (by decide), ← rd2f arg9 harg9 x8 1 256 2 0 (by decide), ← rd2f arg9 harg9 x8 1 640 2 128 (by decide)]; rfl) x y (by omega) (by first | exact h1 | exact h1.trans (Nat.zero_add _).symm) (by omega)
  · exact piece_of ⟨1, by decide⟩ 2 x8 (by rw [← rd2f arg9 harg9 x8 1 128 2 0 (by decide), ← rd2f arg9 harg9 x8 1 256 2 0 (by decide), ← rd2f arg9 harg9 x8 1 640 2 128 (by decide)]; rfl) x y (by omega) (by first | exact h1 | exact h1.trans (Nat.zero_add _).symm) (by omega)
  · exact piece_of ⟨0, by decide⟩ 2 x8 (by rw [← rd2f arg9 harg9 x8 1 128 2 0 (by decide), ← rd2f arg9 harg9 x8 1 256 2 0 (by decide), ← rd2f arg9 harg9 x8 1 640 2 128 (by decide)]; rfl) x y (by omega) (by first | exact h1 | exact h1.trans (Nat.zero_add _).symm) (by omega)
  · exact piece_of ⟨4, by decide⟩ 1 x8 (by rw [← rd2f arg9 harg9 x8 1 128 1 0 (by decide), ← rd2f arg9 harg9 x8 1 256 1 0 (by decide), ← rd2f arg9 harg9 x8 1 640 1 128 (by decide)]; rfl) x y (by omega) (by first | exact h1 | exact h1.trans (Nat.zero_add _).symm) (by omega)
  · exact piece_of ⟨3, by decide⟩ 1 x8 (by rw [← rd2f arg9 harg9 x8 1 128 1 0 (by decide), ← rd2f arg9 harg9 x8 1 256 1 0 (by decide), ← rd2f arg9 harg9 x8 1 640 1 128 (by decide)]; rfl) x y (by omega) (by first | exact h1 | exact h1.trans (Nat.zero_add _).symm) (by omega)
  · exact piece_of ⟨2, by decide⟩ 1 x8 (by rw [← rd2f arg9 harg9 x8 1 128 1 0 (by decide), ← rd2f arg9 harg9 x8 1 256 1 0 (by decide), ← rd2f arg9 harg9 x8 1 640 1 128 (by decide)]; rfl) x y (by omega) (by first | exact h1 | exact h1.trans (Nat.zero_add _).symm) (by omega)
  · exact piece_of ⟨1, by decide⟩ 1 x8 (by rw [← rd2f arg9 harg9 x8 1 128 1 0 (by decide), ← rd2f arg9 harg9 x8 1 256 1 0 (by decide), ← rd2f arg9 harg9 x8 1 640 1 128 (by decide)]; rfl) x y (by omega) (by first | exact h1 | exact h1.trans (Nat.zero_add _).symm) (by omega)
  · exact piece_of ⟨0, by decide⟩ 1 x8 (by rw [← rd2f arg9 harg9 x8 1 128 1 0 (by decide), ← rd2f arg9 harg9 x8 1 256 1 0 (by decide), ← rd2f arg9 harg9 x8 1 640 1 128 (by decide)]; rfl) x y (by omega) (by first | exact h1 | exact h1.trans (Nat.zero_add _).symm) (by omega)
  · exact piece_of ⟨4, by decide⟩ 0 x8 (by rw [← rd2f arg9 harg9 x8 1 128 0 0 (by decide), ← rd2f arg9 harg9 x8 1 256 0 0 (by decide), ← rd2f arg9 harg9 x8 1 640 0 128 (by decide)]; rfl) x y (by omega) (by first | exact h1 | exact h1.trans (Nat.zero_add _).symm) (by omega)
  · exact piece_of ⟨3, by decide⟩ 0 x8 (by rw [← rd2f arg9 harg9 x8 1 128 0 0 (by decide), ← rd2f arg9 harg9 x8 1 256 0 0 (by decide), ← rd2f arg9 harg9 x8 1 640 0 128 (by decide)]; rfl) x y (by omega) (by first | exact h1 | exact h1.trans (Nat.zero_add _).symm) (by omega)
  · exact piece_of ⟨2, by decide⟩ 0 x8 (by rw [← rd2f arg9 harg9 x8 1 128 0 0 (by decide), ← rd2f arg9 harg9 x8 1 256 0 0 (by decide), ← rd2f arg9 harg9 x8 1 640 0 128 (by decide)]; rfl) x y (by omega) (by first | exact h1 | exact h1.trans (Nat.zero_add _).symm) (by omega)
  · exact piece_of ⟨1, by decide⟩ 0 x8 (by rw [← rd2f arg9 harg9 x8 1 128 0 0 (by decide), ← rd2f arg9 harg9 x8 1 256 0 0 (by decide), ← rd2f arg9 harg9 x8 1 640 0 128 (by decide)]; rfl) x y (by omega) (by first | exact h1 | exact h1.trans (Nat.zero_add _).symm) (by omega)
  · exact piece_of ⟨0, by decide⟩ 0 x8 (by rw [← rd2f arg9 harg9 x8 1 128 0 0 (by decide), ← rd2f arg9 harg9 x8 1 256 0 0 (by decide), ← rd2f arg9 harg9 x8 1 640 0 128 (by decide)]; rfl) x y (by omega) (by first | exact h1 | exact h1.trans (Nat.zero_add _).symm) (by omega)

end Cert.Att

end

end
-- ==== Proof.AttA.lean ====
/- The attention computed at the first point: what each load of the score buffer reads, and what the tile holds at the end. -/
module

public import proofs.«01_k».proof.Proof.AttBase
public import proofs.«01_k».proof.Proof.Ideal.FrameA

@[expose] public section

set_option maxRecDepth 16384

noncomputable section

namespace Cert.Att

open Idealize.ShloMosaic Idealize.ShloMosaic.TcCoe Idealize.SL.Sem
open Cert.KernelIdeal Cert.KernelIdeal.Gen

variable  (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x384 .bf16) (harg5 : arg5.IsWhole) (arg6 : Memref sig .tc .vmem S512x384 .bf16) (harg6 : arg6.IsWhole) (arg7 : Memref sig .tc .vmem S512x384 .bf16) (harg7 : arg7.IsWhole) (arg8 : Memref sig .tc .vmem S512x384 .bf16) (harg8 : arg8.IsWhole) (arg9 : Memref sig .tc .vmem S6x768 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x384 .bf16) (harg17 : arg17.IsWhole) (arg18 : Memref sig .tc .vmem S384x1024 .bf16) (harg18 : arg18.IsWhole) (arg19 : Memref sig .tc .vmem S2x640x256 .f32) (harg19 : arg19.IsWhole) (arg20 : Memref sig .tc .vmem S6x640x128 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S2x512x1024 .bf16) (harg23 : arg23.IsWhole) (arg24 : Memref sig .tc .vmem S512x1024 .f32) (harg24 : arg24.IsWhole) (arg25 : Memref sig .tc .vmem S512x1024 .f32) (harg25 : arg25.IsWhole) (arg26 : Memref sig .tc .vmem S512x1024 .f32) (harg26 : arg26.IsWhole) (arg27 : Memref sig .tc .vmem S1024x1024 .bf16) (harg27 : arg27.IsWhole) (arg28 : Memref sig .tc .vmem S1024x4096 .bf16) (harg28 : arg28.IsWhole) (arg29 : Memref sig .tc .vmem S4096x1024 .bf16) (harg29 : arg29.IsWhole) (hc0 : cond0_0 i) (hc1 : ¬cond0_1 i) (hc2 : ¬cond0_2 i)
    (x0 : Vec Ideal S512x1024 .f32) (x1 : Vec Ideal S512x256 .bf16) (x2 : Vec Ideal S512x384 .bf16) (x3 : Vec Ideal S512x384 .bf16) (x4 : Vec Ideal S512x384 .bf16) (x5 : Vec Ideal S512x384 .bf16) (x6 : Vec Ideal S512x384 .bf16) (x7 : Vec Ideal S512x384 .bf16) (x8 : Vec Ideal S6x768 .f32) (x9 : Vec Ideal S1x1024 .f32) (x10 : Vec Ideal S1x1024 .f32) (x11 : Vec Ideal S1x1024 .f32) (fh0 : HbBuf0 (F := Ideal) c hbM0_0) (fh1 : HbBuf0 (F := Ideal) c hbM0_1) (fh2 : HbBuf0 (F := Ideal) c hbM0_2)

theorem A_v762 : (kernelRun0_A.sl.v762 c i arg4 harg4 arg5 harg5 arg6 harg6 arg9 harg9 arg19 arg20 x3 x4 x5 x8 : FVec Ideal S1x640x128 .f32) = ST (SU00 (kernelRun0_A.sl.v661 i) 0 x3 x4 x5 (kernelRun0_A.sl.v697 c arg9 harg9 arg20 x8)) := by
  refine (View.readCov_skip _ _ _ _ _ rfl).trans ((View.readCov_skip _ _ _ _ _ rfl).trans ((View.readCov_skip _ _ _ _ _ rfl).trans ((readCov_hit _ _ _ _).trans ?_)))
  unfold SU00
  rw [← rd2 arg4 harg4 x3 128 128 0 0 (by decide), ← rd2 arg5 harg5 x4 512 128 0 0 (by decide), ← rd2 arg6 harg6 x5 128 128 0 0 (by decide)]
  rfl

theorem A_v776 : (kernelRun0_A.sl.v776 c i arg4 harg4 arg5 harg5 arg6 harg6 arg9 harg9 arg19 arg20 x3 x4 x5 x8 : FVec Ideal S1x640x128 .f32) = ST (SU01 (kernelRun0_A.sl.v661 i) 0 x3 x4 x5 (kernelRun0_A.sl.v710 c arg9 harg9 arg20 x8)) := by
  refine (View.readCov_skip _ _ _ _ _ rfl).trans ((View.readCov_skip _ _ _ _ _ rfl).trans ((readCov_hit _ _ _ _).trans ?_))
  unfold SU01
  rw [← rd2 arg4 harg4 x3 128 128 0 0 (by decide), ← rd2 arg5 harg5 x4 512 128 0 0 (by decide), ← rd2 arg6 harg6 x5 128 128 0 0 (by decide)]
  rfl

theorem A_v830 : (kernelRun0_A.sl.v830 c i arg4 harg4 arg5 harg5 arg6 harg6 arg9 harg9 arg19 arg20 x3 x4 x5 x8 : FVec Ideal S1x640x128 .f32) = ST (SU00 (kernelRun0_A.sl.v661 i) 128 x3 x4 x5 (kernelRun0_A.sl.v737 c arg9 harg9 arg20 x8)) := by
  refine (View.readCov_skip _ _ _ _ _ rfl).trans ((View.readCov_skip _ _ _ _ _ rfl).trans ((View.readCov_skip _ _ _ _ _ rfl).trans ((readCov_hit _ _ _ _).trans ?_)))
  unfold SU00
  rw [← rd2 arg4 harg4 x3 128 128 0 128 (by decide), ← rd2 arg5 harg5 x4 512 128 0 128 (by decide), ← rd2 arg6 harg6 x5 128 128 0 128 (by decide)]
  rfl

theorem A_v844 : (kernelRun0_A.sl.v844 c i arg4 harg4 arg5 harg5 arg6 harg6 arg9 harg9 arg19 arg20 x3 x4 x5 x8 : FVec Ideal S1x640x128 .f32) = ST (SU01 (kernelRun0_A.sl.v661 i) 128 x3 x4 x5 (kernelRun0_A.sl.v750 c arg9 harg9 arg20 x8)) := by
  refine (View.readCov_skip _ _ _ _ _ rfl).trans ((View.readCov_skip _ _ _ _ _ rfl).trans ((readCov_hit _ _ _ _).trans ?_))
  unfold SU01
  rw [← rd2 arg4 harg4 x3 128 128 0 128 (by decide), ← rd2 arg5 harg5 x4 512 128 0 128 (by decide), ← rd2 arg6 harg6 x5 128 128 0 128 (by decide)]
  rfl

theorem A_v898 : (kernelRun0_A.sl.v898 c i arg4 harg4 arg5 harg5 arg6 harg6 arg9 harg9 arg19 arg20 x3 x4 x5 x8 : FVec Ideal S1x640x128 .f32) = ST (SU00 (kernelRun0_A.sl.v661 i) 256 x3 x4 x5 (kernelRun0_A.sl.v805 c arg9 harg9 arg20 x8)) := by
  refine (View.readCov_skip _ _ _ _ _ rfl).trans ((View.readCov_skip _ _ _ _ _ rfl).trans ((View.readCov_skip _ _ _ _ _ rfl).trans ((readCov_hit _ _ _ _).trans ?_)))
  unfold SU00
  rw [← rd2 arg4 harg4 x3 128 128 0 256 (by decide), ← rd2 arg5 harg5 x4 512 128 0 256 (by decide), ← rd2 arg6 harg6 x5 128 128 0 256 (by decide)]
  rfl

theorem A_v912 : (kernelRun0_A.sl.v912 c i arg4 harg4 arg5 harg5 arg6 harg6 arg9 harg9 arg19 arg20 x3 x4 x5 x8 : FVec Ideal S1x640x128 .f32) = ST (SU01 (kernelRun0_A.sl.v661 i) 256 x3 x4 x5 (kernelRun0_A.sl.v818 c arg9 harg9 arg20 x8)) := by
  refine (View.readCov_skip _ _ _ _ _ rfl).trans ((View.readCov_skip _ _ _ _ _ rfl).trans ((readCov_hit _ _ _ _).trans ?_))
  unfold SU01
  rw [← rd2 arg4 harg4 x3 128 128 0 256 (by decide), ← rd2 arg5 harg5 x4 512 128 0 256 (by decide), ← rd2 arg6 harg6 x5 128 128 0 256 (by decide)]
  rfl

theorem A_v972 : (kernelRun0_A.sl.v972 c i arg4 harg4 arg5 harg5 arg6 harg6 arg9 harg9 arg19 arg20 x3 x4 x5 x8 : FVec Ideal S1x640x128 .f32) = ST (SU10 (kernelRun0_A.sl.v661 i) 0 x3 x4 x5 (kernelRun0_A.sl.v697 c arg9 harg9 arg20 x8)) := by
  refine (View.readCov_skip _ _ _ _ _ rfl).trans ((View.readCov_skip _ _ _ _ _ rfl).trans ((View.readCov_skip _ _ _ _ _ rfl).trans ((readCov_hit _ _ _ _).trans ?_)))
  unfold SU10
  rw [← rd2 arg4 harg4 x3 128 128 128 0 (by decide), ← rd2 arg5 harg5 x4 384 128 128 0 (by decide), ← rd2 arg6 harg6 x5 256 128 0 0 (by decide)]
  rfl

theorem A_v986 : (kernelRun0_A.sl.v986 c i arg4 harg4 arg5 harg5 arg6 harg6 arg9 harg9 arg19 arg20 x3 x4 x5 x8 : FVec Ideal S1x640x128 .f32) = ST (SU11 (kernelRun0_A.sl.v661 i) 0 x3 x4 x5 (kernelRun0_A.sl.v710 c arg9 harg9 arg20 x8)) := by
  refine (View.readCov_skip _ _ _ _ _ rfl).trans ((View.readCov_skip _ _ _ _ _ rfl).trans ((readCov_hit _ _ _ _).trans ?_))
  unfold SU11
  rw [← rd2 arg4 harg4 x3 128 128 128 0 (by decide), ← rd2 arg5 harg5 x4 384 128 128 0 (by decide), ← rd2 arg6 harg6 x5 256 128 0 0 (by decide)]
  rfl

theorem A_v1040 : (kernelRun0_A.sl.v1040 c i arg4 harg4 arg5 harg5 arg6 harg6 arg9 harg9 arg19 arg20 x3 x4 x5 x8 : FVec Ideal S1x640x128 .f32) = ST (SU10 (kernelRun0_A.sl.v661 i) 128 x3 x4 x5 (kernelRun0_A.sl.v737 c arg9 harg9 arg20 x8)) := by
  refine (View.readCov_skip _ _ _ _ _ rfl).trans ((View.readCov_skip _ _ _ _ _ rfl).trans ((View.readCov_skip _ _ _ _ _ rfl).trans ((readCov_hit _ _ _ _).trans ?_)))
  unfold SU10
  rw [← rd2 arg4 harg4 x3 128 128 128 128 (by decide), ← rd2 arg5 harg5 x4 384 128 128 128 (by decide), ← rd2 arg6 harg6 x5 256 128 0 128 (by decide)]
  rfl

theorem A_v1054 : (kernelRun0_A.sl.v1054 c i arg4 harg4 arg5 harg5 arg6 harg6 arg9 harg9 arg19 arg20 x3 x4 x5 x8 : FVec Ideal S1x640x128 .f32) = ST (SU11 (kernelRun0_A.sl.v661 i) 128 x3 x4 x5 (kernelRun0_A.sl.v750 c arg9 harg9 arg20 x8)) := by
  refine (View.readCov_skip _ _ _ _ _ rfl).trans ((View.readCov_skip _ _ _ _ _ rfl).trans ((readCov_hit _ _ _ _).trans ?_))
  unfold SU11
  rw [← rd2 arg4 harg4 x3 128 128 128 128 (by decide), ← rd2 arg5 harg5 x4 384 128 128 128 (by decide), ← rd2 arg6 harg6 x5 256 128 0 128 (by decide)]
  rfl

theorem A_v1108 : (kernelRun0_A.sl.v1108 c i arg4 harg4 arg5 harg5 arg6 harg6 arg9 harg9 arg19 arg20 x3 x4 x5 x8 : FVec Ideal S1x640x128 .f32) = ST (SU10 (kernelRun0_A.sl.v661 i) 256 x3 x4 x5 (kernelRun0_A.sl.v805 c arg9 harg9 arg20 x8)) := by
  refine (View.readCov_skip _ _ _ _ _ rfl).trans ((View.readCov_skip _ _ _ _ _ rfl).trans ((View.readCov_skip _ _ _ _ _ rfl).trans ((readCov_hit _ _ _ _).trans ?_)))
  unfold SU10
  rw [← rd2 arg4 harg4 x3 128 128 128 256 (by decide), ← rd2 arg5 harg5 x4 384 128 128 256 (by decide), ← rd2 arg6 harg6 x5 256 128 0 256 (by decide)]
  rfl

theorem A_v1122 : (kernelRun0_A.sl.v1122 c i arg4 harg4 arg5 harg5 arg6 harg6 arg9 harg9 arg19 arg20 x3 x4 x5 x8 : FVec Ideal S1x640x128 .f32) = ST (SU11 (kernelRun0_A.sl.v661 i) 256 x3 x4 x5 (kernelRun0_A.sl.v818 c arg9 harg9 arg20 x8)) := by
  refine (View.readCov_skip _ _ _ _ _ rfl).trans ((View.readCov_skip _ _ _ _ _ rfl).trans ((readCov_hit _ _ _ _).trans ?_))
  unfold SU11
  rw [← rd2 arg4 harg4 x3 128 128 128 256 (by decide), ← rd2 arg5 harg5 x4 384 128 128 256 (by decide), ← rd2 arg6 harg6 x5 256 128 0 256 (by decide)]
  rfl

theorem A_v1182 : (kernelRun0_A.sl.v1182 c i arg4 harg4 arg5 harg5 arg6 harg6 arg9 harg9 arg19 arg20 x3 x4 x5 x8 : FVec Ideal S1x640x128 .f32) = ST (SU20 (kernelRun0_A.sl.v661 i) 0 x3 x4 x5 (kernelRun0_A.sl.v697 c arg9 harg9 arg20 x8)) := by
  refine (View.readCov_skip _ _ _ _ _ rfl).trans ((View.readCov_skip _ _ _ _ _ rfl).trans ((View.readCov_skip _ _ _ _ _ rfl).trans ((readCov_hit _ _ _ _).trans ?_)))
  unfold SU20
  rw [← rd2 arg4 harg4 x3 128 128 256 0 (by decide), ← rd2 arg5 harg5 x4 256 128 256 0 (by decide), ← rd2 arg6 harg6 x5 384 128 0 0 (by decide)]
  rfl

theorem A_v1196 : (kernelRun0_A.sl.v1196 c i arg4 harg4 arg5 harg5 arg6 harg6 arg9 harg9 arg19 arg20 x3 x4 x5 x8 : FVec Ideal S1x640x128 .f32) = ST (SU21 (kernelRun0_A.sl.v661 i) 0 x3 x4 x5 (kernelRun0_A.sl.v710 c arg9 harg9 arg20 x8)) := by
  refine (View.readCov_skip _ _ _ _ _ rfl).trans ((View.readCov_skip _ _ _ _ _ rfl).trans ((readCov_hit _ _ _ _).trans ?_))
  unfold SU21
  rw [← rd2 arg4 harg4 x3 128 128 256 0 (by decide), ← rd2 arg5 harg5 x4 256 128 256 0 (by decide), ← rd2 arg6 harg6 x5 384 128 0 0 (by decide)]
  rfl

theorem A_v1250 : (kernelRun0_A.sl.v1250 c i arg4 harg4 arg5 harg5 arg6 harg6 arg9 harg9 arg19 arg20 x3 x4 x5 x8 : FVec Ideal S1x640x128 .f32) = ST (SU20 (kernelRun0_A.sl.v661 i) 128 x3 x4 x5 (kernelRun0_A.sl.v737 c arg9 harg9 arg20 x8)) := by
  refine (View.readCov_skip _ _ _ _ _ rfl).trans ((View.readCov_skip _ _ _ _ _ rfl).trans ((View.readCov_skip _ _ _ _ _ rfl).trans ((readCov_hit _ _ _ _).trans ?_)))
  unfold SU20
  rw [← rd2 arg4 harg4 x3 128 128 256 128 (by decide), ← rd2 arg5 harg5 x4 256 128 256 128 (by decide), ← rd2 arg6 harg6 x5 384 128 0 128 (by decide)]
  rfl

theorem A_v1264 : (kernelRun0_A.sl.v1264 c i arg4 harg4 arg5 harg5 arg6 harg6 arg9 harg9 arg19 arg20 x3 x4 x5 x8 : FVec Ideal S1x640x128 .f32) = ST (SU21 (kernelRun0_A.sl.v661 i) 128 x3 x4 x5 (kernelRun0_A.sl.v750 c arg9 harg9 arg20 x8)) := by
  refine (View.readCov_skip _ _ _ _ _ rfl).trans ((View.readCov_skip _ _ _ _ _ rfl).trans ((readCov_hit _ _ _ _).trans ?_))
  unfold SU21
  rw [← rd2 arg4 harg4 x3 128 128 256 128 (by decide), ← rd2 arg5 harg5 x4 256 128 256 128 (by decide), ← rd2 arg6 harg6 x5 384 128 0 128 (by decide)]
  rfl

theorem A_v1318 : (kernelRun0_A.sl.v1318 c i arg4 harg4 arg5 harg5 arg6 harg6 arg9 harg9 arg19 arg20 x3 x4 x5 x8 : FVec Ideal S1x640x128 .f32) = ST (SU20 (kernelRun0_A.sl.v661 i) 256 x3 x4 x5 (kernelRun0_A.sl.v805 c arg9 harg9 arg20 x8)) := by
  refine (View.readCov_skip _ _ _ _ _ rfl).trans ((View.readCov_skip _ _ _ _ _ rfl).trans ((View.readCov_skip _ _ _ _ _ rfl).trans ((readCov_hit _ _ _ _).trans ?_)))
  unfold SU20
  rw [← rd2 arg4 harg4 x3 128 128 256 256 (by decide), ← rd2 arg5 harg5 x4 256 128 256 256 (by decide), ← rd2 arg6 harg6 x5 384 128 0 256 (by decide)]
  rfl

theorem A_v1332 : (kernelRun0_A.sl.v1332 c i arg4 harg4 arg5 harg5 arg6 harg6 arg9 harg9 arg19 arg20 x3 x4 x5 x8 : FVec Ideal S1x640x128 .f32) = ST (SU21 (kernelRun0_A.sl.v661 i) 256 x3 x4 x5 (kernelRun0_A.sl.v818 c arg9 harg9 arg20 x8)) := by
  refine (View.readCov_skip _ _ _ _ _ rfl).trans ((View.readCov_skip _ _ _ _ _ rfl).trans ((readCov_hit _ _ _ _).trans ?_))
  unfold SU21
  rw [← rd2 arg4 harg4 x3 128 128 256 256 (by decide), ← rd2 arg5 harg5 x4 256 128 256 256 (by decide), ← rd2 arg6 harg6 x5 384 128 0 256 (by decide)]
  rfl

theorem A_v1392 : (kernelRun0_A.sl.v1392 c i arg4 harg4 arg5 harg5 arg6 harg6 arg9 harg9 arg19 arg20 x3 x4 x5 x8 : FVec Ideal S1x640x128 .f32) = ST (SU30 (kernelRun0_A.sl.v661 i) 0 x3 x4 x5 (kernelRun0_A.sl.v697 c arg9 harg9 arg20 x8)) := by
  refine (View.readCov_skip _ _ _ _ _ rfl).trans ((View.readCov_skip _ _ _ _ _ rfl).trans ((View.readCov_skip _ _ _ _ _ rfl).trans ((readCov_hit _ _ _ _).trans ?_)))
  unfold SU30
  rw [← rd2 arg4 harg4 x3 128 128 384 0 (by decide), ← rd2 arg5 harg5 x4 128 128 384 0 (by decide), ← rd2 arg6 harg6 x5 512 128 0 0 (by decide)]
  rfl

theorem A_v1406 : (kernelRun0_A.sl.v1406 c i arg4 harg4 arg5 harg5 arg6 harg6 arg9 harg9 arg19 arg20 x3 x4 x5 x8 : FVec Ideal S1x640x128 .f32) = ST (SU31 (kernelRun0_A.sl.v661 i) 0 x3 x4 x5 (kernelRun0_A.sl.v710 c arg9 harg9 arg20 x8)) := by
  refine (View.readCov_skip _ _ _ _ _ rfl).trans ((View.readCov_skip _ _ _ _ _ rfl).trans ((readCov_hit _ _ _ _).trans ?_))
  unfold SU31
  rw [← rd2 arg4 harg4 x3 128 128 384 0 (by decide), ← rd2 arg5 harg5 x4 128 128 384 0 (by decide), ← rd2 arg6 harg6 x5 512 128 0 0 (by decide)]
  rfl

theorem A_v1460 : (kernelRun0_A.sl.v1460 c i arg4 harg4 arg5 harg5 arg6 harg6 arg9 harg9 arg19 arg20 x3 x4 x5 x8 : FVec Ideal S1x640x128 .f32) = ST (SU30 (kernelRun0_A.sl.v661 i) 128 x3 x4 x5 (kernelRun0_A.sl.v737 c arg9 harg9 arg20 x8)) := by
  refine (View.readCov_skip _ _ _ _ _ rfl).trans ((View.readCov_skip _ _ _ _ _ rfl).trans ((View.readCov_skip _ _ _ _ _ rfl).trans ((readCov_hit _ _ _ _).trans ?_)))
  unfold SU30
  rw [← rd2 arg4 harg4 x3 128 128 384 128 (by decide), ← rd2 arg5 harg5 x4 128 128 384 128 (by decide), ← rd2 arg6 harg6 x5 512 128 0 128 (by decide)]
  rfl

theorem A_v1474 : (kernelRun0_A.sl.v1474 c i arg4 harg4 arg5 harg5 arg6 harg6 arg9 harg9 arg19 arg20 x3 x4 x5 x8 : FVec Ideal S1x640x128 .f32) = ST (SU31 (kernelRun0_A.sl.v661 i) 128 x3 x4 x5 (kernelRun0_A.sl.v750 c arg9 harg9 arg20 x8)) := by
  refine (View.readCov_skip _ _ _ _ _ rfl).trans ((View.readCov_skip _ _ _ _ _ rfl).trans ((readCov_hit _ _ _ _).trans ?_))
  unfold SU31
  rw [← rd2 arg4 harg4 x3 128 128 384 128 (by decide), ← rd2 arg5 harg5 x4 128 128 384 128 (by decide), ← rd2 arg6 harg6 x5 512 128 0 128 (by decide)]
  rfl

theorem A_v1488 : (kernelRun0_A.sl.v1488 c i arg4 harg4 arg5 harg5 arg6 harg6 arg9 harg9 arg19 arg20 x3 x4 x5 x8 : FVec Ideal S1x640x128 .f32) = ST (SU30 (kernelRun0_A.sl.v661 i) 256 x3 x4 x5 (kernelRun0_A.sl.v805 c arg9 harg9 arg20 x8)) := by
  refine (View.readCov_skip _ _ _ _ _ rfl).trans ((readCov_hit _ _ _ _).trans ?_)
  unfold SU30
  rw [← rd2 arg4 harg4 x3 128 128 384 256 (by decide), ← rd2 arg5 harg5 x4 128 128 384 256 (by decide), ← rd2 arg6 harg6 x5 512 128 0 256 (by decide)]
  rfl

theorem A_v1502 : (kernelRun0_A.sl.v1502 c i arg4 harg4 arg5 harg5 arg6 harg6 arg9 harg9 arg19 arg20 x3 x4 x5 x8 : FVec Ideal S1x640x128 .f32) = ST (SU31 (kernelRun0_A.sl.v661 i) 256 x3 x4 x5 (kernelRun0_A.sl.v818 c arg9 harg9 arg20 x8)) := by
  refine (readCov_hit _ _ _ _).trans ?_
  unfold SU31
  rw [← rd2 arg4 harg4 x3 128 128 384 256 (by decide), ← rd2 arg5 harg5 x4 128 128 384 256 (by decide), ← rd2 arg6 harg6 x5 512 128 0 256 (by decide)]
  rfl

theorem A_tbl (h : Fin 6) (inb : ∀ k, (![h.val, 0, 0] : Fin 3 → ℕ) k + (![1, 640, 128] : Fin 3 → ℕ) k ≤ S6x640x128.size k) :
    arg20.view.readCov (kernelRun0_A.sl.HS3_30 c arg9 harg9 x8) (Rect.unit (s := S6x640x128) ![h.val, 0, 0] ![1, 640, 128] inb).toLoadRect = B3 h (View.canon (kernelRun0_A.sl.HS3_30 c arg9 harg9 x8)) := by
  rw [View.readCov_eq_canon']
  funext j
  refine congrArg (View.canon (kernelRun0_A.sl.HS3_30 c arg9 harg9 x8)) (funext fun a => Fin.ext ((Rect.idx_unit_val _ _ _ j a).trans ?_))
  have h0 : (j 0).val < 1 := (j 0).isLt
  fin_cases a
  · show h.val + (j 0).val = h.val; omega
  · exact Nat.zero_add _
  · exact Nat.zero_add _

theorem A_vt_canon (y : S384x1024.Idx) : View.canon (kernelRun0_A.sl.HS1_2 c arg7 harg7 arg8 harg8 x6 x7) y = kcat x6 x7 (y 1).val (y 0).val := by
  have e0 : ∀ (X : FVec Ideal S512x384 .bf16) (l : Fin 384) (σ : Fin 512), k0_pay217 (F := Ideal) (B2 512 384 0 0 X) (ix2 l σ) = at2 X σ.val l.val := by
    intro X l σ
    pointwise [k0_pay217]
    rw [B2_ix, Nat.zero_add, Nat.zero_add]
  have e : ∀ (X : FVec Ideal S512x384 .bf16) (z : S384x512.Idx), k0_pay217 (F := Ideal) (B2 512 384 0 0 X) z = at2 X (z 1).val (z 0).val := by
    intro X z
    have hz : z = ix2 (z 0) (z 1) := by funext a; fin_cases a <;> rfl
    exact (congrArg _ hz).trans (e0 X (z 0) (z 1))
  unfold kernelRun0_A.sl.HS1_2
  canon_tiles x h
  · refine Eq.trans (b := k0_pay217 (F := Ideal) (B2 512 384 0 0 x7) x) ?_ ?_
    · rw [← rd2 arg8 harg8 x7 512 384 0 0 (by decide)]
      try rfl
    · rw [e]; unfold kcat; rw [if_neg (by omega)]; congr 1 <;> omega
  · refine Eq.trans (b := k0_pay217 (F := Ideal) (B2 512 384 0 0 x6) x) ?_ ?_
    · rw [← rd2 arg7 harg7 x6 512 384 0 0 (by decide)]
      try rfl
    · rw [e]; unfold kcat; rw [if_pos (by omega)]; congr 1 <;> omega

theorem A_vt (a b : ℕ) (inb : ∀ k, (![a, b] : Fin 2 → ℕ) k + (![64, 640] : Fin 2 → ℕ) k ≤ S384x1024.size k) (d : Fin 64) (ρ : Fin 640) :
    (View.readCov (Val := Elt Ideal) arg18.view (kernelRun0_A.sl.HS1_2 c arg7 harg7 arg8 harg8 x6 x7) (Rect.unit (s := S384x1024) ![a, b] ![64, 640] inb).toLoadRect : (⟨2, ![64, 640]⟩ : Shape).Idx → EReal) (ix2 d ρ) = kcat x6 x7 (b + ρ.val) (a + d.val) := by
  rw [View.readCov_eq_canon']
  refine (A_vt_canon c arg7 harg7 arg8 harg8 x6 x7 _).trans ?_
  congr 1
  · exact Rect.idx_unit_val _ _ _ _ _
  · exact Rect.idx_unit_val _ _ _ _ _

theorem A_row0 : (kernelRun0_A.sl.v931 c i arg4 harg4 arg5 harg5 arg6 harg6 arg7 harg7 arg8 harg8 arg9 harg9 arg18 arg19 arg20 x3 x4 x5 x6 x7 x8 : FVec Ideal S128x384 .bf16) = FIN (OT (SU00 (kernelRun0_A.sl.v661 i) 0 x3 x4 x5 (kernelRun0_A.sl.v697 c arg9 harg9 arg20 x8)) (kernelRun0_A.sl.v769 c arg7 harg7 arg8 harg8 arg18 x6 x7)) (OT (SU01 (kernelRun0_A.sl.v661 i) 0 x3 x4 x5 (kernelRun0_A.sl.v710 c arg9 harg9 arg20 x8)) (kernelRun0_A.sl.v783 c arg7 harg7 arg8 harg8 arg18 x6 x7)) (OT (SU00 (kernelRun0_A.sl.v661 i) 128 x3 x4 x5 (kernelRun0_A.sl.v737 c arg9 harg9 arg20 x8)) (kernelRun0_A.sl.v837 c arg7 harg7 arg8 harg8 arg18 x6 x7)) (OT (SU01 (kernelRun0_A.sl.v661 i) 128 x3 x4 x5 (kernelRun0_A.sl.v750 c arg9 harg9 arg20 x8)) (kernelRun0_A.sl.v851 c arg7 harg7 arg8 harg8 arg18 x6 x7)) (OT (SU00 (kernelRun0_A.sl.v661 i) 256 x3 x4 x5 (kernelRun0_A.sl.v805 c arg9 harg9 arg20 x8)) (kernelRun0_A.sl.v905 c arg7 harg7 arg8 harg8 arg18 x6 x7)) (OT (SU01 (kernelRun0_A.sl.v661 i) 256 x3 x4 x5 (kernelRun0_A.sl.v818 c arg9 harg9 arg20 x8)) (kernelRun0_A.sl.v919 c arg7 harg7 arg8 harg8 arg18 x6 x7)) := by
  unfold OT
  rw [← A_v762 c i arg4 harg4 arg5 harg5 arg6 harg6 arg9 harg9 arg19 arg20 x3 x4 x5 x8, ← A_v776 c i arg4 harg4 arg5 harg5 arg6 harg6 arg9 harg9 arg19 arg20 x3 x4 x5 x8, ← A_v830 c i arg4 harg4 arg5 harg5 arg6 harg6 arg9 harg9 arg19 arg20 x3 x4 x5 x8, ← A_v844 c i arg4 harg4 arg5 harg5 arg6 harg6 arg9 harg9 arg19 arg20 x3 x4 x5 x8, ← A_v898 c i arg4 harg4 arg5 harg5 arg6 harg6 arg9 harg9 arg19 arg20 x3 x4 x5 x8, ← A_v912 c i arg4 harg4 arg5 harg5 arg6 harg6 arg9 harg9 arg19 arg20 x3 x4 x5 x8]
  unfold SU00 SU01
  rw [← rd2 arg4 harg4 x3 128 128 0 0 (by decide), ← rd2 arg5 harg5 x4 512 128 0 0 (by decide), ← rd2 arg6 harg6 x5 128 128 0 0 (by decide), ← rd2 arg4 harg4 x3 128 128 0 128 (by decide), ← rd2 arg5 harg5 x4 512 128 0 128 (by decide), ← rd2 arg6 harg6 x5 128 128 0 128 (by decide), ← rd2 arg4 harg4 x3 128 128 0 256 (by decide), ← rd2 arg5 harg5 x4 512 128 0 256 (by decide), ← rd2 arg6 harg6 x5 128 128 0 256 (by decide)]
  rfl

theorem A_row1 : (kernelRun0_A.sl.v1141 c i arg4 harg4 arg5 harg5 arg6 harg6 arg7 harg7 arg8 harg8 arg9 harg9 arg18 arg19 arg20 x3 x4 x5 x6 x7 x8 : FVec Ideal S128x384 .bf16) = FIN (OT (SU10 (kernelRun0_A.sl.v661 i) 0 x3 x4 x5 (kernelRun0_A.sl.v697 c arg9 harg9 arg20 x8)) (kernelRun0_A.sl.v979 c arg7 harg7 arg8 harg8 arg18 x6 x7)) (OT (SU11 (kernelRun0_A.sl.v661 i) 0 x3 x4 x5 (kernelRun0_A.sl.v710 c arg9 harg9 arg20 x8)) (kernelRun0_A.sl.v993 c arg7 harg7 arg8 harg8 arg18 x6 x7)) (OT (SU10 (kernelRun0_A.sl.v661 i) 128 x3 x4 x5 (kernelRun0_A.sl.v737 c arg9 harg9 arg20 x8)) (kernelRun0_A.sl.v1047 c arg7 harg7 arg8 harg8 arg18 x6 x7)) (OT (SU11 (kernelRun0_A.sl.v661 i) 128 x3 x4 x5 (kernelRun0_A.sl.v750 c arg9 harg9 arg20 x8)) (kernelRun0_A.sl.v1061 c arg7 harg7 arg8 harg8 arg18 x6 x7)) (OT (SU10 (kernelRun0_A.sl.v661 i) 256 x3 x4 x5 (kernelRun0_A.sl.v805 c arg9 harg9 arg20 x8)) (kernelRun0_A.sl.v1115 c arg7 harg7 arg8 harg8 arg18 x6 x7)) (OT (SU11 (kernelRun0_A.sl.v661 i) 256 x3 x4 x5 (kernelRun0_A.sl.v818 c arg9 harg9 arg20 x8)) (kernelRun0_A.sl.v1129 c arg7 harg7 arg8 harg8 arg18 x6 x7)) := by
  unfold OT
  rw [← A_v972 c i arg4 harg4 arg5 harg5 arg6 harg6 arg9 harg9 arg19 arg20 x3 x4 x5 x8, ← A_v986 c i arg4 harg4 arg5 harg5 arg6 harg6 arg9 harg9 arg19 arg20 x3 x4 x5 x8, ← A_v1040 c i arg4 harg4 arg5 harg5 arg6 harg6 arg9 harg9 arg19 arg20 x3 x4 x5 x8, ← A_v1054 c i arg4 harg4 arg5 harg5 arg6 harg6 arg9 harg9 arg19 arg20 x3 x4 x5 x8, ← A_v1108 c i arg4 harg4 arg5 harg5 arg6 harg6 arg9 harg9 arg19 arg20 x3 x4 x5 x8, ← A_v1122 c i arg4 harg4 arg5 harg5 arg6 harg6 arg9 harg9 arg19 arg20 x3 x4 x5 x8]
  unfold SU10 SU11
  rw [← rd2 arg4 harg4 x3 128 128 128 0 (by decide), ← rd2 arg5 harg5 x4 384 128 128 0 (by decide), ← rd2 arg6 harg6 x5 256 128 0 0 (by decide), ← rd2 arg4 harg4 x3 128 128 128 128 (by decide), ← rd2 arg5 harg5 x4 384 128 128 128 (by decide), ← rd2 arg6 harg6 x5 256 128 0 128 (by decide), ← rd2 arg4 harg4 x3 128 128 128 256 (by decide), ← rd2 arg5 harg5 x4 384 128 128 256 (by decide), ← rd2 arg6 harg6 x5 256 128 0 256 (by decide)]
  rfl

theorem A_row2 : (k0_pay185 (kernelRun0_A.sl.v1195 c i arg4 harg4 arg5 harg5 arg6 harg6 arg7 harg7 arg8 harg8 arg9 harg9 arg18 arg19 arg20 x3 x4 x5 x6 x7 x8) (kernelRun0_A.sl.v1209 c i arg4 harg4 arg5 harg5 arg6 harg6 arg7 harg7 arg8 harg8 arg9 harg9 arg18 arg19 arg20 x3 x4 x5 x6 x7 x8) (kernelRun0_A.sl.r_46 c i arg4 harg4 arg5 harg5 arg6 harg6 arg7 harg7 arg8 harg8 arg9 harg9 arg18 arg19 arg20 x3 x4 x5 x6 x7 x8) (kernelRun0_A.sl.r_47 c i arg4 harg4 arg5 harg5 arg6 harg6 arg7 harg7 arg8 harg8 arg9 harg9 arg18 arg19 arg20 x3 x4 x5 x6 x7 x8) (kernelRun0_A.sl.r_52 c i arg4 harg4 arg5 harg5 arg6 harg6 arg7 harg7 arg8 harg8 arg9 harg9 arg18 arg19 arg20 x3 x4 x5 x6 x7 x8) (kernelRun0_A.sl.r_53 c i arg4 harg4 arg5 harg5 arg6 harg6 arg9 harg9 arg19 arg20 x3 x4 x5 x8) (kernelRun0_A.sl.v1339 c arg7 harg7 arg8 harg8 arg18 x6 x7) : FVec Ideal S128x384 .bf16) = FIN (OT (SU20 (kernelRun0_A.sl.v661 i) 0 x3 x4 x5 (kernelRun0_A.sl.v697 c arg9 harg9 arg20 x8)) (kernelRun0_A.sl.v1189 c arg7 harg7 arg8 harg8 arg18 x6 x7)) (OT (SU21 (kernelRun0_A.sl.v661 i) 0 x3 x4 x5 (kernelRun0_A.sl.v710 c arg9 harg9 arg20 x8)) (kernelRun0_A.sl.v1203 c arg7 harg7 arg8 harg8 arg18 x6 x7)) (OT (SU20 (kernelRun0_A.sl.v661 i) 128 x3 x4 x5 (kernelRun0_A.sl.v737 c arg9 harg9 arg20 x8)) (kernelRun0_A.sl.v1257 c arg7 harg7 arg8 harg8 arg18 x6 x7)) (OT (SU21 (kernelRun0_A.sl.v661 i) 128 x3 x4 x5 (kernelRun0_A.sl.v750 c arg9 harg9 arg20 x8)) (kernelRun0_A.sl.v1271 c arg7 harg7 arg8 harg8 arg18 x6 x7)) (OT (SU20 (kernelRun0_A.sl.v661 i) 256 x3 x4 x5 (kernelRun0_A.sl.v805 c arg9 harg9 arg20 x8)) (kernelRun0_A.sl.v1325 c arg7 harg7 arg8 harg8 arg18 x6 x7)) (OT (SU21 (kernelRun0_A.sl.v661 i) 256 x3 x4 x5 (kernelRun0_A.sl.v818 c arg9 harg9 arg20 x8)) (kernelRun0_A.sl.v1339 c arg7 harg7 arg8 harg8 arg18 x6 x7)) := by
  unfold OT
  rw [← A_v1182 c i arg4 harg4 arg5 harg5 arg6 harg6 arg9 harg9 arg19 arg20 x3 x4 x5 x8, ← A_v1196 c i arg4 harg4 arg5 harg5 arg6 harg6 arg9 harg9 arg19 arg20 x3 x4 x5 x8, ← A_v1250 c i arg4 harg4 arg5 harg5 arg6 harg6 arg9 harg9 arg19 arg20 x3 x4 x5 x8, ← A_v1264 c i arg4 harg4 arg5 harg5 arg6 harg6 arg9 harg9 arg19 arg20 x3 x4 x5 x8, ← A_v1318 c i arg4 harg4 arg5 harg5 arg6 harg6 arg9 harg9 arg19 arg20 x3 x4 x5 x8, ← A_v1332 c i arg4 harg4 arg5 harg5 arg6 harg6 arg9 harg9 arg19 arg20 x3 x4 x5 x8]
  unfold SU20 SU21
  rw [← rd2 arg4 harg4 x3 128 128 256 0 (by decide), ← rd2 arg5 harg5 x4 256 128 256 0 (by decide), ← rd2 arg6 harg6 x5 384 128 0 0 (by decide), ← rd2 arg4 harg4 x3 128 128 256 128 (by decide), ← rd2 arg5 harg5 x4 256 128 256 128 (by decide), ← rd2 arg6 harg6 x5 384 128 0 128 (by decide), ← rd2 arg4 harg4 x3 128 128 256 256 (by decide), ← rd2 arg5 harg5 x4 256 128 256 256 (by decide), ← rd2 arg6 harg6 x5 384 128 0 256 (by decide)]
  rfl

theorem A_row3 : (k0_pay210 (kernelRun0_A.sl.v1518 c i arg4 harg4 arg5 harg5 arg6 harg6 arg7 harg7 arg8 harg8 arg9 harg9 arg18 arg19 arg20 x3 x4 x5 x6 x7 x8) : FVec Ideal S128x384 .bf16) = FIN (OT (SU30 (kernelRun0_A.sl.v661 i) 0 x3 x4 x5 (kernelRun0_A.sl.v697 c arg9 harg9 arg20 x8)) (kernelRun0_A.sl.v1399 c arg7 harg7 arg8 harg8 arg18 x6 x7)) (OT (SU31 (kernelRun0_A.sl.v661 i) 0 x3 x4 x5 (kernelRun0_A.sl.v710 c arg9 harg9 arg20 x8)) (kernelRun0_A.sl.v1413 c arg7 harg7 arg8 harg8 arg18 x6 x7)) (OT (SU30 (kernelRun0_A.sl.v661 i) 128 x3 x4 x5 (kernelRun0_A.sl.v737 c arg9 harg9 arg20 x8)) (kernelRun0_A.sl.v1467 c arg7 harg7 arg8 harg8 arg18 x6 x7)) (OT (SU31 (kernelRun0_A.sl.v661 i) 128 x3 x4 x5 (kernelRun0_A.sl.v750 c arg9 harg9 arg20 x8)) (kernelRun0_A.sl.v1481 c arg7 harg7 arg8 harg8 arg18 x6 x7)) (OT (SU30 (kernelRun0_A.sl.v661 i) 256 x3 x4 x5 (kernelRun0_A.sl.v805 c arg9 harg9 arg20 x8)) (kernelRun0_A.sl.v1495 c arg7 harg7 arg8 harg8 arg18 x6 x7)) (OT (SU31 (kernelRun0_A.sl.v661 i) 256 x3 x4 x5 (kernelRun0_A.sl.v818 c arg9 harg9 arg20 x8)) (kernelRun0_A.sl.v1509 c arg7 harg7 arg8 harg8 arg18 x6 x7)) := by
  unfold OT
  rw [← A_v1392 c i arg4 harg4 arg5 harg5 arg6 harg6 arg9 harg9 arg19 arg20 x3 x4 x5 x8, ← A_v1406 c i arg4 harg4 arg5 harg5 arg6 harg6 arg9 harg9 arg19 arg20 x3 x4 x5 x8, ← A_v1460 c i arg4 harg4 arg5 harg5 arg6 harg6 arg9 harg9 arg19 arg20 x3 x4 x5 x8, ← A_v1474 c i arg4 harg4 arg5 harg5 arg6 harg6 arg9 harg9 arg19 arg20 x3 x4 x5 x8, ← A_v1488 c i arg4 harg4 arg5 harg5 arg6 harg6 arg9 harg9 arg19 arg20 x3 x4 x5 x8, ← A_v1502 c i arg4 harg4 arg5 harg5 arg6 harg6 arg9 harg9 arg19 arg20 x3 x4 x5 x8]
  unfold SU30 SU31
  rw [← rd2 arg4 harg4 x3 128 128 384 0 (by decide), ← rd2 arg5 harg5 x4 128 128 384 0 (by decide), ← rd2 arg6 harg6 x5 512 128 0 0 (by decide), ← rd2 arg4 harg4 x3 128 128 384 128 (by decide), ← rd2 arg5 harg5 x4 128 128 384 128 (by decide), ← rd2 arg6 harg6 x5 512 128 0 128 (by decide), ← rd2 arg4 harg4 x3 128 128 384 256 (by decide), ← rd2 arg5 harg5 x4 128 128 384 256 (by decide), ← rd2 arg6 harg6 x5 512 128 0 256 (by decide)]
  rfl

theorem A_piece0 (x : S128x384.Idx) (y : S512x384.Idx) (e0 : (y 0).val = 0 + (x 0).val) (e1 : (y 1).val = (x 1).val) :
    (kernelRun0_A.sl.v931 c i arg4 harg4 arg5 harg5 arg6 harg6 arg7 harg7 arg8 harg8 arg9 harg9 arg18 arg19 arg20 x3 x4 x5 x6 x7 x8 : FVec Ideal S128x384 .bf16) x = ATT (kernelRun0_A.sl.v661 i) x3 x4 x5 x6 x7 (View.canon (kernelRun0_A.sl.HS3_30 c arg9 harg9 x8)) y := by
  rw [A_row0]
  refine FIN_out (kernelRun0_A.sl.v661 i) x3 x4 x5 x6 x7 (View.canon (kernelRun0_A.sl.HS3_30 c arg9 harg9 x8)) 0 (by decide) _ _ _ _ _ _ _ _ _ _ _ _ ?_ ?_ ?_ ?_ ?_ ?_ ?_ ?_ ?_ ?_ ?_ ?_ x y e0 e1
  · exact (fun ρ cc => (SU00_apply _ 0 _ _ _ _ ρ cc).trans (congrArg (fun b => SCORE _ _ _ _ b 0 0 ρ cc) (A_tbl c arg9 harg9 arg20 x8 0 (by decide))))
  · exact (fun ρ cc => (SU01_apply _ 0 _ _ _ _ ρ cc).trans (congrArg (fun b => SCORE _ _ _ _ b 0 1 ρ cc) (A_tbl c arg9 harg9 arg20 x8 1 (by decide))))
  · exact (fun ρ cc => (SU00_apply _ 1 _ _ _ _ ρ cc).trans (congrArg (fun b => SCORE _ _ _ _ b 0 2 ρ cc) (A_tbl c arg9 harg9 arg20 x8 2 (by decide))))
  · exact (fun ρ cc => (SU01_apply _ 1 _ _ _ _ ρ cc).trans (congrArg (fun b => SCORE _ _ _ _ b 0 3 ρ cc) (A_tbl c arg9 harg9 arg20 x8 3 (by decide))))
  · exact (fun ρ cc => (SU00_apply _ 2 _ _ _ _ ρ cc).trans (congrArg (fun b => SCORE _ _ _ _ b 0 4 ρ cc) (A_tbl c arg9 harg9 arg20 x8 4 (by decide))))
  · exact (fun ρ cc => (SU01_apply _ 2 _ _ _ _ ρ cc).trans (congrArg (fun b => SCORE _ _ _ _ b 0 5 ρ cc) (A_tbl c arg9 harg9 arg20 x8 5 (by decide))))
  · exact (fun d ρ => A_vt c arg7 harg7 arg8 harg8 arg18 x6 x7 0 0 (by decide) d ρ)
  · exact (fun d ρ => A_vt c arg7 harg7 arg8 harg8 arg18 x6 x7 64 0 (by decide) d ρ)
  · exact (fun d ρ => A_vt c arg7 harg7 arg8 harg8 arg18 x6 x7 128 0 (by decide) d ρ)
  · exact (fun d ρ => A_vt c arg7 harg7 arg8 harg8 arg18 x6 x7 192 0 (by decide) d ρ)
  · exact (fun d ρ => A_vt c arg7 harg7 arg8 harg8 arg18 x6 x7 256 0 (by decide) d ρ)
  · exact (fun d ρ => A_vt c arg7 harg7 arg8 harg8 arg18 x6 x7 320 0 (by decide) d ρ)

theorem A_piece1 (x : S128x384.Idx) (y : S512x384.Idx) (e0 : (y 0).val = 128 + (x 0).val) (e1 : (y 1).val = (x 1).val) :
    (kernelRun0_A.sl.v1141 c i arg4 harg4 arg5 harg5 arg6 harg6 arg7 harg7 arg8 harg8 arg9 harg9 arg18 arg19 arg20 x3 x4 x5 x6 x7 x8 : FVec Ideal S128x384 .bf16) x = ATT (kernelRun0_A.sl.v661 i) x3 x4 x5 x6 x7 (View.canon (kernelRun0_A.sl.HS3_30 c arg9 harg9 x8)) y := by
  rw [A_row1]
  refine FIN_out (kernelRun0_A.sl.v661 i) x3 x4 x5 x6 x7 (View.canon (kernelRun0_A.sl.HS3_30 c arg9 harg9 x8)) 1 (by decide) _ _ _ _ _ _ _ _ _ _ _ _ ?_ ?_ ?_ ?_ ?_ ?_ ?_ ?_ ?_ ?_ ?_ ?_ x y e0 e1
  · exact (fun ρ cc => (SU10_apply _ 0 _ _ _ _ ρ cc).trans (congrArg (fun b => SCORE _ _ _ _ b 1 0 ρ cc) (A_tbl c arg9 harg9 arg20 x8 0 (by decide))))
  · exact (fun ρ cc => (SU11_apply _ 0 _ _ _ _ ρ cc).trans (congrArg (fun b => SCORE _ _ _ _ b 1 1 ρ cc) (A_tbl c arg9 harg9 arg20 x8 1 (by decide))))
  · exact (fun ρ cc => (SU10_apply _ 1 _ _ _ _ ρ cc).trans (congrArg (fun b => SCORE _ _ _ _ b 1 2 ρ cc) (A_tbl c arg9 harg9 arg20 x8 2 (by decide))))
  · exact (fun ρ cc => (SU11_apply _ 1 _ _ _ _ ρ cc).trans (congrArg (fun b => SCORE _ _ _ _ b 1 3 ρ cc) (A_tbl c arg9 harg9 arg20 x8 3 (by decide))))
  · exact (fun ρ cc => (SU10_apply _ 2 _ _ _ _ ρ cc).trans (congrArg (fun b => SCORE _ _ _ _ b 1 4 ρ cc) (A_tbl c arg9 harg9 arg20 x8 4 (by decide))))
  · exact (fun ρ cc => (SU11_apply _ 2 _ _ _ _ ρ cc).trans (congrArg (fun b => SCORE _ _ _ _ b 1 5 ρ cc) (A_tbl c arg9 harg9 arg20 x8 5 (by decide))))
  · exact (fun d ρ => A_vt c arg7 harg7 arg8 harg8 arg18 x6 x7 0 128 (by decide) d ρ)
  · exact (fun d ρ => A_vt c arg7 harg7 arg8 harg8 arg18 x6 x7 64 128 (by decide) d ρ)
  · exact (fun d ρ => A_vt c arg7 harg7 arg8 harg8 arg18 x6 x7 128 128 (by decide) d ρ)
  · exact (fun d ρ => A_vt c arg7 harg7 arg8 harg8 arg18 x6 x7 192 128 (by decide) d ρ)
  · exact (fun d ρ => A_vt c arg7 harg7 arg8 harg8 arg18 x6 x7 256 128 (by decide) d ρ)
  · exact (fun d ρ => A_vt c arg7 harg7 arg8 harg8 arg18 x6 x7 320 128 (by decide) d ρ)

theorem A_piece2 (x : S128x384.Idx) (y : S512x384.Idx) (e0 : (y 0).val = 256 + (x 0).val) (e1 : (y 1).val = (x 1).val) :
    (k0_pay185 (kernelRun0_A.sl.v1195 c i arg4 harg4 arg5 harg5 arg6 harg6 arg7 harg7 arg8 harg8 arg9 harg9 arg18 arg19 arg20 x3 x4 x5 x6 x7 x8) (kernelRun0_A.sl.v1209 c i arg4 harg4 arg5 harg5 arg6 harg6 arg7 harg7 arg8 harg8 arg9 harg9 arg18 arg19 arg20 x3 x4 x5 x6 x7 x8) (kernelRun0_A.sl.r_46 c i arg4 harg4 arg5 harg5 arg6 harg6 arg7 harg7 arg8 harg8 arg9 harg9 arg18 arg19 arg20 x3 x4 x5 x6 x7 x8) (kernelRun0_A.sl.r_47 c i arg4 harg4 arg5 harg5 arg6 harg6 arg7 harg7 arg8 harg8 arg9 harg9 arg18 arg19 arg20 x3 x4 x5 x6 x7 x8) (kernelRun0_A.sl.r_52 c i arg4 harg4 arg5 harg5 arg6 harg6 arg7 harg7 arg8 harg8 arg9 harg9 arg18 arg19 arg20 x3 x4 x5 x6 x7 x8) (kernelRun0_A.sl.r_53 c i arg4 harg4 arg5 harg5 arg6 harg6 arg9 harg9 arg19 arg20 x3 x4 x5 x8) (kernelRun0_A.sl.v1339 c arg7 harg7 arg8 harg8 arg18 x6 x7) : FVec Ideal S128x384 .bf16) x = ATT (kernelRun0_A.sl.v661 i) x3 x4 x5 x6 x7 (View.canon (kernelRun0_A.sl.HS3_30 c arg9 harg9 x8)) y := by
  rw [A_row2]
  refine FIN_out (kernelRun0_A.sl.v661 i) x3 x4 x5 x6 x7 (View.canon (kernelRun0_A.sl.HS3_30 c arg9 harg9 x8)) 2 (by decide) _ _ _ _ _ _ _ _ _ _ _ _ ?_ ?_ ?_ ?_ ?_ ?_ ?_ ?_ ?_ ?_ ?_ ?_ x y e0 e1
  · exact (fun ρ cc => (SU20_apply _ 0 _ _ _ _ ρ cc).trans (congrArg (fun b => SCORE _ _ _ _ b 2 0 ρ cc) (A_tbl c arg9 harg9 arg20 x8 0 (by decide))))
  · exact (fun ρ cc => (SU21_apply _ 0 _ _ _ _ ρ cc).trans (congrArg (fun b => SCORE _ _ _ _ b 2 1 ρ cc) (A_tbl c arg9 harg9 arg20 x8 1 (by decide))))
  · exact (fun ρ cc => (SU20_apply _ 1 _ _ _ _ ρ cc).trans (congrArg (fun b => SCORE _ _ _ _ b 2 2 ρ cc) (A_tbl c arg9 harg9 arg20 x8 2 (by decide))))
  · exact (fun ρ cc => (SU21_apply _ 1 _ _ _ _ ρ cc).trans (congrArg (fun b => SCORE _ _ _ _ b 2 3 ρ cc) (A_tbl c arg9 harg9 arg20 x8 3 (by decide))))
  · exact (fun ρ cc => (SU20_apply _ 2 _ _ _ _ ρ cc).trans (congrArg (fun b => SCORE _ _ _ _ b 2 4 ρ cc) (A_tbl c arg9 harg9 arg20 x8 4 (by decide))))
  · exact (fun ρ cc => (SU21_apply _ 2 _ _ _ _ ρ cc).trans (congrArg (fun b => SCORE _ _ _ _ b 2 5 ρ cc) (A_tbl c arg9 harg9 arg20 x8 5 (by decide))))
  · exact (fun d ρ => A_vt c arg7 harg7 arg8 harg8 arg18 x6 x7 0 256 (by decide) d ρ)
  · exact (fun d ρ => A_vt c arg7 harg7 arg8 harg8 arg18 x6 x7 64 256 (by decide) d ρ)
  · exact (fun d ρ => A_vt c arg7 harg7 arg8 harg8 arg18 x6 x7 128 256 (by decide) d ρ)
  · exact (fun d ρ => A_vt c arg7 harg7 arg8 harg8 arg18 x6 x7 192 256 (by decide) d ρ)
  · exact (fun d ρ => A_vt c arg7 harg7 arg8 harg8 arg18 x6 x7 256 256 (by decide) d ρ)
  · exact (fun d ρ => A_vt c arg7 harg7 arg8 harg8 arg18 x6 x7 320 256 (by decide) d ρ)

theorem A_piece3 (x : S128x384.Idx) (y : S512x384.Idx) (e0 : (y 0).val = 384 + (x 0).val) (e1 : (y 1).val = (x 1).val) :
    (k0_pay210 (kernelRun0_A.sl.v1518 c i arg4 harg4 arg5 harg5 arg6 harg6 arg7 harg7 arg8 harg8 arg9 harg9 arg18 arg19 arg20 x3 x4 x5 x6 x7 x8) : FVec Ideal S128x384 .bf16) x = ATT (kernelRun0_A.sl.v661 i) x3 x4 x5 x6 x7 (View.canon (kernelRun0_A.sl.HS3_30 c arg9 harg9 x8)) y := by
  rw [A_row3]
  refine FIN_out (kernelRun0_A.sl.v661 i) x3 x4 x5 x6 x7 (View.canon (kernelRun0_A.sl.HS3_30 c arg9 harg9 x8)) 3 (by decide) _ _ _ _ _ _ _ _ _ _ _ _ ?_ ?_ ?_ ?_ ?_ ?_ ?_ ?_ ?_ ?_ ?_ ?_ x y e0 e1
  · exact (fun ρ cc => (SU30_apply _ 0 _ _ _ _ ρ cc).trans (congrArg (fun b => SCORE _ _ _ _ b 3 0 ρ cc) (A_tbl c arg9 harg9 arg20 x8 0 (by decide))))
  · exact (fun ρ cc => (SU31_apply _ 0 _ _ _ _ ρ cc).trans (congrArg (fun b => SCORE _ _ _ _ b 3 1 ρ cc) (A_tbl c arg9 harg9 arg20 x8 1 (by decide))))
  · exact (fun ρ cc => (SU30_apply _ 1 _ _ _ _ ρ cc).trans (congrArg (fun b => SCORE _ _ _ _ b 3 2 ρ cc) (A_tbl c arg9 harg9 arg20 x8 2 (by decide))))
  · exact (fun ρ cc => (SU31_apply _ 1 _ _ _ _ ρ cc).trans (congrArg (fun b => SCORE _ _ _ _ b 3 3 ρ cc) (A_tbl c arg9 harg9 arg20 x8 3 (by decide))))
  · exact (fun ρ cc => (SU30_apply _ 2 _ _ _ _ ρ cc).trans (congrArg (fun b => SCORE _ _ _ _ b 3 4 ρ cc) (A_tbl c arg9 harg9 arg20 x8 4 (by decide))))
  · exact (fun ρ cc => (SU31_apply _ 2 _ _ _ _ ρ cc).trans (congrArg (fun b => SCORE _ _ _ _ b 3 5 ρ cc) (A_tbl c arg9 harg9 arg20 x8 5 (by decide))))
  · exact (fun d ρ => A_vt c arg7 harg7 arg8 harg8 arg18 x6 x7 0 384 (by decide) d ρ)
  · exact (fun d ρ => A_vt c arg7 harg7 arg8 harg8 arg18 x6 x7 64 384 (by decide) d ρ)
  · exact (fun d ρ => A_vt c arg7 harg7 arg8 harg8 arg18 x6 x7 128 384 (by decide) d ρ)
  · exact (fun d ρ => A_vt c arg7 harg7 arg8 harg8 arg18 x6 x7 192 384 (by decide) d ρ)
  · exact (fun d ρ => A_vt c arg7 harg7 arg8 harg8 arg18 x6 x7 256 384 (by decide) d ρ)
  · exact (fun d ρ => A_vt c arg7 harg7 arg8 harg8 arg18 x6 x7 320 384 (by decide) d ρ)

theorem A_att : sout0_A_0 c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 fh0 fh1 fh2 = ATT (kernelRun0_A.sl.v661 i) x3 x4 x5 x6 x7 (View.canon (kernelRun0_A.sl.HS3_30 c arg9 harg9 x8)) := by
  unfold sout0_A_0
  rw [View.read_writes_eq_canon _ _ _ (scover0_A_0 c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 fh0 fh1 fh2)]
  unfold kernelRun0_A
  dsimp only
  funext y
  canon_tiles x h
  · exact A_piece3 c i arg4 harg4 arg5 harg5 arg6 harg6 arg7 harg7 arg8 harg8 arg9 harg9 arg18 arg19 arg20 x3 x4 x5 x6 x7 x8 x y (by omega) h1
  · exact A_piece2 c i arg4 harg4 arg5 harg5 arg6 harg6 arg7 harg7 arg8 harg8 arg9 harg9 arg18 arg19 arg20 x3 x4 x5 x6 x7 x8 x y (by omega) h1
  · exact A_piece1 c i arg4 harg4 arg5 harg5 arg6 harg6 arg7 harg7 arg8 harg8 arg9 harg9 arg18 arg19 arg20 x3 x4 x5 x6 x7 x8 x y (by omega) h1
  · exact A_piece0 c i arg4 harg4 arg5 harg5 arg6 harg6 arg7 harg7 arg8 harg8 arg9 harg9 arg18 arg19 arg20 x3 x4 x5 x6 x7 x8 x y (by omega) h1

end Cert.Att

end
-- ==== Proof.SoutA.lean ====
/- What the first point leaves in the carried buffers: the bias table and the layer's weights. -/
module

public import proofs.«01_k».proof.Proof.BiasA
public import proofs.«01_k».proof.Proof.AttA
public import Idealize.ShloMosaic.Lib.ValueLayout

@[expose] public section

set_option maxRecDepth 16384

noncomputable section

namespace Cert.Att

open Idealize.ShloMosaic Idealize.ShloMosaic.TcCoe Idealize.SL.Sem
open Cert.KernelIdeal Cert.KernelIdeal.Gen

variable  (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x384 .bf16) (harg5 : arg5.IsWhole) (arg6 : Memref sig .tc .vmem S512x384 .bf16) (harg6 : arg6.IsWhole) (arg7 : Memref sig .tc .vmem S512x384 .bf16) (harg7 : arg7.IsWhole) (arg8 : Memref sig .tc .vmem S512x384 .bf16) (harg8 : arg8.IsWhole) (arg9 : Memref sig .tc .vmem S6x768 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x384 .bf16) (harg17 : arg17.IsWhole) (arg18 : Memref sig .tc .vmem S384x1024 .bf16) (harg18 : arg18.IsWhole) (arg19 : Memref sig .tc .vmem S2x640x256 .f32) (harg19 : arg19.IsWhole) (arg20 : Memref sig .tc .vmem S6x640x128 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S2x512x1024 .bf16) (harg23 : arg23.IsWhole) (arg24 : Memref sig .tc .vmem S512x1024 .f32) (harg24 : arg24.IsWhole) (arg25 : Memref sig .tc .vmem S512x1024 .f32) (harg25 : arg25.IsWhole) (arg26 : Memref sig .tc .vmem S512x1024 .f32) (harg26 : arg26.IsWhole) (arg27 : Memref sig .tc .vmem S1024x1024 .bf16) (harg27 : arg27.IsWhole) (arg28 : Memref sig .tc .vmem S1024x4096 .bf16) (harg28 : arg28.IsWhole) (arg29 : Memref sig .tc .vmem S4096x1024 .bf16) (harg29 : arg29.IsWhole) (hc0 : cond0_0 i) (hc1 : ¬cond0_1 i) (hc2 : ¬cond0_2 i)
    (x0 : Vec Ideal S512x1024 .f32) (x1 : Vec Ideal S512x256 .bf16) (x2 : Vec Ideal S512x384 .bf16) (x3 : Vec Ideal S512x384 .bf16) (x4 : Vec Ideal S512x384 .bf16) (x5 : Vec Ideal S512x384 .bf16) (x6 : Vec Ideal S512x384 .bf16) (x7 : Vec Ideal S512x384 .bf16) (x8 : Vec Ideal S6x768 .f32) (x9 : Vec Ideal S1x1024 .f32) (x10 : Vec Ideal S1x1024 .f32) (x11 : Vec Ideal S1x1024 .f32) (fh0 : HbBuf0 (F := Ideal) c hbM0_0) (fh1 : HbBuf0 (F := Ideal) c hbM0_1) (fh2 : HbBuf0 (F := Ideal) c hbM0_2)

theorem A_bias : sout0_A_3 c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 fh0 fh1 fh2 = TAB x8 := by
  unfold sout0_A_3
  rw [View.read_writes_eq_canon _ _ _ (scover0_A_3 c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 fh0 fh1 fh2)]
  unfold kernelRun0_A
  dsimp only
  exact A_table c arg9 harg9 x8

theorem A_w0 (y : S1024x1024.Idx) : sout0_A_10 c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 fh0 fh1 fh2 y = fh0 (ix3 0 (y 0) (y 1) : S2x1024x1024.Idx) := by
  unfold sout0_A_10
  rw [View.read_writes_eq_canon _ _ _ (scover0_A_10 c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 fh0 fh1 fh2)]
  unfold kernelRun0_A
  dsimp only
  revert y
  refine fun y => congrFun (g := fun y : S1024x1024.Idx => fh0 (ix3 0 (y 0) (y 1) : S2x1024x1024.Idx)) ?_ y
  funext y
  canon_tiles x h
  have e : x = y := by
    funext a; fin_cases a
    · exact Fin.ext (show (x 0).val = (y 0).val by omega)
    · exact Fin.ext (show (x 1).val = (y 1).val by omega)
  subst e
  obtain ⟨r, l, rfl⟩ : ∃ (r : Fin 1024) (l : Fin 1024), x = ix2 r l := ⟨x 0, x 1, by funext a; fin_cases a <;> rfl⟩
  refine (congrArg (fun z => fh0 ((Rect.unit (s := S2x1024x1024) ![0, 0, 0] S1x1024x1024.size (by decide)).emb z)) (ValueIdx.reshapeEquiv_ix2_1ab (a := 1024) (b := 1024) _ r l)).trans ?_
  congr 1
  funext a
  fin_cases a
  · rfl
  · exact Fin.ext (show 0 + 1 * r.val = r.val by omega)
  · exact Fin.ext (show 0 + 1 * l.val = l.val by omega)

theorem A_w1 (y : S1024x4096.Idx) : sout0_A_11 c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 fh0 fh1 fh2 y = fh1 (ix3 0 (y 0) (y 1) : S2x1024x4096.Idx) := by
  unfold sout0_A_11
  rw [View.read_writes_eq_canon _ _ _ (scover0_A_11 c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 fh0 fh1 fh2)]
  unfold kernelRun0_A
  dsimp only
  revert y
  refine fun y => congrFun (g := fun y : S1024x4096.Idx => fh1 (ix3 0 (y 0) (y 1) : S2x1024x4096.Idx)) ?_ y
  funext y
  canon_tiles x h
  have e : x = y := by
    funext a; fin_cases a
    · exact Fin.ext (show (x 0).val = (y 0).val by omega)
    · exact Fin.ext (show (x 1).val = (y 1).val by omega)
  subst e
  obtain ⟨r, l, rfl⟩ : ∃ (r : Fin 1024) (l : Fin 4096), x = ix2 r l := ⟨x 0, x 1, by funext a; fin_cases a <;> rfl⟩
  refine (congrArg (fun z => fh1 ((Rect.unit (s := S2x1024x4096) ![0, 0, 0] S1x1024x4096.size (by decide)).emb z)) (ValueIdx.reshapeEquiv_ix2_1ab (a := 1024) (b := 4096) _ r l)).trans ?_
  congr 1
  funext a
  fin_cases a
  · rfl
  · exact Fin.ext (show 0 + 1 * r.val = r.val by omega)
  · exact Fin.ext (show 0 + 1 * l.val = l.val by omega)

theorem A_w2 (y : S4096x1024.Idx) : sout0_A_12 c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 fh0 fh1 fh2 y = fh2 (ix3 0 (y 0) (y 1) : S2x4096x1024.Idx) := by
  unfold sout0_A_12
  rw [View.read_writes_eq_canon _ _ _ (scover0_A_12 c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 fh0 fh1 fh2)]
  unfold kernelRun0_A
  dsimp only
  revert y
  refine fun y => congrFun (g := fun y : S4096x1024.Idx => fh2 (ix3 0 (y 0) (y 1) : S2x4096x1024.Idx)) ?_ y
  funext y
  canon_tiles x h
  have e : x = y := by
    funext a; fin_cases a
    · exact Fin.ext (show (x 0).val = (y 0).val by omega)
    · exact Fin.ext (show (x 1).val = (y 1).val by omega)
  subst e
  obtain ⟨r, l, rfl⟩ : ∃ (r : Fin 4096) (l : Fin 1024), x = ix2 r l := ⟨x 0, x 1, by funext a; fin_cases a <;> rfl⟩
  refine (congrArg (fun z => fh2 ((Rect.unit (s := S2x4096x1024) ![0, 0, 0] S1x4096x1024.size (by decide)).emb z)) (ValueIdx.reshapeEquiv_ix2_1ab (a := 4096) (b := 1024) _ r l)).trans ?_
  congr 1
  funext a
  fin_cases a
  · rfl
  · exact Fin.ext (show 0 + 1 * r.val = r.val by omega)
  · exact Fin.ext (show 0 + 1 * l.val = l.val by omega)

end Cert.Att

end

end
-- ==== Proof.AttB.lean ====
/- The attention computed at the middle points: what each load of the score buffer reads, and what the tile holds at the end. -/
module

public import proofs.«01_k».proof.Proof.AttBase
public import proofs.«01_k».proof.Proof.Ideal.FrameA

@[expose] public section

set_option maxRecDepth 16384

noncomputable section

namespace Cert.Att

open Idealize.ShloMosaic Idealize.ShloMosaic.TcCoe Idealize.SL.Sem
open Cert.KernelIdeal Cert.KernelIdeal.Gen

variable  (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x384 .bf16) (harg5 : arg5.IsWhole) (arg6 : Memref sig .tc .vmem S512x384 .bf16) (harg6 : arg6.IsWhole) (arg7 : Memref sig .tc .vmem S512x384 .bf16) (harg7 : arg7.IsWhole) (arg8 : Memref sig .tc .vmem S512x384 .bf16) (harg8 : arg8.IsWhole) (arg9 : Memref sig .tc .vmem S6x768 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x384 .bf16) (harg17 : arg17.IsWhole) (arg18 : Memref sig .tc .vmem S384x1024 .bf16) (harg18 : arg18.IsWhole) (arg19 : Memref sig .tc .vmem S2x640x256 .f32) (harg19 : arg19.IsWhole) (arg20 : Memref sig .tc .vmem S6x640x128 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S2x512x1024 .bf16) (harg23 : arg23.IsWhole) (arg24 : Memref sig .tc .vmem S512x1024 .f32) (harg24 : arg24.IsWhole) (arg25 : Memref sig .tc .vmem S512x1024 .f32) (harg25 : arg25.IsWhole) (arg26 : Memref sig .tc .vmem S512x1024 .f32) (harg26 : arg26.IsWhole) (arg27 : Memref sig .tc .vmem S1024x1024 .bf16) (harg27 : arg27.IsWhole) (arg28 : Memref sig .tc .vmem S1024x4096 .bf16) (harg28 : arg28.IsWhole) (arg29 : Memref sig .tc .vmem S4096x1024 .bf16) (harg29 : arg29.IsWhole) (hc0 : ¬cond0_0 i) (hc1 : cond0_1 i) (hc2 : ¬cond0_2 i)
    (x0 : Vec Ideal S512x1024 .f32) (x1 : Vec Ideal S512x256 .bf16) (x2 : Vec Ideal S512x384 .bf16) (x3 : Vec Ideal S512x384 .bf16) (x4 : Vec Ideal S512x384 .bf16) (x5 : Vec Ideal S512x384 .bf16) (x6 : Vec Ideal S512x384 .bf16) (x7 : Vec Ideal S512x384 .bf16) (x8 : Vec Ideal S6x768 .f32) (x9 : Vec Ideal S1x1024 .f32) (x10 : Vec Ideal S1x1024 .f32) (x11 : Vec Ideal S1x1024 .f32) (xs0 : Vec Ideal S512x384 .bf16) (xs3 : Vec Ideal S6x640x128 .f32) (xs10 : Vec Ideal S1024x1024 .bf16) (xs11 : Vec Ideal S1024x4096 .bf16) (xs12 : Vec Ideal S4096x1024 .bf16) (fh0 : HbBuf0 (F := Ideal) c hbM0_0) (fh1 : HbBuf0 (F := Ideal) c hbM0_1) (fh2 : HbBuf0 (F := Ideal) c hbM0_2)

theorem B_v219 : (kernelRun0_B.sl.v219 c i arg4 harg4 arg5 harg5 arg6 harg6 arg19 arg20 harg20 x3 x4 x5 xs3 : FVec Ideal S1x640x128 .f32) = ST (SU00 (kernelRun0_B.sl.v21 i) 0 x3 x4 x5 (B3 0 xs3)) := by
  refine (View.readCov_skip _ _ _ _ _ rfl).trans ((View.readCov_skip _ _ _ _ _ rfl).trans ((View.readCov_skip _ _ _ _ _ rfl).trans ((readCov_hit _ _ _ _).trans ?_)))
  unfold SU00
  rw [← rd2 arg4 harg4 x3 128 128 0 0 (by decide), ← rd2 arg5 harg5 x4 512 128 0 0 (by decide), ← rd2 arg6 harg6 x5 128 128 0 0 (by decide), ← rd3 arg20 harg20 xs3 0 (by decide)]
  rfl

theorem B_v233 : (kernelRun0_B.sl.v233 c i arg4 harg4 arg5 harg5 arg6 harg6 arg19 arg20 harg20 x3 x4 x5 xs3 : FVec Ideal S1x640x128 .f32) = ST (SU01 (kernelRun0_B.sl.v21 i) 0 x3 x4 x5 (B3 1 xs3)) := by
  refine (View.readCov_skip _ _ _ _ _ rfl).trans ((View.readCov_skip _ _ _ _ _ rfl).trans ((readCov_hit _ _ _ _).trans ?_))
  unfold SU01
  rw [← rd2 arg4 harg4 x3 128 128 0 0 (by decide), ← rd2 arg5 harg5 x4 512 128 0 0 (by decide), ← rd2 arg6 harg6 x5 128 128 0 0 (by decide), ← rd3 arg20 harg20 xs3 1 (by decide)]
  rfl

theorem B_v307 : (kernelRun0_B.sl.v307 c i arg4 harg4 arg5 harg5 arg6 harg6 arg19 arg20 harg20 x3 x4 x5 xs3 : FVec Ideal S1x640x128 .f32) = ST (SU00 (kernelRun0_B.sl.v21 i) 128 x3 x4 x5 (B3 2 xs3)) := by
  refine (View.readCov_skip _ _ _ _ _ rfl).trans ((View.readCov_skip _ _ _ _ _ rfl).trans ((View.readCov_skip _ _ _ _ _ rfl).trans ((readCov_hit _ _ _ _).trans ?_)))
  unfold SU00
  rw [← rd2 arg4 harg4 x3 128 128 0 128 (by decide), ← rd2 arg5 harg5 x4 512 128 0 128 (by decide), ← rd2 arg6 harg6 x5 128 128 0 128 (by decide), ← rd3 arg20 harg20 xs3 2 (by decide)]
  rfl

theorem B_v321 : (kernelRun0_B.sl.v321 c i arg4 harg4 arg5 harg5 arg6 harg6 arg19 arg20 harg20 x3 x4 x5 xs3 : FVec Ideal S1x640x128 .f32) = ST (SU01 (kernelRun0_B.sl.v21 i) 128 x3 x4 x5 (B3 3 xs3)) := by
  refine (View.readCov_skip _ _ _ _ _ rfl).trans ((View.readCov_skip _ _ _ _ _ rfl).trans ((readCov_hit _ _ _ _).trans ?_))
  unfold SU01
  rw [← rd2 arg4 harg4 x3 128 128 0 128 (by decide), ← rd2 arg5 harg5 x4 512 128 0 128 (by decide), ← rd2 arg6 harg6 x5 128 128 0 128 (by decide), ← rd3 arg20 harg20 xs3 3 (by decide)]
  rfl

theorem B_v396 : (kernelRun0_B.sl.v396 c i arg4 harg4 arg5 harg5 arg6 harg6 arg19 arg20 harg20 x3 x4 x5 xs3 : FVec Ideal S1x640x128 .f32) = ST (SU00 (kernelRun0_B.sl.v21 i) 256 x3 x4 x5 (B3 4 xs3)) := by
  refine (View.readCov_skip _ _ _ _ _ rfl).trans ((View.readCov_skip _ _ _ _ _ rfl).trans ((View.readCov_skip _ _ _ _ _ rfl).trans ((readCov_hit _ _ _ _).trans ?_)))
  unfold SU00
  rw [← rd2 arg4 harg4 x3 128 128 0 256 (by decide), ← rd2 arg5 harg5 x4 512 128 0 256 (by decide), ← rd2 arg6 harg6 x5 128 128 0 256 (by decide), ← rd3 arg20 harg20 xs3 4 (by decide)]
  rfl

theorem B_v410 : (kernelRun0_B.sl.v410 c i arg4 harg4 arg5 harg5 arg6 harg6 arg19 arg20 harg20 x3 x4 x5 xs3 : FVec Ideal S1x640x128 .f32) = ST (SU01 (kernelRun0_B.sl.v21 i) 256 x3 x4 x5 (B3 5 xs3)) := by
  refine (View.readCov_skip _ _ _ _ _ rfl).trans ((View.readCov_skip _ _ _ _ _ rfl).trans ((readCov_hit _ _ _ _).trans ?_))
  unfold SU01
  rw [← rd2 arg4 harg4 x3 128 128 0 256 (by decide), ← rd2 arg5 harg5 x4 512 128 0 256 (by decide), ← rd2 arg6 harg6 x5 128 128 0 256 (by decide), ← rd3 arg20 harg20 xs3 5 (by decide)]
  rfl

theorem B_v487 : (kernelRun0_B.sl.v487 c i arg4 harg4 arg5 harg5 arg6 harg6 arg19 arg20 harg20 x3 x4 x5 xs3 : FVec Ideal S1x640x128 .f32) = ST (SU10 (kernelRun0_B.sl.v21 i) 0 x3 x4 x5 (B3 0 xs3)) := by
  refine (View.readCov_skip _ _ _ _ _ rfl).trans ((View.readCov_skip _ _ _ _ _ rfl).trans ((View.readCov_skip _ _ _ _ _ rfl).trans ((readCov_hit _ _ _ _).trans ?_)))
  unfold SU10
  rw [← rd2 arg4 harg4 x3 128 128 128 0 (by decide), ← rd2 arg5 harg5 x4 384 128 128 0 (by decide), ← rd2 arg6 harg6 x5 256 128 0 0 (by decide), ← rd3 arg20 harg20 xs3 0 (by decide)]
  rfl

theorem B_v501 : (kernelRun0_B.sl.v501 c i arg4 harg4 arg5 harg5 arg6 harg6 arg19 arg20 harg20 x3 x4 x5 xs3 : FVec Ideal S1x640x128 .f32) = ST (SU11 (kernelRun0_B.sl.v21 i) 0 x3 x4 x5 (B3 1 xs3)) := by
  refine (View.readCov_skip _ _ _ _ _ rfl).trans ((View.readCov_skip _ _ _ _ _ rfl).trans ((readCov_hit _ _ _ _).trans ?_))
  unfold SU11
  rw [← rd2 arg4 harg4 x3 128 128 128 0 (by decide), ← rd2 arg5 harg5 x4 384 128 128 0 (by decide), ← rd2 arg6 harg6 x5 256 128 0 0 (by decide), ← rd3 arg20 harg20 xs3 1 (by decide)]
  rfl

theorem B_v585 : (kernelRun0_B.sl.v585 c i arg4 harg4 arg5 harg5 arg6 harg6 arg19 arg20 harg20 x3 x4 x5 xs3 : FVec Ideal S1x640x128 .f32) = ST (SU10 (kernelRun0_B.sl.v21 i) 128 x3 x4 x5 (B3 2 xs3)) := by
  refine (View.readCov_skip _ _ _ _ _ rfl).trans ((View.readCov_skip _ _ _ _ _ rfl).trans ((View.readCov_skip _ _ _ _ _ rfl).trans ((readCov_hit _ _ _ _).trans ?_)))
  unfold SU10
  rw [← rd2 arg4 harg4 x3 128 128 128 128 (by decide), ← rd2 arg5 harg5 x4 384 128 128 128 (by decide), ← rd2 arg6 harg6 x5 256 128 0 128 (by decide), ← rd3 arg20 harg20 xs3 2 (by decide)]
  rfl

theorem B_v599 : (kernelRun0_B.sl.v599 c i arg4 harg4 arg5 harg5 arg6 harg6 arg19 arg20 harg20 x3 x4 x5 xs3 : FVec Ideal S1x640x128 .f32) = ST (SU11 (kernelRun0_B.sl.v21 i) 128 x3 x4 x5 (B3 3 xs3)) := by
  refine (View.readCov_skip _ _ _ _ _ rfl).trans ((View.readCov_skip _ _ _ _ _ rfl).trans ((readCov_hit _ _ _ _).trans ?_))
  unfold SU11
  rw [← rd2 arg4 harg4 x3 128 128 128 128 (by decide), ← rd2 arg5 harg5 x4 384 128 128 128 (by decide), ← rd2 arg6 harg6 x5 256 128 0 128 (by decide), ← rd3 arg20 harg20 xs3 3 (by decide)]
  rfl

theorem B_v680 : (kernelRun0_B.sl.v680 c i arg4 harg4 arg5 harg5 arg6 harg6 arg19 arg20 harg20 x3 x4 x5 xs3 : FVec Ideal S1x640x128 .f32) = ST (SU10 (kernelRun0_B.sl.v21 i) 256 x3 x4 x5 (B3 4 xs3)) := by
  refine (View.readCov_skip _ _ _ _ _ rfl).trans ((View.readCov_skip _ _ _ _ _ rfl).trans ((View.readCov_skip _ _ _ _ _ rfl).trans ((readCov_hit _ _ _ _).trans ?_)))
  unfold SU10
  rw [← rd2 arg4 harg4 x3 128 128 128 256 (by decide), ← rd2 arg5 harg5 x4 384 128 128 256 (by decide), ← rd2 arg6 harg6 x5 256 128 0 256 (by decide), ← rd3 arg20 harg20 xs3 4 (by decide)]
  rfl

theorem B_v694 : (kernelRun0_B.sl.v694 c i arg4 harg4 arg5 harg5 arg6 harg6 arg19 arg20 harg20 x3 x4 x5 xs3 : FVec Ideal S1x640x128 .f32) = ST (SU11 (kernelRun0_B.sl.v21 i) 256 x3 x4 x5 (B3 5 xs3)) := by
  refine (View.readCov_skip _ _ _ _ _ rfl).trans ((View.readCov_skip _ _ _ _ _ rfl).trans ((readCov_hit _ _ _ _).trans ?_))
  unfold SU11
  rw [← rd2 arg4 harg4 x3 128 128 128 256 (by decide), ← rd2 arg5 harg5 x4 384 128 128 256 (by decide), ← rd2 arg6 harg6 x5 256 128 0 256 (by decide), ← rd3 arg20 harg20 xs3 5 (by decide)]
  rfl

theorem B_v773 : (kernelRun0_B.sl.v773 c i arg4 harg4 arg5 harg5 arg6 harg6 arg19 arg20 harg20 x3 x4 x5 xs3 : FVec Ideal S1x640x128 .f32) = ST (SU20 (kernelRun0_B.sl.v21 i) 0 x3 x4 x5 (B3 0 xs3)) := by
  refine (View.readCov_skip _ _ _ _ _ rfl).trans ((View.readCov_skip _ _ _ _ _ rfl).trans ((View.readCov_skip _ _ _ _ _ rfl).trans ((readCov_hit _ _ _ _).trans ?_)))
  unfold SU20
  rw [← rd2 arg4 harg4 x3 128 128 256 0 (by decide), ← rd2 arg5 harg5 x4 256 128 256 0 (by decide), ← rd2 arg6 harg6 x5 384 128 0 0 (by decide), ← rd3 arg20 harg20 xs3 0 (by decide)]
  rfl

theorem B_v787 : (kernelRun0_B.sl.v787 c i arg4 harg4 arg5 harg5 arg6 harg6 arg19 arg20 harg20 x3 x4 x5 xs3 : FVec Ideal S1x640x128 .f32) = ST (SU21 (kernelRun0_B.sl.v21 i) 0 x3 x4 x5 (B3 1 xs3)) := by
  refine (View.readCov_skip _ _ _ _ _ rfl).trans ((View.readCov_skip _ _ _ _ _ rfl).trans ((readCov_hit _ _ _ _).trans ?_))
  unfold SU21
  rw [← rd2 arg4 harg4 x3 128 128 256 0 (by decide), ← rd2 arg5 harg5 x4 256 128 256 0 (by decide), ← rd2 arg6 harg6 x5 384 128 0 0 (by decide), ← rd3 arg20 harg20 xs3 1 (by decide)]
  rfl

theorem B_v871 : (kernelRun0_B.sl.v871 c i arg4 harg4 arg5 harg5 arg6 harg6 arg19 arg20 harg20 x3 x4 x5 xs3 : FVec Ideal S1x640x128 .f32) = ST (SU20 (kernelRun0_B.sl.v21 i) 128 x3 x4 x5 (B3 2 xs3)) := by
  refine (View.readCov_skip _ _ _ _ _ rfl).trans ((View.readCov_skip _ _ _ _ _ rfl).trans ((View.readCov_skip _ _ _ _ _ rfl).trans ((readCov_hit _ _ _ _).trans ?_)))
  unfold SU20
  rw [← rd2 arg4 harg4 x3 128 128 256 128 (by decide), ← rd2 arg5 harg5 x4 256 128 256 128 (by decide), ← rd2 arg6 harg6 x5 384 128 0 128 (by decide), ← rd3 arg20 harg20 xs3 2 (by decide)]
  rfl

theorem B_v885 : (kernelRun0_B.sl.v885 c i arg4 harg4 arg5 harg5 arg6 harg6 arg19 arg20 harg20 x3 x4 x5 xs3 : FVec Ideal S1x640x128 .f32) = ST (SU21 (kernelRun0_B.sl.v21 i) 128 x3 x4 x5 (B3 3 xs3)) := by
  refine (View.readCov_skip _ _ _ _ _ rfl).trans ((View.readCov_skip _ _ _ _ _ rfl).trans ((readCov_hit _ _ _ _).trans ?_))
  unfold SU21
  rw [← rd2 arg4 harg4 x3 128 128 256 128 (by decide), ← rd2 arg5 harg5 x4 256 128 256 128 (by decide), ← rd2 arg6 harg6 x5 384 128 0 128 (by decide), ← rd3 arg20 harg20 xs3 3 (by decide)]
  rfl

theorem B_v957 : (kernelRun0_B.sl.v957 c i arg4 harg4 arg5 harg5 arg6 harg6 arg19 arg20 harg20 x3 x4 x5 xs3 : FVec Ideal S1x640x128 .f32) = ST (SU20 (kernelRun0_B.sl.v21 i) 256 x3 x4 x5 (B3 4 xs3)) := by
  refine (View.readCov_skip _ _ _ _ _ rfl).trans ((View.readCov_skip _ _ _ _ _ rfl).trans ((View.readCov_skip _ _ _ _ _ rfl).trans ((readCov_hit _ _ _ _).trans ?_)))
  unfold SU20
  rw [← rd2 arg4 harg4 x3 128 128 256 256 (by decide), ← rd2 arg5 harg5 x4 256 128 256 256 (by decide), ← rd2 arg6 harg6 x5 384 128 0 256 (by decide), ← rd3 arg20 harg20 xs3 4 (by decide)]
  rfl

theorem B_v971 : (kernelRun0_B.sl.v971 c i arg4 harg4 arg5 harg5 arg6 harg6 arg19 arg20 harg20 x3 x4 x5 xs3 : FVec Ideal S1x640x128 .f32) = ST (SU21 (kernelRun0_B.sl.v21 i) 256 x3 x4 x5 (B3 5 xs3)) := by
  refine (View.readCov_skip _ _ _ _ _ rfl).trans ((View.readCov_skip _ _ _ _ _ rfl).trans ((readCov_hit _ _ _ _).trans ?_))
  unfold SU21
  rw [← rd2 arg4 harg4 x3 128 128 256 256 (by decide), ← rd2 arg5 harg5 x4 256 128 256 256 (by decide), ← rd2 arg6 harg6 x5 384 128 0 256 (by decide), ← rd3 arg20 harg20 xs3 5 (by decide)]
  rfl

theorem B_v1059 : (kernelRun0_B.sl.v1059 c i arg4 harg4 arg5 harg5 arg6 harg6 arg19 arg20 harg20 x3 x4 x5 xs3 : FVec Ideal S1x640x128 .f32) = ST (SU30 (kernelRun0_B.sl.v21 i) 0 x3 x4 x5 (B3 0 xs3)) := by
  refine (View.readCov_skip _ _ _ _ _ rfl).trans ((View.readCov_skip _ _ _ _ _ rfl).trans ((View.readCov_skip _ _ _ _ _ rfl).trans ((readCov_hit _ _ _ _).trans ?_)))
  unfold SU30
  rw [← rd2 arg4 harg4 x3 128 128 384 0 (by decide), ← rd2 arg5 harg5 x4 128 128 384 0 (by decide), ← rd2 arg6 harg6 x5 512 128 0 0 (by decide), ← rd3 arg20 harg20 xs3 0 (by decide)]
  rfl

theorem B_v1073 : (kernelRun0_B.sl.v1073 c i arg4 harg4 arg5 harg5 arg6 harg6 arg19 arg20 harg20 x3 x4 x5 xs3 : FVec Ideal S1x640x128 .f32) = ST (SU31 (kernelRun0_B.sl.v21 i) 0 x3 x4 x5 (B3 1 xs3)) := by
  refine (View.readCov_skip _ _ _ _ _ rfl).trans ((View.readCov_skip _ _ _ _ _ rfl).trans ((readCov_hit _ _ _ _).trans ?_))
  unfold SU31
  rw [← rd2 arg4 harg4 x3 128 128 384 0 (by decide), ← rd2 arg5 harg5 x4 128 128 384 0 (by decide), ← rd2 arg6 harg6 x5 512 128 0 0 (by decide), ← rd3 arg20 harg20 xs3 1 (by decide)]
  rfl

theorem B_v1147 : (kernelRun0_B.sl.v1147 c i arg4 harg4 arg5 harg5 arg6 harg6 arg19 arg20 harg20 x3 x4 x5 xs3 : FVec Ideal S1x640x128 .f32) = ST (SU30 (kernelRun0_B.sl.v21 i) 128 x3 x4 x5 (B3 2 xs3)) := by
  refine (View.readCov_skip _ _ _ _ _ rfl).trans ((View.readCov_skip _ _ _ _ _ rfl).trans ((View.readCov_skip _ _ _ _ _ rfl).trans ((readCov_hit _ _ _ _).trans ?_)))
  unfold SU30
  rw [← rd2 arg4 harg4 x3 128 128 384 128 (by decide), ← rd2 arg5 harg5 x4 128 128 384 128 (by decide), ← rd2 arg6 harg6 x5 512 128 0 128 (by decide), ← rd3 arg20 harg20 xs3 2 (by decide)]
  rfl

theorem B_v1161 : (kernelRun0_B.sl.v1161 c i arg4 harg4 arg5 harg5 arg6 harg6 arg19 arg20 harg20 x3 x4 x5 xs3 : FVec Ideal S1x640x128 .f32) = ST (SU31 (kernelRun0_B.sl.v21 i) 128 x3 x4 x5 (B3 3 xs3)) := by
  refine (View.readCov_skip _ _ _ _ _ rfl).trans ((View.readCov_skip _ _ _ _ _ rfl).trans ((readCov_hit _ _ _ _).trans ?_))
  unfold SU31
  rw [← rd2 arg4 harg4 x3 128 128 384 128 (by decide), ← rd2 arg5 harg5 x4 128 128 384 128 (by decide), ← rd2 arg6 harg6 x5 512 128 0 128 (by decide), ← rd3 arg20 harg20 xs3 3 (by decide)]
  rfl

theorem B_v1203 : (kernelRun0_B.sl.v1203 c i arg4 harg4 arg5 harg5 arg6 harg6 arg19 arg20 harg20 x3 x4 x5 xs3 : FVec Ideal S1x640x128 .f32) = ST (SU30 (kernelRun0_B.sl.v21 i) 256 x3 x4 x5 (B3 4 xs3)) := by
  refine (View.readCov_skip _ _ _ _ _ rfl).trans ((readCov_hit _ _ _ _).trans ?_)
  unfold SU30
  rw [← rd2 arg4 harg4 x3 128 128 384 256 (by decide), ← rd2 arg5 harg5 x4 128 128 384 256 (by decide), ← rd2 arg6 harg6 x5 512 128 0 256 (by decide), ← rd3 arg20 harg20 xs3 4 (by decide)]
  rfl

theorem B_v1217 : (kernelRun0_B.sl.v1217 c i arg4 harg4 arg5 harg5 arg6 harg6 arg19 arg20 harg20 x3 x4 x5 xs3 : FVec Ideal S1x640x128 .f32) = ST (SU31 (kernelRun0_B.sl.v21 i) 256 x3 x4 x5 (B3 5 xs3)) := by
  refine (readCov_hit _ _ _ _).trans ?_
  unfold SU31
  rw [← rd2 arg4 harg4 x3 128 128 384 256 (by decide), ← rd2 arg5 harg5 x4 128 128 384 256 (by decide), ← rd2 arg6 harg6 x5 512 128 0 256 (by decide), ← rd3 arg20 harg20 xs3 5 (by decide)]
  rfl

theorem B_vt_canon (y : S384x1024.Idx) : View.canon (kernelRun0_B.sl.HS1_2 c arg7 harg7 arg8 harg8 x6 x7) y = kcat x6 x7 (y 1).val (y 0).val := by
  have e0 : ∀ (X : FVec Ideal S512x384 .bf16) (l : Fin 384) (σ : Fin 512), k0_pay217 (F := Ideal) (B2 512 384 0 0 X) (ix2 l σ) = at2 X σ.val l.val := by
    intro X l σ
    pointwise [k0_pay217]
    rw [B2_ix, Nat.zero_add, Nat.zero_add]
  have e : ∀ (X : FVec Ideal S512x384 .bf16) (z : S384x512.Idx), k0_pay217 (F := Ideal) (B2 512 384 0 0 X) z = at2 X (z 1).val (z 0).val := by
    intro X z
    have hz : z = ix2 (z 0) (z 1) := by funext a; fin_cases a <;> rfl
    exact (congrArg _ hz).trans (e0 X (z 0) (z 1))
  unfold kernelRun0_B.sl.HS1_2
  canon_tiles x h
  · refine Eq.trans (b := k0_pay217 (F := Ideal) (B2 512 384 0 0 x7) x) ?_ ?_
    · rw [← rd2 arg8 harg8 x7 512 384 0 0 (by decide)]
      try rfl
    · rw [e]; unfold kcat; rw [if_neg (by omega)]; congr 1 <;> omega
  · refine Eq.trans (b := k0_pay217 (F := Ideal) (B2 512 384 0 0 x6) x) ?_ ?_
    · rw [← rd2 arg7 harg7 x6 512 384 0 0 (by decide)]
      try rfl
    · rw [e]; unfold kcat; rw [if_pos (by omega)]; congr 1 <;> omega

theorem B_vt (a b : ℕ) (inb : ∀ k, (![a, b] : Fin 2 → ℕ) k + (![64, 640] : Fin 2 → ℕ) k ≤ S384x1024.size k) (d : Fin 64) (ρ : Fin 640) :
    (View.readCov (Val := Elt Ideal) arg18.view (kernelRun0_B.sl.HS1_2 c arg7 harg7 arg8 harg8 x6 x7) (Rect.unit (s := S384x1024) ![a, b] ![64, 640] inb).toLoadRect : (⟨2, ![64, 640]⟩ : Shape).Idx → EReal) (ix2 d ρ) = kcat x6 x7 (b + ρ.val) (a + d.val) := by
  rw [View.readCov_eq_canon']
  refine (B_vt_canon c arg7 harg7 arg8 harg8 x6 x7 _).trans ?_
  congr 1
  · exact Rect.idx_unit_val _ _ _ _ _
  · exact Rect.idx_unit_val _ _ _ _ _

theorem B_row0 : (k0_pay275 (kernelRun0_B.sl.r_11 c i arg4 harg4 arg5 harg5 arg6 harg6 arg7 harg7 arg8 harg8 arg18 arg19 arg20 harg20 x3 x4 x5 x6 x7 xs3) (kernelRun0_B.sl.r_12 c i arg4 harg4 arg5 harg5 arg6 harg6 arg7 harg7 arg8 harg8 arg18 arg19 arg20 harg20 x3 x4 x5 x6 x7 xs3) (kernelRun0_B.sl.r_18 c i arg4 harg4 arg5 harg5 arg6 harg6 arg7 harg7 arg8 harg8 arg18 arg19 arg20 harg20 x3 x4 x5 x6 x7 xs3) (kernelRun0_B.sl.r_19 c i arg4 harg4 arg5 harg5 arg6 harg6 arg7 harg7 arg8 harg8 arg18 arg19 arg20 harg20 x3 x4 x5 x6 x7 xs3) (kernelRun0_B.sl.r_24 c i arg4 harg4 arg5 harg5 arg6 harg6 arg7 harg7 arg8 harg8 arg18 arg19 arg20 harg20 x3 x4 x5 x6 x7 xs3) (kernelRun0_B.sl.r_25 c i arg4 harg4 arg5 harg5 arg6 harg6 arg19 arg20 harg20 x3 x4 x5 xs3) (kernelRun0_B.sl.r_26 c i arg4 harg4 arg5 harg5 arg6 harg6 arg19 arg20 harg20 x3 x4 x5 xs3) (kernelRun0_B.sl.v417 c arg7 harg7 arg8 harg8 arg18 x6 x7) : FVec Ideal S128x384 .bf16) = FIN (OT (SU00 (kernelRun0_B.sl.v21 i) 0 x3 x4 x5 (B3 0 xs3)) (kernelRun0_B.sl.v226 c arg7 harg7 arg8 harg8 arg18 x6 x7)) (OT (SU01 (kernelRun0_B.sl.v21 i) 0 x3 x4 x5 (B3 1 xs3)) (kernelRun0_B.sl.v240 c arg7 harg7 arg8 harg8 arg18 x6 x7)) (OT (SU00 (kernelRun0_B.sl.v21 i) 128 x3 x4 x5 (B3 2 xs3)) (kernelRun0_B.sl.v314 c arg7 harg7 arg8 harg8 arg18 x6 x7)) (OT (SU01 (kernelRun0_B.sl.v21 i) 128 x3 x4 x5 (B3 3 xs3)) (kernelRun0_B.sl.v328 c arg7 harg7 arg8 harg8 arg18 x6 x7)) (OT (SU00 (kernelRun0_B.sl.v21 i) 256 x3 x4 x5 (B3 4 xs3)) (kernelRun0_B.sl.v403 c arg7 harg7 arg8 harg8 arg18 x6 x7)) (OT (SU01 (kernelRun0_B.sl.v21 i) 256 x3 x4 x5 (B3 5 xs3)) (kernelRun0_B.sl.v417 c arg7 harg7 arg8 harg8 arg18 x6 x7)) := by
  unfold OT
  rw [← B_v219 c i arg4 harg4 arg5 harg5 arg6 harg6 arg19 arg20 harg20 x3 x4 x5 xs3, ← B_v233 c i arg4 harg4 arg5 harg5 arg6 harg6 arg19 arg20 harg20 x3 x4 x5 xs3, ← B_v307 c i arg4 harg4 arg5 harg5 arg6 harg6 arg19 arg20 harg20 x3 x4 x5 xs3, ← B_v321 c i arg4 harg4 arg5 harg5 arg6 harg6 arg19 arg20 harg20 x3 x4 x5 xs3, ← B_v396 c i arg4 harg4 arg5 harg5 arg6 harg6 arg19 arg20 harg20 x3 x4 x5 xs3, ← B_v410 c i arg4 harg4 arg5 harg5 arg6 harg6 arg19 arg20 harg20 x3 x4 x5 xs3]
  unfold SU00 SU01
  rw [← rd2 arg4 harg4 x3 128 128 0 0 (by decide), ← rd2 arg5 harg5 x4 512 128 0 0 (by decide), ← rd2 arg6 harg6 x5 128 128 0 0 (by decide), ← rd2 arg4 harg4 x3 128 128 0 128 (by decide), ← rd2 arg5 harg5 x4 512 128 0 128 (by decide), ← rd2 arg6 harg6 x5 128 128 0 128 (by decide), ← rd2 arg4 harg4 x3 128 128 0 256 (by decide), ← rd2 arg5 harg5 x4 512 128 0 256 (by decide), ← rd2 arg6 harg6 x5 128 128 0 256 (by decide), ← rd3 arg20 harg20 xs3 0 (by decide), ← rd3 arg20 harg20 xs3 1 (by decide), ← rd3 arg20 harg20 xs3 2 (by decide), ← rd3 arg20 harg20 xs3 3 (by decide), ← rd3 arg20 harg20 xs3 4 (by decide), ← rd3 arg20 harg20 xs3 5 (by decide)]
  rfl

theorem B_row1 : (k0_pay317 (kernelRun0_B.sl.r_31 c i arg4 harg4 arg5 harg5 arg6 harg6 arg7 harg7 arg8 harg8 arg18 arg19 arg20 harg20 x3 x4 x5 x6 x7 xs3) (kernelRun0_B.sl.r_32 c i arg4 harg4 arg5 harg5 arg6 harg6 arg7 harg7 arg8 harg8 arg18 arg19 arg20 harg20 x3 x4 x5 x6 x7 xs3) (kernelRun0_B.sl.r_37 c i arg4 harg4 arg5 harg5 arg6 harg6 arg20 harg20 x3 x4 x5 xs3) (kernelRun0_B.sl.r_38 c i arg4 harg4 arg5 harg5 arg6 harg6 arg7 harg7 arg8 harg8 arg18 arg19 arg20 harg20 x3 x4 x5 x6 x7 xs3) (kernelRun0_B.sl.r_39 c i arg4 harg4 arg5 harg5 arg6 harg6 arg7 harg7 arg8 harg8 arg18 arg19 arg20 harg20 x3 x4 x5 x6 x7 xs3) (kernelRun0_B.sl.r_44 c i arg4 harg4 arg5 harg5 arg6 harg6 arg19 arg20 harg20 x3 x4 x5 xs3) (kernelRun0_B.sl.r_45 c i arg4 harg4 arg5 harg5 arg6 harg6 arg19 arg20 harg20 x3 x4 x5 xs3) (kernelRun0_B.sl.v687 c arg7 harg7 arg8 harg8 arg18 x6 x7) (kernelRun0_B.sl.v694 c i arg4 harg4 arg5 harg5 arg6 harg6 arg19 arg20 harg20 x3 x4 x5 xs3) (kernelRun0_B.sl.v701 c arg7 harg7 arg8 harg8 arg18 x6 x7) : FVec Ideal S128x384 .bf16) = FIN (OT (SU10 (kernelRun0_B.sl.v21 i) 0 x3 x4 x5 (B3 0 xs3)) (kernelRun0_B.sl.v494 c arg7 harg7 arg8 harg8 arg18 x6 x7)) (OT (SU11 (kernelRun0_B.sl.v21 i) 0 x3 x4 x5 (B3 1 xs3)) (kernelRun0_B.sl.v508 c arg7 harg7 arg8 harg8 arg18 x6 x7)) (OT (SU10 (kernelRun0_B.sl.v21 i) 128 x3 x4 x5 (B3 2 xs3)) (kernelRun0_B.sl.v592 c arg7 harg7 arg8 harg8 arg18 x6 x7)) (OT (SU11 (kernelRun0_B.sl.v21 i) 128 x3 x4 x5 (B3 3 xs3)) (kernelRun0_B.sl.v606 c arg7 harg7 arg8 harg8 arg18 x6 x7)) (OT (SU10 (kernelRun0_B.sl.v21 i) 256 x3 x4 x5 (B3 4 xs3)) (kernelRun0_B.sl.v687 c arg7 harg7 arg8 harg8 arg18 x6 x7)) (OT (SU11 (kernelRun0_B.sl.v21 i) 256 x3 x4 x5 (B3 5 xs3)) (kernelRun0_B.sl.v701 c arg7 harg7 arg8 harg8 arg18 x6 x7)) := by
  unfold OT
  rw [← B_v487 c i arg4 harg4 arg5 harg5 arg6 harg6 arg19 arg20 harg20 x3 x4 x5 xs3, ← B_v501 c i arg4 harg4 arg5 harg5 arg6 harg6 arg19 arg20 harg20 x3 x4 x5 xs3, ← B_v585 c i arg4 harg4 arg5 harg5 arg6 harg6 arg19 arg20 harg20 x3 x4 x5 xs3, ← B_v599 c i arg4 harg4 arg5 harg5 arg6 harg6 arg19 arg20 harg20 x3 x4 x5 xs3, ← B_v680 c i arg4 harg4 arg5 harg5 arg6 harg6 arg19 arg20 harg20 x3 x4 x5 xs3, ← B_v694 c i arg4 harg4 arg5 harg5 arg6 harg6 arg19 arg20 harg20 x3 x4 x5 xs3]
  unfold SU10 SU11
  rw [← rd2 arg4 harg4 x3 128 128 128 0 (by decide), ← rd2 arg5 harg5 x4 384 128 128 0 (by decide), ← rd2 arg6 harg6 x5 256 128 0 0 (by decide), ← rd2 arg4 harg4 x3 128 128 128 128 (by decide), ← rd2 arg5 harg5 x4 384 128 128 128 (by decide), ← rd2 arg6 harg6 x5 256 128 0 128 (by decide), ← rd2 arg4 harg4 x3 128 128 128 256 (by decide), ← rd2 arg5 harg5 x4 384 128 128 256 (by decide), ← rd2 arg6 harg6 x5 256 128 0 256 (by decide), ← rd3 arg20 harg20 xs3 0 (by decide), ← rd3 arg20 harg20 xs3 1 (by decide), ← rd3 arg20 harg20 xs3 2 (by decide), ← rd3 arg20 harg20 xs3 3 (by decide), ← rd3 arg20 harg20 xs3 4 (by decide), ← rd3 arg20 harg20 xs3 5 (by decide)]
  rfl

theorem B_row2 : (k0_pay357 (kernelRun0_B.sl.r_51 c i arg4 harg4 arg5 harg5 arg6 harg6 arg7 harg7 arg8 harg8 arg18 arg19 arg20 harg20 x3 x4 x5 x6 x7 xs3) (kernelRun0_B.sl.r_53 c i arg4 harg4 arg5 harg5 arg6 harg6 arg7 harg7 arg8 harg8 arg18 arg19 arg20 harg20 x3 x4 x5 x6 x7 xs3) (kernelRun0_B.sl.r_56 c i arg4 harg4 arg5 harg5 arg6 harg6 arg20 harg20 x3 x4 x5 xs3) (kernelRun0_B.sl.r_57 c i arg4 harg4 arg5 harg5 arg6 harg6 arg20 harg20 x3 x4 x5 xs3) (kernelRun0_B.sl.r_58 c i arg4 harg4 arg5 harg5 arg6 harg6 arg7 harg7 arg8 harg8 arg18 arg19 arg20 harg20 x3 x4 x5 x6 x7 xs3) (kernelRun0_B.sl.r_61 c i arg4 harg4 arg5 harg5 arg6 harg6 arg7 harg7 arg8 harg8 arg18 arg19 arg20 harg20 x3 x4 x5 x6 x7 xs3) (kernelRun0_B.sl.v957 c i arg4 harg4 arg5 harg5 arg6 harg6 arg19 arg20 harg20 x3 x4 x5 xs3) (kernelRun0_B.sl.v964 c arg7 harg7 arg8 harg8 arg18 x6 x7) (kernelRun0_B.sl.v971 c i arg4 harg4 arg5 harg5 arg6 harg6 arg19 arg20 harg20 x3 x4 x5 xs3) (kernelRun0_B.sl.v978 c arg7 harg7 arg8 harg8 arg18 x6 x7) : FVec Ideal S128x384 .bf16) = FIN (OT (SU20 (kernelRun0_B.sl.v21 i) 0 x3 x4 x5 (B3 0 xs3)) (kernelRun0_B.sl.v780 c arg7 harg7 arg8 harg8 arg18 x6 x7)) (OT (SU21 (kernelRun0_B.sl.v21 i) 0 x3 x4 x5 (B3 1 xs3)) (kernelRun0_B.sl.v794 c arg7 harg7 arg8 harg8 arg18 x6 x7)) (OT (SU20 (kernelRun0_B.sl.v21 i) 128 x3 x4 x5 (B3 2 xs3)) (kernelRun0_B.sl.v878 c arg7 harg7 arg8 harg8 arg18 x6 x7)) (OT (SU21 (kernelRun0_B.sl.v21 i) 128 x3 x4 x5 (B3 3 xs3)) (kernelRun0_B.sl.v892 c arg7 harg7 arg8 harg8 arg18 x6 x7)) (OT (SU20 (kernelRun0_B.sl.v21 i) 256 x3 x4 x5 (B3 4 xs3)) (kernelRun0_B.sl.v964 c arg7 harg7 arg8 harg8 arg18 x6 x7)) (OT (SU21 (kernelRun0_B.sl.v21 i) 256 x3 x4 x5 (B3 5 xs3)) (kernelRun0_B.sl.v978 c arg7 harg7 arg8 harg8 arg18 x6 x7)) := by
  unfold OT
  rw [← B_v773 c i arg4 harg4 arg5 harg5 arg6 harg6 arg19 arg20 harg20 x3 x4 x5 xs3, ← B_v787 c i arg4 harg4 arg5 harg5 arg6 harg6 arg19 arg20 harg20 x3 x4 x5 xs3, ← B_v871 c i arg4 harg4 arg5 harg5 arg6 harg6 arg19 arg20 harg20 x3 x4 x5 xs3, ← B_v885 c i arg4 harg4 arg5 harg5 arg6 harg6 arg19 arg20 harg20 x3 x4 x5 xs3, ← B_v957 c i arg4 harg4 arg5 harg5 arg6 harg6 arg19 arg20 harg20 x3 x4 x5 xs3, ← B_v971 c i arg4 harg4 arg5 harg5 arg6 harg6 arg19 arg20 harg20 x3 x4 x5 xs3]
  unfold SU20 SU21
  rw [← rd2 arg4 harg4 x3 128 128 256 0 (by decide), ← rd2 arg5 harg5 x4 256 128 256 0 (by decide), ← rd2 arg6 harg6 x5 384 128 0 0 (by decide), ← rd2 arg4 harg4 x3 128 128 256 128 (by decide), ← rd2 arg5 harg5 x4 256 128 256 128 (by decide), ← rd2 arg6 harg6 x5 384 128 0 128 (by decide), ← rd2 arg4 harg4 x3 128 128 256 256 (by decide), ← rd2 arg5 harg5 x4 256 128 256 256 (by decide), ← rd2 arg6 harg6 x5 384 128 0 256 (by decide), ← rd3 arg20 harg20 xs3 0 (by decide), ← rd3 arg20 harg20 xs3 1 (by decide), ← rd3 arg20 harg20 xs3 2 (by decide), ← rd3 arg20 harg20 xs3 3 (by decide), ← rd3 arg20 harg20 xs3 4 (by decide), ← rd3 arg20 harg20 xs3 5 (by decide)]
  rfl

theorem B_row3 : (k0_pay392 (kernelRun0_B.sl.r_71 c i arg4 harg4 arg5 harg5 arg6 harg6 arg7 harg7 arg8 harg8 arg18 arg19 arg20 harg20 x3 x4 x5 x6 x7 xs3) (kernelRun0_B.sl.r_72 c i arg4 harg4 arg5 harg5 arg6 harg6 arg7 harg7 arg8 harg8 arg18 arg19 arg20 harg20 x3 x4 x5 x6 x7 xs3) (kernelRun0_B.sl.r_78 c i arg4 harg4 arg5 harg5 arg6 harg6 arg7 harg7 arg8 harg8 arg18 arg19 arg20 harg20 x3 x4 x5 x6 x7 xs3) (kernelRun0_B.sl.r_81 c i arg4 harg4 arg5 harg5 arg6 harg6 arg7 harg7 arg8 harg8 arg18 arg19 arg20 harg20 x3 x4 x5 x6 x7 xs3) (kernelRun0_B.sl.r_82 c i arg4 harg4 arg5 harg5 arg6 harg6 arg7 harg7 arg8 harg8 arg18 arg19 arg20 harg20 x3 x4 x5 x6 x7 xs3) (kernelRun0_B.sl.r_83 c i arg4 harg4 arg5 harg5 arg6 harg6 arg7 harg7 arg8 harg8 arg18 arg19 arg20 harg20 x3 x4 x5 x6 x7 xs3) : FVec Ideal S128x384 .bf16) = FIN (OT (SU30 (kernelRun0_B.sl.v21 i) 0 x3 x4 x5 (B3 0 xs3)) (kernelRun0_B.sl.v1066 c arg7 harg7 arg8 harg8 arg18 x6 x7)) (OT (SU31 (kernelRun0_B.sl.v21 i) 0 x3 x4 x5 (B3 1 xs3)) (kernelRun0_B.sl.v1080 c arg7 harg7 arg8 harg8 arg18 x6 x7)) (OT (SU30 (kernelRun0_B.sl.v21 i) 128 x3 x4 x5 (B3 2 xs3)) (kernelRun0_B.sl.v1154 c arg7 harg7 arg8 harg8 arg18 x6 x7)) (OT (SU31 (kernelRun0_B.sl.v21 i) 128 x3 x4 x5 (B3 3 xs3)) (kernelRun0_B.sl.v1168 c arg7 harg7 arg8 harg8 arg18 x6 x7)) (OT (SU30 (kernelRun0_B.sl.v21 i) 256 x3 x4 x5 (B3 4 xs3)) (kernelRun0_B.sl.v1210 c arg7 harg7 arg8 harg8 arg18 x6 x7)) (OT (SU31 (kernelRun0_B.sl.v21 i) 256 x3 x4 x5 (B3 5 xs3)) (kernelRun0_B.sl.v1224 c arg7 harg7 arg8 harg8 arg18 x6 x7)) := by
  unfold OT
  rw [← B_v1059 c i arg4 harg4 arg5 harg5 arg6 harg6 arg19 arg20 harg20 x3 x4 x5 xs3, ← B_v1073 c i arg4 harg4 arg5 harg5 arg6 harg6 arg19 arg20 harg20 x3 x4 x5 xs3, ← B_v1147 c i arg4 harg4 arg5 harg5 arg6 harg6 arg19 arg20 harg20 x3 x4 x5 xs3, ← B_v1161 c i arg4 harg4 arg5 harg5 arg6 harg6 arg19 arg20 harg20 x3 x4 x5 xs3, ← B_v1203 c i arg4 harg4 arg5 harg5 arg6 harg6 arg19 arg20 harg20 x3 x4 x5 xs3, ← B_v1217 c i arg4 harg4 arg5 harg5 arg6 harg6 arg19 arg20 harg20 x3 x4 x5 xs3]
  unfold SU30 SU31
  rw [← rd2 arg4 harg4 x3 128 128 384 0 (by decide), ← rd2 arg5 harg5 x4 128 128 384 0 (by decide), ← rd2 arg6 harg6 x5 512 128 0 0 (by decide), ← rd2 arg4 harg4 x3 128 128 384 128 (by decide), ← rd2 arg5 harg5 x4 128 128 384 128 (by decide), ← rd2 arg6 harg6 x5 512 128 0 128 (by decide), ← rd2 arg4 harg4 x3 128 128 384 256 (by decide), ← rd2 arg5 harg5 x4 128 128 384 256 (by decide), ← rd2 arg6 harg6 x5 512 128 0 256 (by decide), ← rd3 arg20 harg20 xs3 0 (by decide), ← rd3 arg20 harg20 xs3 1 (by decide), ← rd3 arg20 harg20 xs3 2 (by decide), ← rd3 arg20 harg20 xs3 3 (by decide), ← rd3 arg20 harg20 xs3 4 (by decide), ← rd3 arg20 harg20 xs3 5 (by decide)]
  rfl

theorem B_piece0 (x : S128x384.Idx) (y : S512x384.Idx) (e0 : (y 0).val = 0 + (x 0).val) (e1 : (y 1).val = (x 1).val) :
    (k0_pay275 (kernelRun0_B.sl.r_11 c i arg4 harg4 arg5 harg5 arg6 harg6 arg7 harg7 arg8 harg8 arg18 arg19 arg20 harg20 x3 x4 x5 x6 x7 xs3) (kernelRun0_B.sl.r_12 c i arg4 harg4 arg5 harg5 arg6 harg6 arg7 harg7 arg8 harg8 arg18 arg19 arg20 harg20 x3 x4 x5 x6 x7 xs3) (kernelRun0_B.sl.r_18 c i arg4 harg4 arg5 harg5 arg6 harg6 arg7 harg7 arg8 harg8 arg18 arg19 arg20 harg20 x3 x4 x5 x6 x7 xs3) (kernelRun0_B.sl.r_19 c i arg4 harg4 arg5 harg5 arg6 harg6 arg7 harg7 arg8 harg8 arg18 arg19 arg20 harg20 x3 x4 x5 x6 x7 xs3) (kernelRun0_B.sl.r_24 c i arg4 harg4 arg5 harg5 arg6 harg6 arg7 harg7 arg8 harg8 arg18 arg19 arg20 harg20 x3 x4 x5 x6 x7 xs3) (kernelRun0_B.sl.r_25 c i arg4 harg4 arg5 harg5 arg6 harg6 arg19 arg20 harg20 x3 x4 x5 xs3) (kernelRun0_B.sl.r_26 c i arg4 harg4 arg5 harg5 arg6 harg6 arg19 arg20 harg20 x3 x4 x5 xs3) (kernelRun0_B.sl.v417 c arg7 harg7 arg8 harg8 arg18 x6 x7) : FVec Ideal S128x384 .bf16) x = ATT (kernelRun0_B.sl.v21 i) x3 x4 x5 x6 x7 xs3 y := by
  rw [B_row0]
  refine FIN_out (kernelRun0_B.sl.v21 i) x3 x4 x5 x6 x7 xs3 0 (by decide) _ _ _ _ _ _ _ _ _ _ _ _ ?_ ?_ ?_ ?_ ?_ ?_ ?_ ?_ ?_ ?_ ?_ ?_ x y e0 e1
  · exact (fun ρ cc => SU00_apply _ 0 _ _ _ _ ρ cc)
  · exact (fun ρ cc => SU01_apply _ 0 _ _ _ _ ρ cc)
  · exact (fun ρ cc => SU00_apply _ 1 _ _ _ _ ρ cc)
  · exact (fun ρ cc => SU01_apply _ 1 _ _ _ _ ρ cc)
  · exact (fun ρ cc => SU00_apply _ 2 _ _ _ _ ρ cc)
  · exact (fun ρ cc => SU01_apply _ 2 _ _ _ _ ρ cc)
  · exact (fun d ρ => B_vt c arg7 harg7 arg8 harg8 arg18 x6 x7 0 0 (by decide) d ρ)
  · exact (fun d ρ => B_vt c arg7 harg7 arg8 harg8 arg18 x6 x7 64 0 (by decide) d ρ)
  · exact (fun d ρ => B_vt c arg7 harg7 arg8 harg8 arg18 x6 x7 128 0 (by decide) d ρ)
  · exact (fun d ρ => B_vt c arg7 harg7 arg8 harg8 arg18 x6 x7 192 0 (by decide) d ρ)
  · exact (fun d ρ => B_vt c arg7 harg7 arg8 harg8 arg18 x6 x7 256 0 (by decide) d ρ)
  · exact (fun d ρ => B_vt c arg7 harg7 arg8 harg8 arg18 x6 x7 320 0 (by decide) d ρ)

theorem B_piece1 (x : S128x384.Idx) (y : S512x384.Idx) (e0 : (y 0).val = 128 + (x 0).val) (e1 : (y 1).val = (x 1).val) :
    (k0_pay317 (kernelRun0_B.sl.r_31 c i arg4 harg4 arg5 harg5 arg6 harg6 arg7 harg7 arg8 harg8 arg18 arg19 arg20 harg20 x3 x4 x5 x6 x7 xs3) (kernelRun0_B.sl.r_32 c i arg4 harg4 arg5 harg5 arg6 harg6 arg7 harg7 arg8 harg8 arg18 arg19 arg20 harg20 x3 x4 x5 x6 x7 xs3) (kernelRun0_B.sl.r_37 c i arg4 harg4 arg5 harg5 arg6 harg6 arg20 harg20 x3 x4 x5 xs3) (kernelRun0_B.sl.r_38 c i arg4 harg4 arg5 harg5 arg6 harg6 arg7 harg7 arg8 harg8 arg18 arg19 arg20 harg20 x3 x4 x5 x6 x7 xs3) (kernelRun0_B.sl.r_39 c i arg4 harg4 arg5 harg5 arg6 harg6 arg7 harg7 arg8 harg8 arg18 arg19 arg20 harg20 x3 x4 x5 x6 x7 xs3) (kernelRun0_B.sl.r_44 c i arg4 harg4 arg5 harg5 arg6 harg6 arg19 arg20 harg20 x3 x4 x5 xs3) (kernelRun0_B.sl.r_45 c i arg4 harg4 arg5 harg5 arg6 harg6 arg19 arg20 harg20 x3 x4 x5 xs3) (kernelRun0_B.sl.v687 c arg7 harg7 arg8 harg8 arg18 x6 x7) (kernelRun0_B.sl.v694 c i arg4 harg4 arg5 harg5 arg6 harg6 arg19 arg20 harg20 x3 x4 x5 xs3) (kernelRun0_B.sl.v701 c arg7 harg7 arg8 harg8 arg18 x6 x7) : FVec Ideal S128x384 .bf16) x = ATT (kernelRun0_B.sl.v21 i) x3 x4 x5 x6 x7 xs3 y := by
  rw [B_row1]
  refine FIN_out (kernelRun0_B.sl.v21 i) x3 x4 x5 x6 x7 xs3 1 (by decide) _ _ _ _ _ _ _ _ _ _ _ _ ?_ ?_ ?_ ?_ ?_ ?_ ?_ ?_ ?_ ?_ ?_ ?_ x y e0 e1
  · exact (fun ρ cc => SU10_apply _ 0 _ _ _ _ ρ cc)
  · exact (fun ρ cc => SU11_apply _ 0 _ _ _ _ ρ cc)
  · exact (fun ρ cc => SU10_apply _ 1 _ _ _ _ ρ cc)
  · exact (fun ρ cc => SU11_apply _ 1 _ _ _ _ ρ cc)
  · exact (fun ρ cc => SU10_apply _ 2 _ _ _ _ ρ cc)
  · exact (fun ρ cc => SU11_apply _ 2 _ _ _ _ ρ cc)
  · exact (fun d ρ => B_vt c arg7 harg7 arg8 harg8 arg18 x6 x7 0 128 (by decide) d ρ)
  · exact (fun d ρ => B_vt c arg7 harg7 arg8 harg8 arg18 x6 x7 64 128 (by decide) d ρ)
  · exact (fun d ρ => B_vt c arg7 harg7 arg8 harg8 arg18 x6 x7 128 128 (by decide) d ρ)
  · exact (fun d ρ => B_vt c arg7 harg7 arg8 harg8 arg18 x6 x7 192 128 (by decide) d ρ)
  · exact (fun d ρ => B_vt c arg7 harg7 arg8 harg8 arg18 x6 x7 256 128 (by decide) d ρ)
  · exact (fun d ρ => B_vt c arg7 harg7 arg8 harg8 arg18 x6 x7 320 128 (by decide) d ρ)

theorem B_piece2 (x : S128x384.Idx) (y : S512x384.Idx) (e0 : (y 0).val = 256 + (x 0).val) (e1 : (y 1).val = (x 1).val) :
    (k0_pay357 (kernelRun0_B.sl.r_51 c i arg4 harg4 arg5 harg5 arg6 harg6 arg7 harg7 arg8 harg8 arg18 arg19 arg20 harg20 x3 x4 x5 x6 x7 xs3) (kernelRun0_B.sl.r_53 c i arg4 harg4 arg5 harg5 arg6 harg6 arg7 harg7 arg8 harg8 arg18 arg19 arg20 harg20 x3 x4 x5 x6 x7 xs3) (kernelRun0_B.sl.r_56 c i arg4 harg4 arg5 harg5 arg6 harg6 arg20 harg20 x3 x4 x5 xs3) (kernelRun0_B.sl.r_57 c i arg4 harg4 arg5 harg5 arg6 harg6 arg20 harg20 x3 x4 x5 xs3) (kernelRun0_B.sl.r_58 c i arg4 harg4 arg5 harg5 arg6 harg6 arg7 harg7 arg8 harg8 arg18 arg19 arg20 harg20 x3 x4 x5 x6 x7 xs3) (kernelRun0_B.sl.r_61 c i arg4 harg4 arg5 harg5 arg6 harg6 arg7 harg7 arg8 harg8 arg18 arg19 arg20 harg20 x3 x4 x5 x6 x7 xs3) (kernelRun0_B.sl.v957 c i arg4 harg4 arg5 harg5 arg6 harg6 arg19 arg20 harg20 x3 x4 x5 xs3) (kernelRun0_B.sl.v964 c arg7 harg7 arg8 harg8 arg18 x6 x7) (kernelRun0_B.sl.v971 c i arg4 harg4 arg5 harg5 arg6 harg6 arg19 arg20 harg20 x3 x4 x5 xs3) (kernelRun0_B.sl.v978 c arg7 harg7 arg8 harg8 arg18 x6 x7) : FVec Ideal S128x384 .bf16) x = ATT (kernelRun0_B.sl.v21 i) x3 x4 x5 x6 x7 xs3 y := by
  rw [B_row2]
  refine FIN_out (kernelRun0_B.sl.v21 i) x3 x4 x5 x6 x7 xs3 2 (by decide) _ _ _ _ _ _ _ _ _ _ _ _ ?_ ?_ ?_ ?_ ?_ ?_ ?_ ?_ ?_ ?_ ?_ ?_ x y e0 e1
  · exact (fun ρ cc => SU20_apply _ 0 _ _ _ _ ρ cc)
  · exact (fun ρ cc => SU21_apply _ 0 _ _ _ _ ρ cc)
  · exact (fun ρ cc => SU20_apply _ 1 _ _ _ _ ρ cc)
  · exact (fun ρ cc => SU21_apply _ 1 _ _ _ _ ρ cc)
  · exact (fun ρ cc => SU20_apply _ 2 _ _ _ _ ρ cc)
  · exact (fun ρ cc => SU21_apply _ 2 _ _ _ _ ρ cc)
  · exact (fun d ρ => B_vt c arg7 harg7 arg8 harg8 arg18 x6 x7 0 256 (by decide) d ρ)
  · exact (fun d ρ => B_vt c arg7 harg7 arg8 harg8 arg18 x6 x7 64 256 (by decide) d ρ)
  · exact (fun d ρ => B_vt c arg7 harg7 arg8 harg8 arg18 x6 x7 128 256 (by decide) d ρ)
  · exact (fun d ρ => B_vt c arg7 harg7 arg8 harg8 arg18 x6 x7 192 256 (by decide) d ρ)
  · exact (fun d ρ => B_vt c arg7 harg7 arg8 harg8 arg18 x6 x7 256 256 (by decide) d ρ)
  · exact (fun d ρ => B_vt c arg7 harg7 arg8 harg8 arg18 x6 x7 320 256 (by decide) d ρ)

theorem B_piece3 (x : S128x384.Idx) (y : S512x384.Idx) (e0 : (y 0).val = 384 + (x 0).val) (e1 : (y 1).val = (x 1).val) :
    (k0_pay392 (kernelRun0_B.sl.r_71 c i arg4 harg4 arg5 harg5 arg6 harg6 arg7 harg7 arg8 harg8 arg18 arg19 arg20 harg20 x3 x4 x5 x6 x7 xs3) (kernelRun0_B.sl.r_72 c i arg4 harg4 arg5 harg5 arg6 harg6 arg7 harg7 arg8 harg8 arg18 arg19 arg20 harg20 x3 x4 x5 x6 x7 xs3) (kernelRun0_B.sl.r_78 c i arg4 harg4 arg5 harg5 arg6 harg6 arg7 harg7 arg8 harg8 arg18 arg19 arg20 harg20 x3 x4 x5 x6 x7 xs3) (kernelRun0_B.sl.r_81 c i arg4 harg4 arg5 harg5 arg6 harg6 arg7 harg7 arg8 harg8 arg18 arg19 arg20 harg20 x3 x4 x5 x6 x7 xs3) (kernelRun0_B.sl.r_82 c i arg4 harg4 arg5 harg5 arg6 harg6 arg7 harg7 arg8 harg8 arg18 arg19 arg20 harg20 x3 x4 x5 x6 x7 xs3) (kernelRun0_B.sl.r_83 c i arg4 harg4 arg5 harg5 arg6 harg6 arg7 harg7 arg8 harg8 arg18 arg19 arg20 harg20 x3 x4 x5 x6 x7 xs3) : FVec Ideal S128x384 .bf16) x = ATT (kernelRun0_B.sl.v21 i) x3 x4 x5 x6 x7 xs3 y := by
  rw [B_row3]
  refine FIN_out (kernelRun0_B.sl.v21 i) x3 x4 x5 x6 x7 xs3 3 (by decide) _ _ _ _ _ _ _ _ _ _ _ _ ?_ ?_ ?_ ?_ ?_ ?_ ?_ ?_ ?_ ?_ ?_ ?_ x y e0 e1
  · exact (fun ρ cc => SU30_apply _ 0 _ _ _ _ ρ cc)
  · exact (fun ρ cc => SU31_apply _ 0 _ _ _ _ ρ cc)
  · exact (fun ρ cc => SU30_apply _ 1 _ _ _ _ ρ cc)
  · exact (fun ρ cc => SU31_apply _ 1 _ _ _ _ ρ cc)
  · exact (fun ρ cc => SU30_apply _ 2 _ _ _ _ ρ cc)
  · exact (fun ρ cc => SU31_apply _ 2 _ _ _ _ ρ cc)
  · exact (fun d ρ => B_vt c arg7 harg7 arg8 harg8 arg18 x6 x7 0 384 (by decide) d ρ)
  · exact (fun d ρ => B_vt c arg7 harg7 arg8 harg8 arg18 x6 x7 64 384 (by decide) d ρ)
  · exact (fun d ρ => B_vt c arg7 harg7 arg8 harg8 arg18 x6 x7 128 384 (by decide) d ρ)
  · exact (fun d ρ => B_vt c arg7 harg7 arg8 harg8 arg18 x6 x7 192 384 (by decide) d ρ)
  · exact (fun d ρ => B_vt c arg7 harg7 arg8 harg8 arg18 x6 x7 256 384 (by decide) d ρ)
  · exact (fun d ρ => B_vt c arg7 harg7 arg8 harg8 arg18 x6 x7 320 384 (by decide) d ρ)

theorem B_att : sout0_B_0 c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 xs0 xs3 xs10 xs11 xs12 fh0 fh1 fh2 = ATT (kernelRun0_B.sl.v21 i) x3 x4 x5 x6 x7 xs3 := by
  unfold sout0_B_0
  rw [View.read_writes_eq_canon _ _ _ (scover0_B_0 c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 xs0 xs3 xs10 xs11 xs12 fh0 fh1 fh2)]
  unfold kernelRun0_B
  dsimp only
  funext y
  canon_tiles x h
  · exact B_piece3 c i arg4 harg4 arg5 harg5 arg6 harg6 arg7 harg7 arg8 harg8 arg18 arg19 arg20 harg20 x3 x4 x5 x6 x7 xs3 x y (by omega) h1
  · exact B_piece2 c i arg4 harg4 arg5 harg5 arg6 harg6 arg7 harg7 arg8 harg8 arg18 arg19 arg20 harg20 x3 x4 x5 x6 x7 xs3 x y (by omega) h1
  · exact B_piece1 c i arg4 harg4 arg5 harg5 arg6 harg6 arg7 harg7 arg8 harg8 arg18 arg19 arg20 harg20 x3 x4 x5 x6 x7 xs3 x y (by omega) h1
  · exact B_piece0 c i arg4 harg4 arg5 harg5 arg6 harg6 arg7 harg7 arg8 harg8 arg18 arg19 arg20 harg20 x3 x4 x5 x6 x7 xs3 x y (by omega) h1

end Cert.Att

end
-- ==== Proof.MlpBase.lean ====
/- The output projection and the feed-forward part on one tile: the arrays that the body holds, each as a function of
   the arrays the tile starts from, and the reading back of a buffer stored in column blocks. -/
module

public import proofs.«01_k».proof.Proof.AttBase
public import Idealize.ShloMosaic.Lib.Pipeline.CanonAppend

@[expose] public section

set_option maxRecDepth 16384

noncomputable section

namespace Cert.Att

open Idealize.ShloMosaic Idealize.ShloMosaic.TcCoe Idealize.SL.Sem
open Cert.KernelIdeal Cert.KernelIdeal.Gen

theorem B2_full {m n : ℕ} (x : (⟨2, ![m, n]⟩ : Shape).Idx → EReal) : B2 m n 0 0 x = x := by
  funext j
  exact at2_of x _ _ j (Nat.zero_add _).symm (Nat.zero_add _).symm

/-- Four column blocks, stored over anything, read back whole. -/
theorem quad2 {φ : EltTy} {sig : RefSig} {κ : Kind} {sp : Space} {Val : EltTy → Type} [∀ e, Nonempty (Val e)]
    (v : View sig κ sp S512x1024 φ) (g : Fin 512 → ℕ → Val φ) (w3 w2 w1 w0 : S512x256.Idx → Val φ)
    (L : List (View.Piece Val S512x1024 φ)) (i3) (i2) (i1) (i0) (i)
    (h3 : w3 = fun x => g (x 0) (768 + (x 1).val)) (h2 : w2 = fun x => g (x 0) (512 + (x 1).val))
    (h1 : w1 = fun x => g (x 0) (256 + (x 1).val)) (h0 : w0 = fun x => g (x 0) (0 + (x 1).val)) :
    v.readCov (⟨Rect.unit (s := S512x1024) ![0, 768] S512x256.size i3, w3⟩ :: ⟨Rect.unit (s := S512x1024) ![0, 512] S512x256.size i2, w2⟩
      :: ⟨Rect.unit (s := S512x1024) ![0, 256] S512x256.size i1, w1⟩ :: ⟨Rect.unit (s := S512x1024) ![0, 0] S512x256.size i0, w0⟩ :: L)
      (Rect.unit (s := S512x1024) ![0, 0] S512x1024.size i).toLoadRect = fun j : S512x1024.Idx => g (j 0) (j 1).val := by
  rw [View.readCov_eq_canon']
  funext j
  set y := (Rect.unit (s := S512x1024) ![0, 0] S512x1024.size i).toLoadRect.idx j with hy
  have e0 : (y 0).val = (j 0).val := (Rect.idx_unit_val _ _ _ j 0).trans (Nat.zero_add _)
  have e1 : (y 1).val = (j 1).val := (Rect.idx_unit_val _ _ _ j 1).trans (Nat.zero_add _)
  have key := View.canon_append_of_pieces (Val := Val) (fun y : S512x1024.Idx => g (y 0) (y 1).val) L
    [⟨Rect.unit (s := S512x1024) ![0, 768] S512x256.size i3, w3⟩, ⟨Rect.unit (s := S512x1024) ![0, 512] S512x256.size i2, w2⟩,
      ⟨Rect.unit (s := S512x1024) ![0, 256] S512x256.size i1, w1⟩, ⟨Rect.unit (s := S512x1024) ![0, 0] S512x256.size i0, w0⟩] ?_ y ?_
  · refine key.trans ?_
    show g (y 0) (y 1).val = _
    rw [e1, show y 0 = j 0 from Fin.ext e0]
  · intro p hp x
    have hx : ∀ (o : ℕ) (inb) (x : (Rect.unit (s := S512x1024) ![0, o] S512x256.size inb).shape.Idx),
        g ((Rect.unit (s := S512x1024) ![0, o] S512x256.size inb).emb x 0) ((Rect.unit (s := S512x1024) ![0, o] S512x256.size inb).emb x 1).val
          = g (x 0) (o + (x 1).val) := by
      intro o inb x
      have a0 : ((Rect.unit (s := S512x1024) ![0, o] S512x256.size inb).emb x 0).val = (x 0).val := (Rect.idx_unit_val _ _ _ x 0).trans (Nat.zero_add _)
      have a1 : ((Rect.unit (s := S512x1024) ![0, o] S512x256.size inb).emb x 1).val = o + (x 1).val := Rect.idx_unit_val _ _ _ x 1
      rw [a1]
      exact congrArg (fun z => g z _) (Fin.ext a0)
    simp only [List.mem_cons, List.not_mem_nil, or_false] at hp
    rcases hp with rfl | rfl | rfl | rfl
    · exact (congrFun h3 x).trans (hx 768 i3 x).symm
    · exact (congrFun h2 x).trans (hx 512 i2 x).symm
    · exact (congrFun h1 x).trans (hx 256 i1 x).symm
    · exact (congrFun h0 x).trans (hx 0 i0 x).symm
  · have hb : (y 1).val < 1024 := (y 1).isLt
    have ha : (y 0).val < 512 := (y 0).isLt
    have hm : ∀ (o : ℕ) (inb), o ≤ (y 1).val → (y 1).val < o + 256 → y ∈ (Rect.unit (s := S512x1024) ![0, o] S512x256.size inb).set := by
      intro o inb p q
      rw [Rect.mem_set_unit]
      intro a
      fin_cases a
      · exact ⟨Nat.zero_le _, by show (y 0).val < 0 + 512; omega⟩
      · exact ⟨p, q⟩
    rcases (by omega : 768 ≤ (y 1).val ∨ (512 ≤ (y 1).val ∧ (y 1).val < 768) ∨ (256 ≤ (y 1).val ∧ (y 1).val < 512) ∨ (y 1).val < 256) with h | h | h | h
    · exact ⟨⟨Rect.unit (s := S512x1024) ![0, 768] S512x256.size i3, w3⟩, .head _, hm 768 i3 (by omega) (by omega)⟩
    · exact ⟨⟨Rect.unit (s := S512x1024) ![0, 512] S512x256.size i2, w2⟩, .tail _ (.head _), hm 512 i2 (by omega) (by omega)⟩
    · exact ⟨⟨Rect.unit (s := S512x1024) ![0, 256] S512x256.size i1, w1⟩, .tail _ (.tail _ (.head _)), hm 256 i1 (by omega) (by omega)⟩
    · exact ⟨⟨Rect.unit (s := S512x1024) ![0, 0] S512x256.size i0, w0⟩, .tail _ (.tail _ (.tail _ (.head _))), hm 0 i0 (by omega) (by omega)⟩

/-- The same with one plane of two. -/
theorem quad3 {φ : EltTy} {sig : RefSig} {κ : Kind} {sp : Space} {Val : EltTy → Type} [∀ e, Nonempty (Val e)]
    (v : View sig κ sp S2x512x1024 φ) (s : ℕ) (g : Fin 512 → ℕ → Val φ) (w3 w2 w1 w0 : S1x512x256.Idx → Val φ)
    (L : List (View.Piece Val S2x512x1024 φ)) (i3) (i2) (i1) (i0) (i)
    (h3 : w3 = fun x => g (x 1) (768 + (x 2).val)) (h2 : w2 = fun x => g (x 1) (512 + (x 2).val))
    (h1 : w1 = fun x => g (x 1) (256 + (x 2).val)) (h0 : w0 = fun x => g (x 1) (0 + (x 2).val)) :
    v.readCov (⟨Rect.unit (s := S2x512x1024) ![s, 0, 768] S1x512x256.size i3, w3⟩ :: ⟨Rect.unit (s := S2x512x1024) ![s, 0, 512] S1x512x256.size i2, w2⟩
      :: ⟨Rect.unit (s := S2x512x1024) ![s, 0, 256] S1x512x256.size i1, w1⟩ :: ⟨Rect.unit (s := S2x512x1024) ![s, 0, 0] S1x512x256.size i0, w0⟩ :: L)
      (Rect.unit (s := S2x512x1024) ![s, 0, 0] S1x512x1024.size i).toLoadRect = fun j : S1x512x1024.Idx => g (j 1) (j 2).val := by
  rw [View.readCov_eq_canon']
  funext j
  set y := (Rect.unit (s := S2x512x1024) ![s, 0, 0] S1x512x1024.size i).toLoadRect.idx j with hy
  have es : (y 0).val = s + (j 0).val := Rect.idx_unit_val _ _ _ j 0
  have e0 : (y 1).val = (j 1).val := (Rect.idx_unit_val _ _ _ j 1).trans (Nat.zero_add _)
  have e1 : (y 2).val = (j 2).val := (Rect.idx_unit_val _ _ _ j 2).trans (Nat.zero_add _)
  have hj : (j 0).val < 1 := (j 0).isLt
  have key := View.canon_append_of_pieces (Val := Val) (fun y : S2x512x1024.Idx => g (y 1) (y 2).val) L
    [⟨Rect.unit (s := S2x512x1024) ![s, 0, 768] S1x512x256.size i3, w3⟩, ⟨Rect.unit (s := S2x512x1024) ![s, 0, 512] S1x512x256.size i2, w2⟩,
      ⟨Rect.unit (s := S2x512x1024) ![s, 0, 256] S1x512x256.size i1, w1⟩, ⟨Rect.unit (s := S2x512x1024) ![s, 0, 0] S1x512x256.size i0, w0⟩] ?_ y ?_
  · refine key.trans ?_
    show g (y 1) (y 2).val = _
    rw [e1, show y 1 = j 1 from Fin.ext e0]
  · intro p hp x
    have hx : ∀ (o : ℕ) (inb) (x : (Rect.unit (s := S2x512x1024) ![s, 0, o] S1x512x256.size inb).shape.Idx),
        g ((Rect.unit (s := S2x512x1024) ![s, 0, o] S1x512x256.size inb).emb x 1) ((Rect.unit (s := S2x512x1024) ![s, 0, o] S1x512x256.size inb).emb x 2).val
          = g (x 1) (o + (x 2).val) := by
      intro o inb x
      have a0 : ((Rect.unit (s := S2x512x1024) ![s, 0, o] S1x512x256.size inb).emb x 1).val = (x 1).val := (Rect.idx_unit_val _ _ _ x 1).trans (Nat.zero_add _)
      have a1 : ((Rect.unit (s := S2x512x1024) ![s, 0, o] S1x512x256.size inb).emb x 2).val = o + (x 2).val := Rect.idx_unit_val _ _ _ x 2
      rw [a1]
      exact congrArg (fun z => g z _) (Fin.ext a0)
    simp only [List.mem_cons, List.not_mem_nil, or_false] at hp
    rcases hp with rfl | rfl | rfl | rfl
    · exact (congrFun h3 x).trans (hx 768 i3 x).symm
    · exact (congrFun h2 x).trans (hx 512 i2 x).symm
    · exact (congrFun h1 x).trans (hx 256 i1 x).symm
    · exact (congrFun h0 x).trans (hx 0 i0 x).symm
  · have hb : (y 2).val < 1024 := (y 2).isLt
    have ha : (y 1).val < 512 := (y 1).isLt
    have hm : ∀ (o : ℕ) (inb), o ≤ (y 2).val → (y 2).val < o + 256 → y ∈ (Rect.unit (s := S2x512x1024) ![s, 0, o] S1x512x256.size inb).set := by
      intro o inb p q
      rw [Rect.mem_set_unit]
      intro a
      fin_cases a
      · exact ⟨by show s ≤ (y 0).val; omega, by show (y 0).val < s + 1; omega⟩
      · exact ⟨Nat.zero_le _, by show (y 1).val < 0 + 512; omega⟩
      · exact ⟨p, q⟩
    rcases (by omega : 768 ≤ (y 2).val ∨ (512 ≤ (y 2).val ∧ (y 2).val < 768) ∨ (256 ≤ (y 2).val ∧ (y 2).val < 512) ∨ (y 2).val < 256) with h | h | h | h
    · exact ⟨⟨Rect.unit (s := S2x512x1024) ![s, 0, 768] S1x512x256.size i3, w3⟩, .head _, hm 768 i3 (by omega) (by omega)⟩
    · exact ⟨⟨Rect.unit (s := S2x512x1024) ![s, 0, 512] S1x512x256.size i2, w2⟩, .tail _ (.head _), hm 512 i2 (by omega) (by omega)⟩
    · exact ⟨⟨Rect.unit (s := S2x512x1024) ![s, 0, 256] S1x512x256.size i1, w1⟩, .tail _ (.tail _ (.head _)), hm 256 i1 (by omega) (by omega)⟩
    · exact ⟨⟨Rect.unit (s := S2x512x1024) ![s, 0, 0] S1x512x256.size i0, w0⟩, .tail _ (.tail _ (.tail _ (.head _))), hm 0 i0 (by omega) (by omega)⟩

/-- A buffer stored whole, read back whole. -/
theorem one2 {φ : EltTy} {sig : RefSig} {κ : Kind} {sp : Space} {Val : EltTy → Type} [∀ e, Nonempty (Val e)] {m n : ℕ}
    (v : View sig κ sp (⟨2, ![m, n]⟩ : Shape) φ) (w : (⟨2, ![m, n]⟩ : Shape).Idx → Val φ) (L) (i) :
    v.readCov (⟨Rect.unit (s := (⟨2, ![m, n]⟩ : Shape)) ![0, 0] (⟨2, ![m, n]⟩ : Shape).size i, w⟩ :: L)
      (Rect.unit (s := (⟨2, ![m, n]⟩ : Shape)) ![0, 0] (⟨2, ![m, n]⟩ : Shape).size i).toLoadRect = w := readCov_hit _ _ _ _

/-- The three parts of the mixing width side by side. -/
def MIXN (y0 : FVec Ideal S512x384 .bf16) (yc : FVec Ideal S512x256 .bf16) (yr : FVec Ideal S512x384 .bf16) (r : Fin 512) (l : ℕ) : EReal :=
  if l < 384 then at2 y0 r.val l else if l < 640 then at2 yc r.val (l - 384) else at2 yr r.val (l - 640)

def MIX (y0 : FVec Ideal S512x384 .bf16) (yc : FVec Ideal S512x256 .bf16) (yr : FVec Ideal S512x384 .bf16) : FVec Ideal S512x1024 .bf16 :=
  fun j => MIXN y0 yc yr (j 0) (j 1).val

theorem tri2 {sig : RefSig} {κ : Kind} {sp : Space} (v : View sig κ sp S512x1024 .bf16)
    (y0 : FVec Ideal S512x384 .bf16) (yc : FVec Ideal S512x256 .bf16) (yr : FVec Ideal S512x384 .bf16) (i2) (i1) (i0) (i) :
    View.readCov (Val := Elt Ideal) v [⟨Rect.unit (s := S512x1024) ![0, 640] S512x384.size i2, yr⟩, ⟨Rect.unit (s := S512x1024) ![0, 384] S512x256.size i1, yc⟩,
      ⟨Rect.unit (s := S512x1024) ![0, 0] S512x384.size i0, y0⟩] (Rect.unit (s := S512x1024) ![0, 0] S512x1024.size i).toLoadRect = MIX y0 yc yr := by
  rw [View.readCov_eq_canon']
  funext j
  set y := (Rect.unit (s := S512x1024) ![0, 0] S512x1024.size i).toLoadRect.idx j with hy
  have e0 : (y 0).val = (j 0).val := (Rect.idx_unit_val _ _ _ j 0).trans (Nat.zero_add _)
  have e1 : (y 1).val = (j 1).val := (Rect.idx_unit_val _ _ _ j 1).trans (Nat.zero_add _)
  have hb : (y 1).val < 1024 := (y 1).isLt
  have ha : (y 0).val < 512 := (y 0).isLt
  have key := View.canon_append_of_pieces (Val := Elt Ideal) (MIX y0 yc yr : S512x1024.Idx → Elt Ideal .bf16) []
    [(⟨Rect.unit (s := S512x1024) ![0, 640] S512x384.size i2, yr⟩ : View.Piece (Elt Ideal) S512x1024 .bf16), (⟨Rect.unit (s := S512x1024) ![0, 384] S512x256.size i1, yc⟩ : View.Piece (Elt Ideal) S512x1024 .bf16),
      (⟨Rect.unit (s := S512x1024) ![0, 0] S512x384.size i0, y0⟩ : View.Piece (Elt Ideal) S512x1024 .bf16)] ?_ y ?_
  · refine key.trans ?_
    rw [show y = j from by funext a; fin_cases a; exact Fin.ext e0; exact Fin.ext e1]
  · intro p hp x
    simp only [List.mem_cons, List.not_mem_nil, or_false] at hp
    rcases hp with rfl | rfl | rfl
    · have a0 : ((Rect.unit (s := S512x1024) ![0, 640] S512x384.size i2).emb x 0).val = (x 0).val := (Rect.idx_unit_val _ _ _ x 0).trans (Nat.zero_add _)
      have a1 : ((Rect.unit (s := S512x1024) ![0, 640] S512x384.size i2).emb x 1).val = 640 + (x 1).val := Rect.idx_unit_val _ _ _ x 1
      show yr x = MIXN y0 yc yr ((Rect.unit (s := S512x1024) ![0, 640] S512x384.size i2).emb x 0) ((Rect.unit (s := S512x1024) ![0, 640] S512x384.size i2).emb x 1).val
      unfold MIXN
      rw [if_neg (by omega), if_neg (by omega)]
      exact (at2_of yr _ _ x (by omega) (by omega)).symm
    · have a0 : ((Rect.unit (s := S512x1024) ![0, 384] S512x256.size i1).emb x 0).val = (x 0).val := (Rect.idx_unit_val _ _ _ x 0).trans (Nat.zero_add _)
      have a1 : ((Rect.unit (s := S512x1024) ![0, 384] S512x256.size i1).emb x 1).val = 384 + (x 1).val := Rect.idx_unit_val _ _ _ x 1
      have a2 : (x 1).val < 256 := (x 1).isLt
      show yc x = MIXN y0 yc yr ((Rect.unit (s := S512x1024) ![0, 384] S512x256.size i1).emb x 0) ((Rect.unit (s := S512x1024) ![0, 384] S512x256.size i1).emb x 1).val
      unfold MIXN
      rw [if_neg (by omega), if_pos (by omega)]
      exact (at2_of yc _ _ x (by omega) (by omega)).symm
    · have a0 : ((Rect.unit (s := S512x1024) ![0, 0] S512x384.size i0).emb x 0).val = (x 0).val := (Rect.idx_unit_val _ _ _ x 0).trans (Nat.zero_add _)
      have a1 : ((Rect.unit (s := S512x1024) ![0, 0] S512x384.size i0).emb x 1).val = (x 1).val := (Rect.idx_unit_val _ _ _ x 1).trans (Nat.zero_add _)
      have a2 : (x 1).val < 384 := (x 1).isLt
      show y0 x = MIXN y0 yc yr ((Rect.unit (s := S512x1024) ![0, 0] S512x384.size i0).emb x 0) ((Rect.unit (s := S512x1024) ![0, 0] S512x384.size i0).emb x 1).val
      unfold MIXN
      rw [if_pos (by omega)]
      exact (at2_of y0 _ _ x (by omega) (by omega)).symm
  · rcases (by omega : 640 ≤ (y 1).val ∨ (384 ≤ (y 1).val ∧ (y 1).val < 640) ∨ (y 1).val < 384) with h | h | h
    · refine ⟨⟨Rect.unit (s := S512x1024) ![0, 640] S512x384.size i2, yr⟩, .head _, ?_⟩
      rw [Rect.mem_set_unit]; intro a; fin_cases a
      · exact ⟨Nat.zero_le _, by show (y 0).val < 0 + 512; omega⟩
      · exact ⟨h, by show (y 1).val < 640 + 384; omega⟩
    · refine ⟨⟨Rect.unit (s := S512x1024) ![0, 384] S512x256.size i1, yc⟩, .tail _ (.head _), ?_⟩
      rw [Rect.mem_set_unit]; intro a; fin_cases a
      · exact ⟨Nat.zero_le _, by show (y 0).val < 0 + 512; omega⟩
      · exact ⟨h.1, by show (y 1).val < 384 + 256; omega⟩
    · refine ⟨⟨Rect.unit (s := S512x1024) ![0, 0] S512x384.size i0, y0⟩, .tail _ (.tail _ (.head _)), ?_⟩
      rw [Rect.mem_set_unit]; intro a; fin_cases a
      · exact ⟨Nat.zero_le _, by show (y 0).val < 0 + 512; omega⟩
      · exact ⟨Nat.zero_le _, by show (y 1).val < 0 + 384; omega⟩

/-- A row of `x` against column `l` of the rows of `w` from `r0` on. -/
def DOTN {n m : ℕ} (x : Fin 1024 → EReal) (w : (⟨2, ![n, m]⟩ : Shape).Idx → EReal) (r0 l : ℕ) : EReal := ∑ k : Fin 1024, x k * at2 w (r0 + k.val) l

theorem dc_eq (x : FVec Ideal S512x1024 .bf16) {n : ℕ} (w : (⟨2, ![1024, n]⟩ : Shape).Idx → EReal) (c0 : ℕ) :
    k0_pay219 (F := Ideal) x (B2 1024 256 0 c0 w) = fun z => DOTN (fun k => x (ix2 (z 0) k)) w 0 (c0 + (z 1).val) := by
  have h : ∀ (r : Fin 512) (l : Fin 256), k0_pay219 (F := Ideal) x (B2 1024 256 0 c0 w) (ix2 r l) = ∑ k : Fin 1024, x (ix2 r k) * at2 w (0 + k.val) (c0 + l.val) := by
    intro r l
    pointwise [k0_pay219]
    rfl
  funext z
  exact (congrArg _ (show z = ix2 (z 0) (z 1) by funext a; fin_cases a <;> rfl)).trans (h (z 0) (z 1))

def ACTN (H : FVec Ideal S512x1024 .bf16) (wu : FVec Ideal S1024x4096 .bf16) (q : ℕ) (r : Fin 512) (l : ℕ) : EReal :=
  max (DOTN (fun k => H (ix2 r k)) wu 0 (1024 * q + l)) 0 * max (DOTN (fun k => H (ix2 r k)) wu 0 (1024 * q + l)) 0

theorem up_eq (x : FVec Ideal S512x1024 .bf16) (w : FVec Ideal S1024x4096 .bf16) (q c0 : ℕ) :
    k0_pay233 (F := Ideal) x (B2 1024 256 0 (1024 * q + c0) w) = fun z => ACTN x w q (z 1) (c0 + (z 2).val) := by
  have h : ∀ (r : Fin 512) (l : Fin 256), k0_pay233 (F := Ideal) x (B2 1024 256 0 (1024 * q + c0) w) (ix3 0 r l) = ACTN x w q r (c0 + l.val) := by
    intro r l
    pointwise [k0_pay233]
    unfold ACTN DOTN
    simp only [B2_ix, Nat.add_assoc]
  funext z
  exact (congrArg _ (show z = ix3 0 (z 1) (z 2) by funext a; fin_cases a; exact Fin.ext (by have : (z 0).val < 1 := (z 0).isLt; show (z 0).val = 0; omega); rfl; rfl)).trans (h (z 1) (z 2))

theorem down_eq (A : FVec Ideal S1x512x1024 .bf16) (w : FVec Ideal S4096x1024 .bf16) (r0 c0 : ℕ) :
    k0_pay262 (F := Ideal) A (B2 1024 256 r0 c0 w) = fun z => DOTN (fun k => A (ix3 0 (z 0) k)) w r0 (c0 + (z 1).val) := by
  have h : ∀ (r : Fin 512) (l : Fin 256), k0_pay262 (F := Ideal) A (B2 1024 256 r0 c0 w) (ix2 r l) = ∑ k : Fin 1024, A (ix3 0 r k) * at2 w (r0 + k.val) (c0 + l.val) := by
    intro r l
    pointwise [k0_pay262]
    rfl
  funext z
  exact (congrArg _ (show z = ix2 (z 0) (z 1) by funext a; fin_cases a <;> rfl)).trans (h (z 0) (z 1))

theorem down_acc_eq (A : FVec Ideal S1x512x1024 .bf16) (w : FVec Ideal S4096x1024 .bf16) (r0 c0 : ℕ) (P : FVec Ideal S512x256 .f32) :
    k0_pay303 (F := Ideal) A (B2 1024 256 r0 c0 w) P = fun z => P z + DOTN (fun k => A (ix3 0 (z 0) k)) w r0 (c0 + (z 1).val) := by
  have h : ∀ (r : Fin 512) (l : Fin 256), k0_pay303 (F := Ideal) A (B2 1024 256 r0 c0 w) P (ix2 r l) = P (ix2 r l) + ∑ k : Fin 1024, A (ix3 0 r k) * at2 w (r0 + k.val) (c0 + l.val) := by
    intro r l
    pointwise [k0_pay303]
    rfl
  funext z
  have hz : z = ix2 (z 0) (z 1) := by funext a; fin_cases a <;> rfl
  exact ((congrArg _ hz).trans (h (z 0) (z 1))).trans (congrArg (fun y => P y + DOTN (fun k => A (ix3 0 (z 0) k)) w r0 (c0 + (z 1).val)) hz.symm)

/-- The output projection, the state after it, the normed state and the four blocks of the hidden layer. -/
def ACC (y0 : FVec Ideal S512x384 .bf16) (yc : FVec Ideal S512x256 .bf16) (yr : FVec Ideal S512x384 .bf16) (wo : FVec Ideal S1024x1024 .bf16) : FVec Ideal S512x1024 .f32 :=
  fun j => DOTN (fun k => MIX y0 yc yr (ix2 (j 0) k)) wo 0 (j 1).val

def ACT (H : FVec Ideal S512x1024 .bf16) (wu : FVec Ideal S1024x4096 .bf16) (q : ℕ) : FVec Ideal S1x512x1024 .bf16 := fun j => ACTN H wu q (j 1) (j 2).val

/-- The sum of the first `q + 1` parts of the second projection. -/
def FFN (H : FVec Ideal S512x1024 .bf16) (wu : FVec Ideal S1024x4096 .bf16) (wd : FVec Ideal S4096x1024 .bf16) : ℕ → Fin 512 → ℕ → EReal
  | 0, r, l => DOTN (fun k => ACT H wu 0 (ix3 0 r k)) wd 0 l
  | q + 1, r, l => FFN H wu wd q r l + DOTN (fun k => ACT H wu (q + 1) (ix3 0 r k)) wd (1024 * (q + 1)) l

def FF (H : FVec Ideal S512x1024 .bf16) (wu : FVec Ideal S1024x4096 .bf16) (wd : FVec Ideal S4096x1024 .bf16) : FVec Ideal S512x1024 .f32 :=
  fun j => FFN H wu wd 3 (j 0) (j 1).val

def XMID (x : FVec Ideal S512x1024 .f32) (a : FVec Ideal S512x1024 .f32) (g : FVec Ideal S1x1024 .f32) : FVec Ideal S512x1024 .f32 := k0_pay229 (F := Ideal) x a g

def HID (x : FVec Ideal S512x1024 .f32) (g : FVec Ideal S1x1024 .f32) : FVec Ideal S512x1024 .bf16 := k0_pay232 (F := Ideal) x g

def FIN2 (x f : FVec Ideal S512x1024 .f32) (g : FVec Ideal S1x1024 .f32) : FVec Ideal S512x1024 .f32 := k0_pay1 (F := Ideal) x f g (k0_pay396 (F := Ideal) f)

/-- What the tile ends as. -/
def MLP (x : FVec Ideal S512x1024 .f32) (y0 : FVec Ideal S512x384 .bf16) (yc : FVec Ideal S512x256 .bf16) (yr : FVec Ideal S512x384 .bf16)
    (wo : FVec Ideal S1024x1024 .bf16) (wu : FVec Ideal S1024x4096 .bf16) (wd : FVec Ideal S4096x1024 .bf16) (g1 g2 g3 : FVec Ideal S1x1024 .f32) : FVec Ideal S512x1024 .f32 :=
  FIN2 (XMID x (ACC y0 yc yr wo) g1) (FF (HID (XMID x (ACC y0 yc yr wo) g1) g2) wu wd) g3

theorem rdfull {m n : ℕ} (A : Memref sig .tc .vmem (⟨2, ![m, n]⟩ : Shape) .bf16) (hA : A.IsWhole) (x : (⟨2, ![m, n]⟩ : Shape).Idx → EReal)
    (inb : ∀ k, (![0, 0] : Fin 2 → ℕ) k + (![m, n] : Fin 2 → ℕ) k ≤ (⟨2, ![m, n]⟩ : Shape).size k) :
    View.readAt (Elt Ideal) A.view (Rect.unit ![0, 0] ![m, n] inb).toLoadRect (hA.unread (Val := Elt Ideal) x) = x := (rd2 A hA x m n 0 0 inb).trans (B2_full x)

theorem rdfullf {m n : ℕ} (A : Memref sig .tc .vmem (⟨2, ![m, n]⟩ : Shape) .f32) (hA : A.IsWhole) (x : (⟨2, ![m, n]⟩ : Shape).Idx → EReal)
    (inb : ∀ k, (![0, 0] : Fin 2 → ℕ) k + (![m, n] : Fin 2 → ℕ) k ≤ (⟨2, ![m, n]⟩ : Shape).size k) :
    View.readAt (Elt Ideal) A.view (Rect.unit ![0, 0] ![m, n] inb).toLoadRect (hA.unread (Val := Elt Ideal) x) = x := (rd2f A hA x m n 0 0 inb).trans (B2_full x)

theorem cast1 {a x : FVec Ideal S512x384 .bf16} (h : a = x) : k0_pay212 (F := Ideal) a = x := h ▸ (by unfold k0_pay212; exact shapeCast_self _ _)
theorem cast2 {a x : FVec Ideal S512x256 .bf16} (h : a = x) : k0_pay213 (F := Ideal) a = x :=
  h ▸ (by unfold k0_pay213; exact (shapeCast_self _ _).trans (shapeCast_self _ _))
theorem cast3 {a x : FVec Ideal S512x384 .bf16} (h : a = x) : k0_pay214 (F := Ideal) a = x :=
  h ▸ (by unfold k0_pay214; exact (shapeCast_self _ _).trans (shapeCast_self _ _))
theorem cast4 {a x : FVec Ideal S1x1024 .f32} (h : a = x) : k0_pay231 (F := Ideal) a = x := h ▸ (by unfold k0_pay231; exact shapeCast_self _ _)
theorem cast5 {a : FVec Ideal S512x1024 .f32} {x b : FVec Ideal S512x1024 .f32} {c : FVec Ideal S1x1024 .f32} (h : k0_pay229 (F := Ideal) a b c = x) :
    k0_pay230 (F := Ideal) a b c = x := h ▸ (by unfold k0_pay230; exact shapeCast_self _ _)

theorem dc_of {a x : FVec Ideal S512x1024 .bf16} {n : ℕ} {w : (⟨2, ![1024, n]⟩ : Shape).Idx → EReal} {b} {c0 : ℕ} (hx : a = x) (hw : b = B2 1024 256 0 c0 w) :
    k0_pay219 (F := Ideal) a b = fun z => DOTN (fun k => x (ix2 (z 0) k)) w 0 (c0 + (z 1).val) := hx ▸ hw ▸ dc_eq a w c0

theorem up_of {a x : FVec Ideal S512x1024 .bf16} {w : FVec Ideal S1024x4096 .bf16} {b} (q c0 : ℕ) (hx : a = x) (hw : b = B2 1024 256 0 (1024 * q + c0) w) :
    k0_pay233 (F := Ideal) a b = fun z => ACTN x w q (z 1) (c0 + (z 2).val) := hx ▸ hw ▸ up_eq a w q c0

theorem down_of {a A : FVec Ideal S1x512x1024 .bf16} {w : FVec Ideal S4096x1024 .bf16} {r0 c0 : ℕ} {b} (hA : a = A) (hw : b = B2 1024 256 r0 c0 w) :
    k0_pay262 (F := Ideal) a b = fun z => DOTN (fun k => A (ix3 0 (z 0) k)) w r0 (c0 + (z 1).val) := hA ▸ hw ▸ down_eq a w r0 c0

theorem acc_of {a A : FVec Ideal S1x512x1024 .bf16} {w : FVec Ideal S4096x1024 .bf16} {r0 c0 : ℕ} {b} {p P : FVec Ideal S512x256 .f32} (hA : a = A)
    (hw : b = B2 1024 256 r0 c0 w) (hp : p = P) :
    k0_pay303 (F := Ideal) a b p = fun z => P z + DOTN (fun k => A (ix3 0 (z 0) k)) w r0 (c0 + (z 1).val) := hA ▸ hw ▸ hp ▸ down_acc_eq a w r0 c0 p

theorem xmid_of {a x b y : FVec Ideal S512x1024 .f32} {c g : FVec Ideal S1x1024 .f32} (ha : a = x) (hb : b = y) (hc : c = g) :
    k0_pay229 (F := Ideal) a b c = XMID x y g := ha ▸ hb ▸ hc ▸ rfl

theorem hid_of {a x : FVec Ideal S512x1024 .f32} {c g : FVec Ideal S1x1024 .f32} (ha : a = x) (hc : c = g) :
    k0_pay232 (F := Ideal) a (k0_pay231 (F := Ideal) c) = HID x g := by rw [ha, cast4 hc]; rfl

theorem fin_of {a x f y : FVec Ideal S512x1024 .f32} {c g : FVec Ideal S1x1024 .f32} (ha : a = x) (hf : f = y) (hc : c = g) :
    k0_pay1 (F := Ideal) a f (k0_pay395 (F := Ideal) c) (k0_pay396 (F := Ideal) f) = FIN2 x y g := by
  rw [ha, hf, show k0_pay395 (F := Ideal) c = g from cast4 hc]; rfl

theorem tri_of {sig : RefSig} {κ : Kind} {sp : Space} (v : View sig κ sp S512x1024 .bf16) {w0 y0 : FVec Ideal S512x384 .bf16} {w1 yc : FVec Ideal S512x256 .bf16}
    {w2 yr : FVec Ideal S512x384 .bf16} (i2) (i1) (i0) (i) (h0 : w0 = y0) (h1 : w1 = yc) (h2 : w2 = yr) :
    View.readCov (Val := Elt Ideal) v [⟨Rect.unit (s := S512x1024) ![0, 640] S512x384.size i2, w2⟩, ⟨Rect.unit (s := S512x1024) ![0, 384] S512x256.size i1, w1⟩,
      ⟨Rect.unit (s := S512x1024) ![0, 0] S512x384.size i0, w0⟩] (Rect.unit (s := S512x1024) ![0, 0] S512x1024.size i).toLoadRect = MIX y0 yc yr :=
  h0 ▸ h1 ▸ h2 ▸ tri2 v w0 w1 w2 i2 i1 i0 i

end Cert.Att

end

end
-- ==== Proof.MlpB.lean ====
/- The output projection and the feed-forward part at the middle points: what each load reads, and what the tile of the result is. -/
module

public import proofs.«01_k».proof.Proof.MlpBase
public import proofs.«01_k».proof.Proof.Ideal.FrameA

@[expose] public section

set_option maxRecDepth 16384

noncomputable section

namespace Cert.Att

open Idealize.ShloMosaic Idealize.ShloMosaic.TcCoe Idealize.SL.Sem
open Cert.KernelIdeal Cert.KernelIdeal.Gen

variable  (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x384 .bf16) (harg5 : arg5.IsWhole) (arg6 : Memref sig .tc .vmem S512x384 .bf16) (harg6 : arg6.IsWhole) (arg7 : Memref sig .tc .vmem S512x384 .bf16) (harg7 : arg7.IsWhole) (arg8 : Memref sig .tc .vmem S512x384 .bf16) (harg8 : arg8.IsWhole) (arg9 : Memref sig .tc .vmem S6x768 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x384 .bf16) (harg17 : arg17.IsWhole) (arg18 : Memref sig .tc .vmem S384x1024 .bf16) (harg18 : arg18.IsWhole) (arg19 : Memref sig .tc .vmem S2x640x256 .f32) (harg19 : arg19.IsWhole) (arg20 : Memref sig .tc .vmem S6x640x128 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S2x512x1024 .bf16) (harg23 : arg23.IsWhole) (arg24 : Memref sig .tc .vmem S512x1024 .f32) (harg24 : arg24.IsWhole) (arg25 : Memref sig .tc .vmem S512x1024 .f32) (harg25 : arg25.IsWhole) (arg26 : Memref sig .tc .vmem S512x1024 .f32) (harg26 : arg26.IsWhole) (arg27 : Memref sig .tc .vmem S1024x1024 .bf16) (harg27 : arg27.IsWhole) (arg28 : Memref sig .tc .vmem S1024x4096 .bf16) (harg28 : arg28.IsWhole) (arg29 : Memref sig .tc .vmem S4096x1024 .bf16) (harg29 : arg29.IsWhole) (hc0 : ¬cond0_0 i) (hc1 : cond0_1 i) (hc2 : ¬cond0_2 i)
    (x0 : Vec Ideal S512x1024 .f32) (x1 : Vec Ideal S512x256 .bf16) (x2 : Vec Ideal S512x384 .bf16) (x3 : Vec Ideal S512x384 .bf16) (x4 : Vec Ideal S512x384 .bf16) (x5 : Vec Ideal S512x384 .bf16) (x6 : Vec Ideal S512x384 .bf16) (x7 : Vec Ideal S512x384 .bf16) (x8 : Vec Ideal S6x768 .f32) (x9 : Vec Ideal S1x1024 .f32) (x10 : Vec Ideal S1x1024 .f32) (x11 : Vec Ideal S1x1024 .f32) (xs0 : Vec Ideal S512x384 .bf16) (xs3 : Vec Ideal S6x640x128 .f32) (xs10 : Vec Ideal S1024x1024 .bf16) (xs11 : Vec Ideal S1024x4096 .bf16) (xs12 : Vec Ideal S4096x1024 .bf16) (fh0 : HbBuf0 (F := Ideal) c hbM0_0) (fh1 : HbBuf0 (F := Ideal) c hbM0_1) (fh2 : HbBuf0 (F := Ideal) c hbM0_2)

theorem B_v40 : (kernelRun0_B.sl.v40 c arg2 harg2 arg3 harg3 arg17 harg17 arg21 x1 x2 xs0 : FVec Ideal S512x1024 .bf16) = MIX xs0 x1 x2 := by
  exact tri_of arg21.view _ _ _ _ (cast1 (rdfull arg17 harg17 xs0 (by decide))) (cast2 (rdfull arg2 harg2 x1 (by decide))) (cast3 (rdfull arg3 harg3 x2 (by decide)))

theorem B_v122 : (kernelRun0_B.sl.v122 c arg2 harg2 arg3 harg3 arg17 harg17 arg21 arg25 arg27 harg27 x1 x2 xs0 xs10 : FVec Ideal S512x1024 .f32) = ACC xs0 x1 x2 xs10 := by
  refine quad2 (Val := Elt Ideal) (φ := .f32) _ (fun r l => DOTN (fun k => MIX xs0 x1 x2 (ix2 r k)) xs10 0 l) _ _ _ _ _ _ _ _ _ _ ?_ ?_ ?_ ?_
  · exact (dc_of (B_v40 c arg2 harg2 arg3 harg3 arg17 harg17 arg21 x1 x2 xs0) (rd2 arg27 harg27 xs10 1024 256 0 768 (by decide)) :)
  · exact (dc_of (B_v40 c arg2 harg2 arg3 harg3 arg17 harg17 arg21 x1 x2 xs0) (rd2 arg27 harg27 xs10 1024 256 0 512 (by decide)) :)
  · exact (dc_of (B_v40 c arg2 harg2 arg3 harg3 arg17 harg17 arg21 x1 x2 xs0) (rd2 arg27 harg27 xs10 1024 256 0 256 (by decide)) :)
  · exact (dc_of (B_v40 c arg2 harg2 arg3 harg3 arg17 harg17 arg21 x1 x2 xs0) (rd2 arg27 harg27 xs10 1024 256 0 0 (by decide)) :)

theorem B_v1255 : (kernelRun0_B.sl.v1255 c arg1 harg1 arg2 harg2 arg3 harg3 arg13 harg13 arg17 harg17 arg21 arg24 arg25 arg27 harg27 x0 x1 x2 x9 xs0 xs10 : FVec Ideal S512x1024 .f32) = XMID x0 (ACC xs0 x1 x2 xs10) x9 := by
  exact (one2 _ _ _ _).trans (cast5 (xmid_of (rdfullf arg1 harg1 x0 (by decide)) (B_v122 c arg2 harg2 arg3 harg3 arg17 harg17 arg21 arg25 arg27 harg27 x1 x2 xs0 xs10) (rdfullf arg13 harg13 x9 (by decide))) :)

theorem B_v159 : (kernelRun0_B.sl.v159 c arg1 harg1 arg2 harg2 arg3 harg3 arg13 harg13 arg14 harg14 arg17 harg17 arg21 arg22 arg25 arg27 harg27 x0 x1 x2 x9 x10 xs0 xs10 : FVec Ideal S512x1024 .bf16) = HID (XMID x0 (ACC xs0 x1 x2 xs10) x9) x10 := by
  refine (one2 _ _ _ _).trans ?_
  exact (hid_of (xmid_of (rdfullf arg1 harg1 x0 (by decide)) (B_v122 c arg2 harg2 arg3 harg3 arg17 harg17 arg21 arg25 arg27 harg27 x1 x2 xs0 xs10) (rdfullf arg13 harg13 x9 (by decide))) (rdfullf arg14 harg14 x10 (by decide)) :)

theorem B_v335 : (kernelRun0_B.sl.v335 c arg1 harg1 arg2 harg2 arg3 harg3 arg13 harg13 arg14 harg14 arg17 harg17 arg21 arg22 arg23 arg25 arg27 harg27 arg28 harg28 x0 x1 x2 x9 x10 xs0 xs10 xs11 : FVec Ideal S1x512x1024 .bf16) = ACT (HID (XMID x0 (ACC xs0 x1 x2 xs10) x9) x10) xs11 0 := by
  refine quad3 (Val := Elt Ideal) (φ := .bf16) _ 0 (fun r l => ACTN (HID (XMID x0 (ACC xs0 x1 x2 xs10) x9) x10) xs11 0 r l) _ _ _ _ _ _ _ _ _ _ ?_ ?_ ?_ ?_
  · exact (up_of 0 768 (B_v159 c arg1 harg1 arg2 harg2 arg3 harg3 arg13 harg13 arg14 harg14 arg17 harg17 arg21 arg22 arg25 arg27 harg27 x0 x1 x2 x9 x10 xs0 xs10) (rd2 arg28 harg28 xs11 1024 256 0 (1024 * 0 + 768) (by decide)) :)
  · exact (up_of 0 512 (B_v159 c arg1 harg1 arg2 harg2 arg3 harg3 arg13 harg13 arg14 harg14 arg17 harg17 arg21 arg22 arg25 arg27 harg27 x0 x1 x2 x9 x10 xs0 xs10) (rd2 arg28 harg28 xs11 1024 256 0 (1024 * 0 + 512) (by decide)) :)
  · exact (up_of 0 256 (B_v159 c arg1 harg1 arg2 harg2 arg3 harg3 arg13 harg13 arg14 harg14 arg17 harg17 arg21 arg22 arg25 arg27 harg27 x0 x1 x2 x9 x10 xs0 xs10) (rd2 arg28 harg28 xs11 1024 256 0 (1024 * 0 + 256) (by decide)) :)
  · exact (up_of 0 0 (B_v159 c arg1 harg1 arg2 harg2 arg3 harg3 arg13 harg13 arg14 harg14 arg17 harg17 arg21 arg22 arg25 arg27 harg27 x0 x1 x2 x9 x10 xs0 xs10) (rd2 arg28 harg28 xs11 1024 256 0 (1024 * 0 + 0) (by decide)) :)

theorem B_v613 : (kernelRun0_B.sl.v613 c arg1 harg1 arg2 harg2 arg3 harg3 arg13 harg13 arg14 harg14 arg17 harg17 arg21 arg22 arg23 arg25 arg27 harg27 arg28 harg28 x0 x1 x2 x9 x10 xs0 xs10 xs11 : FVec Ideal S1x512x1024 .bf16) = ACT (HID (XMID x0 (ACC xs0 x1 x2 xs10) x9) x10) xs11 1 := by
  refine quad3 (Val := Elt Ideal) (φ := .bf16) _ 1 (fun r l => ACTN (HID (XMID x0 (ACC xs0 x1 x2 xs10) x9) x10) xs11 1 r l) _ _ _ _ _ _ _ _ _ _ ?_ ?_ ?_ ?_
  · exact (up_of 1 768 (B_v159 c arg1 harg1 arg2 harg2 arg3 harg3 arg13 harg13 arg14 harg14 arg17 harg17 arg21 arg22 arg25 arg27 harg27 x0 x1 x2 x9 x10 xs0 xs10) (rd2 arg28 harg28 xs11 1024 256 0 (1024 * 1 + 768) (by decide)) :)
  · exact (up_of 1 512 (B_v159 c arg1 harg1 arg2 harg2 arg3 harg3 arg13 harg13 arg14 harg14 arg17 harg17 arg21 arg22 arg25 arg27 harg27 x0 x1 x2 x9 x10 xs0 xs10) (rd2 arg28 harg28 xs11 1024 256 0 (1024 * 1 + 512) (by decide)) :)
  · exact (up_of 1 256 (B_v159 c arg1 harg1 arg2 harg2 arg3 harg3 arg13 harg13 arg14 harg14 arg17 harg17 arg21 arg22 arg25 arg27 harg27 x0 x1 x2 x9 x10 xs0 xs10) (rd2 arg28 harg28 xs11 1024 256 0 (1024 * 1 + 256) (by decide)) :)
  · exact (up_of 1 0 (B_v159 c arg1 harg1 arg2 harg2 arg3 harg3 arg13 harg13 arg14 harg14 arg17 harg17 arg21 arg22 arg25 arg27 harg27 x0 x1 x2 x9 x10 xs0 xs10) (rd2 arg28 harg28 xs11 1024 256 0 (1024 * 1 + 0) (by decide)) :)

theorem B_v899 : (kernelRun0_B.sl.v899 c arg1 harg1 arg2 harg2 arg3 harg3 arg13 harg13 arg14 harg14 arg17 harg17 arg21 arg22 arg23 arg25 arg27 harg27 arg28 harg28 x0 x1 x2 x9 x10 xs0 xs10 xs11 : FVec Ideal S1x512x1024 .bf16) = ACT (HID (XMID x0 (ACC xs0 x1 x2 xs10) x9) x10) xs11 2 := by
  refine quad3 (Val := Elt Ideal) (φ := .bf16) _ 0 (fun r l => ACTN (HID (XMID x0 (ACC xs0 x1 x2 xs10) x9) x10) xs11 2 r l) _ _ _ _ _ _ _ _ _ _ ?_ ?_ ?_ ?_
  · exact (up_of 2 768 (B_v159 c arg1 harg1 arg2 harg2 arg3 harg3 arg13 harg13 arg14 harg14 arg17 harg17 arg21 arg22 arg25 arg27 harg27 x0 x1 x2 x9 x10 xs0 xs10) (rd2 arg28 harg28 xs11 1024 256 0 (1024 * 2 + 768) (by decide)) :)
  · exact (up_of 2 512 (B_v159 c arg1 harg1 arg2 harg2 arg3 harg3 arg13 harg13 arg14 harg14 arg17 harg17 arg21 arg22 arg25 arg27 harg27 x0 x1 x2 x9 x10 xs0 xs10) (rd2 arg28 harg28 xs11 1024 256 0 (1024 * 2 + 512) (by decide)) :)
  · exact (up_of 2 256 (B_v159 c arg1 harg1 arg2 harg2 arg3 harg3 arg13 harg13 arg14 harg14 arg17 harg17 arg21 arg22 arg25 arg27 harg27 x0 x1 x2 x9 x10 xs0 xs10) (rd2 arg28 harg28 xs11 1024 256 0 (1024 * 2 + 256) (by decide)) :)
  · exact (up_of 2 0 (B_v159 c arg1 harg1 arg2 harg2 arg3 harg3 arg13 harg13 arg14 harg14 arg17 harg17 arg21 arg22 arg25 arg27 harg27 x0 x1 x2 x9 x10 xs0 xs10) (rd2 arg28 harg28 xs11 1024 256 0 (1024 * 2 + 0) (by decide)) :)

theorem B_v1185 : (kernelRun0_B.sl.v1185 c arg1 harg1 arg2 harg2 arg3 harg3 arg13 harg13 arg14 harg14 arg17 harg17 arg21 arg22 arg23 arg25 arg27 harg27 arg28 harg28 x0 x1 x2 x9 x10 xs0 xs10 xs11 : FVec Ideal S1x512x1024 .bf16) = ACT (HID (XMID x0 (ACC xs0 x1 x2 xs10) x9) x10) xs11 3 := by
  refine quad3 (Val := Elt Ideal) (φ := .bf16) _ 1 (fun r l => ACTN (HID (XMID x0 (ACC xs0 x1 x2 xs10) x9) x10) xs11 3 r l) _ _ _ _ _ _ _ _ _ _ ?_ ?_ ?_ ?_
  · exact (up_of 3 768 (B_v159 c arg1 harg1 arg2 harg2 arg3 harg3 arg13 harg13 arg14 harg14 arg17 harg17 arg21 arg22 arg25 arg27 harg27 x0 x1 x2 x9 x10 xs0 xs10) (rd2 arg28 harg28 xs11 1024 256 0 (1024 * 3 + 768) (by decide)) :)
  · exact (up_of 3 512 (B_v159 c arg1 harg1 arg2 harg2 arg3 harg3 arg13 harg13 arg14 harg14 arg17 harg17 arg21 arg22 arg25 arg27 harg27 x0 x1 x2 x9 x10 xs0 xs10) (rd2 arg28 harg28 xs11 1024 256 0 (1024 * 3 + 512) (by decide)) :)
  · exact (up_of 3 256 (B_v159 c arg1 harg1 arg2 harg2 arg3 harg3 arg13 harg13 arg14 harg14 arg17 harg17 arg21 arg22 arg25 arg27 harg27 x0 x1 x2 x9 x10 xs0 xs10) (rd2 arg28 harg28 xs11 1024 256 0 (1024 * 3 + 256) (by decide)) :)
  · exact (up_of 3 0 (B_v159 c arg1 harg1 arg2 harg2 arg3 harg3 arg13 harg13 arg14 harg14 arg17 harg17 arg21 arg22 arg25 arg27 harg27 x0 x1 x2 x9 x10 xs0 xs10) (rd2 arg28 harg28 xs11 1024 256 0 (1024 * 3 + 0) (by decide)) :)

theorem B_v617 : (kernelRun0_B.sl.v617 c arg1 harg1 arg2 harg2 arg3 harg3 arg13 harg13 arg14 harg14 arg17 harg17 arg21 arg22 arg23 arg25 arg26 arg27 harg27 arg28 harg28 arg29 harg29 x0 x1 x2 x9 x10 xs0 xs10 xs11 xs12 : FVec Ideal S512x256 .f32) = fun z : S512x256.Idx => FFN (HID (XMID x0 (ACC xs0 x1 x2 xs10) x9) x10) xs11 xs12 0 (z 0) (0 + (z 1).val) := by
  refine (View.readCov_skip _ _ _ _ _ rfl).trans ((View.readCov_skip _ _ _ _ _ rfl).trans ((View.readCov_skip _ _ _ _ _ rfl).trans ((readCov_hit _ _ _ _).trans ?_)))
  exact (down_of (B_v335 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 0 0 (by decide)) :)

theorem B_v626 : (kernelRun0_B.sl.v626 c arg1 harg1 arg2 harg2 arg3 harg3 arg13 harg13 arg14 harg14 arg17 harg17 arg21 arg22 arg23 arg25 arg26 arg27 harg27 arg28 harg28 arg29 harg29 x0 x1 x2 x9 x10 xs0 xs10 xs11 xs12 : FVec Ideal S512x256 .f32) = fun z : S512x256.Idx => FFN (HID (XMID x0 (ACC xs0 x1 x2 xs10) x9) x10) xs11 xs12 0 (z 0) (256 + (z 1).val) := by
  refine (View.readCov_skip _ _ _ _ _ rfl).trans ((View.readCov_skip _ _ _ _ _ rfl).trans ((View.readCov_skip _ _ _ _ _ rfl).trans ((readCov_hit _ _ _ _).trans ?_)))
  exact (down_of (B_v335 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 0 256 (by decide)) :)

theorem B_v635 : (kernelRun0_B.sl.v635 c arg1 harg1 arg2 harg2 arg3 harg3 arg13 harg13 arg14 harg14 arg17 harg17 arg21 arg22 arg23 arg25 arg26 arg27 harg27 arg28 harg28 arg29 harg29 x0 x1 x2 x9 x10 xs0 xs10 xs11 xs12 : FVec Ideal S512x256 .f32) = fun z : S512x256.Idx => FFN (HID (XMID x0 (ACC xs0 x1 x2 xs10) x9) x10) xs11 xs12 0 (z 0) (512 + (z 1).val) := by
  refine (View.readCov_skip _ _ _ _ _ rfl).trans ((View.readCov_skip _ _ _ _ _ rfl).trans ((View.readCov_skip _ _ _ _ _ rfl).trans ((readCov_hit _ _ _ _).trans ?_)))
  exact (down_of (B_v335 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 0 512 (by decide)) :)

theorem B_v718 : (kernelRun0_B.sl.v718 c arg1 harg1 arg2 harg2 arg3 harg3 arg13 harg13 arg14 harg14 arg17 harg17 arg21 arg22 arg23 arg25 arg26 arg27 harg27 arg28 harg28 arg29 harg29 x0 x1 x2 x9 x10 xs0 xs10 xs11 xs12 : FVec Ideal S512x256 .f32) = fun z : S512x256.Idx => FFN (HID (XMID x0 (ACC xs0 x1 x2 xs10) x9) x10) xs11 xs12 0 (z 0) (768 + (z 1).val) := by
  refine (View.readCov_skip _ _ _ _ _ rfl).trans ((View.readCov_skip _ _ _ _ _ rfl).trans ((View.readCov_skip _ _ _ _ _ rfl).trans ((readCov_hit _ _ _ _).trans ?_)))
  exact (down_of (B_v335 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 0 768 (by decide)) :)

theorem B_v903 : (kernelRun0_B.sl.v903 c arg1 harg1 arg2 harg2 arg3 harg3 arg13 harg13 arg14 harg14 arg17 harg17 arg21 arg22 arg23 arg25 arg26 arg27 harg27 arg28 harg28 arg29 harg29 x0 x1 x2 x9 x10 xs0 xs10 xs11 xs12 : FVec Ideal S512x256 .f32) = fun z : S512x256.Idx => FFN (HID (XMID x0 (ACC xs0 x1 x2 xs10) x9) x10) xs11 xs12 1 (z 0) (0 + (z 1).val) := by
  refine (View.readCov_skip _ _ _ _ _ rfl).trans ((View.readCov_skip _ _ _ _ _ rfl).trans ((View.readCov_skip _ _ _ _ _ rfl).trans ((readCov_hit _ _ _ _).trans ?_)))
  exact (acc_of (B_v613 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 1024 0 (by decide)) (B_v617 c arg1 harg1 arg2 harg2 arg3 harg3 arg13 harg13 arg14 harg14 arg17 harg17 arg21 arg22 arg23 arg25 arg26 arg27 harg27 arg28 harg28 arg29 harg29 x0 x1 x2 x9 x10 xs0 xs10 xs11 xs12) :)

theorem B_v912 : (kernelRun0_B.sl.v912 c arg1 harg1 arg2 harg2 arg3 harg3 arg13 harg13 arg14 harg14 arg17 harg17 arg21 arg22 arg23 arg25 arg26 arg27 harg27 arg28 harg28 arg29 harg29 x0 x1 x2 x9 x10 xs0 xs10 xs11 xs12 : FVec Ideal S512x256 .f32) = fun z : S512x256.Idx => FFN (HID (XMID x0 (ACC xs0 x1 x2 xs10) x9) x10) xs11 xs12 1 (z 0) (256 + (z 1).val) := by
  refine (View.readCov_skip _ _ _ _ _ rfl).trans ((View.readCov_skip _ _ _ _ _ rfl).trans ((View.readCov_skip _ _ _ _ _ rfl).trans ((readCov_hit _ _ _ _).trans ?_)))
  exact (acc_of (B_v613 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 1024 256 (by decide)) (B_v626 c arg1 harg1 arg2 harg2 arg3 harg3 arg13 harg13 arg14 harg14 arg17 harg17 arg21 arg22 arg23 arg25 arg26 arg27 harg27 arg28 harg28 arg29 harg29 x0 x1 x2 x9 x10 xs0 xs10 xs11 xs12) :)

theorem B_v995 : (kernelRun0_B.sl.v995 c arg1 harg1 arg2 harg2 arg3 harg3 arg13 harg13 arg14 harg14 arg17 harg17 arg21 arg22 arg23 arg25 arg26 arg27 harg27 arg28 harg28 arg29 harg29 x0 x1 x2 x9 x10 xs0 xs10 xs11 xs12 : FVec Ideal S512x256 .f32) = fun z : S512x256.Idx => FFN (HID (XMID x0 (ACC xs0 x1 x2 xs10) x9) x10) xs11 xs12 1 (z 0) (512 + (z 1).val) := by
  refine (View.readCov_skip _ _ _ _ _ rfl).trans ((View.readCov_skip _ _ _ _ _ rfl).trans ((View.readCov_skip _ _ _ _ _ rfl).trans ((readCov_hit _ _ _ _).trans ?_)))
  exact (acc_of (B_v613 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 1024 512 (by decide)) (B_v635 c arg1 harg1 arg2 harg2 arg3 harg3 arg13 harg13 arg14 harg14 arg17 harg17 arg21 arg22 arg23 arg25 arg26 arg27 harg27 arg28 harg28 arg29 harg29 x0 x1 x2 x9 x10 xs0 xs10 xs11 xs12) :)

theorem B_v1004 : (kernelRun0_B.sl.v1004 c arg1 harg1 arg2 harg2 arg3 harg3 arg13 harg13 arg14 harg14 arg17 harg17 arg21 arg22 arg23 arg25 arg26 arg27 harg27 arg28 harg28 arg29 harg29 x0 x1 x2 x9 x10 xs0 xs10 xs11 xs12 : FVec Ideal S512x256 .f32) = fun z : S512x256.Idx => FFN (HID (XMID x0 (ACC xs0 x1 x2 xs10) x9) x10) xs11 xs12 1 (z 0) (768 + (z 1).val) := by
  refine (View.readCov_skip _ _ _ _ _ rfl).trans ((View.readCov_skip _ _ _ _ _ rfl).trans ((View.readCov_skip _ _ _ _ _ rfl).trans ((readCov_hit _ _ _ _).trans ?_)))
  exact (acc_of (B_v613 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 1024 768 (by decide)) (B_v718 c arg1 harg1 arg2 harg2 arg3 harg3 arg13 harg13 arg14 harg14 arg17 harg17 arg21 arg22 arg23 arg25 arg26 arg27 harg27 arg28 harg28 arg29 harg29 x0 x1 x2 x9 x10 xs0 xs10 xs11 xs12) :)

theorem B_v1189 : (kernelRun0_B.sl.v1189 c arg1 harg1 arg2 harg2 arg3 harg3 arg13 harg13 arg14 harg14 arg17 harg17 arg21 arg22 arg23 arg25 arg26 arg27 harg27 arg28 harg28 arg29 harg29 x0 x1 x2 x9 x10 xs0 xs10 xs11 xs12 : FVec Ideal S512x256 .f32) = fun z : S512x256.Idx => FFN (HID (XMID x0 (ACC xs0 x1 x2 xs10) x9) x10) xs11 xs12 2 (z 0) (0 + (z 1).val) := by
  refine (View.readCov_skip _ _ _ _ _ rfl).trans ((View.readCov_skip _ _ _ _ _ rfl).trans ((View.readCov_skip _ _ _ _ _ rfl).trans ((readCov_hit _ _ _ _).trans ?_)))
  exact (acc_of (B_v899 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 2048 0 (by decide)) (B_v903 c arg1 harg1 arg2 harg2 arg3 harg3 arg13 harg13 arg14 harg14 arg17 harg17 arg21 arg22 arg23 arg25 arg26 arg27 harg27 arg28 harg28 arg29 harg29 x0 x1 x2 x9 x10 xs0 xs10 xs11 xs12) :)

theorem B_v1198 : (kernelRun0_B.sl.v1198 c arg1 harg1 arg2 harg2 arg3 harg3 arg13 harg13 arg14 harg14 arg17 harg17 arg21 arg22 arg23 arg25 arg26 arg27 harg27 arg28 harg28 arg29 harg29 x0 x1 x2 x9 x10 xs0 xs10 xs11 xs12 : FVec Ideal S512x256 .f32) = fun z : S512x256.Idx => FFN (HID (XMID x0 (ACC xs0 x1 x2 xs10) x9) x10) xs11 xs12 2 (z 0) (256 + (z 1).val) := by
  refine (View.readCov_skip _ _ _ _ _ rfl).trans ((View.readCov_skip _ _ _ _ _ rfl).trans ((View.readCov_skip _ _ _ _ _ rfl).trans ((readCov_hit _ _ _ _).trans ?_)))
  exact (acc_of (B_v899 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 2048 256 (by decide)) (B_v912 c arg1 harg1 arg2 harg2 arg3 harg3 arg13 harg13 arg14 harg14 arg17 harg17 arg21 arg22 arg23 arg25 arg26 arg27 harg27 arg28 harg28 arg29 harg29 x0 x1 x2 x9 x10 xs0 xs10 xs11 xs12) :)

theorem B_v1241 : (kernelRun0_B.sl.v1241 c arg1 harg1 arg2 harg2 arg3 harg3 arg13 harg13 arg14 harg14 arg17 harg17 arg21 arg22 arg23 arg25 arg26 arg27 harg27 arg28 harg28 arg29 harg29 x0 x1 x2 x9 x10 xs0 xs10 xs11 xs12 : FVec Ideal S512x256 .f32) = fun z : S512x256.Idx => FFN (HID (XMID x0 (ACC xs0 x1 x2 xs10) x9) x10) xs11 xs12 2 (z 0) (512 + (z 1).val) := by
  refine (View.readCov_skip _ _ _ _ _ rfl).trans ((View.readCov_skip _ _ _ _ _ rfl).trans ((View.readCov_skip _ _ _ _ _ rfl).trans ((readCov_hit _ _ _ _).trans ?_)))
  exact (acc_of (B_v899 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 2048 512 (by decide)) (B_v995 c arg1 harg1 arg2 harg2 arg3 harg3 arg13 harg13 arg14 harg14 arg17 harg17 arg21 arg22 arg23 arg25 arg26 arg27 harg27 arg28 harg28 arg29 harg29 x0 x1 x2 x9 x10 xs0 xs10 xs11 xs12) :)

theorem B_v1250 : (kernelRun0_B.sl.v1250 c arg1 harg1 arg2 harg2 arg3 harg3 arg13 harg13 arg14 harg14 arg17 harg17 arg21 arg22 arg23 arg25 arg26 arg27 harg27 arg28 harg28 arg29 harg29 x0 x1 x2 x9 x10 xs0 xs10 xs11 xs12 : FVec Ideal S512x256 .f32) = fun z : S512x256.Idx => FFN (HID (XMID x0 (ACC xs0 x1 x2 xs10) x9) x10) xs11 xs12 2 (z 0) (768 + (z 1).val) := by
  refine (View.readCov_skip _ _ _ _ _ rfl).trans ((View.readCov_skip _ _ _ _ _ rfl).trans ((View.readCov_skip _ _ _ _ _ rfl).trans ((readCov_hit _ _ _ _).trans ?_)))
  exact (acc_of (B_v899 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 2048 768 (by decide)) (B_v1004 c arg1 harg1 arg2 harg2 arg3 harg3 arg13 harg13 arg14 harg14 arg17 harg17 arg21 arg22 arg23 arg25 arg26 arg27 harg27 arg28 harg28 arg29 harg29 x0 x1 x2 x9 x10 xs0 xs10 xs11 xs12) :)

theorem B_v1256 : (kernelRun0_B.sl.v1256 c arg1 harg1 arg2 harg2 arg3 harg3 arg13 harg13 arg14 harg14 arg17 harg17 arg21 arg22 arg23 arg25 arg26 arg27 harg27 arg28 harg28 arg29 harg29 x0 x1 x2 x9 x10 xs0 xs10 xs11 xs12 : FVec Ideal S512x1024 .f32) = FF (HID (XMID x0 (ACC xs0 x1 x2 xs10) x9) x10) xs11 xs12 := by
  refine quad2 (Val := Elt Ideal) (φ := .f32) _ (fun r l => FFN (HID (XMID x0 (ACC xs0 x1 x2 xs10) x9) x10) xs11 xs12 3 r l) _ _ _ _ _ _ _ _ _ _ ?_ ?_ ?_ ?_
  · exact (acc_of (B_v1185 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 3072 768 (by decide)) (B_v1250 c arg1 harg1 arg2 harg2 arg3 harg3 arg13 harg13 arg14 harg14 arg17 harg17 arg21 arg22 arg23 arg25 arg26 arg27 harg27 arg28 harg28 arg29 harg29 x0 x1 x2 x9 x10 xs0 xs10 xs11 xs12) :)
  · exact (acc_of (B_v1185 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 3072 512 (by decide)) (B_v1241 c arg1 harg1 arg2 harg2 arg3 harg3 arg13 harg13 arg14 harg14 arg17 harg17 arg21 arg22 arg23 arg25 arg26 arg27 harg27 arg28 harg28 arg29 harg29 x0 x1 x2 x9 x10 xs0 xs10 xs11 xs12) :)
  · exact (acc_of (B_v1185 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 3072 256 (by decide)) (B_v1198 c arg1 harg1 arg2 harg2 arg3 harg3 arg13 harg13 arg14 harg14 arg17 harg17 arg21 arg22 arg23 arg25 arg26 arg27 harg27 arg28 harg28 arg29 harg29 x0 x1 x2 x9 x10 xs0 xs10 xs11 xs12) :)
  · exact (acc_of (B_v1185 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 3072 0 (by decide)) (B_v1189 c arg1 harg1 arg2 harg2 arg3 harg3 arg13 harg13 arg14 harg14 arg17 harg17 arg21 arg22 arg23 arg25 arg26 arg27 harg27 arg28 harg28 arg29 harg29 x0 x1 x2 x9 x10 xs0 xs10 xs11 xs12) :)

theorem B_mlp : out0_B_12 c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 xs0 xs3 xs10 xs11 xs12 fh0 fh1 fh2 = MLP x0 xs0 x1 x2 xs10 xs11 xs12 x9 x10 x11 := by
  unfold out0_B_12
  rw [View.read_writes_eq_canon _ _ _ (cover0_B_12 c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 xs0 xs3 xs10 xs11 xs12 fh0 fh1 fh2)]
  unfold kernelRun0_B
  dsimp only
  funext y
  canon_tiles x h
  have e : x = y := by funext a; fin_cases a; exact Fin.ext (show (x 0).val = (y 0).val by omega); exact Fin.ext (show (x 1).val = (y 1).val by omega)
  subst e
  exact congrFun (fin_of (B_v1255 c arg1 harg1 arg2 harg2 arg3 harg3 arg13 harg13 arg17 harg17 arg21 arg24 arg25 arg27 harg27 x0 x1 x2 x9 xs0 xs10) (B_v1256 c arg1 harg1 arg2 harg2 arg3 harg3 arg13 harg13 arg14 harg14 arg17 harg17 arg21 arg22 arg23 arg25 arg26 arg27 harg27 arg28 harg28 arg29 harg29 x0 x1 x2 x9 x10 xs0 xs10 xs11 xs12) (rdfullf arg15 harg15 x11 (by decide)) :) x

end Cert.Att

end

end
-- ==== Proof.MlpC.lean ====
/- The output projection and the feed-forward part at the last point: what each load reads, and what the tile of the result is. -/
module

public import proofs.«01_k».proof.Proof.MlpBase
public import proofs.«01_k».proof.Proof.Ideal.FrameA

@[expose] public section

set_option maxRecDepth 16384

noncomputable section

namespace Cert.Att

open Idealize.ShloMosaic Idealize.ShloMosaic.TcCoe Idealize.SL.Sem
open Cert.KernelIdeal Cert.KernelIdeal.Gen

variable  (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x384 .bf16) (harg3 : arg3.IsWhole) (arg4 : Memref sig .tc .vmem S512x384 .bf16) (harg4 : arg4.IsWhole) (arg5 : Memref sig .tc .vmem S512x384 .bf16) (harg5 : arg5.IsWhole) (arg6 : Memref sig .tc .vmem S512x384 .bf16) (harg6 : arg6.IsWhole) (arg7 : Memref sig .tc .vmem S512x384 .bf16) (harg7 : arg7.IsWhole) (arg8 : Memref sig .tc .vmem S512x384 .bf16) (harg8 : arg8.IsWhole) (arg9 : Memref sig .tc .vmem S6x768 .f32) (harg9 : arg9.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x384 .bf16) (harg17 : arg17.IsWhole) (arg18 : Memref sig .tc .vmem S384x1024 .bf16) (harg18 : arg18.IsWhole) (arg19 : Memref sig .tc .vmem S2x640x256 .f32) (harg19 : arg19.IsWhole) (arg20 : Memref sig .tc .vmem S6x640x128 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S2x512x1024 .bf16) (harg23 : arg23.IsWhole) (arg24 : Memref sig .tc .vmem S512x1024 .f32) (harg24 : arg24.IsWhole) (arg25 : Memref sig .tc .vmem S512x1024 .f32) (harg25 : arg25.IsWhole) (arg26 : Memref sig .tc .vmem S512x1024 .f32) (harg26 : arg26.IsWhole) (arg27 : Memref sig .tc .vmem S1024x1024 .bf16) (harg27 : arg27.IsWhole) (arg28 : Memref sig .tc .vmem S1024x4096 .bf16) (harg28 : arg28.IsWhole) (arg29 : Memref sig .tc .vmem S4096x1024 .bf16) (harg29 : arg29.IsWhole) (hc0 : ¬cond0_0 i) (hc1 : ¬cond0_1 i) (hc2 : cond0_2 i)
    (x0 : Vec Ideal S512x1024 .f32) (x1 : Vec Ideal S512x256 .bf16) (x2 : Vec Ideal S512x384 .bf16) (x3 : Vec Ideal S512x384 .bf16) (x4 : Vec Ideal S512x384 .bf16) (x5 : Vec Ideal S512x384 .bf16) (x6 : Vec Ideal S512x384 .bf16) (x7 : Vec Ideal S512x384 .bf16) (x8 : Vec Ideal S6x768 .f32) (x9 : Vec Ideal S1x1024 .f32) (x10 : Vec Ideal S1x1024 .f32) (x11 : Vec Ideal S1x1024 .f32) (xs0 : Vec Ideal S512x384 .bf16) (xs3 : Vec Ideal S6x640x128 .f32) (xs10 : Vec Ideal S1024x1024 .bf16) (xs11 : Vec Ideal S1024x4096 .bf16) (xs12 : Vec Ideal S4096x1024 .bf16) (fh0 : HbBuf0 (F := Ideal) c hbM0_0) (fh1 : HbBuf0 (F := Ideal) c hbM0_1) (fh2 : HbBuf0 (F := Ideal) c hbM0_2)

theorem C_v25 : (kernelRun0_C.sl.v25 c arg2 harg2 arg3 harg3 arg17 harg17 arg21 x1 x2 xs0 : FVec Ideal S512x1024 .bf16) = MIX xs0 x1 x2 := by
  exact tri_of arg21.view _ _ _ _ (cast1 (rdfull arg17 harg17 xs0 (by decide))) (cast2 (rdfull arg2 harg2 x1 (by decide))) (cast3 (rdfull arg3 harg3 x2 (by decide)))

theorem C_v51 : (kernelRun0_C.sl.v51 c arg2 harg2 arg3 harg3 arg17 harg17 arg21 arg25 arg27 harg27 x1 x2 xs0 xs10 : FVec Ideal S512x1024 .f32) = ACC xs0 x1 x2 xs10 := by
  refine quad2 (Val := Elt Ideal) (φ := .f32) _ (fun r l => DOTN (fun k => MIX xs0 x1 x2 (ix2 r k)) xs10 0 l) _ _ _ _ _ _ _ _ _ _ ?_ ?_ ?_ ?_
  · exact (dc_of (C_v25 c arg2 harg2 arg3 harg3 arg17 harg17 arg21 x1 x2 xs0) (rd2 arg27 harg27 xs10 1024 256 0 768 (by decide)) :)
  · exact (dc_of (C_v25 c arg2 harg2 arg3 harg3 arg17 harg17 arg21 x1 x2 xs0) (rd2 arg27 harg27 xs10 1024 256 0 512 (by decide)) :)
  · exact (dc_of (C_v25 c arg2 harg2 arg3 harg3 arg17 harg17 arg21 x1 x2 xs0) (rd2 arg27 harg27 xs10 1024 256 0 256 (by decide)) :)
  · exact (dc_of (C_v25 c arg2 harg2 arg3 harg3 arg17 harg17 arg21 x1 x2 xs0) (rd2 arg27 harg27 xs10 1024 256 0 0 (by decide)) :)

theorem C_v384 : (kernelRun0_C.sl.v384 c arg1 harg1 arg2 harg2 arg3 harg3 arg13 harg13 arg17 harg17 arg21 arg24 arg25 arg27 harg27 x0 x1 x2 x9 xs0 xs10 : FVec Ideal S512x1024 .f32) = XMID x0 (ACC xs0 x1 x2 xs10) x9 := by
  exact (one2 _ _ _ _).trans (cast5 (xmid_of (rdfullf arg1 harg1 x0 (by decide)) (C_v51 c arg2 harg2 arg3 harg3 arg17 harg17 arg21 arg25 arg27 harg27 x1 x2 xs0 xs10) (rdfullf arg13 harg13 x9 (by decide))) :)

theorem C_v88 : (kernelRun0_C.sl.v88 c arg1 harg1 arg2 harg2 arg3 harg3 arg13 harg13 arg14 harg14 arg17 harg17 arg21 arg22 arg25 arg27 harg27 x0 x1 x2 x9 x10 xs0 xs10 : FVec Ideal S512x1024 .bf16) = HID (XMID x0 (ACC xs0 x1 x2 xs10) x9) x10 := by
  refine (one2 _ _ _ _).trans ?_
  exact (hid_of (xmid_of (rdfullf arg1 harg1 x0 (by decide)) (C_v51 c arg2 harg2 arg3 harg3 arg17 harg17 arg21 arg25 arg27 harg27 x1 x2 xs0 xs10) (rdfullf arg13 harg13 x9 (by decide))) (rdfullf arg14 harg14 x10 (by decide)) :)

theorem C_v128 : (kernelRun0_C.sl.v128 c arg1 harg1 arg2 harg2 arg3 harg3 arg13 harg13 arg14 harg14 arg17 harg17 arg21 arg22 arg23 arg25 arg27 harg27 arg28 harg28 x0 x1 x2 x9 x10 xs0 xs10 xs11 : FVec Ideal S1x512x1024 .bf16) = ACT (HID (XMID x0 (ACC xs0 x1 x2 xs10) x9) x10) xs11 0 := by
  refine quad3 (Val := Elt Ideal) (φ := .bf16) _ 0 (fun r l => ACTN (HID (XMID x0 (ACC xs0 x1 x2 xs10) x9) x10) xs11 0 r l) _ _ _ _ _ _ _ _ _ _ ?_ ?_ ?_ ?_
  · exact (up_of 0 768 (C_v88 c arg1 harg1 arg2 harg2 arg3 harg3 arg13 harg13 arg14 harg14 arg17 harg17 arg21 arg22 arg25 arg27 harg27 x0 x1 x2 x9 x10 xs0 xs10) (rd2 arg28 harg28 xs11 1024 256 0 (1024 * 0 + 768) (by decide)) :)
  · exact (up_of 0 512 (C_v88 c arg1 harg1 arg2 harg2 arg3 harg3 arg13 harg13 arg14 harg14 arg17 harg17 arg21 arg22 arg25 arg27 harg27 x0 x1 x2 x9 x10 xs0 xs10) (rd2 arg28 harg28 xs11 1024 256 0 (1024 * 0 + 512) (by decide)) :)
  · exact (up_of 0 256 (C_v88 c arg1 harg1 arg2 harg2 arg3 harg3 arg13 harg13 arg14 harg14 arg17 harg17 arg21 arg22 arg25 arg27 harg27 x0 x1 x2 x9 x10 xs0 xs10) (rd2 arg28 harg28 xs11 1024 256 0 (1024 * 0 + 256) (by decide)) :)
  · exact (up_of 0 0 (C_v88 c arg1 harg1 arg2 harg2 arg3 harg3 arg13 harg13 arg14 harg14 arg17 harg17 arg21 arg22 arg25 arg27 harg27 x0 x1 x2 x9 x10 xs0 xs10) (rd2 arg28 harg28 xs11 1024 256 0 (1024 * 0 + 0) (by decide)) :)

theorem C_v196 : (kernelRun0_C.sl.v196 c arg1 harg1 arg2 harg2 arg3 harg3 arg13 harg13 arg14 harg14 arg17 harg17 arg21 arg22 arg23 arg25 arg27 harg27 arg28 harg28 x0 x1 x2 x9 x10 xs0 xs10 xs11 : FVec Ideal S1x512x1024 .bf16) = ACT (HID (XMID x0 (ACC xs0 x1 x2 xs10) x9) x10) xs11 1 := by
  refine quad3 (Val := Elt Ideal) (φ := .bf16) _ 1 (fun r l => ACTN (HID (XMID x0 (ACC xs0 x1 x2 xs10) x9) x10) xs11 1 r l) _ _ _ _ _ _ _ _ _ _ ?_ ?_ ?_ ?_
  · exact (up_of 1 768 (C_v88 c arg1 harg1 arg2 harg2 arg3 harg3 arg13 harg13 arg14 harg14 arg17 harg17 arg21 arg22 arg25 arg27 harg27 x0 x1 x2 x9 x10 xs0 xs10) (rd2 arg28 harg28 xs11 1024 256 0 (1024 * 1 + 768) (by decide)) :)
  · exact (up_of 1 512 (C_v88 c arg1 harg1 arg2 harg2 arg3 harg3 arg13 harg13 arg14 harg14 arg17 harg17 arg21 arg22 arg25 arg27 harg27 x0 x1 x2 x9 x10 xs0 xs10) (rd2 arg28 harg28 xs11 1024 256 0 (1024 * 1 + 512) (by decide)) :)
  · exact (up_of 1 256 (C_v88 c arg1 harg1 arg2 harg2 arg3 harg3 arg13 harg13 arg14 harg14 arg17 harg17 arg21 arg22 arg25 arg27 harg27 x0 x1 x2 x9 x10 xs0 xs10) (rd2 arg28 harg28 xs11 1024 256 0 (1024 * 1 + 256) (by decide)) :)
  · exact (up_of 1 0 (C_v88 c arg1 harg1 arg2 harg2 arg3 harg3 arg13 harg13 arg14 harg14 arg17 harg17 arg21 arg22 arg25 arg27 harg27 x0 x1 x2 x9 x10 xs0 xs10) (rd2 arg28 harg28 xs11 1024 256 0 (1024 * 1 + 0) (by decide)) :)

theorem C_v272 : (kernelRun0_C.sl.v272 c arg1 harg1 arg2 harg2 arg3 harg3 arg13 harg13 arg14 harg14 arg17 harg17 arg21 arg22 arg23 arg25 arg27 harg27 arg28 harg28 x0 x1 x2 x9 x10 xs0 xs10 xs11 : FVec Ideal S1x512x1024 .bf16) = ACT (HID (XMID x0 (ACC xs0 x1 x2 xs10) x9) x10) xs11 2 := by
  refine quad3 (Val := Elt Ideal) (φ := .bf16) _ 0 (fun r l => ACTN (HID (XMID x0 (ACC xs0 x1 x2 xs10) x9) x10) xs11 2 r l) _ _ _ _ _ _ _ _ _ _ ?_ ?_ ?_ ?_
  · exact (up_of 2 768 (C_v88 c arg1 harg1 arg2 harg2 arg3 harg3 arg13 harg13 arg14 harg14 arg17 harg17 arg21 arg22 arg25 arg27 harg27 x0 x1 x2 x9 x10 xs0 xs10) (rd2 arg28 harg28 xs11 1024 256 0 (1024 * 2 + 768) (by decide)) :)
  · exact (up_of 2 512 (C_v88 c arg1 harg1 arg2 harg2 arg3 harg3 arg13 harg13 arg14 harg14 arg17 harg17 arg21 arg22 arg25 arg27 harg27 x0 x1 x2 x9 x10 xs0 xs10) (rd2 arg28 harg28 xs11 1024 256 0 (1024 * 2 + 512) (by decide)) :)
  · exact (up_of 2 256 (C_v88 c arg1 harg1 arg2 harg2 arg3 harg3 arg13 harg13 arg14 harg14 arg17 harg17 arg21 arg22 arg25 arg27 harg27 x0 x1 x2 x9 x10 xs0 xs10) (rd2 arg28 harg28 xs11 1024 256 0 (1024 * 2 + 256) (by decide)) :)
  · exact (up_of 2 0 (C_v88 c arg1 harg1 arg2 harg2 arg3 harg3 arg13 harg13 arg14 harg14 arg17 harg17 arg21 arg22 arg25 arg27 harg27 x0 x1 x2 x9 x10 xs0 xs10) (rd2 arg28 harg28 xs11 1024 256 0 (1024 * 2 + 0) (by decide)) :)

theorem C_v348 : (kernelRun0_C.sl.v348 c arg1 harg1 arg2 harg2 arg3 harg3 arg13 harg13 arg14 harg14 arg17 harg17 arg21 arg22 arg23 arg25 arg27 harg27 arg28 harg28 x0 x1 x2 x9 x10 xs0 xs10 xs11 : FVec Ideal S1x512x1024 .bf16) = ACT (HID (XMID x0 (ACC xs0 x1 x2 xs10) x9) x10) xs11 3 := by
  refine quad3 (Val := Elt Ideal) (φ := .bf16) _ 1 (fun r l => ACTN (HID (XMID x0 (ACC xs0 x1 x2 xs10) x9) x10) xs11 3 r l) _ _ _ _ _ _ _ _ _ _ ?_ ?_ ?_ ?_
  · exact (up_of 3 768 (C_v88 c arg1 harg1 arg2 harg2 arg3 harg3 arg13 harg13 arg14 harg14 arg17 harg17 arg21 arg22 arg25 arg27 harg27 x0 x1 x2 x9 x10 xs0 xs10) (rd2 arg28 harg28 xs11 1024 256 0 (1024 * 3 + 768) (by decide)) :)
  · exact (up_of 3 512 (C_v88 c arg1 harg1 arg2 harg2 arg3 harg3 arg13 harg13 arg14 harg14 arg17 harg17 arg21 arg22 arg25 arg27 harg27 x0 x1 x2 x9 x10 xs0 xs10) (rd2 arg28 harg28 xs11 1024 256 0 (1024 * 3 + 512) (by decide)) :)
  · exact (up_of 3 256 (C_v88 c arg1 harg1 arg2 harg2 arg3 harg3 arg13 harg13 arg14 harg14 arg17 harg17 arg21 arg22 arg25 arg27 harg27 x0 x1 x2 x9 x10 xs0 xs10) (rd2 arg28 harg28 xs11 1024 256 0 (1024 * 3 + 256) (by decide)) :)
  · exact (up_of 3 0 (C_v88 c arg1 harg1 arg2 harg2 arg3 harg3 arg13 harg13 arg14 harg14 arg17 harg17 arg21 arg22 arg25 arg27 harg27 x0 x1 x2 x9 x10 xs0 xs10) (rd2 arg28 harg28 xs11 1024 256 0 (1024 * 3 + 0) (by decide)) :)

theorem C_v200 : (kernelRun0_C.sl.v200 c arg1 harg1 arg2 harg2 arg3 harg3 arg13 harg13 arg14 harg14 arg17 harg17 arg21 arg22 arg23 arg25 arg26 arg27 harg27 arg28 harg28 arg29 harg29 x0 x1 x2 x9 x10 xs0 xs10 xs11 xs12 : FVec Ideal S512x256 .f32) = fun z : S512x256.Idx => FFN (HID (XMID x0 (ACC xs0 x1 x2 xs10) x9) x10) xs11 xs12 0 (z 0) (0 + (z 1).val) := by
  refine (View.readCov_skip _ _ _ _ _ rfl).trans ((View.readCov_skip _ _ _ _ _ rfl).trans ((View.readCov_skip _ _ _ _ _ rfl).trans ((readCov_hit _ _ _ _).trans ?_)))
  exact (down_of (C_v128 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 0 0 (by decide)) :)

theorem C_v209 : (kernelRun0_C.sl.v209 c arg1 harg1 arg2 harg2 arg3 harg3 arg13 harg13 arg14 harg14 arg17 harg17 arg21 arg22 arg23 arg25 arg26 arg27 harg27 arg28 harg28 arg29 harg29 x0 x1 x2 x9 x10 xs0 xs10 xs11 xs12 : FVec Ideal S512x256 .f32) = fun z : S512x256.Idx => FFN (HID (XMID x0 (ACC xs0 x1 x2 xs10) x9) x10) xs11 xs12 0 (z 0) (256 + (z 1).val) := by
  refine (View.readCov_skip _ _ _ _ _ rfl).trans ((View.readCov_skip _ _ _ _ _ rfl).trans ((View.readCov_skip _ _ _ _ _ rfl).trans ((readCov_hit _ _ _ _).trans ?_)))
  exact (down_of (C_v128 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 0 256 (by decide)) :)

theorem C_v218 : (kernelRun0_C.sl.v218 c arg1 harg1 arg2 harg2 arg3 harg3 arg13 harg13 arg14 harg14 arg17 harg17 arg21 arg22 arg23 arg25 arg26 arg27 harg27 arg28 harg28 arg29 harg29 x0 x1 x2 x9 x10 xs0 xs10 xs11 xs12 : FVec Ideal S512x256 .f32) = fun z : S512x256.Idx => FFN (HID (XMID x0 (ACC xs0 x1 x2 xs10) x9) x10) xs11 xs12 0 (z 0) (512 + (z 1).val) := by
  refine (View.readCov_skip _ _ _ _ _ rfl).trans ((View.readCov_skip _ _ _ _ _ rfl).trans ((View.readCov_skip _ _ _ _ _ rfl).trans ((readCov_hit _ _ _ _).trans ?_)))
  exact (down_of (C_v128 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 0 512 (by decide)) :)

theorem C_v227 : (kernelRun0_C.sl.v227 c arg1 harg1 arg2 harg2 arg3 harg3 arg13 harg13 arg14 harg14 arg17 harg17 arg21 arg22 arg23 arg25 arg26 arg27 harg27 arg28 harg28 arg29 harg29 x0 x1 x2 x9 x10 xs0 xs10 xs11 xs12 : FVec Ideal S512x256 .f32) = fun z : S512x256.Idx => FFN (HID (XMID x0 (ACC xs0 x1 x2 xs10) x9) x10) xs11 xs12 0 (z 0) (768 + (z 1).val) := by
  refine (View.readCov_skip _ _ _ _ _ rfl).trans ((View.readCov_skip _ _ _ _ _ rfl).trans ((View.readCov_skip _ _ _ _ _ rfl).trans ((readCov_hit _ _ _ _).trans ?_)))
  exact (down_of (C_v128 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 0 768 (by decide)) :)

theorem C_v276 : (kernelRun0_C.sl.v276 c arg1 harg1 arg2 harg2 arg3 harg3 arg13 harg13 arg14 harg14 arg17 harg17 arg21 arg22 arg23 arg25 arg26 arg27 harg27 arg28 harg28 arg29 harg29 x0 x1 x2 x9 x10 xs0 xs10 xs11 xs12 : FVec Ideal S512x256 .f32) = fun z : S512x256.Idx => FFN (HID (XMID x0 (ACC xs0 x1 x2 xs10) x9) x10) xs11 xs12 1 (z 0) (0 + (z 1).val) := by
  refine (View.readCov_skip _ _ _ _ _ rfl).trans ((View.readCov_skip _ _ _ _ _ rfl).trans ((View.readCov_skip _ _ _ _ _ rfl).trans ((readCov_hit _ _ _ _).trans ?_)))
  exact (acc_of (C_v196 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 1024 0 (by decide)) (C_v200 c arg1 harg1 arg2 harg2 arg3 harg3 arg13 harg13 arg14 harg14 arg17 harg17 arg21 arg22 arg23 arg25 arg26 arg27 harg27 arg28 harg28 arg29 harg29 x0 x1 x2 x9 x10 xs0 xs10 xs11 xs12) :)

theorem C_v285 : (kernelRun0_C.sl.v285 c arg1 harg1 arg2 harg2 arg3 harg3 arg13 harg13 arg14 harg14 arg17 harg17 arg21 arg22 arg23 arg25 arg26 arg27 harg27 arg28 harg28 arg29 harg29 x0 x1 x2 x9 x10 xs0 xs10 xs11 xs12 : FVec Ideal S512x256 .f32) = fun z : S512x256.Idx => FFN (HID (XMID x0 (ACC xs0 x1 x2 xs10) x9) x10) xs11 xs12 1 (z 0) (256 + (z 1).val) := by
  refine (View.readCov_skip _ _ _ _ _ rfl).trans ((View.readCov_skip _ _ _ _ _ rfl).trans ((View.readCov_skip _ _ _ _ _ rfl).trans ((readCov_hit _ _ _ _).trans ?_)))
  exact (acc_of (C_v196 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 1024 256 (by decide)) (C_v209 c arg1 harg1 arg2 harg2 arg3 harg3 arg13 harg13 arg14 harg14 arg17 harg17 arg21 arg22 arg23 arg25 arg26 arg27 harg27 arg28 harg28 arg29 harg29 x0 x1 x2 x9 x10 xs0 xs10 xs11 xs12) :)

theorem C_v294 : (kernelRun0_C.sl.v294 c arg1 harg1 arg2 harg2 arg3 harg3 arg13 harg13 arg14 harg14 arg17 harg17 arg21 arg22 arg23 arg25 arg26 arg27 harg27 arg28 harg28 arg29 harg29 x0 x1 x2 x9 x10 xs0 xs10 xs11 xs12 : FVec Ideal S512x256 .f32) = fun z : S512x256.Idx => FFN (HID (XMID x0 (ACC xs0 x1 x2 xs10) x9) x10) xs11 xs12 1 (z 0) (512 + (z 1).val) := by
  refine (View.readCov_skip _ _ _ _ _ rfl).trans ((View.readCov_skip _ _ _ _ _ rfl).trans ((View.readCov_skip _ _ _ _ _ rfl).trans ((readCov_hit _ _ _ _).trans ?_)))
  exact (acc_of (C_v196 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 1024 512 (by decide)) (C_v218 c arg1 harg1 arg2 harg2 arg3 harg3 arg13 harg13 arg14 harg14 arg17 harg17 arg21 arg22 arg23 arg25 arg26 arg27 harg27 arg28 harg28 arg29 harg29 x0 x1 x2 x9 x10 xs0 xs10 xs11 xs12) :)

theorem C_v303 : (kernelRun0_C.sl.v303 c arg1 harg1 arg2 harg2 arg3 harg3 arg13 harg13 arg14 harg14 arg17 harg17 arg21 arg22 arg23 arg25 arg26 arg27 harg27 arg28 harg28 arg29 harg29 x0 x1 x2 x9 x10 xs0 xs10 xs11 xs12 : FVec Ideal S512x256 .f32) = fun z : S512x256.Idx => FFN (HID (XMID x0 (ACC xs0 x1 x2 xs10) x9) x10) xs11 xs12 1 (z 0) (768 + (z 1).val) := by
  refine (View.readCov_skip _ _ _ _ _ rfl).trans ((View.readCov_skip _ _ _ _ _ rfl).trans ((View.readCov_skip _ _ _ _ _ rfl).trans ((readCov_hit _ _ _ _).trans ?_)))
  exact (acc_of (C_v196 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 1024 768 (by decide)) (C_v227 c arg1 harg1 arg2 harg2 arg3 harg3 arg13 harg13 arg14 harg14 arg17 harg17 arg21 arg22 arg23 arg25 arg26 arg27 harg27 arg28 harg28 arg29 harg29 x0 x1 x2 x9 x10 xs0 xs10 xs11 xs12) :)

theorem C_v352 : (kernelRun0_C.sl.v352 c arg1 harg1 arg2 harg2 arg3 harg3 arg13 harg13 arg14 harg14 arg17 harg17 arg21 arg22 arg23 arg25 arg26 arg27 harg27 arg28 harg28 arg29 harg29 x0 x1 x2 x9 x10 xs0 xs10 xs11 xs12 : FVec Ideal S512x256 .f32) = fun z : S512x256.Idx => FFN (HID (XMID x0 (ACC xs0 x1 x2 xs10) x9) x10) xs11 xs12 2 (z 0) (0 + (z 1).val) := by
  refine (View.readCov_skip _ _ _ _ _ rfl).trans ((View.readCov_skip _ _ _ _ _ rfl).trans ((View.readCov_skip _ _ _ _ _ rfl).trans ((readCov_hit _ _ _ _).trans ?_)))
  exact (acc_of (C_v272 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 2048 0 (by decide)) (C_v276 c arg1 harg1 arg2 harg2 arg3 harg3 arg13 harg13 arg14 harg14 arg17 harg17 arg21 arg22 arg23 arg25 arg26 arg27 harg27 arg28 harg28 arg29 harg29 x0 x1 x2 x9 x10 xs0 xs10 xs11 xs12) :)

theorem C_v361 : (kernelRun0_C.sl.v361 c arg1 harg1 arg2 harg2 arg3 harg3 arg13 harg13 arg14 harg14 arg17 harg17 arg21 arg22 arg23 arg25 arg26 arg27 harg27 arg28 harg28 arg29 harg29 x0 x1 x2 x9 x10 xs0 xs10 xs11 xs12 : FVec Ideal S512x256 .f32) = fun z : S512x256.Idx => FFN (HID (XMID x0 (ACC xs0 x1 x2 xs10) x9) x10) xs11 xs12 2 (z 0) (256 + (z 1).val) := by
  refine (View.readCov_skip _ _ _ _ _ rfl).trans ((View.readCov_skip _ _ _ _ _ rfl).trans ((View.readCov_skip _ _ _ _ _ rfl).trans ((readCov_hit _ _ _ _).trans ?_)))
  exact (acc_of (C_v272 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 2048 256 (by decide)) (C_v285 c arg1 harg1 arg2 harg2 arg3 harg3 arg13 harg13 arg14 harg14 arg17 harg17 arg21 arg22 arg23 arg25 arg26 arg27 harg27 arg28 harg28 arg29 harg29 x0 x1 x2 x9 x10 xs0 xs10 xs11 xs12) :)

theorem C_v370 : (kernelRun0_C.sl.v370 c arg1 harg1 arg2 harg2 arg3 harg3 arg13 harg13 arg14 harg14 arg17 harg17 arg21 arg22 arg23 arg25 arg26 arg27 harg27 arg28 harg28 arg29 harg29 x0 x1 x2 x9 x10 xs0 xs10 xs11 xs12 : FVec Ideal S512x256 .f32) = fun z : S512x256.Idx => FFN (HID (XMID x0 (ACC xs0 x1 x2 xs10) x9) x10) xs11 xs12 2 (z 0) (512 + (z 1).val) := by
  refine (View.readCov_skip _ _ _ _ _ rfl).trans ((View.readCov_skip _ _ _ _ _ rfl).trans ((View.readCov_skip _ _ _ _ _ rfl).trans ((readCov_hit _ _ _ _).trans ?_)))
  exact (acc_of (C_v272 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 2048 512 (by decide)) (C_v294 c arg1 harg1 arg2 harg2 arg3 harg3 arg13 harg13 arg14 harg14 arg17 harg17 arg21 arg22 arg23 arg25 arg26 arg27 harg27 arg28 harg28 arg29 harg29 x0 x1 x2 x9 x10 xs0 xs10 xs11 xs12) :)

theorem C_v379 : (kernelRun0_C.sl.v379 c arg1 harg1 arg2 harg2 arg3 harg3 arg13 harg13 arg14 harg14 arg17 harg17 arg21 arg22 arg23 arg25 arg26 arg27 harg27 arg28 harg28 arg29 harg29 x0 x1 x2 x9 x10 xs0 xs10 xs11 xs12 : FVec Ideal S512x256 .f32) = fun z : S512x256.Idx => FFN (HID (XMID x0 (ACC xs0 x1 x2 xs10) x9) x10) xs11 xs12 2 (z 0) (768 + (z 1).val) := by
  refine (View.readCov_skip _ _ _ _ _ rfl).trans ((View.readCov_skip _ _ _ _ _ rfl).trans ((View.readCov_skip _ _ _ _ _ rfl).trans ((readCov_hit _ _ _ _).trans ?_)))
  exact (acc_of (C_v272 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 2048 768 (by decide)) (C_v303 c arg1 harg1 arg2 harg2 arg3 harg3 arg13 harg13 arg14 harg14 arg17 harg17 arg21 arg22 arg23 arg25 arg26 arg27 harg27 arg28 harg28 arg29 harg29 x0 x1 x2 x9 x10 xs0 xs10 xs11 xs12) :)

theorem C_v385 : (kernelRun0_C.sl.v385 c arg1 harg1 arg2 harg2 arg3 harg3 arg13 harg13 arg14 harg14 arg17 harg17 arg21 arg22 arg23 arg25 arg26 arg27 harg27 arg28 harg28 arg29 harg29 x0 x1 x2 x9 x10 xs0 xs10 xs11 xs12 : FVec Ideal S512x1024 .f32) = FF (HID (XMID x0 (ACC xs0 x1 x2 xs10) x9) x10) xs11 xs12 := by
  refine quad2 (Val := Elt Ideal) (φ := .f32) _ (fun r l => FFN (HID (XMID x0 (ACC xs0 x1 x2 xs10) x9) x10) xs11 xs12 3 r l) _ _ _ _ _ _ _ _ _ _ ?_ ?_ ?_ ?_
  · exact (acc_of (C_v348 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 3072 768 (by decide)) (C_v379 c arg1 harg1 arg2 harg2 arg3 harg3 arg13 harg13 arg14 harg14 arg17 harg17 arg21 arg22 arg23 arg25 arg26 arg27 harg27 arg28 harg28 arg29 harg29 x0 x1 x2 x9 x10 xs0 xs10 xs11 xs12) :)
  · exact (acc_of (C_v348 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 3072 512 (by decide)) (C_v370 c arg1 harg1 arg2 harg2 arg3 harg3 arg13 harg13 arg14 harg14 arg17 harg17 arg21 arg22 arg23 arg25 arg26 arg27 harg27 arg28 harg28 arg29 harg29 x0 x1 x2 x9 x10 xs0 xs10 xs11 xs12) :)
  · exact (acc_of (C_v348 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 3072 256 (by decide)) (C_v361 c arg1 harg1 arg2 harg2 arg3 harg3 arg13 harg13 arg14 harg14 arg17 harg17 arg21 arg22 arg23 arg25 arg26 arg27 harg27 arg28 harg28 arg29 harg29 x0 x1 x2 x9 x10 xs0 xs10 xs11 xs12) :)
  · exact (acc_of (C_v348 c arg1 harg1 arg2 harg2 arg3 harg3 arg13 harg13 arg14 harg14 arg17 harg17 arg21 arg22 arg23 arg25 arg27 harg27 arg28 harg28 x0 x1 x2 x9 x10 xs0 xs10 xs11) (rd2 arg29 harg29 xs12 1024 256 3072 0 (by decide)) (C_v352 c arg1 harg1 arg2 harg2 arg3 harg3 arg13 harg13 arg14 harg14 arg17 harg17 arg21 arg22 arg23 arg25 arg26 arg27 harg27 arg28 harg28 arg29 harg29 x0 x1 x2 x9 x10 xs0 xs10 xs11 xs12) :)

theorem C_mlp : out0_C_12 c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 xs0 xs3 xs10 xs11 xs12 fh0 fh1 fh2 = MLP x0 xs0 x1 x2 xs10 xs11 xs12 x9 x10 x11 := by
  unfold out0_C_12
  rw [View.read_writes_eq_canon _ _ _ (cover0_C_12 c i arg1 harg1 arg2 harg2 arg3 harg3 arg4 harg4 arg5 harg5 arg6 harg6 arg7 harg7 arg8 harg8 arg9 harg9 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 hc2 x0 x1 x2 x3 x4 x5 x6 x7 x8 x9 x10 x11 xs0 xs3 xs10 xs11 xs12 fh0 fh1 fh2)]
  unfold kernelRun0_C
  dsimp only
  funext y
  canon_tiles x h
  have e : x = y := by funext a; fin_cases a; exact Fin.ext (show (x 0).val = (y 0).val by omega); exact Fin.ext (show (x 1).val = (y 1).val by omega)
  subst e
  exact congrFun (fin_of (C_v384 c arg1 harg1 arg2 harg2 arg3 harg3 arg13 harg13 arg17 harg17 arg21 arg24 arg25 arg27 harg27 x0 x1 x2 x9 xs0 xs10) (C_v385 c arg1 harg1 arg2 harg2 arg3 harg3 arg13 harg13 arg14 harg14 arg17 harg17 arg21 arg22 arg23 arg25 arg26 arg27 harg27 arg28 harg28 arg29 harg29 x0 x1 x2 x9 x10 xs0 xs10 xs11 xs12) (rdfullf arg15 harg15 x11 (by decide)) :) x

end Cert.Att

end

end
-- ==== Proof.Grid.lean ====
/- The contents of the carried buffers and of the output block after every point of the grid. -/
module

public import proofs.«01_k».proof.Proof.SoutA
public import proofs.«01_k».proof.Proof.AttB
public import proofs.«01_k».proof.Proof.MlpB
public import proofs.«01_k».proof.Proof.MlpC
public import proofs.«01_k».proof.Proof.Ideal.Value

@[expose] public section

set_option maxRecDepth 16384

noncomputable section

namespace Cert.Att

open Idealize.ShloMosaic Idealize.ShloMosaic.TcCoe Idealize.SL.Sem
open Cert.KernelIdeal Cert.KernelIdeal.Gen

variable (m : (ℓ : Loc nD τ sig) → Buf (Elt Ideal) ℓ)

/-- The layer's weights, as the region finds them. -/
def WO (c : Dev nD) : FVec Ideal S1024x1024 .bf16 := fun y => V m c main_v0 (ix3 0 (y 0) (y 1) : S2x1024x1024.Idx)
def WU (c : Dev nD) : FVec Ideal S1024x4096 .bf16 := fun y => V m c main_v1 (ix3 0 (y 0) (y 1) : S2x1024x4096.Idx)
def WD (c : Dev nD) : FVec Ideal S4096x1024 .bf16 := fun y => V m c main_v2 (ix3 0 (y 0) (y 1) : S2x4096x1024.Idx)

theorem flagA : ∀ t : Fin grid0.N, kernelRun0_A.sl.v661 (grid0.coords t) = if t.val % 16 = 0 then 1#1 else 0#1 := by decide +kernel
theorem flagB : ∀ t : Fin grid0.N, kernelRun0_B.sl.v21 (grid0.coords t) = if t.val % 16 = 0 then 1#1 else 0#1 := by decide +kernel

def FLAG (n : ℕ) : BitVec 1 := if n % 16 = 0 then 1#1 else 0#1

def t0 : Fin cfg0.N := ⟨0, by rw [show cfg0.N = 65 from N_0]; decide⟩

/-- The attention of the point's tile. -/
def YA (c : Dev nD) (t : Fin cfg0.N) : FVec Ideal S512x384 .bf16 :=
  ATT (FLAG t.val) (iblk m c 3 t) (iblk m c 4 t) (iblk m c 5 t) (iblk m c 6 t) (iblk m c 7 t) (TAB (iblk m c 8 t0))

theorem point_A (c : Dev nD) (t : Fin cfg0.N) (h0 : t.val % 65 = 0) :
    (outsAt0 m c t.val t.isLt).2 =
      ((ATT (FLAG t.val) (iblk m c 3 t) (iblk m c 4 t) (iblk m c 5 t) (iblk m c 6 t) (iblk m c 7 t) (TAB (iblk m c 8 t)) : FVec Ideal S512x384 .bf16), (TAB (iblk m c 8 t) : FVec Ideal S6x640x128 .f32), WO m c, WU m c, WD m c) := by
  have h1 : ¬(1 ≤ t.val % 65 ∧ t.val % 65 ≤ 63) := by omega
  have h2 : ¬t.val % 65 = 64 := by omega
  rw [outsAt0_A m c t h0 h1 h2, pointA]
  dsimp only
  refine Prod.ext ?_ (Prod.ext ?_ (Prod.ext ?_ (Prod.ext ?_ ?_))) <;> dsimp only
  · exact (A_att c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_v0) (V m c main_v1) (V m c main_v2)).trans (by rw [A_table, flagA]; rfl)
  · exact A_bias c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_v0) (V m c main_v1) (V m c main_v2)
  · funext y; exact A_w0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_v0) (V m c main_v1) (V m c main_v2) y
  · funext y; exact A_w1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_v0) (V m c main_v1) (V m c main_v2) y
  · funext y; exact A_w2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_v0) (V m c main_v1) (V m c main_v2) y

theorem point_B (c : Dev nD) (t : Fin cfg0.N) (h : 1 ≤ t.val ∧ t.val ≤ 63) (p : Vec Ideal S512x1024 .f32 × Vec Ideal S512x384 .bf16 × Vec Ideal S6x640x128 .f32 × Vec Ideal S1024x1024 .bf16 × Vec Ideal S1024x4096 .bf16 × Vec Ideal S4096x1024 .bf16)
    (hp : outsAt0 m c (t.val - 1) (Nat.lt_of_le_of_lt (Nat.sub_le _ _) t.isLt) = p) :
    outsAt0 m c t.val t.isLt =
      ((MLP (iblk m c 0 t) p.2.1 (iblk m c 1 t) (iblk m c 2 t) p.2.2.2.1 p.2.2.2.2.1 p.2.2.2.2.2 (iblk m c 9 t) (iblk m c 10 t) (iblk m c 11 t) : FVec Ideal S512x1024 .f32),
        (ATT (FLAG t.val) (iblk m c 3 t) (iblk m c 4 t) (iblk m c 5 t) (iblk m c 6 t) (iblk m c 7 t) p.2.2.1 : FVec Ideal S512x384 .bf16), p.2.2) := by
  have h0 : ¬t.val % 65 = 0 := by omega
  have h1 : 1 ≤ t.val % 65 ∧ t.val % 65 ≤ 63 := by omega
  have h2 : ¬t.val % 65 = 64 := by omega
  subst hp
  rw [outsAt0_B m c t h0 h1 h2, pointB]
  refine Prod.ext ?_ (Prod.ext ?_ rfl) <;> dsimp only
  · exact B_mlp c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v0) (V m c main_v1) (V m c main_v2)
  · exact (B_att c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v0) (V m c main_v1) (V m c main_v2)).trans (by rw [flagB]; rfl)

theorem point_C (c : Dev nD) (t : Fin cfg0.N) (h : t.val = 64) (p : Vec Ideal S512x1024 .f32 × Vec Ideal S512x384 .bf16 × Vec Ideal S6x640x128 .f32 × Vec Ideal S1024x1024 .bf16 × Vec Ideal S1024x4096 .bf16 × Vec Ideal S4096x1024 .bf16)
    (hp : outsAt0 m c (t.val - 1) (Nat.lt_of_le_of_lt (Nat.sub_le _ _) t.isLt) = p) :
    (outsAt0 m c t.val t.isLt).1 =
      (MLP (iblk m c 0 t) p.2.1 (iblk m c 1 t) (iblk m c 2 t) p.2.2.2.1 p.2.2.2.2.1 p.2.2.2.2.2 (iblk m c 9 t) (iblk m c 10 t) (iblk m c 11 t) : FVec Ideal S512x1024 .f32) := by
  have h0 : ¬t.val % 65 = 0 := by omega
  have h1 : ¬(1 ≤ t.val % 65 ∧ t.val % 65 ≤ 63) := by omega
  have h2 : t.val % 65 = 64 := by omega
  subst hp
  rw [outsAt0_C m c t h0 h1 h2, pointC]
  dsimp only
  exact C_mlp c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_v0) (V m c main_v1) (V m c main_v2)

/-- What the carried buffers hold after each point but the last. -/
theorem carried (c : Dev nD) : ∀ (n : ℕ) (hn : n < cfg0.N), n ≤ 63 →
    (outsAt0 m c n hn).2 = (YA m c ⟨n, hn⟩, (TAB (iblk m c 8 t0) : FVec Ideal S6x640x128 .f32), WO m c, WU m c, WD m c) := by
  intro n
  induction n with
  | zero => intro hn _; exact point_A m c ⟨0, hn⟩ (Nat.zero_mod 65)
  | succ n ih =>
    intro hn h
    have hp := ih (by omega) (by omega)
    have e := point_B m c ⟨n + 1, hn⟩ ⟨by simp, h⟩ _ rfl
    rw [show outsAt0 m c (n + 1) hn = _ from e]
    refine (Prod.ext ?_ ?_ : ((_, _) : Vec Ideal S512x384 .bf16 × _) = _)
    · show ATT _ _ _ _ _ _ (outsAt0 m c n (by omega)).2.2.1 = _
      rw [hp]; rfl
    · show (outsAt0 m c n (by omega)).2.2 = _
      rw [hp]

theorem out_at (c : Dev nD) (t : Fin cfg0.N) (h : 1 ≤ t.val) (s : Fin cfg0.N) (hs : s.val = t.val - 1) :
    (outsAt0 m c t.val t.isLt).1 = (MLP (iblk m c 0 t) (YA m c s) (iblk m c 1 t) (iblk m c 2 t) (WO m c) (WU m c) (WD m c) (iblk m c 9 t) (iblk m c 10 t) (iblk m c 11 t) : FVec Ideal S512x1024 .f32) := by
  have hN : t.val < 65 := lt_of_lt_of_eq t.isLt (show cfg0.N = 65 from N_0)
  obtain ⟨s, hs'⟩ := s
  dsimp only at hs
  subst hs
  have hp := carried m c (t.val - 1) hs' (by omega)
  by_cases h2 : t.val = 64
  · rw [point_C m c t h2 _ rfl, hp]
  · rw [point_B m c t ⟨h, by omega⟩ _ rfl, hp]

end Cert.Att

end

end
-- ==== Proof.Soft.lean ====
/- The softmax step of the attention over extended reals, away from both programs: a row of scores with a few
   further entries of `⊥` has the same maximum, the same exponentials and the same denominator, and dividing the
   weighted sum once by the denominator is dividing every weight by it. -/
module

public import Idealize.ShloMosaic.PureOps.Ideal.Laws

@[expose] public section

noncomputable section

namespace Cert.Soft

open Idealize.ShloMosaic

/-- A finite sum times a nonnegative real is the sum of the products. -/
theorem sum_mul_coe {ι : Type} (s : Finset ι) (f : ι → EReal) {c : EReal} (h0 : 0 ≤ c) (ht : c ≠ ⊤) :
    (∑ k ∈ s, f k) * c = ∑ k ∈ s, f k * c := by
  classical
  induction s using Finset.induction_on with
  | empty => simp
  | insert a s ha ih =>
    rw [Finset.sum_insert ha, Finset.sum_insert ha, ← ih, EReal.right_distrib_of_nonneg_of_ne_top h0 ht]

theorem exp_bot : Ideal.exp ⊥ = 0 := rfl
theorem exp_coe (r : ℝ) : Ideal.exp (r : EReal) = (Real.exp r : EReal) := rfl

/-- The exponential of anything below `⊤` is a nonnegative real. -/
theorem exp_real {x : EReal} (h : x ≠ ⊤) : ∃ r : ℝ, 0 ≤ r ∧ Ideal.exp x = (r : EReal) := by
  induction x with
  | bot => exact ⟨0, le_refl _, rfl⟩
  | top => exact absurd rfl h
  | coe r => exact ⟨Real.exp r, (Real.exp_pos r).le, rfl⟩

theorem fold_max_eq_sup {ι : Type} [Fintype ι] (f : ι → EReal) :
    Finset.univ.fold max ⊥ f = Finset.univ.sup f := rfl

/-- The largest of finitely many entries, none of them `⊤` and one of them above `⊥`, is a real. -/
theorem sup_real {ι : Type} [Fintype ι] (s : ι → EReal) (ht : ∀ k, s k ≠ ⊤) (k0 : ι) (h0 : s k0 ≠ ⊥) :
    ∃ r : ℝ, Finset.univ.sup s = (r : EReal) := by
  have h1 : Finset.univ.sup s ≠ ⊤ := by
    refine ne_of_lt ((Finset.sup_lt_iff (by simp)).2 fun k _ => lt_top_iff_ne_top.2 (ht k))
  have h2 : Finset.univ.sup s ≠ ⊥ := fun h => h0 (le_bot_iff.1 (h ▸ Finset.le_sup (Finset.mem_univ k0)))
  induction h : Finset.univ.sup s with
  | bot => exact absurd h h2
  | top => exact absurd h h1
  | coe r => exact ⟨r, rfl⟩

/-- The sum of the exponentials is a positive real. -/
theorem denom_pos {ι : Type} [Fintype ι] (s : ι → EReal) (ht : ∀ k, s k ≠ ⊤) (k0 : ι) (h0 : s k0 ≠ ⊥) :
    ∃ D : ℝ, 0 < D ∧ ∑ k, Ideal.exp (s k - Finset.univ.sup s) = (D : EReal) := by
  obtain ⟨m, hm⟩ := sup_real s ht k0 h0
  have hr : ∀ k, ∃ r : ℝ, 0 ≤ r ∧ Ideal.exp (s k - Finset.univ.sup s) = (r : EReal) := fun k => by
    refine exp_real ?_
    rw [hm]
    have := ht k
    induction h : s k with
    | bot => simp
    | top => exact absurd h this
    | coe r => rw [← EReal.coe_sub]; exact EReal.coe_ne_top _
  choose r hr0 hr1 using hr
  refine ⟨∑ k, r k, ?_, ?_⟩
  · refine Finset.sum_pos' (fun k _ => hr0 k) ⟨k0, Finset.mem_univ _, ?_⟩
    have h := hr1 k0
    have htk := ht k0
    induction hs : s k0 with
    | bot => exact absurd hs h0
    | top => exact absurd hs htk
    | coe x =>
      rw [hm, hs, ← EReal.coe_sub, exp_coe] at h
      rw [← EReal.coe_eq_coe_iff.1 h]; exact Real.exp_pos _
  · rw [Finset.sum_congr rfl fun k _ => hr1 k]
    exact (map_sum (⟨⟨fun r : ℝ => (r : EReal), rfl⟩, EReal.coe_add⟩ : ℝ →+ EReal) r _).symm

/-- The kernel's form of one output of the attention: the weighted sum, times the reciprocal of the denominator,
    over a row `S` that is the row `s` (placed by the injection `e`) and `⊥` elsewhere. -/
theorem soft_eq {ι κ : Type} [Fintype ι] [Fintype κ] (e : ι → κ) (he : Function.Injective e)
    (s : ι → EReal) (v : ι → EReal) (S V : κ → EReal)
    (hS : ∀ k, S (e k) = s k) (hV : ∀ k, V (e k) = v k) (hbot : ∀ r, (∀ k, e k ≠ r) → S r = ⊥)
    (ht : ∀ k, s k ≠ ⊤) (k0 : ι) (h0 : s k0 ≠ ⊥) :
    (∑ r, V r * Ideal.exp (S r - Finset.univ.sup S)) * Ideal.div 1 (∑ r, Ideal.exp (S r - Finset.univ.sup S))
      = ∑ k, v k * Ideal.div (Ideal.exp (s k - Finset.univ.sup s)) (∑ k, Ideal.exp (s k - Finset.univ.sup s)) := by
  classical
  have hsup : Finset.univ.sup S = Finset.univ.sup s := by
    apply le_antisymm
    · refine Finset.sup_le fun r _ => ?_
      by_cases h : ∃ k, e k = r
      · obtain ⟨k, rfl⟩ := h
        rw [hS]; exact Finset.le_sup (f := s) (Finset.mem_univ k)
      · rw [hbot r fun k hk => h ⟨k, hk⟩]; exact bot_le
    · refine Finset.sup_le fun k _ => ?_
      rw [← hS]; exact Finset.le_sup (f := S) (Finset.mem_univ (e k))
  have hsum : ∀ (g : κ → EReal), (∀ r, (∀ k, e k ≠ r) → g r = 0) → ∑ r, g r = ∑ k, g (e k) := fun g hg => by
    rw [← Finset.sum_image (s := Finset.univ) (g := e) (f := g) (fun a _ b _ h => he h)]
    refine (Finset.sum_subset (Finset.subset_univ _) fun r _ hr => hg r fun k hk => hr ?_).symm
    exact Finset.mem_image.2 ⟨k, Finset.mem_univ _, hk⟩
  have hz : ∀ r, (∀ k, e k ≠ r) → Ideal.exp (S r - Finset.univ.sup S) = 0 := fun r hr => by
    rw [hbot r hr, sub_eq_add_neg, EReal.bot_add, exp_bot]
  rw [hsum (fun r => V r * Ideal.exp (S r - Finset.univ.sup S)) (fun r hr => by rw [hz r hr, mul_zero]),
    hsum (fun r => Ideal.exp (S r - Finset.univ.sup S)) hz]
  simp only [hS, hV, hsup]
  obtain ⟨D, hD, hsD⟩ := denom_pos s ht k0 h0
  have hc : (D : EReal)⁻¹ = ((D⁻¹ : ℝ) : EReal) := (EReal.coe_inv D).symm
  have hne : (D : EReal) ≠ 0 := by exact_mod_cast hD.ne'
  rw [hsD]
  simp only [Ideal.div, if_neg hne, one_mul, hc]
  rw [sum_mul_coe _ _ (by exact_mod_cast (inv_pos.2 hD).le) (EReal.coe_ne_top _)]
  exact Finset.sum_congr rfl fun k _ => mul_assoc _ _ _

end Cert.Soft
-- ==== Proof.RefAtt.lean ====
/- The reference's attention at coordinates. -/
module

public import proofs.«01_k».proof.Proof.Gen.ReferenceIdeal.Read
public import Idealize.ShloMosaic.Lib.ValueIdxRank6
public import Idealize.ShloMosaic.Lib.Pointwise
public import Idealize.ShloMosaic.Lib.KernelVsHost
public import Idealize.ShloMosaic.Lib.Tactic.WordOmega
public import proofs.«01_k».proof.Proof.Soft

@[expose] public section

set_option maxRecDepth 16384

noncomputable section

namespace Cert.RefV
open Idealize.ShloMosaic Idealize.ShloMosaic.TcCoe Idealize.SL.Sem
open Cert.ReferenceIdeal Cert.ReferenceIdeal.Gen Cert.ReferenceIdeal.Read

variable (x1 x2 x3 : FVec Ideal S4x8192x384 .f32) (x9 : FVec Ideal S2x6x257 .f32)

theorem toInt_small (x : BitVec 32) (m : ℕ) (h : x.toNat = m) (hm : m < 2147483648) : x.toInt.toNat = m := by
  rw [BitVec.toInt_eq_toNat_of_lt (by omega)]
  omega

theorem band_word (n : Fin 128) (j : Fin 9) : (Scalar.select (IntOp.cmpi .slt (IntOp.addi (BitVec.ofNat 32 n.val) (BitVec.ofNat 32 j.val)) 0#32)
      (IntOp.addi (IntOp.addi (BitVec.ofNat 32 n.val) (BitVec.ofNat 32 j.val)) 136#32) (IntOp.addi (BitVec.ofNat 32 n.val) (BitVec.ofNat 32 j.val))).toInt.toNat = n.val + j.val := by
  revert n j
  decide +kernel

/-- Position `k` of the band of chunk `n`: the token it stands for, when there is one. -/
theorem v4_at (b : Fin 4) (n : Fin 128) (q : Fin 64) (h : Fin 6) (e : Fin 64) (t : Fin 8192) (l : Fin 384)
    (ht : t.val = 64 * n.val + q.val) (hl : l.val = 64 * h.val + e.val) :
    val_main_v4 (F := Ideal) x1 (ix5 b n q h e) = x1 (ix3 b t l) * Ideal.ofBits .f32 0x3E000000#32 := by
  rw [val_main_v4_apply, val_main_v2_apply]
  refine congrArg₂ (· * ·) (congrArg x1 ?_) rfl
  funext a
  fin_cases a
  · exact Fin.ext (show ((((b.val * 128 + n.val) * 64 + q.val) * 6 + h.val) * 64 + e.val) / 3145728 = b.val by omega)
  · exact Fin.ext (show ((((b.val * 128 + n.val) * 64 + q.val) * 6 + h.val) * 64 + e.val) / 384 % 8192 = t.val by omega)
  · exact Fin.ext (show ((((b.val * 128 + n.val) * 64 + q.val) * 6 + h.val) * 64 + e.val) % 384 = l.val by omega)

theorem cast5 (x : FVec Ideal S4x8192x384 .f32) (b : Fin 4) (n : Fin 128) (q : Fin 64) (h : Fin 6) (e : Fin 64) (t : Fin 8192) (l : Fin 384)
    (ht : t.val = 64 * n.val + q.val) (hl : l.val = 64 * h.val + e.val) :
    val_main_v5 (F := Ideal) x (ix5 b n q h e) = x (ix3 b t l) := by
  rw [val_main_v5_apply]
  refine congrArg x ?_
  funext a
  fin_cases a
  · exact Fin.ext (show ((((b.val * 128 + n.val) * 64 + q.val) * 6 + h.val) * 64 + e.val) / 3145728 = b.val by omega)
  · exact Fin.ext (show ((((b.val * 128 + n.val) * 64 + q.val) * 6 + h.val) * 64 + e.val) / 384 % 8192 = t.val by omega)
  · exact Fin.ext (show ((((b.val * 128 + n.val) * 64 + q.val) * 6 + h.val) * 64 + e.val) % 384 = l.val by omega)

theorem pad_at (x : FVec Ideal S4x8192x384 .f32) (b : Fin 4) (n : Fin 136) (q : Fin 64) (h : Fin 6) (e : Fin 64) (t : Fin 8192) (l : Fin 384)
    (hn : 8 ≤ n.val) (ht : t.val = 64 * (n.val - 8) + q.val) (hl : l.val = 64 * h.val + e.val) :
    val_main_v6 (F := Ideal) x (ix5 b n q h e) = x (ix3 b t l) := by
  unfold val_main_v6
  have h2 := n.isLt
  rw [← cast5 x b ⟨n.val - 8, by omega⟩ q h e t l ht hl]
  refine pad_apply_of_inside _ _ _ _ _ _ _ _ _ fun a => ?_
  fin_cases a
  · show b.val = 0 + b.val * (0 + 1); omega
  · show n.val = 8 + (n.val - 8) * (0 + 1); omega
  · show q.val = 0 + q.val * (0 + 1); omega
  · show h.val = 0 + h.val * (0 + 1); omega
  · show e.val = 0 + e.val * (0 + 1); omega

/-- The chunk the band's chunk `j` reads. -/
theorem v21_at (n : Fin 128) (j : Fin 9) : (val_main_v21 (F := Ideal) (ix3 n j 0)).toInt.toNat = n.val + j.val := by
  have h1 := n.isLt
  have h2 := j.isLt
  have e : val_main_v21 (F := Ideal) (ix3 n j 0) = Scalar.select (IntOp.cmpi .slt (IntOp.addi (BitVec.ofNat 32 n.val) (BitVec.ofNat 32 j.val)) 0#32)
      (IntOp.addi (IntOp.addi (BitVec.ofNat 32 n.val) (BitVec.ofNat 32 j.val)) 136#32) (IntOp.addi (BitVec.ofNat 32 n.val) (BitVec.ofNat 32 j.val)) := by
    pointwise [val_main_v21, val_main_v20, val_main_v19, val_main_v18, val_main_v17, val_main_v16, val_main_v15, val_main_v14, val_main_v13, val_main_v12, val_main_v11, val_main_v10, val_main_v9, val_main_c_1, val_main_c_2]
  rw [e]
  exact band_word n j

theorem gather_at (y : FVec Ideal S4x136x64x6x64 .f32) (idx : IVec S128x9x1 32) (b : Fin 4) (n : Fin 128) (j : Fin 9) (q : Fin 64) (h : Fin 6) (e : Fin 64) (m : Fin 136)
    (hm : (idx (ix3 n j 0)).toInt.toNat = m.val) :
    Host.gather gather_S4x136x64x6x64_S128x9x1_S4x128x9x64x6x64_0345_1_n_n_1_2_4164664 y idx (ValueIdx.ix6 b n j q h e) = y (ix5 b m q h e) := by
  unfold Host.gather
  refine congrArg y ?_
  funext a
  refine Fin.ext ?_
  show GatherDims.start _ _ idx a + GatherDims.batchCoord _ _ a + GatherDims.offCoord _ _ a = _
  rw [GatherDims.batchCoord_eq_zero _ _ _ List.not_mem_nil]
  fin_cases a
  · show 0 + 0 + b.val = b.val; omega
  · show min (idx _).toInt.toNat 135 + 0 + 0 = m.val
    have e' : ∀ i, i = ix3 n j 0 → min (idx i).toInt.toNat 135 + 0 + 0 = m.val := fun i hi => by
      rw [hi, hm]
      have := m.isLt
      omega
    refine e' _ ?_
    funext b
    fin_cases b <;> rfl
  · show 0 + 0 + q.val = q.val; omega
  · show 0 + 0 + h.val = h.val; omega
  · show 0 + 0 + e.val = e.val; omega

theorem v23_at (x : FVec Ideal S4x8192x384 .f32) (b : Fin 4) (n : Fin 128) (k : Fin 576) (h : Fin 6) (e : Fin 64) (t : Fin 8192) (l : Fin 384)
    (hn : 8 ≤ n.val + k.val / 64) (ht : t.val + 512 = 64 * n.val + k.val) (hl : l.val = 64 * h.val + e.val) :
    val_main_v23 (F := Ideal) x (ix5 b n k h e) = x (ix3 b t l) := by
  have h1 := n.isLt
  have h2 := k.isLt
  rw [← pad_at x b ⟨n.val + k.val / 64, by omega⟩ ⟨k.val % 64, by omega⟩ h e t l hn (by show t.val = 64 * (n.val + k.val / 64 - 8) + k.val % 64; omega) hl]
  unfold val_main_v23
  refine (shapeCast_apply _ shapeCasts_S4x128x9x64x6x64_S4x128x576x6x64 (ix5 b n k h e) (ValueIdx.ix6 b n ⟨k.val / 64, by omega⟩ ⟨k.val % 64, by omega⟩ h e) ?_).trans ?_
  · rw [Shape.rowMajor_val_six, Shape.rowMajor_val_five]
    show ((((b.val * 128 + n.val) * 9 + k.val / 64) * 64 + k.val % 64) * 6 + h.val) * 64 + e.val = (((b.val * 128 + n.val) * 576 + k.val) * 6 + h.val) * 64 + e.val
    omega
  · unfold val_main_v22
    exact gather_at _ _ b n _ _ h e _ (v21_at n _)

theorem v54_at (k : Fin 576) : val_main_v54 (F := Ideal) (ix1 k) = BitVec.ofNat 32 (k.val / 64) := by
  pointwise [val_main_v54, val_main_call3_v13, val_main_call3_v12, val_main_call3_c_0, val_main_call3_v11, val_main_call3_v10, val_main_call3_v9, val_main_call3_c, val_main_call3_v8, val_main_call3_v7, val_main_call3_v6, val_main_call3_v5, val_main_call3_v4, val_main_call3_v3, val_main_call3_v2, val_main_call3_v1, val_main_call3_v0, val_main_c_11, val_main_v34]
  revert k
  decide +kernel

theorem valid_word (n : Fin 128) (j : Fin 9) : IntOp.cmpi CmpIPredicate.sge (IntOp.subi (IntOp.addi (BitVec.ofNat 32 n.val) (BitVec.ofNat 32 j.val)) 8#32) 0#32 = if 8 ≤ n.val + j.val then 1#1 else 0#1 := by
  revert n j
  decide +kernel

/-- Whether position `k` of the band of chunk `n` stands for a token. -/
theorem v62_at (n : Fin 128) (k : Fin 576) : val_main_v62 (F := Ideal) (ix2 n k) = if 8 ≤ n.val + k.val / 64 then 1#1 else 0#1 := by
  have hk := k.isLt
  unfold val_main_v62 val_main_v61 val_main_v60 val_main_v59 val_main_v58 val_main_v57 val_main_v56 val_main_v55 val_main_v53 val_main_v52 val_main_c_12 val_main_c_13
  have hy := v54_at k
  generalize val_main_v54 (F := Ideal) = y at hy ⊢
  refine Eq.trans ?_ (valid_word n ⟨k.val / 64, by omega⟩)
  show _ = IntOp.cmpi CmpIPredicate.sge (IntOp.subi (IntOp.addi (BitVec.ofNat 32 n.val) (BitVec.ofNat 32 (k.val / 64))) 8#32) 0#32
  rw [← hy]
  pointwise

/-- The bias index of the distance `m - 63`. -/
def W49 (z : BitVec 32) : BitVec 32 :=
  Scalar.select (IntOp.cmpi CmpIPredicate.slt (IntOp.addi (IntOp.minsi 128#32 (IntOp.maxsi 4294967168#32 z)) 128#32) 0#32)
    (IntOp.addi (IntOp.addi (IntOp.minsi 128#32 (IntOp.maxsi 4294967168#32 z)) 128#32) 257#32)
    (IntOp.addi (IntOp.minsi 128#32 (IntOp.maxsi 4294967168#32 z)) 128#32)

theorem dist_word (m : Fin 639) : (W49 (BitVec.ofNat 32 m.val - 63#32)).toInt.toNat = min (m.val + 65) 256 := by
  revert m
  decide +kernel

theorem v50_at (q : Fin 64) (k : Fin 576) : (val_main_v50 (F := Ideal) (ix3 q k 0)).toInt.toNat = min (q.val + 640 - k.val) 256 := by
  have hq := q.isLt
  have hk := k.isLt
  have e : val_main_v50 (F := Ideal) (ix3 q k 0) = W49 (IntOp.subi (IntOp.addi (BitVec.ofNat 32 q.val) 512#32) (BitVec.ofNat 32 k.val)) := by
    pointwise [val_main_v50, val_main_v49, val_main_v48, val_main_v47, val_main_c_10, val_main_v46, val_main_v45, val_main_c_9, val_main_v44, val_main_v43, val_main_c_8, val_main_v42, val_main_call2_v4, val_main_call2_v3, val_main_call2_v2, val_main_call2_v1, val_main_call2_v0, val_main_c_6, val_main_c_7, val_main_v41, val_main_v40, val_main_v39, val_main_v38, val_main_v37, val_main_v36, val_main_c_5, val_main_v35, val_main_v34, val_main_v33]
    rfl
  have ez : IntOp.subi (IntOp.addi (BitVec.ofNat 32 q.val) 512#32) (BitVec.ofNat 32 k.val) = BitVec.ofNat 32 (q.val + 575 - k.val) - 63#32 := by
    apply BitVec.eq_of_toNat_eq
    show (BitVec.ofNat 32 q.val + 512#32 - BitVec.ofNat 32 k.val).toNat = _
    simp only [BitVec.toNat_sub, BitVec.toNat_add, BitVec.toNat_ofNat]
    omega
  rw [e, ez]
  refine (dist_word ⟨q.val + 575 - k.val, by omega⟩).trans ?_
  show min (q.val + 575 - k.val + 65) 256 = _
  omega

theorem gather9_at (y : FVec Ideal S6x257 .f32) (idx : IVec S64x576x1 32) (h : Fin 6) (q : Fin 64) (k : Fin 576) (m : Fin 257)
    (hm : (idx (ix3 q k 0)).toInt.toNat = m.val) :
    Host.gather gather_S6x257_S64x576x1_S6x64x576_0_1_n_n_1_2_61 y idx (ix3 h q k) = y (ix2 h m) := by
  unfold Host.gather
  refine congrArg y ?_
  funext a
  refine Fin.ext ?_
  show GatherDims.start _ _ idx a + GatherDims.batchCoord _ _ a + GatherDims.offCoord _ _ a = _
  rw [GatherDims.batchCoord_eq_zero _ _ _ List.not_mem_nil]
  fin_cases a
  · show 0 + 0 + h.val = h.val; omega
  · show min (idx _).toInt.toNat 256 + 0 + 0 = m.val
    have e : ∀ i, i = ix3 q k 0 → min (idx i).toInt.toNat 256 + 0 + 0 = m.val := fun i hi => by
      rw [hi, hm]
      have := m.isLt
      omega
    refine e _ ?_
    funext b
    fin_cases b <;> rfl

/-- The bias of key `k` of the band for query `q`. -/
theorem v51_at (h : Fin 6) (q : Fin 64) (k : Fin 576) (m : Fin 257) (hm : m.val = min (q.val + 640 - k.val) 256) :
    val_main_v51 (F := Ideal) x9 (ix3 h q k) = x9 (ix3 0 h m) := by
  unfold val_main_v51
  rw [gather9_at _ _ h q k m ((v50_at q k).trans hm.symm), val_main_v1_apply, val_main_v0_apply]
  refine congrArg x9 ?_
  have hh := h.isLt
  have hmm := m.isLt
  funext a
  fin_cases a
  · rfl
  · exact Fin.ext (show (h.val * 257 + m.val) / 257 % 6 = h.val by omega)
  · exact Fin.ext (show (h.val * 257 + m.val) % 257 = m.val by omega)

theorem neginf : Ideal.ofBits FTy.f32 0xFF800000#32 = ⊥ := by simp [Ideal.ofBits, Ideal.ieee]

theorem v67_raw (b : Fin 4) (n : Fin 128) (h : Fin 6) (q : Fin 64) (k : Fin 576) : val_main_v67 (F := Ideal) x1 x2 x9 (ix5 b n h q k) =
    Scalar.select (val_main_v62 (F := Ideal) (ix2 n k)) (val_main_v32 (F := Ideal) x1 x2 (ix5 b n h q k) + val_main_v51 (F := Ideal) x9 (ix3 h q k)) (Ideal.ofBits FTy.f32 0xFF800000#32) := by
  unfold val_main_v67 val_main_call4_v1 val_main_call4_v2 val_main_call4_v0 val_main_v66 val_main_v65 val_main_v64 val_main_v63 val_main_cst_14
  generalize val_main_v32 (F := Ideal) x1 x2 = y
  generalize val_main_v51 (F := Ideal) x9 = z
  generalize val_main_v62 (F := Ideal) = w
  pointwise
  rfl

theorem v68_raw (b : Fin 4) (n : Fin 128) (h : Fin 6) (q : Fin 64) : val_main_v68 (F := Ideal) x1 x2 x9 (ix4 b n h q) =
    Finset.fold max (Ideal.ofBits FTy.f32 4286578688#32) (fun k => val_main_v67 (F := Ideal) x1 x2 x9 (ix5 b n h q k)) Finset.univ := by
  unfold val_main_v68 val_main_cst_15
  generalize val_main_v67 (F := Ideal) x1 x2 x9 = y
  pointwise

/-- The softmax as the reference writes it, of any scores `y` and row maxima `z`. -/
def SOFTREF (y : FVec Ideal S4x128x6x64x576 .f32) (z : FVec Ideal S4x128x6x64 .f32) : FVec Ideal S4x128x6x64x576 .f32 :=
  (Host.divf (Host.exp (subf y (broadcastInDim S4x128x6x64x576 ![0, 1, 2, 3, 4] bcast_S4x128x6x64x1_S4x128x6x64x576_0_1_2_3_4 (broadcastInDim S4x128x6x64x1 ![0, 1, 2, 3] bcast_S4x128x6x64_S4x128x6x64x1_0_1_2_3 (maximumf (broadcastInDim S4x128x6x64 ![] bcast_S_S4x128x6x64 (val_main_cst_16 (F := Ideal))) z))))) (broadcastInDim S4x128x6x64x576 ![0, 1, 2, 3, 4] bcast_S4x128x6x64x1_S4x128x6x64x576_0_1_2_3_4 (broadcastInDim S4x128x6x64x1 ![0, 1, 2, 3] bcast_S4x128x6x64_S4x128x6x64x1_0_1_2_3 (Host.reduceAdd (Host.exp (subf y (broadcastInDim S4x128x6x64x576 ![0, 1, 2, 3, 4] bcast_S4x128x6x64x1_S4x128x6x64x576_0_1_2_3_4 (broadcastInDim S4x128x6x64x1 ![0, 1, 2, 3] bcast_S4x128x6x64_S4x128x6x64x1_0_1_2_3 (maximumf (broadcastInDim S4x128x6x64 ![] bcast_S_S4x128x6x64 (val_main_cst_16 (F := Ideal))) z))))) (val_main_cst_17 (F := Ideal)) reducesTo_S4x128x6x64x576_S4x128x6x64_d4 h_S_))))

theorem soft_apply (y : FVec Ideal S4x128x6x64x576 .f32) (z : FVec Ideal S4x128x6x64 .f32) (b : Fin 4) (n : Fin 128) (h : Fin 6) (q : Fin 64) (k : Fin 576) : SOFTREF y z (ix5 b n h q k) =
    Ideal.div (Ideal.exp (y (ix5 b n h q k) - max (Ideal.ofBits FTy.f32 4286578688#32) (z (ix4 b n h q))))
      (∑ r, Ideal.exp (y (ix5 b n h q r) - max (Ideal.ofBits FTy.f32 4286578688#32) (z (ix4 b n h q)))) := by
  pointwise [SOFTREF, val_main_cst_16, val_main_cst_17]

theorem v78_raw (b : Fin 4) (n : Fin 128) (h : Fin 6) (q : Fin 64) (k : Fin 576) : val_main_v78 (F := Ideal) x1 x2 x9 (ix5 b n h q k) =
    Ideal.div (Ideal.exp (val_main_v67 (F := Ideal) x1 x2 x9 (ix5 b n h q k) - max (Ideal.ofBits FTy.f32 4286578688#32) (val_main_v68 (F := Ideal) x1 x2 x9 (ix4 b n h q))))
      (∑ r, Ideal.exp (val_main_v67 (F := Ideal) x1 x2 x9 (ix5 b n h q r) - max (Ideal.ofBits FTy.f32 4286578688#32) (val_main_v68 (F := Ideal) x1 x2 x9 (ix4 b n h q)))) := by
  refine Eq.trans ?_ (soft_apply (val_main_v67 (F := Ideal) x1 x2 x9) (val_main_v68 (F := Ideal) x1 x2 x9) b n h q k)
  unfold val_main_v78 val_main_v77 val_main_v76 val_main_v75 val_main_v74 val_main_v73 val_main_v72 val_main_v71 val_main_v70 val_main_v69 SOFTREF
  generalize val_main_v67 (F := Ideal) x1 x2 x9 = y
  generalize val_main_v68 (F := Ideal) x1 x2 x9 = z
  rfl

theorem v80_raw (b : Fin 4) (n : Fin 128) (h : Fin 6) (q : Fin 64) (d : Fin 64) : val_main_v80 (F := Ideal) x1 x2 x3 x9 (ix5 b n q h d) =
    ∑ k : Fin 576, val_main_v31 (F := Ideal) x3 (ix5 b n k h d) * val_main_v78 (F := Ideal) x1 x2 x9 (ix5 b n h q k) := by
  unfold val_main_v80 val_main_v79
  generalize val_main_v31 (F := Ideal) x3 = y
  generalize val_main_v78 (F := Ideal) x1 x2 x9 = z
  pointwise

theorem v31_eq (x : FVec Ideal S4x8192x384 .f32) : val_main_v31 (F := Ideal) x = val_main_v23 (F := Ideal) x := by
  unfold val_main_v31 val_main_v30 val_main_v29 val_main_v28 val_main_v27 val_main_v26 val_main_v25 val_main_v24 val_main_c_4 val_main_c_3 val_main_v8 val_main_v7 val_main_call1_v0 val_main_c_0
    val_main_v23 val_main_v22 val_main_v21 val_main_v20 val_main_v19 val_main_v18 val_main_v17 val_main_v16 val_main_c_2 val_main_c_1 val_main_v6 val_main_v5 val_main_call0_v0 val_main_c
  rfl

/-- The score of key `k` of the band of chunk `n`, for query `q`. -/
theorem score_valid (b : Fin 4) (n : Fin 128) (h : Fin 6) (q : Fin 64) (k : Fin 576) (hv : 8 ≤ n.val + k.val / 64)
    (t t' : Fin 8192) (ht : t.val = 64 * n.val + q.val) (ht' : t'.val + 512 = 64 * n.val + k.val) (m : Fin 257) (hm : m.val = min (q.val + 640 - k.val) 256) :
    val_main_v67 (F := Ideal) x1 x2 x9 (ix5 b n h q k) =
      (∑ e : Fin 64, x1 (ix3 b t ⟨64 * h.val + e.val, by omega⟩) * Ideal.ofBits .f32 0x3E000000#32 * x2 (ix3 b t' ⟨64 * h.val + e.val, by omega⟩)) + x9 (ix3 0 h m) := by
  rw [v67_raw, v62_at, if_pos hv, v51_at x9 h q k m hm, val_main_v32_apply]
  refine congrArg₂ (· + ·) (Finset.sum_congr rfl fun e _ => ?_) rfl
  exact congrArg₂ (· * ·) (v4_at x1 b n q h e t _ ht rfl) (v23_at x2 b n k h e t' _ hv ht' rfl)

theorem score_invalid (b : Fin 4) (n : Fin 128) (h : Fin 6) (q : Fin 64) (k : Fin 576) (hv : ¬ 8 ≤ n.val + k.val / 64) :
    val_main_v67 (F := Ideal) x1 x2 x9 (ix5 b n h q k) = ⊥ := by
  rw [v67_raw, v62_at, if_neg hv]
  exact neginf

/-- The attention of one query as the reference computes it. -/
theorem att_row (b : Fin 4) (n : Fin 128) (h : Fin 6) (q : Fin 64) (d : Fin 64) (t : Fin 8192) (l : Fin 384) (ht : t.val = 64 * n.val + q.val) (hl : l.val = 64 * h.val + d.val) :
    val_main_v81 (F := Ideal) x1 x2 x3 x9 (ix3 b t l) =
    ∑ k : Fin 576, val_main_v23 (F := Ideal) x3 (ix5 b n k h d) *
      Ideal.div (Ideal.exp (val_main_v67 (F := Ideal) x1 x2 x9 (ix5 b n h q k) - Finset.univ.sup fun k => val_main_v67 (F := Ideal) x1 x2 x9 (ix5 b n h q k)))
        (∑ k, Ideal.exp (val_main_v67 (F := Ideal) x1 x2 x9 (ix5 b n h q k) - Finset.univ.sup fun k => val_main_v67 (F := Ideal) x1 x2 x9 (ix5 b n h q k))) := by
  have e : idx_main_v81 (ix3 b t l) = ix5 b n q h d := by
    have h1 := n.isLt
    have h2 := h.isLt
    funext a
    fin_cases a
    · exact Fin.ext (show ((b.val * 8192 + t.val) * 384 + l.val) / 3145728 = b.val by omega)
    · exact Fin.ext (show ((b.val * 8192 + t.val) * 384 + l.val) / 24576 % 128 = n.val by omega)
    · exact Fin.ext (show ((b.val * 8192 + t.val) * 384 + l.val) / 384 % 64 = q.val by omega)
    · exact Fin.ext (show ((b.val * 8192 + t.val) * 384 + l.val) / 64 % 6 = h.val by omega)
    · exact Fin.ext (show ((b.val * 8192 + t.val) * 384 + l.val) % 64 = d.val by omega)
  have hm : max (Ideal.ofBits FTy.f32 4286578688#32) (val_main_v68 (F := Ideal) x1 x2 x9 (ix4 b n h q)) =
      Finset.univ.sup fun k => val_main_v67 (F := Ideal) x1 x2 x9 (ix5 b n h q k) := by
    rw [v68_raw, show Ideal.ofBits FTy.f32 4286578688#32 = ⊥ from neginf, max_eq_right bot_le]
    rfl
  rw [val_main_v81_apply, e, v80_raw, v31_eq]
  simp only [v78_raw, hm]

end Cert.RefV

end

end
-- ==== Proof.AttEq.lean ====
/- The tile's attention is the reference's. -/
module

public import proofs.«01_k».proof.Proof.AttBase
public import proofs.«01_k».proof.Proof.BiasA
public import proofs.«01_k».proof.Proof.RefAtt
public import proofs.«01_k».proof.Proof.Soft

@[expose] public section

set_option maxRecDepth 16384

noncomputable section

namespace Cert.Att

open Idealize.ShloMosaic Idealize.ShloMosaic.TcCoe Idealize.SL.Sem
open Cert.KernelIdeal Cert.KernelIdeal.Gen

/-- A value neither `⊤` nor `⊥`. -/
def Fn (x : EReal) : Prop := x ≠ ⊤ ∧ x ≠ ⊥

theorem Fn.real {x : EReal} (h : Fn x) : ∃ r : ℝ, x = (r : EReal) := by
  obtain ⟨h1, h2⟩ := h
  induction x with
  | bot => exact absurd rfl h2
  | top => exact absurd rfl h1
  | coe r => exact ⟨r, rfl⟩

theorem Fn.coe (r : ℝ) : Fn (r : EReal) := ⟨EReal.coe_ne_top r, EReal.coe_ne_bot r⟩

theorem Fn.add {x y : EReal} (hx : Fn x) (hy : Fn y) : Fn (x + y) := by
  obtain ⟨a, rfl⟩ := hx.real
  obtain ⟨b, rfl⟩ := hy.real
  exact Fn.coe (a + b)

theorem Fn.mul {x y : EReal} (hx : Fn x) (hy : Fn y) : Fn (x * y) := by
  obtain ⟨a, rfl⟩ := hx.real
  obtain ⟨b, rfl⟩ := hy.real
  exact Fn.coe (a * b)

theorem Fn.sum {ι : Type} (s : Finset ι) (f : ι → EReal) (h : ∀ k, Fn (f k)) : Fn (∑ k ∈ s, f k) := by
  classical
  induction s using Finset.induction_on with
  | empty => exact Fn.coe 0
  | insert a s ha ih => rw [Finset.sum_insert ha]; exact (h a).add ih

theorem Fn.eighth : Fn (Ideal.ofBits .f32 0x3E000000#32) := by
  have : Ideal.ofBits .f32 0x3E000000#32 = (((1 : ℝ) / 8 : ℝ) : EReal) := by
    simp [Ideal.ofBits, Ideal.ieee, -EReal.coe_mul]; norm_num
  rw [this]; exact Fn.coe _

variable (x1 x2 x3 : FVec Ideal S4x8192x384 .f32) (x9 : FVec Ideal S2x6x257 .f32)

theorem score_fin (h1 : ∀ i, Fn (x1 i)) (h2 : ∀ i, Fn (x2 i)) (h9 : ∀ (h : Fin 6) (k : Fin 257), Fn (x9 (ix3 0 h k)))
    (b : Fin 4) (n : Fin 128) (h : Fin 6) (q : Fin 64) (k : Fin 576) (hv : 8 ≤ n.val + k.val / 64) :
    Fn (Cert.ReferenceIdeal.Read.val_main_v67 (F := Ideal) x1 x2 x9 (ix5 b n h q k)) := by
  have := n.isLt
  have := k.isLt
  have := q.isLt
  rw [Cert.RefV.score_valid x1 x2 x9 b n h q k hv ⟨64 * n.val + q.val, by omega⟩ ⟨64 * n.val + k.val - 512, by omega⟩ rfl
    (by show 64 * n.val + k.val - 512 + 512 = 64 * n.val + k.val; omega) ⟨min (q.val + 640 - k.val) 256, by omega⟩ rfl]
  exact (Fn.sum _ _ fun e => ((h1 _).mul Fn.eighth).mul (h2 _)).add (h9 _ _)

theorem score_ne_top (h1 : ∀ i, Fn (x1 i)) (h2 : ∀ i, Fn (x2 i)) (h9 : ∀ (h : Fin 6) (k : Fin 257), Fn (x9 (ix3 0 h k)))
    (b : Fin 4) (n : Fin 128) (h : Fin 6) (q : Fin 64) (k : Fin 576) :
    Cert.ReferenceIdeal.Read.val_main_v67 (F := Ideal) x1 x2 x9 (ix5 b n h q k) ≠ ⊤ := by
  by_cases hv : 8 ≤ n.val + k.val / 64
  · exact (score_fin x1 x2 x9 h1 h2 h9 b n h q k hv).1
  · rw [Cert.RefV.score_invalid x1 x2 x9 b n h q k hv]; exact bot_ne_top

theorem att_eq (f : BitVec 1) (q kp kc vp vc : FVec Ideal S512x384 .bf16) (x8 : FVec Ideal S6x768 .f32) (w : ℕ) (hw : w < 16) (b : Fin 4)
    (hf : f = if w = 0 then 1#1 else 0#1)
    (hq : ∀ (r l : ℕ) (t : Fin 8192) (l' : Fin 384), r < 512 → l'.val = l → t.val = 512 * w + r → at2 q r l = x1 (ix3 b t l') * Ideal.ofBits .f32 0x3E000000#32)
    (hk : ∀ (σ l : ℕ) (t : Fin 8192) (l' : Fin 384), σ < 1024 → l'.val = l → t.val + 512 = 512 * w + σ → kcat kp kc σ l = x2 (ix3 b t l'))
    (hv : ∀ (σ l : ℕ) (t : Fin 8192) (l' : Fin 384), σ < 1024 → l'.val = l → t.val + 512 = 512 * w + σ → kcat vp vc σ l = x3 (ix3 b t l'))
    (hg : ∀ (h : Fin 6) (l : ℕ) (k : Fin 257), l < 768 → k.val = (if l < 128 then 256 else min (l - 128) 256) → at2 x8 h.val l = x9 (ix3 0 h k))
    (h1 : ∀ i, Fn (x1 i)) (h2 : ∀ i, Fn (x2 i)) (h9 : ∀ (h : Fin 6) (k : Fin 257), Fn (x9 (ix3 0 h k)))
    (r : Fin 512) (l : Fin 384) (t : Fin 8192) (ht : t.val = 512 * w + r.val) :
    ATT f q kp kc vp vc (TAB x8) (ix2 r l) = Cert.ReferenceIdeal.Read.val_main_v81 (F := Ideal) x1 x2 x3 x9 (ix3 b t l) := by
  have hr := r.isLt
  have hl := l.isLt
  have htt := t.isLt
  obtain ⟨n, hn⟩ : ∃ n : Fin 128, n.val = t.val / 64 := ⟨⟨t.val / 64, by omega⟩, rfl⟩
  obtain ⟨qq, hqq⟩ : ∃ n : Fin 64, n.val = t.val % 64 := ⟨⟨t.val % 64, by omega⟩, rfl⟩
  obtain ⟨h, hh⟩ : ∃ n : Fin 6, n.val = l.val / 64 := ⟨⟨l.val / 64, by omega⟩, rfl⟩
  obtain ⟨d, hd⟩ : ∃ n : Fin 64, n.val = l.val % 64 := ⟨⟨l.val % 64, by omega⟩, rfl⟩
  obtain ⟨c, hc⟩ : ∃ n : Fin 128, n.val = r.val % 128 := ⟨⟨r.val % 128, by omega⟩, rfl⟩
  obtain ⟨p, hp⟩ : ∃ p : ℕ, p = r.val / 128 := ⟨_, rfl⟩
  have hp4 : p < 4 := by omega
  rw [Cert.RefV.att_row x1 x2 x3 x9 b n h qq d t l (by omega) (by omega)]
  have e0 : ATT f q kp kc vp vc (TAB x8) (ix2 r l) = OUTV f q kp kc vp vc (B3 h (TAB x8)) p h.val d.val c := by
    unfold ATT
    dsimp only
    subst hp
    rw [hh, hd, show c = ⟨r.val % 128, by omega⟩ from Fin.ext hc, show h = ⟨l.val / 64, by omega⟩ from Fin.ext hh]
    rfl
  rw [e0]
  unfold OUTV
  have hcc := c.isLt
  have hnv : n.val = 8 * w + 2 * p + c.val / 64 := by omega
  have hqv : qq.val = c.val % 64 := by omega
  have htq : t.val = 512 * w + (128 * p + c.val) := by omega
  have htn : t.val = 64 * n.val + qq.val := by omega
  clear hn hqq hc hp e0 ht
  -- the key chunks of the query's band, as rows of the 640
  let e : Fin 576 → Fin 640 := fun k => ⟨k.val + 64 * (c.val / 64), by omega⟩
  have he : Function.Injective e := fun a b hab => Fin.ext (by have := congrArg Fin.val hab; simpa [e] using this)
  have hS : ∀ k, SCORE f q kp kc (B3 h (TAB x8)) p h.val (e k) c = Cert.ReferenceIdeal.Read.val_main_v67 (F := Ideal) x1 x2 x9 (ix5 b n h qq k) := by
    intro k
    have hk576 := k.isLt
    have hek : (e k).val = k.val + 64 * (c.val / 64) := rfl
    unfold SCORE
    by_cases hv8 : 8 ≤ n.val + k.val / 64
    · rw [Cert.RefV.score_valid x1 x2 x9 b n h qq k hv8 t ⟨64 * n.val + k.val - 512, by omega⟩ htn
        (by show 64 * n.val + k.val - 512 + 512 = 64 * n.val + k.val; omega) ⟨min (qq.val + 640 - k.val) 256, by omega⟩ rfl]
      rw [if_pos (by rw [hf, hek]; by_cases h0 : w = 0 <;> simp [h0] <;> omega)]
      refine congrArg₂ (· + ·) (Finset.sum_congr rfl fun a _ => ?_) ?_
      · rw [hk _ _ ⟨64 * n.val + k.val - 512, by omega⟩ ⟨64 * h.val + a.val, by omega⟩ (by omega) rfl (by show 64 * n.val + k.val - 512 + 512 = 512 * w + (128 * p + (e k).val); omega),
          hq _ _ t ⟨64 * h.val + a.val, by omega⟩ (by omega) rfl htq]
        exact mul_comm _ _
      · show TABN x8 h.val (e k).val c.val = _
        unfold TABN
        rw [if_pos (by omega)]
        by_cases hle : (e k).val ≤ c.val
        · rw [if_pos hle]
          exact hg h _ _ (by omega) (by rw [if_pos (by omega)]; show min (qq.val + 640 - k.val) 256 = 256; omega)
        · rw [if_neg hle]
          exact hg h _ _ (by omega) (by rw [if_neg (by omega)]; show min (qq.val + 640 - k.val) 256 = _; omega)
    · rw [Cert.RefV.score_invalid x1 x2 x9 b n h qq k hv8]
      have h0 : w = 0 := by omega
      rw [if_neg (by rw [hf, hek]; simp [h0]; omega)]
  have hbot : ∀ ρ : Fin 640, (∀ k, e k ≠ ρ) → SCORE f q kp kc (B3 h (TAB x8)) p h.val ρ c = ⊥ := by
    intro ρ hρ
    have hρ' := ρ.isLt
    have : ¬((c.val < 64 ∧ ρ.val < 576) ∨ (64 ≤ c.val ∧ 64 ≤ ρ.val)) := by
      intro hb
      have hlo : 64 * (c.val / 64) ≤ ρ.val := by omega
      refine hρ ⟨ρ.val - 64 * (c.val / 64), by omega⟩ (Fin.ext ?_)
      show ρ.val - 64 * (c.val / 64) + 64 * (c.val / 64) = ρ.val
      omega
    unfold SCORE
    by_cases hm : (if f = 1#1 then 512 - 128 * p else 0) ≤ ρ.val
    · rw [if_pos hm]
      show _ + TABN x8 h.val ρ.val c.val = ⊥
      unfold TABN
      rw [if_neg this, EReal.add_bot]
    · rw [if_neg hm]
  have key := Cert.Soft.soft_eq e he (fun k => Cert.ReferenceIdeal.Read.val_main_v67 (F := Ideal) x1 x2 x9 (ix5 b n h qq k))
    (fun k => kcat vp vc (128 * p + (e k).val) (64 * h.val + d.val))
    (fun ρ => SCORE f q kp kc (B3 h (TAB x8)) p h.val ρ c) (fun ρ => kcat vp vc (128 * p + ρ.val) (64 * h.val + d.val))
    hS (fun _ => rfl) hbot (fun k => score_ne_top x1 x2 x9 h1 h2 h9 b n h qq k) ⟨512, by omega⟩
    (score_fin x1 x2 x9 h1 h2 h9 b n h qq ⟨512, by omega⟩ (by show 8 ≤ n.val + 512 / 64; omega)).2
  refine key.trans (Finset.sum_congr rfl fun k _ => ?_)
  have hk576 := k.isLt
  have hek : (e k).val = k.val + 64 * (c.val / 64) := rfl
  by_cases hv8 : 8 ≤ n.val + k.val / 64
  · rw [hv _ _ ⟨64 * n.val + k.val - 512, by omega⟩ l (by omega) (by omega) (by show 64 * n.val + k.val - 512 + 512 = 512 * w + (128 * p + (e k).val); omega),
      Cert.RefV.v23_at x3 b n k h d ⟨64 * n.val + k.val - 512, by omega⟩ l hv8 (by show 64 * n.val + k.val - 512 + 512 = 64 * n.val + k.val; omega) (by omega)]
  · obtain ⟨D, hD, hDe⟩ := Cert.Soft.denom_pos (fun k => Cert.ReferenceIdeal.Read.val_main_v67 (F := Ideal) x1 x2 x9 (ix5 b n h qq k))
      (fun k => score_ne_top x1 x2 x9 h1 h2 h9 b n h qq k) ⟨512, by omega⟩
      (score_fin x1 x2 x9 h1 h2 h9 b n h qq ⟨512, by omega⟩ (by show 8 ≤ n.val + 512 / 64; omega)).2
    have hz : Ideal.div (Ideal.exp (Cert.ReferenceIdeal.Read.val_main_v67 (F := Ideal) x1 x2 x9 (ix5 b n h qq k) - Finset.univ.sup fun k => Cert.ReferenceIdeal.Read.val_main_v67 (F := Ideal) x1 x2 x9 (ix5 b n h qq k)))
        (∑ k, Ideal.exp (Cert.ReferenceIdeal.Read.val_main_v67 (F := Ideal) x1 x2 x9 (ix5 b n h qq k) - Finset.univ.sup fun k => Cert.ReferenceIdeal.Read.val_main_v67 (F := Ideal) x1 x2 x9 (ix5 b n h qq k))) = 0 := by
      rw [hDe, Cert.RefV.score_invalid x1 x2 x9 b n h qq k hv8, EReal.bot_sub, Cert.Soft.exp_bot]
      unfold Ideal.div
      rw [if_neg (by exact_mod_cast hD.ne'), zero_mul]
    rw [hz, mul_zero, mul_zero]

end Cert.Att

end

end
-- ==== Proof.Row.lean ====
/- One row of the layer's second half as a function of the token's mixed row. -/
module

public import proofs.«01_k».proof.Proof.MlpBase
public import proofs.«01_k».proof.Proof.Gen.ReferenceIdeal.Read

@[expose] public section

set_option maxRecDepth 16384

noncomputable section

namespace Cert.Att

open Idealize.ShloMosaic Idealize.ShloMosaic.TcCoe Idealize.SL.Sem
open Cert.KernelIdeal Cert.KernelIdeal.Gen

/-- The normalised entry `l` of the row `y` under the gain `g`. -/
def NRM (y : Fin 1024 → EReal) (g : EReal) (l : Fin 1024) : EReal :=
  y l * Ideal.rsqrt (Ideal.div (∑ k, y k * y k) (Ideal.ofBits FTy.f32 1149239296#32) + Ideal.ofBits FTy.f32 897988541#32) * g

theorem xmid_apply (x a : FVec Ideal S512x1024 .f32) (g : FVec Ideal S1x1024 .f32) (r : Fin 512) (l : Fin 1024) :
    XMID x a g (ix2 r l) = x (ix2 r l) + NRM (fun k => a (ix2 r k)) (g (ix2 0 l)) l := by
  pointwise [XMID, k0_pay229, NRM]

theorem hid_apply (x : FVec Ideal S512x1024 .f32) (g : FVec Ideal S1x1024 .f32) (r : Fin 512) (l : Fin 1024) :
    HID x g (ix2 r l) = NRM (fun k => x (ix2 r k)) (g (ix2 0 l)) l := by
  pointwise [HID, k0_pay232, NRM]

theorem fin_apply (x a : FVec Ideal S512x1024 .f32) (g : FVec Ideal S1x1024 .f32) (r : Fin 512) (l : Fin 1024) :
    FIN2 x a g (ix2 r l) = x (ix2 r l) + NRM (fun k => a (ix2 r k)) (g (ix2 0 l)) l := by
  pointwise [FIN2, k0_pay1, k0_pay396, NRM]

end Cert.Att

namespace Cert.RefV
open Idealize.ShloMosaic Idealize.ShloMosaic.TcCoe Idealize.SL.Sem
open Cert.ReferenceIdeal Cert.ReferenceIdeal.Gen Cert.ReferenceIdeal.Read
open Cert.Att (NRM)

variable (x0 : FVec Ideal S4x8192x1024 .f32) (x1 x2 x3 : FVec Ideal S4x8192x384 .f32) (x4 : FVec Ideal S4x8192x256 .f32) (x5 : FVec Ideal S4x8192x384 .f32)
  (x6 x7 x8 : FVec Ideal S2x1024 .f32) (x9 : FVec Ideal S2x6x257 .f32) (x10 : FVec Ideal S2x1024x1024 .f32) (x11 : FVec Ideal S2x1024x4096 .f32) (x12 : FVec Ideal S2x4096x1024 .f32)

theorem v82_apply (b : Fin 4) (s : Fin 8192) (l : Fin 1024) : val_main_v82 (F := Ideal) x1 x2 x3 x4 x5 x9 (ix3 b s l) =
    if h : l.val < 384 then val_main_v81 (F := Ideal) x1 x2 x3 x9 (ix3 b s ⟨l.val, h⟩)
    else if h' : l.val - 384 < 256 then x4 (ix3 b s ⟨l.val - 384, h'⟩) else x5 (ix3 b s ⟨l.val - 384 - 256, by omega⟩) := by
  unfold val_main_v82
  generalize val_main_v81 (F := Ideal) x1 x2 x3 x9 = y
  pointwise

theorem v85_apply (b : Fin 4) (s : Fin 8192) (l : Fin 1024) : val_main_v85 (F := Ideal) x1 x2 x3 x4 x5 x9 x10 (ix3 b s l) =
    ∑ k : Fin 1024, val_main_v82 (F := Ideal) x1 x2 x3 x4 x5 x9 (ix3 b s k) * x10 (ix3 0 k l) := by
  unfold val_main_v85 val_main_v84 val_main_v83
  generalize val_main_v82 (F := Ideal) x1 x2 x3 x4 x5 x9 = y
  pointwise

/-- The normalisation as the reference writes it, of any tensor `y` under the gain row `g`. -/
def NORMREF (y : FVec Ideal S4x8192x1024 .f32) (g : FVec Ideal S2x1024 .f32) : FVec Ideal S4x8192x1024 .f32 :=
  mulf (mulf y (broadcastInDim S4x8192x1024 ![0, 1, 2] bcast_S4x8192x1_S4x8192x1024_0_1_2
    (Host.rsqrt (addf (Host.divf (broadcastInDim S4x8192x1 ![0, 1] bcast_S4x8192_S4x8192x1_0_1
      (Host.reduceAdd (mulf y y) (val_main_cst_21 (F := Ideal)) reducesTo_S4x8192x1024_S4x8192_d2 h_S_))
      (broadcastInDim S4x8192x1 ![] bcast_S_S4x8192x1 (val_main_cst_22 (F := Ideal))))
      (broadcastInDim S4x8192x1 ![] bcast_S_S4x8192x1 (val_main_cst_23 (F := Ideal)))))))
    (broadcastInDim S4x8192x1024 ![0, 1, 2] bcast_S1x1x1024_S4x8192x1024_0_1_2
      (broadcastInDim S1x1x1024 ![2] bcast_S1024_S1x1x1024_2 (shapeCast _ (extractStridedSlice S1x1024 ![0, 0] g slices_S2x1024_S1x1024_0_0) shapeCasts_S1x1024_S1024)))

theorem norm_apply (y : FVec Ideal S4x8192x1024 .f32) (g : FVec Ideal S2x1024 .f32) (b : Fin 4) (s : Fin 8192) (l : Fin 1024) :
    NORMREF y g (ix3 b s l) = NRM (fun k => y (ix3 b s k)) (g (ix2 0 l)) l := by
  pointwise [NORMREF, NRM, val_main_cst_21, val_main_cst_22, val_main_cst_23]

theorem v100_apply (b : Fin 4) (s : Fin 8192) (l : Fin 1024) : val_main_v100 (F := Ideal) x1 x2 x3 x4 x5 x6 x9 x10 (ix3 b s l) =
    NRM (fun k => val_main_v85 (F := Ideal) x1 x2 x3 x4 x5 x9 x10 (ix3 b s k)) (x6 (ix2 0 l)) l := by
  refine Eq.trans ?_ (norm_apply (val_main_v85 (F := Ideal) x1 x2 x3 x4 x5 x9 x10) x6 b s l)
  unfold val_main_v100 val_main_v99 val_main_v98 val_main_v97 val_main_v96 val_main_v95 val_main_v94 val_main_v93 val_main_v92 val_main_v91 val_main_v90 val_main_v89 val_main_v88 val_main_v87 val_main_v86 NORMREF
  generalize val_main_v85 (F := Ideal) x1 x2 x3 x4 x5 x9 x10 = y
  rfl

theorem v101_apply (b : Fin 4) (s : Fin 8192) (l : Fin 1024) : val_main_v101 (F := Ideal) x0 x1 x2 x3 x4 x5 x6 x9 x10 (ix3 b s l) =
    x0 (ix3 b s l) + NRM (fun k => val_main_v85 (F := Ideal) x1 x2 x3 x4 x5 x9 x10 (ix3 b s k)) (x6 (ix2 0 l)) l := by
  rw [← v100_apply]
  unfold val_main_v101
  generalize val_main_v100 (F := Ideal) x1 x2 x3 x4 x5 x6 x9 x10 = y
  rfl

theorem v116_apply (b : Fin 4) (s : Fin 8192) (l : Fin 1024) : val_main_v116 (F := Ideal) x0 x1 x2 x3 x4 x5 x6 x7 x9 x10 (ix3 b s l) =
    NRM (fun k => val_main_v101 (F := Ideal) x0 x1 x2 x3 x4 x5 x6 x9 x10 (ix3 b s k)) (x7 (ix2 0 l)) l := by
  refine Eq.trans ?_ (norm_apply (val_main_v101 (F := Ideal) x0 x1 x2 x3 x4 x5 x6 x9 x10) x7 b s l)
  unfold val_main_v116 val_main_v115 val_main_v114 val_main_v113 val_main_v112 val_main_v111 val_main_v110 val_main_v109 val_main_v108 val_main_v107 val_main_v106 val_main_v105 val_main_v104 val_main_v103 val_main_v102 NORMREF
  generalize val_main_v101 (F := Ideal) x0 x1 x2 x3 x4 x5 x6 x9 x10 = y
  rfl

theorem v121_apply (b : Fin 4) (s : Fin 8192) (l : Fin 4096) : val_main_v121 (F := Ideal) x0 x1 x2 x3 x4 x5 x6 x7 x9 x10 x11 (ix3 b s l) =
    max (∑ k : Fin 1024, val_main_v116 (F := Ideal) x0 x1 x2 x3 x4 x5 x6 x7 x9 x10 (ix3 b s k) * x11 (ix3 0 k l)) 0 * max (∑ k : Fin 1024, val_main_v116 (F := Ideal) x0 x1 x2 x3 x4 x5 x6 x7 x9 x10 (ix3 b s k) * x11 (ix3 0 k l)) 0 := by
  unfold val_main_v121 val_main_v120 val_main_v119 val_main_v118 val_main_v117 val_main_call5_v0 val_main_call5_cst
  generalize val_main_v116 (F := Ideal) x0 x1 x2 x3 x4 x5 x6 x7 x9 x10 = y
  pointwise

theorem v124_apply (b : Fin 4) (s : Fin 8192) (l : Fin 1024) : val_main_v124 (F := Ideal) x0 x1 x2 x3 x4 x5 x6 x7 x9 x10 x11 x12 (ix3 b s l) =
    ∑ k : Fin 4096, val_main_v121 (F := Ideal) x0 x1 x2 x3 x4 x5 x6 x7 x9 x10 x11 (ix3 b s k) * x12 (ix3 0 k l) := by
  unfold val_main_v124 val_main_v123 val_main_v122
  generalize val_main_v121 (F := Ideal) x0 x1 x2 x3 x4 x5 x6 x7 x9 x10 x11 = y
  pointwise

theorem v139_apply (b : Fin 4) (s : Fin 8192) (l : Fin 1024) : val_main_v139 (F := Ideal) x0 x1 x2 x3 x4 x5 x6 x7 x8 x9 x10 x11 x12 (ix3 b s l) =
    NRM (fun k => val_main_v124 (F := Ideal) x0 x1 x2 x3 x4 x5 x6 x7 x9 x10 x11 x12 (ix3 b s k)) (x8 (ix2 0 l)) l := by
  refine Eq.trans ?_ (norm_apply (val_main_v124 (F := Ideal) x0 x1 x2 x3 x4 x5 x6 x7 x9 x10 x11 x12) x8 b s l)
  unfold val_main_v139 val_main_v138 val_main_v137 val_main_v136 val_main_v135 val_main_v134 val_main_v133 val_main_v132 val_main_v131 val_main_v130 val_main_v129 val_main_v128 val_main_v127 val_main_v126 val_main_v125 NORMREF
  generalize val_main_v124 (F := Ideal) x0 x1 x2 x3 x4 x5 x6 x7 x9 x10 x11 x12 = y
  rfl

theorem v141_apply (R : Fin 32768) (b : Fin 4) (s : Fin 8192) (l : Fin 1024) (hb : b.val = R.val / 8192) (hs : s.val = R.val % 8192) :
    val_main_v141 (F := Ideal) x0 x1 x2 x3 x4 x5 x6 x7 x8 x9 x10 x11 x12 (ix2 R l) = val_main_v101 (F := Ideal) x0 x1 x2 x3 x4 x5 x6 x9 x10 (ix3 b s l) + NRM (fun k => val_main_v124 (F := Ideal) x0 x1 x2 x3 x4 x5 x6 x7 x9 x10 x11 x12 (ix3 b s k)) (x8 (ix2 0 l)) l := by
  rw [val_main_v141_apply, ← v139_apply]
  have e : idx_main_v141 (ix2 R l) = ix3 b s l := by
    have h1 := R.isLt
    have h2 := l.isLt
    funext a
    fin_cases a
    · exact Fin.ext (show (R.val * 1024 + l.val) / 8388608 = b.val by omega)
    · exact Fin.ext (show (R.val * 1024 + l.val) / 1024 % 8192 = s.val by omega)
    · exact Fin.ext (show (R.val * 1024 + l.val) % 1024 = l.val by omega)
  rw [e]
  unfold val_main_v140
  generalize val_main_v101 (F := Ideal) x0 x1 x2 x3 x4 x5 x6 x9 x10 = y
  generalize val_main_v139 (F := Ideal) x0 x1 x2 x3 x4 x5 x6 x7 x8 x9 x10 x11 x12 = z
  rfl

end Cert.RefV

end

end
-- ==== Proof.RowF.lean ====
/- The kernel's tile and the reference's row, both as one function of a token's row. -/
module

public import proofs.«01_k».proof.Proof.Row

@[expose] public section

set_option maxRecDepth 16384

noncomputable section

namespace Cert.Att

open Idealize.ShloMosaic Idealize.ShloMosaic.TcCoe Idealize.SL.Sem
open Cert.KernelIdeal Cert.KernelIdeal.Gen

variable (x mix : Fin 1024 → EReal) (wo : Fin 1024 → Fin 1024 → EReal) (wu : Fin 1024 → Fin 4096 → EReal)
  (wd : Fin 4096 → Fin 1024 → EReal) (g1 g2 g3 : Fin 1024 → EReal)

/-- The stream after the mixer. -/
def XF (l : Fin 1024) : EReal := x l + NRM (fun k => ∑ e, mix e * wo e k) (g1 l) l
/-- The normalised stream. -/
def HF (l : Fin 1024) : EReal := NRM (XF x mix wo g1) (g2 l) l
/-- The squared positive part of the first projection. -/
def UF (q : Fin 4096) : EReal :=
  max (∑ k, HF x mix wo g1 g2 k * wu k q) 0 * max (∑ k, HF x mix wo g1 g2 k * wu k q) 0
/-- The row a token ends as. -/
def ROWF (l : Fin 1024) : EReal :=
  XF x mix wo g1 l + NRM (fun k => ∑ q, UF x mix wo wu g1 g2 q * wd q k) (g3 l) l

theorem sum4096 (f : Fin 4096 → EReal) : ((∑ k : Fin 1024, f ⟨k.val, by omega⟩ + ∑ k : Fin 1024, f ⟨1024 + k.val, by omega⟩) + ∑ k : Fin 1024, f ⟨2048 + k.val, by omega⟩)
    + ∑ k : Fin 1024, f ⟨3072 + k.val, by omega⟩ = ∑ k, f k := by
  rw [Fin.sum_univ_tiles 4 1024 rfl f, Fin.sum_univ_four]
  refine congrArg₂ (· + ·) (congrArg₂ (· + ·) (congrArg₂ (· + ·) ?_ ?_) ?_) ?_ <;>
    refine Finset.sum_congr rfl fun k _ => congrArg f (Fin.ext ?_)
  · show k.val = 0 * 1024 + k.val; omega
  · show 1024 + k.val = 1 * 1024 + k.val; omega
  · show 2048 + k.val = 2 * 1024 + k.val; omega
  · show 3072 + k.val = 3 * 1024 + k.val; omega

section
variable (X : FVec Ideal S512x1024 .f32) (y0 : FVec Ideal S512x384 .bf16) (yc : FVec Ideal S512x256 .bf16) (yr : FVec Ideal S512x384 .bf16)
    (Wo : FVec Ideal S1024x1024 .bf16) (Wu : FVec Ideal S1024x4096 .bf16) (Wd : FVec Ideal S4096x1024 .bf16) (G1 G2 G3 : FVec Ideal S1x1024 .f32)

theorem acc_apply (r : Fin 512) (l : Fin 1024) : ACC y0 yc yr Wo (ix2 r l) = ∑ e : Fin 1024, MIXN y0 yc yr r e.val * Wo (ix2 e l) := by
  unfold ACC DOTN MIX
  refine Finset.sum_congr rfl fun e _ => ?_
  refine congrArg₂ (· * ·) rfl ?_
  rw [Nat.zero_add]
  exact at2_ix Wo e l

theorem ff_apply (H : FVec Ideal S512x1024 .bf16) (r : Fin 512) (l : Fin 1024) : FF H Wu Wd (ix2 r l) =
    ∑ q : Fin 4096, (max (∑ k : Fin 1024, H (ix2 r k) * Wu (ix2 k q)) 0 * max (∑ k : Fin 1024, H (ix2 r k) * Wu (ix2 k q)) 0) * Wd (ix2 q l) := by
  rw [← sum4096]
  have hd : ∀ q : Fin 4096, DOTN (fun k => H (ix2 r k)) Wu 0 q.val = ∑ k : Fin 1024, H (ix2 r k) * Wu (ix2 k q) := fun q => by
    unfold DOTN
    refine Finset.sum_congr rfl fun k _ => congrArg₂ (· * ·) rfl ?_
    rw [Nat.zero_add]
    exact at2_ix Wu k q
  have ha : ∀ (n : ℕ) (k : Fin 1024) (q : Fin 4096) (h : q.val = 1024 * n + k.val), ACT H Wu n (ix3 0 r k) =
      max (∑ k : Fin 1024, H (ix2 r k) * Wu (ix2 k q)) 0 * max (∑ k : Fin 1024, H (ix2 r k) * Wu (ix2 k q)) 0 := fun n k q h => by
    show ACTN H Wu n r k.val = _
    unfold ACTN
    rw [← h, hd]
  have hw : ∀ (n : ℕ) (q : Fin 4096) (h : q.val = n), at2 Wd n l.val = Wd (ix2 q l) := fun n q h => by rw [← h]; exact at2_ix Wd q l
  show FFN H Wu Wd 3 r l.val = _
  unfold FFN FFN FFN FFN DOTN
  refine congrArg₂ (· + ·) (congrArg₂ (· + ·) (congrArg₂ (· + ·) ?_ ?_) ?_) ?_
  · exact Finset.sum_congr rfl fun k _ => congrArg₂ (· * ·) (ha 0 k _ (by show k.val = _; omega)) (hw _ _ (by show k.val = _; omega))
  · exact Finset.sum_congr rfl fun k _ => congrArg₂ (· * ·) (ha 1 k _ (by show 1024 + k.val = _; omega)) (hw _ _ (by show 1024 + k.val = _; omega))
  · exact Finset.sum_congr rfl fun k _ => congrArg₂ (· * ·) (ha 2 k _ (by show 2048 + k.val = _; omega)) (hw _ _ (by show 2048 + k.val = _; omega))
  · exact Finset.sum_congr rfl fun k _ => congrArg₂ (· * ·) (ha 3 k _ (by show 3072 + k.val = _; omega)) (hw _ _ (by show 3072 + k.val = _; omega))

theorem mlp_row (r : Fin 512) (l : Fin 1024) : MLP X y0 yc yr Wo Wu Wd G1 G2 G3 (ix2 r l) =
    ROWF (fun k => X (ix2 r k)) (fun e => MIXN y0 yc yr r e.val) (fun a b => Wo (ix2 a b)) (fun a b => Wu (ix2 a b)) (fun a b => Wd (ix2 a b))
      (fun k => G1 (ix2 0 k)) (fun k => G2 (ix2 0 k)) (fun k => G3 (ix2 0 k)) l := by
  have hx : ∀ k, XMID X (ACC y0 yc yr Wo) G1 (ix2 r k) = XF (fun k => X (ix2 r k)) (fun e => MIXN y0 yc yr r e.val) (fun a b => Wo (ix2 a b)) (fun k => G1 (ix2 0 k)) k := fun k => by
    rw [xmid_apply]
    unfold XF
    simp only [acc_apply]
  have hh : ∀ k, HID (XMID X (ACC y0 yc yr Wo) G1) G2 (ix2 r k) = HF (fun k => X (ix2 r k)) (fun e => MIXN y0 yc yr r e.val) (fun a b => Wo (ix2 a b)) (fun k => G1 (ix2 0 k)) (fun k => G2 (ix2 0 k)) k := fun k => by
    rw [hid_apply]
    unfold HF
    simp only [hx]
  unfold MLP ROWF
  rw [fin_apply, hx]
  simp only [ff_apply, hh]
  rfl
end

end Cert.Att

namespace Cert.RefV
open Idealize.ShloMosaic Idealize.ShloMosaic.TcCoe Idealize.SL.Sem
open Cert.ReferenceIdeal Cert.ReferenceIdeal.Gen Cert.ReferenceIdeal.Read
open Cert.Att (NRM ROWF XF HF UF)

variable (x0 : FVec Ideal S4x8192x1024 .f32) (x1 x2 x3 : FVec Ideal S4x8192x384 .f32) (x4 : FVec Ideal S4x8192x256 .f32) (x5 : FVec Ideal S4x8192x384 .f32)
  (x6 x7 x8 : FVec Ideal S2x1024 .f32) (x9 : FVec Ideal S2x6x257 .f32) (x10 : FVec Ideal S2x1024x1024 .f32) (x11 : FVec Ideal S2x1024x4096 .f32) (x12 : FVec Ideal S2x4096x1024 .f32)

theorem ref_row (R : Fin 32768) (b : Fin 4) (s : Fin 8192) (l : Fin 1024) (hb : b.val = R.val / 8192) (hs : s.val = R.val % 8192) :
    val_main_v141 (F := Ideal) x0 x1 x2 x3 x4 x5 x6 x7 x8 x9 x10 x11 x12 (ix2 R l) =
    ROWF (fun k => x0 (ix3 b s k)) (fun e => val_main_v82 (F := Ideal) x1 x2 x3 x4 x5 x9 (ix3 b s e)) (fun a c => x10 (ix3 0 a c)) (fun a c => x11 (ix3 0 a c))
      (fun a c => x12 (ix3 0 a c)) (fun k => x6 (ix2 0 k)) (fun k => x7 (ix2 0 k)) (fun k => x8 (ix2 0 k)) l := by
  have hx : ∀ k, val_main_v101 (F := Ideal) x0 x1 x2 x3 x4 x5 x6 x9 x10 (ix3 b s k) = XF (fun k => x0 (ix3 b s k)) (fun e => val_main_v82 (F := Ideal) x1 x2 x3 x4 x5 x9 (ix3 b s e)) (fun a c => x10 (ix3 0 a c)) (fun k => x6 (ix2 0 k)) k := fun k => by
    rw [v101_apply]
    unfold XF
    simp only [v85_apply]
  rw [v141_apply x0 x1 x2 x3 x4 x5 x6 x7 x8 x9 x10 x11 x12 R b s l hb hs, hx]
  unfold ROWF UF HF
  simp only [v124_apply, v121_apply, v116_apply, hx]

end Cert.RefV

end

end
-- ==== Proof.Final.lean ====
/- The result array of the tiles is the reference's. -/
module

public import proofs.«01_k».proof.Proof.Blk
public import proofs.«01_k».proof.Proof.Grid
public import proofs.«01_k».proof.Proof.AttEq
public import proofs.«01_k».proof.Proof.RowF

@[expose] public section

set_option maxRecDepth 16384

noncomputable section

namespace Cert.Att

open Idealize.ShloMosaic Idealize.ShloMosaic.TcCoe Idealize.SL.Sem
open Cert.KernelIdeal Cert.KernelIdeal.Gen

variable (m : (ℓ : Loc nD τ sig) → Buf (Elt Ideal) ℓ)

theorem q_at (c : Dev nD) (s : Fin cfg0.N) (hs : s.val ≤ 63) (b : Fin 4) (hb : b.val = s.val / 16) (r l : ℕ) (t : Fin 8192) (l' : Fin 384)
    (hr : r < 512) (hl : l'.val = l) (ht : t.val = 512 * (s.val % 16) + r) :
    at2 (iblk m c 3 s) r l = A1 m c (ix3 b t l') * Ideal.ofBits .f32 0x3E000000#32 := by
  have h1 := l'.isLt
  have e : at2 (iblk m c 3 s) r l = iblk m c 3 s (ix2 (⟨r, hr⟩ : Fin 512) l') := at2_of _ _ _ _ rfl hl
  rw [e, b3_at m c s ⟨r, hr⟩ l' ⟨512 * s.val + r, by omega⟩ ⟨l'.val, by omega⟩ (by show 512 * s.val + r = 512 * min s.val 63 + r; omega) (by show l'.val = 0 + l'.val; omega),
    v7_at, QKV_apply _ _ _ _ _ b t (by show b.val = (512 * s.val + r) / 8192; omega) (by show t.val = (512 * s.val + r) % 8192; omega), dif_pos h1]

theorem k_at (c : Dev nD) (s : Fin cfg0.N) (hs : s.val ≤ 63) (b : Fin 4) (hb : b.val = s.val / 16) (σ l : ℕ) (t : Fin 8192) (l' : Fin 384)
    (hσ : σ < 1024) (hl : l'.val = l) (ht : t.val + 512 = 512 * (s.val % 16) + σ) :
    kcat (iblk m c 4 s) (iblk m c 5 s) σ l = A2 m c (ix3 b t l') := by
  have h1 := l'.isLt
  have key : V m c main_v7 (ix2 (⟨512 * s.val + σ - 512, by omega⟩ : Fin 32768) (⟨384 + l'.val, by omega⟩ : Fin 1152)) = A2 m c (ix3 b t l') := by
    rw [v7_at, QKV_apply _ _ _ _ _ b t (by show b.val = (512 * s.val + σ - 512) / 8192; omega) (by show t.val = (512 * s.val + σ - 512) % 8192; omega),
      dif_neg (by show ¬ 384 + l'.val < 384; omega), dif_pos (by show 384 + l'.val - 384 < 384; omega)]
    exact congrArg (fun x => A2 m c (ix3 b t x)) (Fin.ext (show 384 + l'.val - 384 = l'.val by omega))
  unfold kcat
  by_cases h : σ < 512
  · rw [if_pos h]
    have e : at2 (iblk m c 4 s) σ l = iblk m c 4 s (ix2 (⟨σ, h⟩ : Fin 512) l') := at2_of _ _ _ _ rfl hl
    rw [e, b4_at m c s ⟨σ, h⟩ l' ⟨512 * s.val + σ - 512, by omega⟩ ⟨384 + l'.val, by omega⟩ (by show 512 * s.val + σ - 512 = 512 * (min s.val 63 - 1) + σ; omega) rfl]
    exact key
  · rw [if_neg h]
    have e : at2 (iblk m c 5 s) (σ - 512) l = iblk m c 5 s (ix2 (⟨σ - 512, by omega⟩ : Fin 512) l') := at2_of _ _ _ _ rfl hl
    rw [e, b5_at m c s ⟨σ - 512, by omega⟩ l' ⟨512 * s.val + σ - 512, by omega⟩ ⟨384 + l'.val, by omega⟩ (by show 512 * s.val + σ - 512 = 512 * min s.val 63 + (σ - 512); omega) rfl]
    exact key

theorem v_at (c : Dev nD) (s : Fin cfg0.N) (hs : s.val ≤ 63) (b : Fin 4) (hb : b.val = s.val / 16) (σ l : ℕ) (t : Fin 8192) (l' : Fin 384)
    (hσ : σ < 1024) (hl : l'.val = l) (ht : t.val + 512 = 512 * (s.val % 16) + σ) :
    kcat (iblk m c 6 s) (iblk m c 7 s) σ l = A3 m c (ix3 b t l') := by
  have h1 := l'.isLt
  have key : V m c main_v7 (ix2 (⟨512 * s.val + σ - 512, by omega⟩ : Fin 32768) (⟨768 + l'.val, by omega⟩ : Fin 1152)) = A3 m c (ix3 b t l') := by
    rw [v7_at, QKV_apply _ _ _ _ _ b t (by show b.val = (512 * s.val + σ - 512) / 8192; omega) (by show t.val = (512 * s.val + σ - 512) % 8192; omega),
      dif_neg (by show ¬ 768 + l'.val < 384; omega), dif_neg (by show ¬ 768 + l'.val - 384 < 384; omega)]
    exact congrArg (fun x => A3 m c (ix3 b t x)) (Fin.ext (show 768 + l'.val - 384 - 384 = l'.val by omega))
  unfold kcat
  by_cases h : σ < 512
  · rw [if_pos h]
    have e : at2 (iblk m c 6 s) σ l = iblk m c 6 s (ix2 (⟨σ, h⟩ : Fin 512) l') := at2_of _ _ _ _ rfl hl
    rw [e, b6_at m c s ⟨σ, h⟩ l' ⟨512 * s.val + σ - 512, by omega⟩ ⟨768 + l'.val, by omega⟩ (by show 512 * s.val + σ - 512 = 512 * (min s.val 63 - 1) + σ; omega) rfl]
    exact key
  · rw [if_neg h]
    have e : at2 (iblk m c 7 s) (σ - 512) l = iblk m c 7 s (ix2 (⟨σ - 512, by omega⟩ : Fin 512) l') := at2_of _ _ _ _ rfl hl
    rw [e, b7_at m c s ⟨σ - 512, by omega⟩ l' ⟨512 * s.val + σ - 512, by omega⟩ ⟨768 + l'.val, by omega⟩ (by show 512 * s.val + σ - 512 = 512 * min s.val 63 + (σ - 512); omega) rfl]
    exact key

theorem g_at (c : Dev nD) (s : Fin cfg0.N) (h : Fin 6) (l : ℕ) (k : Fin 257) (hl : l < 768) (hk : k.val = (if l < 128 then 256 else min (l - 128) 256)) :
    at2 (iblk m c 8 s) h.val l = A9 m c (ix3 0 h k) := by
  have e : at2 (iblk m c 8 s) h.val l = iblk m c 8 s (ix2 h (⟨l, hl⟩ : Fin 768)) := at2_of _ _ _ _ rfl rfl
  rw [e, b8_at, v19_at, GROW_apply _ _ _ k hk]

/-- The attention of a tile's row. -/
theorem YA_at (c : Dev nD) (h1 : ∀ i, Fn (A1 m c i)) (h2 : ∀ i, Fn (A2 m c i)) (h9 : ∀ (h : Fin 6) (k : Fin 257), Fn (A9 m c (ix3 0 h k)))
    (s : Fin cfg0.N) (hs : s.val ≤ 63) (b : Fin 4) (hb : b.val = s.val / 16) (r : Fin 512) (l : Fin 384) (t : Fin 8192) (ht : t.val = 512 * (s.val % 16) + r.val) :
    YA m c s (ix2 r l) = Cert.ReferenceIdeal.Read.val_main_v81 (F := Ideal) (A1 m c) (A2 m c) (A3 m c) (A9 m c) (ix3 b t l) := by
  unfold YA
  exact att_eq (A1 m c) (A2 m c) (A3 m c) (A9 m c) _ _ _ _ _ _ _ (s.val % 16) (by omega) b rfl
    (q_at m c s hs b hb) (k_at m c s hs b hb) (v_at m c s hs b hb) (g_at m c t0) h1 h2 h9 r l t ht

/-- The concatenated mixer outputs of a tile's row. -/
theorem mix_at (c : Dev nD) (h1 : ∀ i, Fn (A1 m c i)) (h2 : ∀ i, Fn (A2 m c i)) (h9 : ∀ (h : Fin 6) (k : Fin 257), Fn (A9 m c (ix3 0 h k)))
    (t s : Fin cfg0.N) (ht1 : 1 ≤ t.val) (hs : s.val = t.val - 1) (b : Fin 4) (hb : b.val = s.val / 16) (r : Fin 512) (u : Fin 8192) (hu : u.val = 512 * (s.val % 16) + r.val)
    (e : Fin 1024) :
    MIXN (YA m c s) (iblk m c 1 t) (iblk m c 2 t) r e.val
      = Cert.ReferenceIdeal.Read.val_main_v82 (F := Ideal) (A1 m c) (A2 m c) (A3 m c) (A4 m c) (A5 m c) (A9 m c) (ix3 b u e) := by
  have hN : t.val < 65 := lt_of_lt_of_eq t.isLt (show cfg0.N = 65 from N_0)
  have he := e.isLt
  have hr := r.isLt
  rw [Cert.RefV.v82_apply]
  unfold MIXN
  by_cases a : e.val < 384
  · rw [if_pos a, dif_pos a, at2_of (YA m c s) r.val e.val (ix2 r ⟨e.val, a⟩) rfl rfl]
    exact YA_at m c h1 h2 h9 s (by omega) b hb r ⟨e.val, a⟩ u hu
  · rw [if_neg a, dif_neg a]
    by_cases a' : e.val < 640
    · have a'' : e.val - 384 < 256 := by omega
      rw [if_pos a', dif_pos a'']
      have e1 : at2 (iblk m c 1 t) r.val (e.val - 384) = iblk m c 1 t (ix2 r (⟨e.val - 384, a''⟩ : Fin 256)) := at2_of _ _ _ _ rfl rfl
      rw [e1, b1_at m c t r ⟨e.val - 384, a''⟩ ⟨512 * (t.val - 1) + r.val, by omega⟩ rfl]
      exact v10_at m c _ _ b u (by show b.val = (512 * (t.val - 1) + r.val) / 8192; omega) (by show u.val = (512 * (t.val - 1) + r.val) % 8192; omega)
    · have a'' : ¬ e.val - 384 < 256 := by omega
      rw [if_neg a', dif_neg a'']
      have e1 : at2 (iblk m c 2 t) r.val (e.val - 640) = iblk m c 2 t (ix2 r (⟨e.val - 384 - 256, by omega⟩ : Fin 384)) := at2_of _ _ _ _ rfl (by show e.val - 384 - 256 = e.val - 640; omega)
      rw [e1, b2_at m c t r ⟨e.val - 384 - 256, by omega⟩ ⟨512 * (t.val - 1) + r.val, by omega⟩ rfl]
      exact v12_at m c _ _ b u (by show b.val = (512 * (t.val - 1) + r.val) / 8192; omega) (by show u.val = (512 * (t.val - 1) + r.val) % 8192; omega)

/-- The reference's result at the kernel's arguments. -/
def REF (c : Dev nD) : FVec Ideal S32768x1024 .f32 :=
  Cert.ReferenceIdeal.Read.val_main_v141 (F := Ideal) (A0 m c) (A1 m c) (A2 m c) (A3 m c) (A4 m c) (A5 m c) (A6 m c) (A7 m c) (A8 m c) (A9 m c) (A10 m c) (A11 m c) (A12 m c)

theorem row_at (c : Dev nD) (h1 : ∀ i, Fn (A1 m c i)) (h2 : ∀ i, Fn (A2 m c i)) (h9 : ∀ (h : Fin 6) (k : Fin 257), Fn (A9 m c (ix3 0 h k)))
    (t : Fin cfg0.N) (ht1 : 1 ≤ t.val) (r : Fin 512) (l : Fin 1024) (R : Fin 32768) (hR : R.val = 512 * (t.val - 1) + r.val) :
    (outsAt0 m c t.val t.isLt).1 (ix2 r l) = REF m c (ix2 R l) := by
  have hN : t.val < 65 := lt_of_lt_of_eq t.isLt (show cfg0.N = 65 from N_0)
  have hr := r.isLt
  obtain ⟨s, hs⟩ : ∃ s : Fin cfg0.N, s.val = t.val - 1 := ⟨⟨t.val - 1, by omega⟩, rfl⟩
  obtain ⟨b, hb⟩ : ∃ b : Fin 4, b.val = R.val / 8192 := ⟨⟨R.val / 8192, by omega⟩, rfl⟩
  obtain ⟨u, hu⟩ : ∃ b : Fin 8192, b.val = R.val % 8192 := ⟨⟨R.val % 8192, by omega⟩, rfl⟩
  rw [out_at m c t ht1 s hs, mlp_row]
  unfold REF
  rw [Cert.RefV.ref_row _ _ _ _ _ _ _ _ _ _ _ _ _ R b u l hb hu]
  have e0 : (fun k : Fin 1024 => iblk m c 0 t (ix2 r k)) = fun k => A0 m c (ix3 b u k) := funext fun k => by
    rw [b0_at m c t r k R hR]; exact v8_at m c R k b u hb hu
  have e1 : (fun e : Fin 1024 => MIXN (YA m c s) (iblk m c 1 t) (iblk m c 2 t) r e.val)
      = fun e => Cert.ReferenceIdeal.Read.val_main_v82 (F := Ideal) (A1 m c) (A2 m c) (A3 m c) (A4 m c) (A5 m c) (A9 m c) (ix3 b u e) :=
    funext fun e => mix_at m c h1 h2 h9 t s ht1 hs b (by omega) r u (by omega) e
  have e2 : (fun (a : Fin 1024) (b : Fin 1024) => WO m c (ix2 a b)) = fun a b => A10 m c (ix3 0 a b) := funext fun a => funext fun b => by
    unfold WO; rw [v0_at]; rfl
  have e3 : (fun (a : Fin 1024) (b : Fin 4096) => WU m c (ix2 a b)) = fun a b => A11 m c (ix3 0 a b) := funext fun a => funext fun b => by
    unfold WU; rw [v1_at]; rfl
  have e4 : (fun (a : Fin 4096) (b : Fin 1024) => WD m c (ix2 a b)) = fun a b => A12 m c (ix3 0 a b) := funext fun a => funext fun b => by
    unfold WD; rw [v2_at]; rfl
  have e5 : (fun k : Fin 1024 => iblk m c 9 t (ix2 0 k)) = fun k => A6 m c (ix2 0 k) := funext fun k => by rw [b9_at m c t k]; exact v22_at m c k
  have e6 : (fun k : Fin 1024 => iblk m c 10 t (ix2 0 k)) = fun k => A7 m c (ix2 0 k) := funext fun k => by rw [b10_at m c t k]; exact v25_at m c k
  have e7 : (fun k : Fin 1024 => iblk m c 11 t (ix2 0 k)) = fun k => A8 m c (ix2 0 k) := funext fun k => by rw [b11_at m c t k]; exact v28_at m c k
  rw [e0, e1, e2, e3, e4, e5, e6, e7]

theorem flush_pos : ∀ t : Fin cfg0.N, (cfg0.win 12).flush t = true → 1 ≤ t.val := (by decide +kernel : ∀ t : Fin grid0.N, _)

theorem final (c : Dev nD) (h1 : ∀ i, Fn (A1 m c i)) (h2 : ∀ i, Fn (A2 m c i)) (h9 : ∀ (h : Fin 6) (k : Fin 257), Fn (A9 m c (ix3 0 h k))) :
    (dats m 0 c).arrAt 12 cfg0.N = REF m c := by
  refine (dats m 0 c).arrAt_eq_of_covers 12 (REF m c) (by decide +kernel) fun t hf y => ?_
  blk_simp
  rw [after0_12]
  have ht1 := flush_pos t hf
  have hN : t.val < 65 := lt_of_lt_of_eq t.isLt (show cfg0.N = 65 from N_0)
  have hy0 : (y 0).val < 512 := (y 0).isLt
  have hy1 : (y 1).val < 1024 := (y 1).isLt
  have ey : (y : S512x1024.Idx) = ix2 (⟨(y 0).val, hy0⟩ : Fin 512) (⟨(y 1).val, hy1⟩ : Fin 1024) := by
    funext a
    fin_cases a <;> rfl
  refine (congrArg (outsAt0 m c t.val t.isLt).1 ey).trans ((row_at m c h1 h2 h9 t ht1 ⟨(y 0).val, hy0⟩ ⟨(y 1).val, hy1⟩ ⟨512 * (t.val - 1) + (y 0).val, by omega⟩ rfl).trans ?_)
  blk_ext [idx t]

end Cert.Att

end

end
-- ==== Proof.Pre.lean ====
/- What the precondition says of the arguments: finite queries, keys and relative biases. -/
module

public import proofs.«01_k».proof.Pre_finite_scores
public import proofs.«01_k».proof.Proof.AttEq
public import Idealize.ShloMosaic.Lib.ReduceAll
public import Idealize.ShloMosaic.Lib.KernelVsHost
public import Idealize.ShloMosaic.Lib.Pointwise

@[expose] public section

set_option maxRecDepth 16384

noncomputable section

namespace Cert.Pre_finite_scores

open Idealize.ShloMosaic

theorem facts : Facts where
  bcast_S_S4x8192x384 := by decide
  reducesTo_S4x8192x384_S_d0_1_2 := by decide
  h_S_ := by decide
  slices_S2x6x257_S1x6x257_0_0_0 := by decide
  shapeCasts_S1x6x257_S6x257 := by decide
  bcast_S_S6x257 := by decide
  reducesTo_S6x257_S_d0_1 := by decide

variable [hF : Facts]

theorem and_one : ∀ a b : BitVec 1, IntOp.andi a b = 1#1 → a = 1#1 ∧ b = 1#1 := by decide

theorem top32 : Ideal.ofBits .f32 0x7F800000#32 = ⊤ := by
  simp [Ideal.ofBits, Ideal.ieee]

theorem fin_of_lt (x : EReal) (h : FloatOps.cmpf (F := Ideal) (φ := .f32) .olt (FloatOps.hostAbsf (F := Ideal) (φ := .f32) x) (Ideal.ofBits .f32 0x7F800000#32) = 1#1) : Cert.Att.Fn x := by
  rw [top32] at h
  have h' : BitVec.ofBool (decide (max x (-x) < ⊤)) = 1#1 := h
  have hlt : max x (-x) < ⊤ := by
    by_contra hc
    rw [decide_eq_false hc] at h'
    exact absurd h' (by decide)
  refine ⟨fun e => ?_, fun e => ?_⟩
  · rw [e] at hlt; simp at hlt
  · rw [e] at hlt; simp at hlt

theorem fin (x0 : FVec Ideal S4x8192x1024 .f32) (x1 x2 x3 : FVec Ideal S4x8192x384 .f32) (x4 : FVec Ideal S4x8192x256 .f32) (x5 : FVec Ideal S4x8192x384 .f32)
    (x6 x7 x8 : FVec Ideal S2x1024 .f32) (x9 : FVec Ideal S2x6x257 .f32) (x10 : FVec Ideal S2x1024x1024 .f32) (x11 : FVec Ideal S2x1024x4096 .f32) (x12 : FVec Ideal S2x4096x1024 .f32)
    (h : fn (F := Ideal) x0 x1 x2 x3 x4 x5 x6 x7 x8 x9 x10 x11 x12 = fun _ => 1#1) :
    (∀ i, Cert.Att.Fn (x1 i)) ∧ (∀ i, Cert.Att.Fn (x2 i)) ∧ ∀ (h : Fin 6) (k : Fin 257), Cert.Att.Fn (x9 (ix3 0 h k)) := by
  have h0 := congrFun h ix0
  unfold fn at h0
  dsimp only at h0
  obtain ⟨h12, h9⟩ := and_one _ _ h0
  obtain ⟨h1, h2⟩ := and_one _ _ h12
  haveI : Subsingleton S_.Idx := ⟨fun a b => funext fun k => k.elim0⟩
  refine ⟨fun i => fin_of_lt _ (Host.reduce_andi_all _ _ _ _ _ h1 i), fun i => fin_of_lt _ (Host.reduce_andi_all _ _ _ _ _ h2 i), fun h k => ?_⟩
  have := fin_of_lt _ (Host.reduce_andi_all _ _ _ _ _ h9 (ix2 h k))
  refine Eq.subst (motive := Cert.Att.Fn) ?_ this
  pointwise

end Cert.Pre_finite_scores

end

end
-- ==== Proof.Mix.Kit.lean ====
/- The launch of the input projection call: what its runs share. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (Pipeline.UD sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (Pipeline.UD sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (Pipeline.UD sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

abbrev cond0_0 (i : grid0.Coords) : Prop := k0_cond1 i = 1#1
theorem hcond0_0 : ∀ t : Fin cfg0.N, cond0_0 (grid0.coords t) ↔ t.val % 65 = 0 :=
  (fun t => by
    have ht : t.val < 65 := Nat.lt_of_lt_of_eq t.isLt N_0
    have e0 : (grid0.coords t 0).val = t.val / 1 % 65 := Pipeline.Grid.coords_val t 0 (by decide) rfl
    simp only [cond0_0, k0_cond1, e0]
    word_cmp
   : ∀ t : Fin grid0.N, cond0_0 (grid0.coords t) ↔ t.val % 65 = 0)

abbrev cond0_1 (i : grid0.Coords) : Prop := k0_cond2 i = 1#1
theorem hcond0_1 : ∀ t : Fin cfg0.N, cond0_1 (grid0.coords t) ↔ (1 ≤ t.val % 65 ∧ t.val % 65 ≤ 63) :=
  (by decide +kernel : ∀ t : Fin grid0.N, cond0_1 (grid0.coords t) ↔ (1 ≤ t.val % 65 ∧ t.val % 65 ≤ 63))

abbrev cond0_2 (i : grid0.Coords) : Prop := k0_cond3 i = 1#1
theorem hcond0_2 : ∀ t : Fin cfg0.N, cond0_2 (grid0.coords t) ↔ t.val % 65 = 64 :=
  (fun t => by
    have ht : t.val < 65 := Nat.lt_of_lt_of_eq t.isLt N_0
    have e0 : (grid0.coords t 0).val = t.val / 1 % 65 := Pipeline.Grid.coords_val t 0 (by decide) rfl
    simp only [cond0_2, k0_cond3, e0]
    word_cmp
   : ∀ t : Fin grid0.N, cond0_2 (grid0.coords t) ↔ t.val % 65 = 64)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S31x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3x256x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S3x128x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x384 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S3x128x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x1152 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x256 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S512x384 .bf16 := win0_15.stage (cfg0.slots t 15)
abbrev hs0_15 (t : Fin cfg0.N) : (ms0_15 t).IsWhole := hstage0_15 ((cfg0.slots t 15).cast nbuf0_15)
abbrev scM0_0 : Memref sig .tc .vmem S512x3200 .f32 := Memref.whole cc0_scratch0
abbrev scM0_1 : Memref sig .tc .vmem S8x544x256 .f32 := Memref.whole cc0_scratch1
abbrev scM0_2 : Memref sig .tc .vmem S512x1024 .bf16 := Memref.whole cc0_scratch2
abbrev scM0_3 : Memref sig .tc .vmem S512x1152 .bf16 := Memref.whole cc0_scratch3
abbrev scM0_4 : Memref sig .tc .vmem S512x384 .f32 := Memref.whole cc0_scratch4
abbrev scM0_5 : Memref sig .tc .vmem S3x128x128 .f32 := Memref.whole cc0_scratch5
abbrev scM0_6 : Memref sig .tc .vmem S1024x3200 .bf16 := Memref.whole cc0_scratch6
abbrev VS0_0 : View sig .tc .vmem S512x3200 .f32 := scM0_0.view
abbrev VS0_1 : View sig .tc .vmem S8x544x256 .f32 := scM0_1.view
abbrev VS0_3 : View sig .tc .vmem S512x1152 .bf16 := scM0_3.view
abbrev VS0_5 : View sig .tc .vmem S3x128x128 .f32 := scM0_5.view
abbrev VS0_6 : View sig .tc .vmem S1024x3200 .bf16 := scM0_6.view
abbrev hbM0_0 : Memref sig .tc .hbm S2x1024x3200 .bf16 := Memref.whole main_v82
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

abbrev osem0 : Fin 1 → SemLoc sig := fun j => (![SemLoc.dma 22] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 22) 0) := by
  rw [Pipeline.ownSems0_eq_of_list c osem0 [0] (by decide) (by decide)]; rfl
def H0 : Finset (Ref sig .tc) := {main_v82}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt0 c hbM0_0 (V m c main_v82)) := by
  rw [BI.bigSep_eq_bigSepL_of_eq [main_v82] (by decide) (by decide)]; rfl

theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r) ∗ iprop(semVal ((c : Thread nD τ), SemLoc.dma 22) 0) ∗ iprop(hbPt0 c hbM0_0 (V m c main_v82))) := by
  rw [Pipeline.ΦD_eq, scopedRest0_eq, ownSems00_eq, hbmPts0_eq]; simp only [scM0_0, scM0_1, scM0_2, scM0_3, scM0_4, scM0_5, scM0_6, owns_whole]; try rfl

end Cert.Kernel2Ideal.Gen

end
-- ==== Proof.Mix.RunA.lean ====
/- The run of the call's body in case A. -/
module

public import proofs.«01_k».proof.Proof.Mix.Kit

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
noncomputable def kernelRun0_A (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x128 .f32) (harg4 : arg4.IsWhole) (arg5 : Memref sig .tc .vmem S512x128 .f32) (harg5 : arg5.IsWhole) (arg6 : Memref sig .tc .vmem S31x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S3x256x512 .f32) (harg10 : arg10.IsWhole) (arg11 : Memref sig .tc .vmem S3x128x256 .f32) (harg11 : arg11.IsWhole) (arg12 : Memref sig .tc .vmem S256x384 .f32) (harg12 : arg12.IsWhole) (arg13 : Memref sig .tc .vmem S3x128x128 .f32) (harg13 : arg13.IsWhole) (arg14 : Memref sig .tc .vmem S128x128 .f32) (harg14 : arg14.IsWhole) (arg15 : Memref sig .tc .vmem S512x1152 .bf16) (harg15 : arg15.IsWhole) (arg16 : Memref sig .tc .vmem S512x256 .bf16) (harg16 : arg16.IsWhole) (arg17 : Memref sig .tc .vmem S512x384 .bf16) (harg17 : arg17.IsWhole) (arg18 : Memref sig .tc .vmem S512x3200 .f32) (harg18 : arg18.IsWhole) (arg19 : Memref sig .tc .vmem S8x544x256 .f32) (harg19 : arg19.IsWhole) (arg20 : Memref sig .tc .vmem S512x1024 .bf16) (harg20 : arg20.IsWhole) (arg21 : Memref sig .tc .vmem S512x1152 .bf16) (harg21 : arg21.IsWhole) (arg22 : Memref sig .tc .vmem S512x384 .f32) (harg22 : arg22.IsWhole) (arg23 : Memref sig .tc .vmem S3x128x128 .f32) (harg23 : arg23.IsWhole) (arg24 : Memref sig .tc .vmem S1024x3200 .bf16) (harg24 : arg24.IsWhole) (hc0 : cond0_0 i) (hc1 : ¬cond0_1 i) (hc2 : ¬cond0_2 i)
    (x0 : Vec F S512x1024 .f32) (x1 : Vec F S1x1024 .f32) (x2 : Vec F S512x128 .f32) (x3 : Vec F S512x128 .f32) (x4 : Vec F S31x256 .f32) (x5 : Vec F S1x256 .f32) (x6 : Vec F S1x256 .f32) (x7 : Vec F S1x256 .f32) (x8 : Vec F S3x256x512 .f32) (x9 : Vec F S3x128x256 .f32) (x10 : Vec F S256x384 .f32) (x11 : Vec F S3x128x128 .f32) (x12 : Vec F S128x128 .f32) (fh0 : HbBuf0 (F := F) c hbM0_0) :
    Σ' (L13 : List (View.Piece (Elt F) S512x1152 .bf16)), { LS6 : List (View.Piece (Elt F) S1024x3200 .bf16) //
      ∀ (W : Waits sig Unit) (K : PUnit → sProp 𝕄),
        iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ semVal ((c : Thread nD τ), SemLoc.dma 22) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ f, arg24.view.loc (c : Thread nD τ) ↦[arg24.view.set]{fullShare} arg24.view.writes (Elt F) f LS6) ∗ semVal ((c : Thread nD τ), SemLoc.dma 22) 0 ∗ hbPt0 c hbM0_0 fh0 ∗ (∃ W', owes (c : Thread nD τ) 0 W')) -∗ K ⟨⟩))
          ⊢ wp frame (wpE (defs₀ (F := F)) Variants.none c none) Set.univ (cc0_in_proj_mix i arg1 harg1 arg2 harg2 (Memref.whole main_v82) (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 cc0_scratch7) K } := by
  refine ⟨?_, ?_, fun W K => ?run⟩
  case run =>
    simp only [cc0_in_proj_mix_eq_skeleton]; unfold cc0_in_proj_mix_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hq0, Hh0, HW, Hk⟩
    obtain rfl := harg1.eq_unread hf0; obtain rfl := harg2.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]; · iexists _; iexact HS6
    isplitl [Hq0]; · iexact Hq0
    isplitl [Hh0]; · iexact Hh0
    iexists _; iexact HW

end Cert.Kernel2Ideal.Gen

end
-- ==== Proof.Mix.RunB.lean ====
/- The run of the call's body in case B. -/
module

public import proofs.«01_k».proof.Proof.Mix.RunA

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 3980000 in
noncomputable def kernelRun0_B (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x128 .f32) (harg4 : arg4.IsWhole) (arg5 : Memref sig .tc .vmem S512x128 .f32) (harg5 : arg5.IsWhole) (arg6 : Memref sig .tc .vmem S31x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S3x256x512 .f32) (harg10 : arg10.IsWhole) (arg11 : Memref sig .tc .vmem S3x128x256 .f32) (harg11 : arg11.IsWhole) (arg12 : Memref sig .tc .vmem S256x384 .f32) (harg12 : arg12.IsWhole) (arg13 : Memref sig .tc .vmem S3x128x128 .f32) (harg13 : arg13.IsWhole) (arg14 : Memref sig .tc .vmem S128x128 .f32) (harg14 : arg14.IsWhole) (arg15 : Memref sig .tc .vmem S512x1152 .bf16) (harg15 : arg15.IsWhole) (arg16 : Memref sig .tc .vmem S512x256 .bf16) (harg16 : arg16.IsWhole) (arg17 : Memref sig .tc .vmem S512x384 .bf16) (harg17 : arg17.IsWhole) (arg18 : Memref sig .tc .vmem S512x3200 .f32) (harg18 : arg18.IsWhole) (arg19 : Memref sig .tc .vmem S8x544x256 .f32) (harg19 : arg19.IsWhole) (arg20 : Memref sig .tc .vmem S512x1024 .bf16) (harg20 : arg20.IsWhole) (arg21 : Memref sig .tc .vmem S512x1152 .bf16) (harg21 : arg21.IsWhole) (arg22 : Memref sig .tc .vmem S512x384 .f32) (harg22 : arg22.IsWhole) (arg23 : Memref sig .tc .vmem S3x128x128 .f32) (harg23 : arg23.IsWhole) (arg24 : Memref sig .tc .vmem S1024x3200 .bf16) (harg24 : arg24.IsWhole) (hc0 : ¬cond0_0 i) (hc1 : cond0_1 i) (hc2 : ¬cond0_2 i)
    (x0 : Vec F S512x1024 .f32) (x1 : Vec F S1x1024 .f32) (x2 : Vec F S512x128 .f32) (x3 : Vec F S512x128 .f32) (x4 : Vec F S31x256 .f32) (x5 : Vec F S1x256 .f32) (x6 : Vec F S1x256 .f32) (x7 : Vec F S1x256 .f32) (x8 : Vec F S3x256x512 .f32) (x9 : Vec F S3x128x256 .f32) (x10 : Vec F S256x384 .f32) (x11 : Vec F S3x128x128 .f32) (x12 : Vec F S128x128 .f32) (xs6 : Vec F S1024x3200 .bf16) (fh0 : HbBuf0 (F := F) c hbM0_0) :
    { L13 : List (View.Piece (Elt F) S512x1152 .bf16) //
      ∀ (W : Waits sig Unit) (K : PUnit → sProp 𝕄),
        iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs6 ∗ semVal ((c : Thread nD τ), SemLoc.dma 22) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs6 ∗ semVal ((c : Thread nD τ), SemLoc.dma 22) 0 ∗ hbPt0 c hbM0_0 fh0 ∗ (∃ W', owes (c : Thread nD τ) 0 W')) -∗ K ⟨⟩))
          ⊢ wp frame (wpE (defs₀ (F := F)) Variants.none c none) Set.univ (cc0_in_proj_mix i arg1 harg1 arg2 harg2 (Memref.whole main_v82) (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 cc0_scratch7) K } := by
  refine ⟨?_, fun W K => ?run⟩
  case run =>
    simp only [cc0_in_proj_mix_eq_skeleton]; unfold cc0_in_proj_mix_skel
    simp only [k0_part86_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%fs6, %hfs6, HS6⟩, Hq0, Hh0, HW, Hk⟩
    obtain rfl := harg1.eq_unread hf0; obtain rfl := harg2.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg24.eq_unread hfs6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _; isplitr; · ipureintro; exact harg24.read_unread _
      iexact HS6
    isplitl [Hq0]; · iexact Hq0
    isplitl [Hh0]; · iexact Hh0
    iexists _; iexact HW

end Cert.Kernel2Ideal.Gen

end
-- ==== Proof.Mix.RunC.lean ====
/- The run of the call's body in case C. -/
module

public import proofs.«01_k».proof.Proof.Mix.RunB

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 30000000 in
theorem kernelRun0_C (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x128 .f32) (harg4 : arg4.IsWhole) (arg5 : Memref sig .tc .vmem S512x128 .f32) (harg5 : arg5.IsWhole) (arg6 : Memref sig .tc .vmem S31x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S3x256x512 .f32) (harg10 : arg10.IsWhole) (arg11 : Memref sig .tc .vmem S3x128x256 .f32) (harg11 : arg11.IsWhole) (arg12 : Memref sig .tc .vmem S256x384 .f32) (harg12 : arg12.IsWhole) (arg13 : Memref sig .tc .vmem S3x128x128 .f32) (harg13 : arg13.IsWhole) (arg14 : Memref sig .tc .vmem S128x128 .f32) (harg14 : arg14.IsWhole) (arg15 : Memref sig .tc .vmem S512x1152 .bf16) (harg15 : arg15.IsWhole) (arg16 : Memref sig .tc .vmem S512x256 .bf16) (harg16 : arg16.IsWhole) (arg17 : Memref sig .tc .vmem S512x384 .bf16) (harg17 : arg17.IsWhole) (arg18 : Memref sig .tc .vmem S512x3200 .f32) (harg18 : arg18.IsWhole) (arg19 : Memref sig .tc .vmem S8x544x256 .f32) (harg19 : arg19.IsWhole) (arg20 : Memref sig .tc .vmem S512x1024 .bf16) (harg20 : arg20.IsWhole) (arg21 : Memref sig .tc .vmem S512x1152 .bf16) (harg21 : arg21.IsWhole) (arg22 : Memref sig .tc .vmem S512x384 .f32) (harg22 : arg22.IsWhole) (arg23 : Memref sig .tc .vmem S3x128x128 .f32) (harg23 : arg23.IsWhole) (arg24 : Memref sig .tc .vmem S1024x3200 .bf16) (harg24 : arg24.IsWhole) (hc0 : ¬cond0_0 i) (hc1 : ¬cond0_1 i) (hc2 : cond0_2 i)
    (x0 : Vec F S512x1024 .f32) (x1 : Vec F S1x1024 .f32) (x2 : Vec F S512x128 .f32) (x3 : Vec F S512x128 .f32) (x4 : Vec F S31x256 .f32) (x5 : Vec F S1x256 .f32) (x6 : Vec F S1x256 .f32) (x7 : Vec F S1x256 .f32) (x8 : Vec F S3x256x512 .f32) (x9 : Vec F S3x128x256 .f32) (x10 : Vec F S256x384 .f32) (x11 : Vec F S3x128x128 .f32) (x12 : Vec F S128x128 .f32) (x13 : Vec F S512x1152 .bf16) (xs6 : Vec F S1024x3200 .bf16) (fh0 : HbBuf0 (F := F) c hbM0_0) :
      ∀ (W : Waits sig Unit) (K : PUnit → sProp 𝕄),
        iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs6 ∗ semVal ((c : Thread nD τ), SemLoc.dma 22) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs6 ∗ semVal ((c : Thread nD τ), SemLoc.dma 22) 0 ∗ hbPt0 c hbM0_0 fh0 ∗ (∃ W', owes (c : Thread nD τ) 0 W')) -∗ K ⟨⟩))
          ⊢ wp frame (wpE (defs₀ (F := F)) Variants.none c none) Set.univ (cc0_in_proj_mix i arg1 harg1 arg2 harg2 (Memref.whole main_v82) (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 cc0_scratch7) K := by
  intro W K
  · skip
    simp only [cc0_in_proj_mix_eq_skeleton]; unfold cc0_in_proj_mix_skel
    rw [k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%fs6, %hfs6, HS6⟩, Hq0, Hh0, HW, Hk⟩
    obtain rfl := harg1.eq_unread hf0; obtain rfl := harg2.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg24.eq_unread hfs6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _; isplitr; · ipureintro; exact harg24.read_unread _
      iexact HS6
    isplitl [Hq0]; · iexact Hq0
    isplitl [Hh0]; · iexact Hh0
    iexists _; iexact HW

end Cert.Kernel2Ideal.Gen

end
-- ==== Proof.Mix.Vals.lean ====
/- What each case of the call's body leaves in the projected block and in the copied weights. -/
module

public import proofs.«01_k».proof.Proof.Mix.RunB
public import Idealize.ShloMosaic.Lib.Claim

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev VO0_13 : View sig .tc .vmem S512x1152 .bf16 := (Memref.whole cc0_stg13_0 : Memref sig .tc .vmem S512x1152 .bf16).view

variable (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x128 .f32) (harg4 : arg4.IsWhole) (arg5 : Memref sig .tc .vmem S512x128 .f32) (harg5 : arg5.IsWhole) (arg6 : Memref sig .tc .vmem S31x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S3x256x512 .f32) (harg10 : arg10.IsWhole) (arg11 : Memref sig .tc .vmem S3x128x256 .f32) (harg11 : arg11.IsWhole) (arg12 : Memref sig .tc .vmem S256x384 .f32) (harg12 : arg12.IsWhole) (arg13 : Memref sig .tc .vmem S3x128x128 .f32) (harg13 : arg13.IsWhole) (arg14 : Memref sig .tc .vmem S128x128 .f32) (harg14 : arg14.IsWhole) (arg15 : Memref sig .tc .vmem S512x1152 .bf16) (harg15 : arg15.IsWhole) (arg16 : Memref sig .tc .vmem S512x256 .bf16) (harg16 : arg16.IsWhole) (arg17 : Memref sig .tc .vmem S512x384 .bf16) (harg17 : arg17.IsWhole) (arg18 : Memref sig .tc .vmem S512x3200 .f32) (harg18 : arg18.IsWhole) (arg19 : Memref sig .tc .vmem S8x544x256 .f32) (harg19 : arg19.IsWhole) (arg20 : Memref sig .tc .vmem S512x1024 .bf16) (harg20 : arg20.IsWhole) (arg21 : Memref sig .tc .vmem S512x1152 .bf16) (harg21 : arg21.IsWhole) (arg22 : Memref sig .tc .vmem S512x384 .f32) (harg22 : arg22.IsWhole) (arg23 : Memref sig .tc .vmem S3x128x128 .f32) (harg23 : arg23.IsWhole) (arg24 : Memref sig .tc .vmem S1024x3200 .bf16) (harg24 : arg24.IsWhole)

theorem cover0_A_13 (hc0 : cond0_0 i) (hc1 : ¬cond0_1 i) (hc2 : ¬cond0_2 i)
    (x0 : Vec F S512x1024 .f32) (x1 : Vec F S1x1024 .f32) (x2 : Vec F S512x128 .f32) (x3 : Vec F S512x128 .f32) (x4 : Vec F S31x256 .f32) (x5 : Vec F S1x256 .f32) (x6 : Vec F S1x256 .f32) (x7 : Vec F S1x256 .f32) (x8 : Vec F S3x256x512 .f32) (x9 : Vec F S3x128x256 .f32) (x10 : Vec F S256x384 .f32) (x11 : Vec F S3x128x128 .f32) (x12 : Vec F S128x128 .f32)  (fh0 : HbBuf0 (F := F) c hbM0_0) (y : S512x1152.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 fh0).1, y ∈ pc.1.set :=
  View.cover_of_tiledBy (kernelRun0_A c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 fh0).1 ![512, 384] (by sl_kernel_rfl) y

def out0_A_13 (hc0 : cond0_0 i) (hc1 : ¬cond0_1 i) (hc2 : ¬cond0_2 i)
    (x0 : Vec F S512x1024 .f32) (x1 : Vec F S1x1024 .f32) (x2 : Vec F S512x128 .f32) (x3 : Vec F S512x128 .f32) (x4 : Vec F S31x256 .f32) (x5 : Vec F S1x256 .f32) (x6 : Vec F S1x256 .f32) (x7 : Vec F S1x256 .f32) (x8 : Vec F S3x256x512 .f32) (x9 : Vec F S3x128x256 .f32) (x10 : Vec F S256x384 .f32) (x11 : Vec F S3x128x128 .f32) (x12 : Vec F S128x128 .f32)  (fh0 : HbBuf0 (F := F) c hbM0_0) : Vec F S512x1152 .bf16 :=
  VO0_13.read (Elt F) (VO0_13.writes (Elt F) VO0_13.junk (kernelRun0_A c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 fh0).1)

theorem cover0_B_13 (hc0 : ¬cond0_0 i) (hc1 : cond0_1 i) (hc2 : ¬cond0_2 i)
    (x0 : Vec F S512x1024 .f32) (x1 : Vec F S1x1024 .f32) (x2 : Vec F S512x128 .f32) (x3 : Vec F S512x128 .f32) (x4 : Vec F S31x256 .f32) (x5 : Vec F S1x256 .f32) (x6 : Vec F S1x256 .f32) (x7 : Vec F S1x256 .f32) (x8 : Vec F S3x256x512 .f32) (x9 : Vec F S3x128x256 .f32) (x10 : Vec F S256x384 .f32) (x11 : Vec F S3x128x128 .f32) (x12 : Vec F S128x128 .f32) (xs6 : Vec F S1024x3200 .bf16) (fh0 : HbBuf0 (F := F) c hbM0_0) (y : S512x1152.Idx) :
    ∃ pc ∈ (kernelRun0_B c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 xs6 fh0).1, y ∈ pc.1.set :=
  View.cover_of_tiledBy (kernelRun0_B c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 xs6 fh0).1 ![512, 384] (by sl_kernel_rfl) y

def out0_B_13 (hc0 : ¬cond0_0 i) (hc1 : cond0_1 i) (hc2 : ¬cond0_2 i)
    (x0 : Vec F S512x1024 .f32) (x1 : Vec F S1x1024 .f32) (x2 : Vec F S512x128 .f32) (x3 : Vec F S512x128 .f32) (x4 : Vec F S31x256 .f32) (x5 : Vec F S1x256 .f32) (x6 : Vec F S1x256 .f32) (x7 : Vec F S1x256 .f32) (x8 : Vec F S3x256x512 .f32) (x9 : Vec F S3x128x256 .f32) (x10 : Vec F S256x384 .f32) (x11 : Vec F S3x128x128 .f32) (x12 : Vec F S128x128 .f32) (xs6 : Vec F S1024x3200 .bf16) (fh0 : HbBuf0 (F := F) c hbM0_0) : Vec F S512x1152 .bf16 :=
  VO0_13.read (Elt F) (VO0_13.writes (Elt F) VO0_13.junk (kernelRun0_B c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 xs6 fh0).1)

theorem scover0_A_6 (hc0 : cond0_0 i) (hc1 : ¬cond0_1 i) (hc2 : ¬cond0_2 i)
    (x0 : Vec F S512x1024 .f32) (x1 : Vec F S1x1024 .f32) (x2 : Vec F S512x128 .f32) (x3 : Vec F S512x128 .f32) (x4 : Vec F S31x256 .f32) (x5 : Vec F S1x256 .f32) (x6 : Vec F S1x256 .f32) (x7 : Vec F S1x256 .f32) (x8 : Vec F S3x256x512 .f32) (x9 : Vec F S3x128x256 .f32) (x10 : Vec F S256x384 .f32) (x11 : Vec F S3x128x128 .f32) (x12 : Vec F S128x128 .f32) (fh0 : HbBuf0 (F := F) c hbM0_0) (y : S1024x3200.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 fh0).2.1, y ∈ pc.1.set :=
  View.cover_of_tiledL (kernelRun0_A c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 fh0).2.1 S1024x3200.size (by sl_kernel_rfl) y

def sout0_A_6 (hc0 : cond0_0 i) (hc1 : ¬cond0_1 i) (hc2 : ¬cond0_2 i)
    (x0 : Vec F S512x1024 .f32) (x1 : Vec F S1x1024 .f32) (x2 : Vec F S512x128 .f32) (x3 : Vec F S512x128 .f32) (x4 : Vec F S31x256 .f32) (x5 : Vec F S1x256 .f32) (x6 : Vec F S1x256 .f32) (x7 : Vec F S1x256 .f32) (x8 : Vec F S3x256x512 .f32) (x9 : Vec F S3x128x256 .f32) (x10 : Vec F S256x384 .f32) (x11 : Vec F S3x128x128 .f32) (x12 : Vec F S128x128 .f32) (fh0 : HbBuf0 (F := F) c hbM0_0) : Vec F S1024x3200 .bf16 :=
  VS0_6.read (Elt F) (VS0_6.writes (Elt F) VS0_6.junk (kernelRun0_A c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 fh0).2.1)

end Cert.Kernel2Ideal.Gen

end
-- ==== Proof.Mix.Frame.lean ====
/- The call's frame: the block it leaves at each grid point, the body's obligation, the launch. -/
module

public import proofs.«01_k».proof.Proof.Mix.RunC
public import proofs.«01_k».proof.Proof.Mix.Vals

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

def valA (c : Dev nD) (t : Fin cfg0.N) (h0 : t.val % 65 = 0) (h1 : ¬(1 ≤ t.val % 65 ∧ t.val % 65 ≤ 63)) (h2 : ¬t.val % 65 = 64) : Vec F S512x1152 .bf16 :=
  out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (V m c main_v82)

def wA (c : Dev nD) (t : Fin cfg0.N) (h0 : t.val % 65 = 0) (h1 : ¬(1 ≤ t.val % 65 ∧ t.val % 65 ≤ 63)) (h2 : ¬t.val % 65 = 64) : Vec F S1024x3200 .bf16 :=
  sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (V m c main_v82)

def t00 : Fin cfg0.N := ⟨0, lt_of_lt_of_eq (by omega : 0 < 65) N_0.symm⟩

/-- The weights as the first point copies them. -/
def wv (c : Dev nD) : Vec F S1024x3200 .bf16 :=
  wA m c t00 (Nat.zero_mod _) (show ¬(1 ≤ 0 % 65 ∧ 0 % 65 ≤ 63) by decide) (show ¬(0 % 65 = 64) by decide)

def valB (c : Dev nD) (t : Fin cfg0.N) (h0 : ¬t.val % 65 = 0) (h1 : (1 ≤ t.val % 65 ∧ t.val % 65 ≤ 63)) (h2 : ¬t.val % 65 = 64) : Vec F S512x1152 .bf16 :=
  out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (wv m c) (V m c main_v82)

/-- The point whose block the last point writes back. -/
def t63 : Fin cfg0.N := ⟨63, lt_of_lt_of_eq (by omega : 63 < 65) N_0.symm⟩

/-- What the window of the projected block holds after point `t`. -/
def att (c : Dev nD) (t : Fin cfg0.N) : Vec F S512x1152 .bf16 :=
  if h0 : t.val % 65 = 0 then valA m c t h0 (by omega) (by omega)
  else if h1 : (1 ≤ t.val % 65 ∧ t.val % 65 ≤ 63) then valB m c t h0 h1 (by omega)
  else valB m c t63 (by decide) (by decide) (by decide)

theorem att_A (c : Dev nD) (t : Fin cfg0.N) (h0 : t.val % 65 = 0) (h1 : ¬(1 ≤ t.val % 65 ∧ t.val % 65 ≤ 63)) (h2 : ¬t.val % 65 = 64) : att m c t = valA m c t h0 h1 h2 := dif_pos h0
theorem att_B (c : Dev nD) (t : Fin cfg0.N) (h0 : ¬t.val % 65 = 0) (h1 : (1 ≤ t.val % 65 ∧ t.val % 65 ≤ 63)) (h2 : ¬t.val % 65 = 64) : att m c t = valB m c t h0 h1 h2 := (dif_neg h0).trans (dif_pos h1)
theorem att_C (c : Dev nD) (t : Fin cfg0.N) (h0 : ¬t.val % 65 = 0) (h1 : ¬(1 ≤ t.val % 65 ∧ t.val % 65 ≤ 63)) (h2 : t.val % 65 = 64) : att m c t = att m c t63 :=
  ((dif_neg h0).trans (dif_neg h1)).trans (att_B m c t63 (by decide) (by decide) (by decide)).symm

def PhiS (c : Dev nD) : (n : ℕ) → n ≤ cfg0.N → sProp 𝕄
  | 0, _ => Pipeline.ΦD osem0 spec0 H0 (V m) c
  | n + 1, _ => iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare (wv m c)) ∗ (∃ r, prngReg c r) ∗ iprop(semVal ((c : Thread nD τ), SemLoc.dma 22) 0) ∗ iprop(hbPt0 c hbM0_0 (V m c main_v82)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n + 1 ≤ cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare (wv m c)) ∗ (∃ r, prngReg c r) ∗ iprop(semVal ((c : Thread nD τ), SemLoc.dma 22) 0) ∗ iprop(hbPt0 c hbM0_0 (V m c main_v82))) := rfl

theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare (wv m c)) ∗ (∃ r, prngReg c r) ∗ iprop(semVal ((c : Thread nD τ), SemLoc.dma 22) 0) ∗ iprop(hbPt0 c hbM0_0 (V m c main_v82))) := by
  cases n with
  | zero => exact absurd rfl hz
  | succ n => rfl

def forgets0 : Fin 16 → Bool := fun w => w.val == 14 || w.val == 15

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => att m c t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = att m c t := by dsimp only [dats]

theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem before0_5 (c : Dev nD) (t : Fin cfg0.N) (d) : (dats m 0 c).before 5 t d = iblk m c 5 t :=
  before0_5_of m (dats m 0 c) (A_eq m c 5) (after0_5 m c) t d
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem before0_6 (c : Dev nD) (t : Fin cfg0.N) (d) : (dats m 0 c).before 6 t d = iblk m c 6 t :=
  before0_6_of m (dats m 0 c) (A_eq m c 6) (after0_6 m c) t d
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem before0_7 (c : Dev nD) (t : Fin cfg0.N) (d) : (dats m 0 c).before 7 t d = iblk m c 7 t :=
  before0_7_of m (dats m 0 c) (A_eq m c 7) (after0_7 m c) t d
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
theorem before0_8 (c : Dev nD) (t : Fin cfg0.N) (d) : (dats m 0 c).before 8 t d = iblk m c 8 t :=
  before0_8_of m (dats m 0 c) (A_eq m c 8) (after0_8 m c) t d
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]
theorem before0_9 (c : Dev nD) (t : Fin cfg0.N) (d) : (dats m 0 c).before 9 t d = iblk m c 9 t :=
  before0_9_of m (dats m 0 c) (A_eq m c 9) (after0_9 m c) t d
theorem leaves0_9 (c : Dev nD) (t : Fin cfg0.N) : (dats m 0 c).leavesExact 9 t = owns (c : Thread nD τ) (ms0_9 t) fullShare (iblk m c 9 t) := by
  unfold Dat.leavesExact; rw [liveAt0_9 t, after0_9]
theorem before0_10 (c : Dev nD) (t : Fin cfg0.N) (d) : (dats m 0 c).before 10 t d = iblk m c 10 t :=
  before0_10_of m (dats m 0 c) (A_eq m c 10) (after0_10 m c) t d
theorem leaves0_10 (c : Dev nD) (t : Fin cfg0.N) : (dats m 0 c).leavesExact 10 t = owns (c : Thread nD τ) (ms0_10 t) fullShare (iblk m c 10 t) := by
  unfold Dat.leavesExact; rw [liveAt0_10 t, after0_10]
theorem before0_11 (c : Dev nD) (t : Fin cfg0.N) (d) : (dats m 0 c).before 11 t d = iblk m c 11 t :=
  before0_11_of m (dats m 0 c) (A_eq m c 11) (after0_11 m c) t d
theorem leaves0_11 (c : Dev nD) (t : Fin cfg0.N) : (dats m 0 c).leavesExact 11 t = owns (c : Thread nD τ) (ms0_11 t) fullShare (iblk m c 11 t) := by
  unfold Dat.leavesExact; rw [liveAt0_11 t, after0_11]
theorem before0_12 (c : Dev nD) (t : Fin cfg0.N) (d) : (dats m 0 c).before 12 t d = iblk m c 12 t :=
  before0_12_of m (dats m 0 c) (A_eq m c 12) (after0_12 m c) t d
theorem leaves0_12 (c : Dev nD) (t : Fin cfg0.N) : (dats m 0 c).leavesExact 12 t = owns (c : Thread nD τ) (ms0_12 t) fullShare (iblk m c 12 t) := by
  unfold Dat.leavesExact; rw [liveAt0_12 t, after0_12]

theorem live13 : ∀ t : Fin cfg0.N, ¬t.val % 65 = 64 → cfg0.idle 13 (grid0.coords t) = false :=
  (by decide +kernel : ∀ t : Fin grid0.N, ¬t.val % 65 = 64 → idle0 13 (grid0.coords t) = false)
theorem idle13 : ∀ t : Fin cfg0.N, t.val % 65 = 64 → cfg0.idle 13 (grid0.coords t) = true :=
  (by decide +kernel : ∀ t : Fin grid0.N, t.val % 65 = 64 → idle0 13 (grid0.coords t) = true)
theorem flush13 : ∀ t : Fin cfg0.N, t.val % 65 = 64 → (cfg0.win 13).flush t = true :=
  (by decide +kernel : ∀ t : Fin grid0.N, _)
theorem stay13 : (cfg0.win 13).flush t63 = false := by
  decide +kernel

theorem leaves13 (c : Dev nD) (t : Fin cfg0.N) : (dats m 0 c).leavesExact 13 t = owns (c : Thread nD τ) (ms0_13 t) fullShare (att m c t) := by
  unfold Dat.leavesExact
  by_cases h : t.val % 65 = 64
  · rw [idle13 t h, flush13 t h, after0_13]
  · rw [live13 t h, after0_13]

theorem before13 (c : Dev nD) (t : Fin cfg0.N) (h : t.val % 65 = 64) (d) : (dats m 0 c).before 13 t d = att m c t := by
  have hN : t.val < 65 := lt_of_lt_of_eq t.isLt (show cfg0.N = 65 from N_0)
  have ht : t.val ≠ 0 := by omega
  have e : (⟨t.val - 1, Nat.lt_of_le_of_lt (Nat.sub_le _ _) t.isLt⟩ : Fin cfg0.N) = t63 := Fin.ext (by show t.val - 1 = 63; omega)
  rw [(dats m 0 c).before_of_pos 13 t ht ((cfg0.win 13).fetch_out rfl t), e, stay13, if_neg Bool.false_ne_true]
  unfold Dat.left
  rw [live13 t63 (by decide), att_C m c t (by omega) (by omega) h]
  unfold Dat.kept; rw [after0_13]; rfl

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare d)
    ∗ (∃ d, owns (c : Thread nD τ) (ms0_15 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (∃ d, owns (c : Thread nD τ) (ms0_14 t) fullShare d)
    ∗ (∃ d, owns (c : Thread nD τ) (ms0_15 t) fullShare d))

set_option maxHeartbeats 24000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  rw [leaves0_0, leaves0_1, leaves0_2, leaves0_3, leaves0_4, leaves0_5, leaves0_6, leaves0_7, leaves0_8, leaves0_9, leaves0_10, leaves0_11, leaves0_12, leaves13]
  have hN : t.val < 65 := lt_of_lt_of_eq t.isLt (show cfg0.N = 65 from N_0)
  by_cases h0 : t.val % 65 = 0
  · have h1 : ¬(1 ≤ t.val % 65 ∧ t.val % 65 ≤ 63) := by omega
    have h2 : ¬t.val % 65 = 64 := by omega
    have hz : t.val = 0 := by omega
    rw [PhiS_castSucc m c t, PhiS_zero m c _ _ hz, PhiD0_eq]
    obtain rfl : t = t00 := Fin.ext hz
    rw [att_A m c _ h0 h1 h2]
    unfold valA out0_A_13 wv wA sout0_A_6
    iintro ⟨⟨⟨HS0, HS1, HS2, HS3, HS4, HS5, HS6⟩, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((kernelRun0_A c (grid0.coords _) _ _ _ _ _ _ _ _ _ _ _ _ _ _ _ _ _ _ _ _ _ _ _ _ _ _ _ _ _ _ _ _ _ _ _ _ _ _ _ _ _ _ _ _ _ _ ((hcond0_0 _).mpr h0) (fun h => h1 ((hcond0_1 _).mp h)) (fun h => h2 ((hcond0_2 _).mp h)) (iblk m c 0 _) (iblk m c 1 _) (iblk m c 2 _) (iblk m c 3 _) (iblk m c 4 _) (iblk m c 5 _) (iblk m c 6 _) (iblk m c 7 _) (iblk m c 8 _) (iblk m c 9 _) (iblk m c 10 _) (iblk m c 11 _) (iblk m c 12 _) (V m c main_v82)).2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [Hq0]; · iexact Hq0
    isplitl [Hh0]; · iexact Hh0
    isplitl [HW]; · iexact HW
    iintro ⟨H0, H1, H2, H3, H4, H5, H6, H7, H8, H9, H10, H11, H12, ⟨%e13, H13⟩, H14, H15, HS0, HS1, HS2, HS3, HS4, HS5, ⟨%es6, HS6⟩, Hq0, Hh0, ⟨%W', HW'⟩⟩
    isplitl [HS0 HS1 HS2 HS3 HS4 HS5 HS6 Hg Hq0 Hh0]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        unfold owns; iexists _; isplitr
        swap; · iexact HS6
        ipureintro; exact View.read_writes_of_cover _ _ _ _ _ (scover0_A_6 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
      isplitl [Hg]; · iexact Hg
      isplitl [Hq0]; · iexact Hq0
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
    isplitl [H14]; · iexact H14
    iexact H15
  by_cases h1 : 1 ≤ t.val % 65 ∧ t.val % 65 ≤ 63
  · have h2 : ¬t.val % 65 = 64 := by omega
    have hz : t.val ≠ 0 := by omega
    rw [PhiS_castSucc m c t, PhiS_pos m c _ _ hz]
    rw [att_B m c t h0 h1 h2]
    unfold valB out0_B_13
    iintro ⟨⟨⟨HS0, HS1, HS2, HS3, HS4, HS5, HS6⟩, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((kernelRun0_B c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (wv m c) (V m c main_v82)).2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [Hq0]; · iexact Hq0
    isplitl [Hh0]; · iexact Hh0
    isplitl [HW]; · iexact HW
    iintro ⟨H0, H1, H2, H3, H4, H5, H6, H7, H8, H9, H10, H11, H12, ⟨%e13, H13⟩, H14, H15, HS0, HS1, HS2, HS3, HS4, HS5, HS6, Hq0, Hh0, ⟨%W', HW'⟩⟩
    isplitl [HS0 HS1 HS2 HS3 HS4 HS5 HS6 Hg Hq0 Hh0]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      isplitl [Hg]; · iexact Hg
      isplitl [Hq0]; · iexact Hq0
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )
    isplitl [H14]; · iexact H14
    iexact H15
  · have h2 : t.val % 65 = 64 := by omega
    have hz : t.val ≠ 0 := by omega
    rw [PhiS_castSucc m c t, PhiS_pos m c _ _ hz]
    simp only [before13 m c t h2]
    iintro ⟨⟨⟨HS0, HS1, HS2, HS3, HS4, HS5, HS6⟩, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((kernelRun0_C c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (att m c t) (wv m c) (V m c main_v82)) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [Hq0]; · iexact Hq0
    isplitl [Hh0]; · iexact Hh0
    isplitl [HW]; · iexact HW
    iintro ⟨H0, H1, H2, H3, H4, H5, H6, H7, H8, H9, H10, H11, H12, H13, H14, H15, HS0, HS1, HS2, HS3, HS4, HS5, HS6, Hq0, Hh0, ⟨%W', HW'⟩⟩
    isplitl [HS0 HS1 HS2 HS3 HS4 HS5 HS6 Hg Hq0 Hh0]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      isplitl [Hg]; · iexact Hg
      isplitl [Hq0]; · iexact Hq0
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3, HS4, HS5, HS6⟩, Hg, Hq0, Hh0⟩
  isplitl [HS0 HS1 HS2 HS3 HS4 HS5 HS6]
  · isplitl [HS0]
    · iexact HS0
    isplitl [HS1]
    · iexact HS1
    isplitl [HS2]
    · iexact HS2
    isplitl [HS3]
    · iexact HS3
    isplitl [HS4]
    · iexact HS4
    isplitl [HS5]
    · iexact HS5
    iexists _; iexact HS6
  isplitl [Hg]; · iexact Hg
  isplitl [Hq0]
  · iexact Hq0
  iexact Hh0

theorem hout (c : Dev nD) : (dats m 0 c).Φ (Fin.last cfg0.N) ⊢ Pipeline.ΦD osem0 spec0 H0 (V m) c :=
  Phi_out m c _ (by rw [Fin.val_last]; have : cfg0.N = 65 := N_0; omega)

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel2Ideal.Gen

end
-- ==== Proof.Mix.Ref.lean ====
/- The second reference at an index. -/
module

public import proofs.«01_k».proof.Proof.Gen.Reference2Ideal.Read
public import Idealize.ShloMosaic.Lib.Pointwise

@[expose] public section

set_option maxRecDepth 16384

noncomputable section

namespace Cert.MixR

open Idealize.ShloMosaic Idealize.ShloMosaic.TcCoe Idealize.SL.Sem
open Cert.Reference2Ideal Cert.Reference2Ideal.Gen Cert.Reference2Ideal.Read

/-- The normalised entry `l` of the row `y` under the gain `g`. -/
def NRM (y : Fin 1024 → EReal) (g : EReal) (l : Fin 1024) : EReal :=
  y l * Ideal.rsqrt (Ideal.div (∑ k, y k * y k) (Ideal.ofBits FTy.f32 1149239296#32) + Ideal.ofBits FTy.f32 897988541#32) * g

variable (x0 : FVec Ideal S4x8192x1024 .f32) (x1 : FVec Ideal S2x1024 .f32) (x2 : FVec Ideal S2x1024x3200 .f32)

theorem v14_apply (b : Fin 4) (s : Fin 8192) (l : Fin 1024) : val_main_v14 (F := Ideal) x0 x1 (ix3 b s l) =
    NRM (fun k => x0 (ix3 b s k)) (x1 (ix2 0 l)) l := by
  pointwise [val_main_v14, val_main_v13, val_main_v12, val_main_v11, val_main_v10, val_main_v9, val_main_v8, val_main_v7, val_main_v6, val_main_v5, val_main_v4,
    val_main_v3, val_main_v2, val_main_v1, val_main_v0, val_main_cst, val_main_cst_0, val_main_cst_1, NRM]

/-- The projection of a token. -/
def UR (b : Fin 4) (s : Fin 8192) (n : Fin 3200) : EReal := ∑ k : Fin 1024, NRM (fun k => x0 (ix3 b s k)) (x1 (ix2 0 k)) k * x2 (ix3 0 k n)

theorem v17_apply (b : Fin 4) (s : Fin 8192) (n : Fin 3200) : val_main_v17 (F := Ideal) x0 x1 x2 (ix3 b s n) = UR x0 x1 x2 b s n := by
  refine Eq.trans ?_ (Finset.sum_congr rfl fun k _ => congrArg (· * x2 (ix3 0 k n)) (v14_apply x0 x1 b s k))
  unfold val_main_v17 val_main_v16 val_main_v15
  generalize val_main_v14 (F := Ideal) x0 x1 = y
  pointwise

theorem v24_apply (b : Fin 4) (s : Fin 8192) (l : Fin 1152) : val_main_v24 (F := Ideal) x0 x1 x2 (ix3 b s l) =
    if l.val < 384 then UR x0 x1 x2 b s ⟨l.val, by omega⟩ * Ideal.ofBits FTy.f32 0x3E000000#32 else UR x0 x1 x2 b s ⟨l.val, by omega⟩ := by
  have hl := l.isLt
  simp only [← v17_apply]
  have e : val_main_v24 (F := Ideal) x0 x1 x2 (ix3 b s l) = if h : l.val < 384 then val_main_v23 (F := Ideal) x0 x1 x2 (ix3 b s ⟨l.val, h⟩)
      else if h' : l.val - 384 < 384 then val_main_v19 (F := Ideal) x0 x1 x2 (ix3 b s ⟨l.val - 384, h'⟩)
      else val_main_v20 (F := Ideal) x0 x1 x2 (ix3 b s ⟨l.val - 384 - 384, by omega⟩) := by
    unfold val_main_v24
    generalize val_main_v23 (F := Ideal) x0 x1 x2 = y
    generalize val_main_v19 (F := Ideal) x0 x1 x2 = z
    generalize val_main_v20 (F := Ideal) x0 x1 x2 = w
    pointwise
  rw [e]
  by_cases h : l.val < 384
  · rw [dif_pos h, if_pos h, val_main_v23_apply, val_main_v18_apply, val_main_v22_apply]
    exact congrArg (fun z => val_main_v17 (F := Ideal) x0 x1 x2 z * Ideal.ofBits FTy.f32 0x3E000000#32) (by
      funext a
      fin_cases a
      · exact Fin.ext rfl
      · exact Fin.ext rfl
      · exact Fin.ext rfl)
  · rw [dif_neg h, if_neg h]
    by_cases h' : l.val - 384 < 384
    · rw [dif_pos h', val_main_v19_apply]
      refine congrArg (val_main_v17 (F := Ideal) x0 x1 x2) ?_
      funext a
      fin_cases a
      · exact Fin.ext rfl
      · exact Fin.ext rfl
      · exact Fin.ext (show 384 + (l.val - 384) = l.val by omega)
    · rw [dif_neg h', val_main_v20_apply]
      refine congrArg (val_main_v17 (F := Ideal) x0 x1 x2) ?_
      funext a
      fin_cases a
      · exact Fin.ext rfl
      · exact Fin.ext rfl
      · exact Fin.ext (show 768 + (l.val - 384 - 384) = l.val by omega)

theorem ref_row (R : Fin 32768) (b : Fin 4) (s : Fin 8192) (l : Fin 1152) (hb : b.val = R.val / 8192) (hs : s.val = R.val % 8192) :
    val_main_v26 (F := Ideal) x0 x1 x2 (ix2 R l) =
      if l.val < 384 then UR x0 x1 x2 b s ⟨l.val, by omega⟩ * Ideal.ofBits FTy.f32 0x3E000000#32 else UR x0 x1 x2 b s ⟨l.val, by omega⟩ := by
  rw [← v24_apply, val_main_v26_apply, val_main_v25_apply]
  have e : idx_main_v25 (ix2 R l) = ix3 b s l := by
    have h1 := R.isLt
    have h2 := l.isLt
    funext a
    fin_cases a
    · exact Fin.ext (show (R.val * 1152 + l.val) / 9437184 = b.val by omega)
    · exact Fin.ext (show (R.val * 1152 + l.val) / 1152 % 8192 = s.val by omega)
    · exact Fin.ext (show (R.val * 1152 + l.val) % 1152 = l.val by omega)
  rw [e]
  rfl

end Cert.MixR

end

end
-- ==== Proof.Mix.Att.lean ====
/- The projected block of a grid point, as a function of the point's rows, the gain and the weights. -/
module

public import proofs.«01_k».proof.Proof.Mix.Vals
public import Idealize.ShloMosaic.Lib.Pipeline.ReadBack
public import Idealize.ShloMosaic.Lib.Pipeline.ValueKit
public import Idealize.ShloMosaic.Lib.Pipeline.CanonAppend
public import Idealize.ShloMosaic.Lib.ValueLayout
public import proofs.«01_k».proof.Proof.Mix.Ref

@[expose] public section

set_option maxRecDepth 16384

noncomputable section

namespace Cert.Mix

open Idealize.ShloMosaic Idealize.ShloMosaic.TcCoe Idealize.SL.Sem
open Cert.Kernel2Ideal Cert.Kernel2Ideal.Gen
open Cert.MixR (NRM)

theorem hit {sig : RefSig} {κ : Kind} {sp : Space} {s : Shape} {e : EltTy} {Val : EltTy → Type}
    [∀ e, Nonempty (Val e)] (v : View sig κ sp s e) (r : Rect s) (w : r.shape.Idx → Val e) (L : List (View.Piece Val s e)) :
    v.readCov (⟨r, w⟩ :: L) r.toLoadRect = w := by
  rw [View.readCov_eq_canon']
  funext j
  exact View.canon_cons_emb r w L j

/-- The normalised rows. -/
def HH (x : FVec Ideal S512x1024 .f32) (g : FVec Ideal S1x1024 .f32) : FVec Ideal S512x1024 .bf16 := k0_pay48 (F := Ideal) x g

theorem hh_apply (x : FVec Ideal S512x1024 .f32) (g : FVec Ideal S1x1024 .f32) (r : Fin 512) (l : Fin 1024) :
    HH x g (ix2 r l) = NRM (fun k => x (ix2 r k)) (g (ix2 0 l)) l := by
  pointwise [HH, k0_pay48, NRM]

theorem hh_A (x : FVec Ideal S512x1024 .f32) (g : FVec Ideal S1x1024 .f32) : k0_pay9 (F := Ideal) (k0_pay8 (F := Ideal) x g) = HH x g := by
  funext y
  obtain ⟨r, l, rfl⟩ : ∃ (r : Fin 512) (l : Fin 1024), y = ix2 r l := ⟨y 0, y 1, by funext a; fin_cases a <;> rfl⟩
  rw [hh_apply]
  pointwise [k0_pay9, k0_pay8, NRM]

/-- The projection of the rows `H`. -/
def UU (H : FVec Ideal S512x1024 .bf16) (W : FVec Ideal S1024x3200 .bf16) (r : Fin 512) (n : ℕ) : EReal :=
  if h : n < 3200 then ∑ k : Fin 1024, H (ix2 r k) * W (ix2 k ⟨n, h⟩) else 0

theorem up_apply (H : FVec Ideal S512x1024 .bf16) (w : FVec Ideal S1024x256 .bf16) (r : Fin 512) (l : Fin 256) :
    k0_pay10 (F := Ideal) H w (ix2 r l) = ∑ k : Fin 1024, H (ix2 r k) * w (ix2 k l) := by
  pointwise [k0_pay10]

theorem up_of (H : FVec Ideal S512x1024 .bf16) (W : FVec Ideal S1024x3200 .bf16) (w : FVec Ideal S1024x256 .bf16) (o : ℕ) (ho : o + 256 ≤ 3200)
    (hw : ∀ (k : Fin 1024) (l : Fin 256) (L : Fin 3200), L.val = o + l.val → w (ix2 k l) = W (ix2 k L)) :
    k0_pay10 (F := Ideal) H w = fun x : S512x256.Idx => UU H W (x 0) (o + (x 1).val) := by
  funext x
  obtain ⟨r, l, rfl⟩ : ∃ (r : Fin 512) (l : Fin 256), x = ix2 r l := ⟨x 0, x 1, by funext a; fin_cases a <;> rfl⟩
  have hl := l.isLt
  rw [up_apply]
  show _ = UU H W r (o + l.val)
  unfold UU
  rw [dif_pos (by omega)]
  exact Finset.sum_congr rfl fun k _ => congrArg _ (hw k l _ rfl)

/-- Five column blocks, read back over columns that they cover. -/
theorem five (A : Memref sig .tc .vmem S512x3200 .f32) (g : Fin 512 → ℕ → EReal) (w4 w3 w2 w1 w0 : S512x256.Idx → EReal) (i4) (i3) (i2) (i1) (i0)
    (o b : ℕ) (hb : o + b ≤ 1280) (i)
    (h4 : w4 = fun x => g (x 0) (1024 + (x 1).val)) (h3 : w3 = fun x => g (x 0) (768 + (x 1).val)) (h2 : w2 = fun x => g (x 0) (512 + (x 1).val))
    (h1 : w1 = fun x => g (x 0) (256 + (x 1).val)) (h0 : w0 = fun x => g (x 0) (0 + (x 1).val)) :
    A.view.readCov (Val := Elt Ideal) [⟨Rect.unit (s := S512x3200) ![0, 1024] S512x256.size i4, w4⟩, ⟨Rect.unit (s := S512x3200) ![0, 768] S512x256.size i3, w3⟩,
      ⟨Rect.unit (s := S512x3200) ![0, 512] S512x256.size i2, w2⟩,
      ⟨Rect.unit (s := S512x3200) ![0, 256] S512x256.size i1, w1⟩, ⟨Rect.unit (s := S512x3200) ![0, 0] S512x256.size i0, w0⟩]
      (Rect.unit (s := S512x3200) ![0, o] ![512, b] i).toLoadRect = fun j : (⟨2, ![512, b]⟩ : Shape).Idx => g (j 0) (o + (j 1).val) := by
  rw [View.readCov_eq_canon']
  funext j
  set y := (Rect.unit (s := S512x3200) ![0, o] ![512, b] i).toLoadRect.idx j with hy
  have e0 : (y 0).val = (j 0).val := (Rect.idx_unit_val _ _ _ j 0).trans (Nat.zero_add _)
  have e1 : (y 1).val = o + (j 1).val := Rect.idx_unit_val _ _ _ j 1
  have key := View.canon_append_of_pieces (Val := Elt Ideal) (e := .f32) (fun y : S512x3200.Idx => g (y 0) (y 1).val) []
    [⟨Rect.unit (s := S512x3200) ![0, 1024] S512x256.size i4, w4⟩, ⟨Rect.unit (s := S512x3200) ![0, 768] S512x256.size i3, w3⟩,
      ⟨Rect.unit (s := S512x3200) ![0, 512] S512x256.size i2, w2⟩,
      ⟨Rect.unit (s := S512x3200) ![0, 256] S512x256.size i1, w1⟩, ⟨Rect.unit (s := S512x3200) ![0, 0] S512x256.size i0, w0⟩] ?_ y ?_
  · refine key.trans ?_
    show g (y 0) (y 1).val = _
    rw [e1, show y 0 = j 0 from Fin.ext e0]
  · intro p hp x
    have hx : ∀ (o : ℕ) (inb) (x : (Rect.unit (s := S512x3200) ![0, o] S512x256.size inb).shape.Idx),
        g ((Rect.unit (s := S512x3200) ![0, o] S512x256.size inb).emb x 0) ((Rect.unit (s := S512x3200) ![0, o] S512x256.size inb).emb x 1).val
          = g (x 0) (o + (x 1).val) := by
      intro o inb x
      have a0 : ((Rect.unit (s := S512x3200) ![0, o] S512x256.size inb).emb x 0).val = (x 0).val := (Rect.idx_unit_val _ _ _ x 0).trans (Nat.zero_add _)
      have a1 : ((Rect.unit (s := S512x3200) ![0, o] S512x256.size inb).emb x 1).val = o + (x 1).val := Rect.idx_unit_val _ _ _ x 1
      rw [a1]
      exact congrArg (fun z => g z _) (Fin.ext a0)
    simp only [List.mem_cons, List.not_mem_nil, or_false] at hp
    rcases hp with rfl | rfl | rfl | rfl | rfl
    · exact (congrFun h4 x).trans (hx 1024 i4 x).symm
    · exact (congrFun h3 x).trans (hx 768 i3 x).symm
    · exact (congrFun h2 x).trans (hx 512 i2 x).symm
    · exact (congrFun h1 x).trans (hx 256 i1 x).symm
    · exact (congrFun h0 x).trans (hx 0 i0 x).symm
  · have hj : (j 1).val < b := (j 1).isLt
    have ha : (y 0).val < 512 := (y 0).isLt
    have hm : ∀ (o : ℕ) (inb), o ≤ (y 1).val → (y 1).val < o + 256 → y ∈ (Rect.unit (s := S512x3200) ![0, o] S512x256.size inb).set := by
      intro o inb p q
      rw [Rect.mem_set_unit]
      intro a
      fin_cases a
      · exact ⟨Nat.zero_le _, by show (y 0).val < 0 + 512; omega⟩
      · exact ⟨p, q⟩
    rcases (by omega : 1024 ≤ (y 1).val ∨ (768 ≤ (y 1).val ∧ (y 1).val < 1024) ∨ (512 ≤ (y 1).val ∧ (y 1).val < 768) ∨ (256 ≤ (y 1).val ∧ (y 1).val < 512) ∨ (y 1).val < 256) with h | h | h | h | h
    · exact ⟨⟨Rect.unit (s := S512x3200) ![0, 1024] S512x256.size i4, w4⟩, .head _, hm 1024 i4 (by omega) (by omega)⟩
    · exact ⟨⟨Rect.unit (s := S512x3200) ![0, 768] S512x256.size i3, w3⟩, .tail _ (.head _), hm 768 i3 (by omega) (by omega)⟩
    · exact ⟨⟨Rect.unit (s := S512x3200) ![0, 512] S512x256.size i2, w2⟩, .tail _ (.tail _ (.head _)), hm 512 i2 (by omega) (by omega)⟩
    · exact ⟨⟨Rect.unit (s := S512x3200) ![0, 256] S512x256.size i1, w1⟩, .tail _ (.tail _ (.tail _ (.head _))), hm 256 i1 (by omega) (by omega)⟩
    · exact ⟨⟨Rect.unit (s := S512x3200) ![0, 0] S512x256.size i0, w0⟩, .tail _ (.tail _ (.tail _ (.tail _ (.head _)))), hm 0 i0 (by omega) (by omega)⟩

theorem rdw {m n : ℕ} {e : EltTy} (A : Memref sig .tc .vmem (⟨2, ![m, n]⟩ : Shape) e) (hA : A.IsWhole)
    (x : (⟨2, ![m, n]⟩ : Shape).Idx → Elt Ideal e) (inb) :
    View.readAt (Elt Ideal) A.view (Rect.unit (s := (⟨2, ![m, n]⟩ : Shape)) ![0, 0] ![m, n] inb).toLoadRect (hA.unread (Val := Elt Ideal) x) = x := by
  funext j
  show View.read (Elt Ideal) A.view (hA.unread (Val := Elt Ideal) x) _ = _
  rw [hA.read_unread]
  refine congrArg x (funext fun a => Fin.ext ((Rect.idx_unit_val _ _ _ j a).trans ?_))
  fin_cases a <;> exact Nat.zero_add _

theorem rdc (A : Memref sig .tc .vmem S1024x3200 .bf16) (hA : A.IsWhole) (W : FVec Ideal S1024x3200 .bf16) (o : ℕ) (inb)
    (k : Fin 1024) (l : Fin 256) (L : Fin 3200) (h : L.val = o + l.val) :
    View.readAt (Elt Ideal) A.view (Rect.unit (s := S1024x3200) ![0, o] S1024x256.size inb).toLoadRect (hA.unread (Val := Elt Ideal) W) (ix2 k l) = W (ix2 k L) := by
  show View.read (Elt Ideal) A.view (hA.unread (Val := Elt Ideal) W) _ = _
  rw [hA.read_unread]
  refine congrArg W (funext fun a => Fin.ext ((Rect.idx_unit_val _ _ _ (ix2 k l) a).trans ?_))
  fin_cases a
  · exact Nat.zero_add _
  · exact h.symm

theorem whole_at (W : S1024x3200.Idx → Elt Ideal .bf16) (y : S1024x3200.Idx) :
    View.canon (Val := Elt Ideal) (e := .bf16) [⟨Rect.whole S1024x3200, W⟩] y = W y := by
  have e : y = (Rect.whole S1024x3200).emb y := by
    funext a
    exact Fin.ext (show (y a).val = 0 + 1 * (y a).val by omega)
  conv_lhs => rw [e]
  exact View.canon_cons_emb (Rect.whole S1024x3200) _ [] y

theorem rdv (A : Memref sig .tc .vmem S1024x3200 .bf16) (W : FVec Ideal S1024x3200 .bf16) (o : ℕ) (inb)
    (k : Fin 1024) (l : Fin 256) (L : Fin 3200) (h : L.val = o + l.val) :
    A.view.readCov (Val := Elt Ideal) [⟨Rect.whole S1024x3200, W⟩] (Rect.unit (s := S1024x3200) ![0, o] S1024x256.size inb).toLoadRect (ix2 k l) = W (ix2 k L) := by
  rw [View.readCov_eq_canon']
  refine (whole_at W _).trans (congrArg W (funext fun a => Fin.ext ((Rect.idx_unit_val _ _ _ (ix2 k l) a).trans ?_)))
  fin_cases a
  · exact Nat.zero_add _
  · exact h.symm

theorem embu (b : ℕ) (o : ℕ) (inb) (x : (Rect.unit (s := S512x1152) ![0, o] (![512, b] : Fin 2 → ℕ) inb).shape.Idx) :
    ((Rect.unit (s := S512x1152) ![0, o] ![512, b] inb).emb x 0).val = (x 0).val ∧ ((Rect.unit (s := S512x1152) ![0, o] ![512, b] inb).emb x 1).val = o + (x 1).val :=
  ⟨(Rect.idx_unit_val _ _ _ x 0).trans (Nat.zero_add _), Rect.idx_unit_val _ _ _ x 1⟩

/-- The block a point writes of the projection: the first 384 columns scaled, the following 768 as they are. -/
def ATTB (x : FVec Ideal S512x1024 .f32) (g : FVec Ideal S1x1024 .f32) (W : FVec Ideal S1024x3200 .bf16) : FVec Ideal S512x1152 .bf16 := fun y =>
  if (y 1).val < 384 then UU (HH x g) W (y 0) (y 1).val * Ideal.ofBits FTy.f32 0x3E000000#32 else UU (HH x g) W (y 0) (y 1).val

/-- Two column blocks that together are the whole. -/
theorem two (G : S512x1152.Idx → EReal) (w1 : S512x768.Idx → EReal) (w0 : S512x384.Idx → EReal) (i1) (i0)
    (h1 : ∀ (r : Fin 512) (l : Fin 768) (L : Fin 1152), L.val = 384 + l.val → w1 (ix2 r l) = G (ix2 r L))
    (h0 : ∀ (r : Fin 512) (l : Fin 384) (L : Fin 1152), L.val = 0 + l.val → w0 (ix2 r l) = G (ix2 r L)) :
    View.canon (Val := Elt Ideal) (e := .bf16) [⟨Rect.unit (s := S512x1152) ![0, 384] S512x768.size i1, w1⟩, ⟨Rect.unit (s := S512x1152) ![0, 0] S512x384.size i0, w0⟩] = G := by
  funext y
  refine View.canon_append_of_pieces (Val := Elt Ideal) (e := .bf16) G []
    [⟨Rect.unit (s := S512x1152) ![0, 384] S512x768.size i1, w1⟩, ⟨Rect.unit (s := S512x1152) ![0, 0] S512x384.size i0, w0⟩] ?_ y ?_
  · intro p hp x
    simp only [List.mem_cons, List.not_mem_nil, or_false] at hp
    rcases hp with rfl | rfl
    · obtain ⟨r, l, rfl⟩ : ∃ (r : Fin 512) (l : Fin 768), x = (ix2 r l : S512x768.Idx) := ⟨x 0, x 1, by funext a; fin_cases a <;> rfl⟩
      have a01 := embu 768 384 i1 (ix2 r l)
      refine (h1 r l ⟨384 + l.val, by have := l.isLt; omega⟩ rfl).trans (congrArg G (funext fun a => ?_))
      fin_cases a
      · exact Fin.ext a01.1.symm
      · exact Fin.ext a01.2.symm
    · obtain ⟨r, l, rfl⟩ : ∃ (r : Fin 512) (l : Fin 384), x = (ix2 r l : S512x384.Idx) := ⟨x 0, x 1, by funext a; fin_cases a <;> rfl⟩
      have a01 := embu 384 0 i0 (ix2 r l)
      refine (h0 r l ⟨0 + l.val, by have := l.isLt; omega⟩ rfl).trans (congrArg G (funext fun a => ?_))
      fin_cases a
      · exact Fin.ext a01.1.symm
      · exact Fin.ext a01.2.symm
  · have ha : (y 0).val < 512 := (y 0).isLt
    have hb : (y 1).val < 1152 := (y 1).isLt
    by_cases h : (y 1).val < 384
    · refine ⟨⟨Rect.unit (s := S512x1152) ![0, 0] S512x384.size i0, w0⟩, .tail _ (.head _), ?_⟩
      rw [Rect.mem_set_unit]
      intro a
      fin_cases a
      · exact ⟨Nat.zero_le _, by show (y 0).val < 0 + 512; omega⟩
      · exact ⟨Nat.zero_le _, by show (y 1).val < 0 + 384; omega⟩
    · refine ⟨⟨Rect.unit (s := S512x1152) ![0, 384] S512x768.size i1, w1⟩, .head _, ?_⟩
      rw [Rect.mem_set_unit]
      intro a
      fin_cases a
      · exact ⟨Nat.zero_le _, by show (y 0).val < 0 + 512; omega⟩
      · exact ⟨by show 384 ≤ (y 1).val; omega, by show (y 1).val < 384 + 768; omega⟩

theorem attb_of (x : FVec Ideal S512x1024 .f32) (g : FVec Ideal S1x1024 .f32) (W : FVec Ideal S1024x3200 .bf16) (i1) (i0) :
    View.canon (Val := Elt Ideal) (e := .bf16) [⟨Rect.unit (s := S512x1152) ![0, 384] S512x768.size i1, k0_pay25 (F := Ideal) fun j : S512x768.Idx => UU (HH x g) W (j 0) (384 + (j 1).val)⟩,
      ⟨Rect.unit (s := S512x1152) ![0, 0] S512x384.size i0, k0_pay24 (F := Ideal) fun j : S512x384.Idx => UU (HH x g) W (j 0) (0 + (j 1).val)⟩] = ATTB x g W := by
  refine two _ _ _ i1 i0 (fun r l L h => ?_) fun r l L h => ?_
  · unfold ATTB
    show UU (HH x g) W r (384 + l.val) = if L.val < 384 then _ else UU (HH x g) W r L.val
    rw [if_neg (by omega), h]
  · have hl := l.isLt
    unfold ATTB
    show UU (HH x g) W r (0 + l.val) * Ideal.ofBits FTy.f32 0x3E000000#32 = if L.val < 384 then UU (HH x g) W r L.val * Ideal.ofBits FTy.f32 0x3E000000#32 else _
    rw [if_pos (by omega), h]

variable (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x128 .f32) (harg4 : arg4.IsWhole) (arg5 : Memref sig .tc .vmem S512x128 .f32) (harg5 : arg5.IsWhole) (arg6 : Memref sig .tc .vmem S31x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S3x256x512 .f32) (harg10 : arg10.IsWhole) (arg11 : Memref sig .tc .vmem S3x128x256 .f32) (harg11 : arg11.IsWhole) (arg12 : Memref sig .tc .vmem S256x384 .f32) (harg12 : arg12.IsWhole) (arg13 : Memref sig .tc .vmem S3x128x128 .f32) (harg13 : arg13.IsWhole) (arg14 : Memref sig .tc .vmem S128x128 .f32) (harg14 : arg14.IsWhole) (arg15 : Memref sig .tc .vmem S512x1152 .bf16) (harg15 : arg15.IsWhole) (arg16 : Memref sig .tc .vmem S512x256 .bf16) (harg16 : arg16.IsWhole) (arg17 : Memref sig .tc .vmem S512x384 .bf16) (harg17 : arg17.IsWhole) (arg18 : Memref sig .tc .vmem S512x3200 .f32) (harg18 : arg18.IsWhole) (arg19 : Memref sig .tc .vmem S8x544x256 .f32) (harg19 : arg19.IsWhole) (arg20 : Memref sig .tc .vmem S512x1024 .bf16) (harg20 : arg20.IsWhole) (arg21 : Memref sig .tc .vmem S512x1152 .bf16) (harg21 : arg21.IsWhole) (arg22 : Memref sig .tc .vmem S512x384 .f32) (harg22 : arg22.IsWhole) (arg23 : Memref sig .tc .vmem S3x128x128 .f32) (harg23 : arg23.IsWhole) (arg24 : Memref sig .tc .vmem S1024x3200 .bf16) (harg24 : arg24.IsWhole)
    (x0 : Vec Ideal S512x1024 .f32) (x1 : Vec Ideal S1x1024 .f32) (x2 : Vec Ideal S512x128 .f32) (x3 : Vec Ideal S512x128 .f32) (x4 : Vec Ideal S31x256 .f32) (x5 : Vec Ideal S1x256 .f32) (x6 : Vec Ideal S1x256 .f32) (x7 : Vec Ideal S1x256 .f32) (x8 : Vec Ideal S3x256x512 .f32) (x9 : Vec Ideal S3x128x256 .f32) (x10 : Vec Ideal S256x384 .f32) (x11 : Vec Ideal S3x128x128 .f32) (x12 : Vec Ideal S128x128 .f32)

section A
variable (hc0 : cond0_0 i) (hc1 : ¬cond0_1 i) (hc2 : ¬cond0_2 i) (fh0 : HbBuf0 (F := Ideal) c hbM0_0)

theorem A_hid : (kernelRun0_A.sl.v59 c arg1 harg1 arg2 harg2 arg20 x0 x1 : FVec Ideal S512x1024 .bf16) = HH x0 x1 := by
  unfold kernelRun0_A.sl.v59 kernelRun0_A.sl.HS2_1
  refine (hit _ _ _ _).trans ?_
  unfold kernelRun0_A.sl.r
  refine (congrArg₂ (fun a b => k0_pay9 (F := Ideal) (k0_pay8 (F := Ideal) a b)) (rdw arg1 harg1 x0 _) (rdw arg2 harg2 x1 _)).trans (hh_A x0 x1)

theorem A_dma (y : S1024x3200.Idx) : (kernelRun0_A.sl.dma0 (F := Ideal) c fh0 : FVec Ideal S1024x3200 .bf16) y = fh0 (ix3 0 (y 0) (y 1) : S2x1024x3200.Idx) := by
  obtain ⟨r, l, rfl⟩ : ∃ (r : Fin 1024) (l : Fin 3200), y = ix2 r l := ⟨y 0, y 1, by funext a; fin_cases a <;> rfl⟩
  refine (congrArg (fun z => fh0 ((Rect.unit (s := S2x1024x3200) ![0, 0, 0] S1x1024x3200.size (by decide)).emb z)) (ValueIdx.reshapeEquiv_ix2_1ab (a := 1024) (b := 3200) _ r l)).trans ?_
  congr 1
  funext a
  fin_cases a
  · rfl
  · exact Fin.ext (show 0 + 1 * r.val = r.val by omega)
  · exact Fin.ext (show 0 + 1 * l.val = l.val by omega)

theorem A_w : sout0_A_6 c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 fh0 = kernelRun0_A.sl.dma0 (F := Ideal) c fh0 := by
  unfold sout0_A_6
  rw [View.read_writes_eq_canon _ _ _ (scover0_A_6 c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 fh0)]
  unfold kernelRun0_A
  dsimp only
  funext y
  have e : y = (Rect.whole S1024x3200).emb y := by
    funext a
    exact Fin.ext (show (y a).val = 0 + 1 * (y a).val by omega)
  conv_lhs => rw [e]
  exact View.canon_cons_emb (Rect.whole S1024x3200) _ [] y

theorem A_u_0 : (kernelRun0_A.sl.v137 c arg1 harg1 arg2 harg2 arg18 arg20 arg24 x0 x1 fh0 : FVec Ideal S512x384 .f32) = fun j : S512x384.Idx => UU (HH x0 x1) (kernelRun0_A.sl.dma0 (F := Ideal) c fh0) (j 0) (0 + (j 1).val) := by
  unfold kernelRun0_A.sl.v137 kernelRun0_A.sl.HS0_13 kernelRun0_A.sl.r_1
  rw [A_hid c arg1 harg1 arg2 harg2 arg20 x0 x1]
  generalize HH x0 x1 = H
  set W : FVec Ideal S1024x3200 .bf16 := kernelRun0_A.sl.dma0 (F := Ideal) c fh0 with hW
  refine (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((five arg18 (UU H W) _ _ _ _ _ _ _ _ _ _ 0 384 (by decide) _ ?_ ?_ ?_ ?_ ?_)))))))))
  · exact up_of H W _ 1024 (by decide) fun k l L h => rdv arg24 W 1024 _ k l L h
  · exact up_of H W _ 768 (by decide) fun k l L h => rdv arg24 W 768 _ k l L h
  · exact up_of H W _ 512 (by decide) fun k l L h => rdv arg24 W 512 _ k l L h
  · exact up_of H W _ 256 (by decide) fun k l L h => rdv arg24 W 256 _ k l L h
  · exact up_of H W _ 0 (by decide) fun k l L h => rdv arg24 W 0 _ k l L h

theorem A_u_384 : (kernelRun0_A.sl.v142 c arg1 harg1 arg2 harg2 arg18 arg20 arg24 x0 x1 fh0 : FVec Ideal S512x768 .f32) = fun j : S512x768.Idx => UU (HH x0 x1) (kernelRun0_A.sl.dma0 (F := Ideal) c fh0) (j 0) (384 + (j 1).val) := by
  unfold kernelRun0_A.sl.v142 kernelRun0_A.sl.HS0_13 kernelRun0_A.sl.r_1
  rw [A_hid c arg1 harg1 arg2 harg2 arg20 x0 x1]
  generalize HH x0 x1 = H
  set W : FVec Ideal S1024x3200 .bf16 := kernelRun0_A.sl.dma0 (F := Ideal) c fh0 with hW
  refine (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((five arg18 (UU H W) _ _ _ _ _ _ _ _ _ _ 384 768 (by decide) _ ?_ ?_ ?_ ?_ ?_)))))))))
  · exact up_of H W _ 1024 (by decide) fun k l L h => rdv arg24 W 1024 _ k l L h
  · exact up_of H W _ 768 (by decide) fun k l L h => rdv arg24 W 768 _ k l L h
  · exact up_of H W _ 512 (by decide) fun k l L h => rdv arg24 W 512 _ k l L h
  · exact up_of H W _ 256 (by decide) fun k l L h => rdv arg24 W 256 _ k l L h
  · exact up_of H W _ 0 (by decide) fun k l L h => rdv arg24 W 0 _ k l L h

theorem A_att : out0_A_13 c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 fh0 = ATTB x0 x1 (kernelRun0_A.sl.dma0 (F := Ideal) c fh0) := by
  unfold out0_A_13
  rw [View.read_writes_eq_canon _ _ _ (cover0_A_13 c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 fh0)]
  unfold kernelRun0_A
  dsimp only
  rw [A_u_0 c arg1 harg1 arg2 harg2 arg18 arg20 arg24 x0 x1 fh0, A_u_384 c arg1 harg1 arg2 harg2 arg18 arg20 arg24 x0 x1 fh0]
  exact attb_of x0 x1 _ _ _

end A

section B
variable (hc0 : ¬cond0_0 i) (hc1 : cond0_1 i) (hc2 : ¬cond0_2 i) (fh0 : HbBuf0 (F := Ideal) c hbM0_0) (xs6 : Vec Ideal S1024x3200 .bf16)

theorem B_hid : (kernelRun0_B.sl.v96 c arg1 harg1 arg2 harg2 arg20 x0 x1 : FVec Ideal S512x1024 .bf16) = HH x0 x1 := by
  unfold kernelRun0_B.sl.v96 kernelRun0_B.sl.HS2_1
  refine (hit _ _ _ _).trans ?_
  unfold kernelRun0_B.sl.r
  exact congrArg₂ (fun a b => k0_pay48 (F := Ideal) a b) (rdw arg1 harg1 x0 _) (rdw arg2 harg2 x1 _)

theorem B_u_0 : (kernelRun0_B.sl.v2638 c arg1 harg1 arg2 harg2 arg18 arg20 arg24 harg24 x0 x1 xs6 : FVec Ideal S512x384 .f32) = fun j : S512x384.Idx => UU (HH x0 x1) xs6 (j 0) (0 + (j 1).val) := by
  unfold kernelRun0_B.sl.v2638 kernelRun0_B.sl.HS0_13
  rw [B_hid c arg1 harg1 arg2 harg2 arg20 x0 x1]
  generalize HH x0 x1 = H
  refine (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((five arg18 (UU H xs6) _ _ _ _ _ _ _ _ _ _ 0 384 (by decide) _ ?_ ?_ ?_ ?_ ?_)))))))))
  · exact up_of H xs6 _ 1024 (by decide) fun k l L h => rdc arg24 harg24 xs6 1024 _ k l L h
  · exact up_of H xs6 _ 768 (by decide) fun k l L h => rdc arg24 harg24 xs6 768 _ k l L h
  · exact up_of H xs6 _ 512 (by decide) fun k l L h => rdc arg24 harg24 xs6 512 _ k l L h
  · exact up_of H xs6 _ 256 (by decide) fun k l L h => rdc arg24 harg24 xs6 256 _ k l L h
  · exact up_of H xs6 _ 0 (by decide) fun k l L h => rdc arg24 harg24 xs6 0 _ k l L h

theorem B_u_384 : (kernelRun0_B.sl.v2643 c arg1 harg1 arg2 harg2 arg18 arg20 arg24 harg24 x0 x1 xs6 : FVec Ideal S512x768 .f32) = fun j : S512x768.Idx => UU (HH x0 x1) xs6 (j 0) (384 + (j 1).val) := by
  unfold kernelRun0_B.sl.v2643 kernelRun0_B.sl.HS0_13
  rw [B_hid c arg1 harg1 arg2 harg2 arg20 x0 x1]
  generalize HH x0 x1 = H
  refine (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((five arg18 (UU H xs6) _ _ _ _ _ _ _ _ _ _ 384 768 (by decide) _ ?_ ?_ ?_ ?_ ?_)))))))))
  · exact up_of H xs6 _ 1024 (by decide) fun k l L h => rdc arg24 harg24 xs6 1024 _ k l L h
  · exact up_of H xs6 _ 768 (by decide) fun k l L h => rdc arg24 harg24 xs6 768 _ k l L h
  · exact up_of H xs6 _ 512 (by decide) fun k l L h => rdc arg24 harg24 xs6 512 _ k l L h
  · exact up_of H xs6 _ 256 (by decide) fun k l L h => rdc arg24 harg24 xs6 256 _ k l L h
  · exact up_of H xs6 _ 0 (by decide) fun k l L h => rdc arg24 harg24 xs6 0 _ k l L h

theorem B_att : out0_B_13 c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 xs6 fh0 = ATTB x0 x1 xs6 := by
  unfold out0_B_13
  rw [View.read_writes_eq_canon _ _ _ (cover0_B_13 c i arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 x12 xs6 fh0)]
  unfold kernelRun0_B
  dsimp only
  rw [B_u_0 c arg1 harg1 arg2 harg2 arg18 arg20 arg24 harg24 x0 x1 xs6, B_u_384 c arg1 harg1 arg2 harg2 arg18 arg20 arg24 harg24 x0 x1 xs6]
  exact attb_of x0 x1 _ _ _

end B

end Cert.Mix

end

end
-- ==== Proof.Mix.RefAt.lean ====
/- The blocks a grid point reads at coordinates of the argument arrays, and the block it leaves as the reference's rows. -/
module

public import proofs.«01_k».proof.Proof.Mix.Att
public import proofs.«01_k».proof.Proof.Mix.Kit
public import Idealize.ShloMosaic.Lib.Pointwise

@[expose] public section

set_option maxRecDepth 16384

noncomputable section

namespace Cert.Mix

open Idealize.ShloMosaic Idealize.ShloMosaic.TcCoe Idealize.SL.Sem
open Cert.Kernel2Ideal Cert.Kernel2Ideal.Gen
open Cert.MixR (NRM)

variable (m : (ℓ : Loc nD τ sig) → Buf (Elt Ideal) ℓ)

def A0 (c : Dev nD) : FVec Ideal S4x8192x1024 .f32 := m ((c : Thread nD τ).loc main_arg0)
def A1 (c : Dev nD) : FVec Ideal S2x1024 .f32 := m ((c : Thread nD τ).loc main_arg1)
def A2 (c : Dev nD) : FVec Ideal S2x1024x3200 .f32 := m ((c : Thread nD τ).loc main_arg2)

theorem v78_at (c : Dev nD) (R : Fin 32768) (l : Fin 1024) (b : Fin 4) (s : Fin 8192) (hb : b.val = R.val / 8192) (hs : s.val = R.val % 8192) :
    V m c main_v78 (ix2 R l) = A0 m c (ix3 b s l) := by
  obtain ⟨b, hb'⟩ := b
  obtain ⟨s, hs'⟩ := s
  dsimp only at hb hs
  subst hb hs
  simp only [V, hostOps0, hostOps0_1, hostOps0_2, hostOps0_3, hostOps0_4, List.flatten_cons, List.flatten_nil, List.append_nil, List.cons_append, List.nil_append]
  entry_read
  pointwise
  rfl

theorem v81_at (c : Dev nD) (l : Fin 1024) : V m c main_v81 (ix2 0 l) = A1 m c (ix2 0 l) := by
  simp only [V, hostOps0, hostOps0_1, hostOps0_2, hostOps0_3, hostOps0_4, List.flatten_cons, List.flatten_nil, List.append_nil, List.cons_append, List.nil_append]
  entry_read
  pointwise
  rfl

theorem v82_at (c : Dev nD) : V m c main_v82 = A2 m c := by
  entry_read
  rfl

theorem idx : ∀ t : Fin cfg0.N, win0_0.index t = ![min t.val 63, 0] ∧ win0_1.index t = ![0, 0] ∧ win0_13.index t = ![min t.val 63, 0] :=
  (by decide +kernel : ∀ t : Fin grid0.N, _)

theorem b0_at (c : Dev nD) (t : Fin cfg0.N) (r : Fin 512) (l : Fin 1024) (R : Fin 32768) (h : R.val = 512 * min t.val 63 + r.val) :
    iblk m c 0 t (ix2 r l) = V m c main_v78 (ix2 R l) := by
  blk_ext [iblk, idx t]

theorem b1_at (c : Dev nD) (t : Fin cfg0.N) (l : Fin 1024) : iblk m c 1 t (ix2 0 l) = V m c main_v81 (ix2 0 l) := by
  blk_ext [iblk, idx t]

/-- The reference's result at the kernel's arguments. -/
def REF (c : Dev nD) : FVec Ideal S32768x1152 .bf16 :=
  Cert.Reference2Ideal.Read.val_main_v26 (F := Ideal) (A0 m c) (A1 m c) (A2 m c)

theorem attb_at (c : Dev nD) (t : Fin cfg0.N) (W : FVec Ideal S1024x3200 .bf16) (hW : ∀ y : S1024x3200.Idx, W y = A2 m c (ix3 0 (y 0) (y 1)))
    (r : Fin 512) (l : Fin 1152) (R : Fin 32768) (hR : R.val = 512 * min t.val 63 + r.val) :
    ATTB (iblk m c 0 t) (iblk m c 1 t) W (ix2 r l) = REF m c (ix2 R l) := by
  obtain ⟨b, hb⟩ : ∃ b : Fin 4, b.val = R.val / 8192 := ⟨⟨R.val / 8192, by have := R.isLt; omega⟩, rfl⟩
  obtain ⟨u, hu⟩ : ∃ b : Fin 8192, b.val = R.val % 8192 := ⟨⟨R.val % 8192, by have := R.isLt; omega⟩, rfl⟩
  have hl := l.isLt
  have e0 : (fun k : Fin 1024 => iblk m c 0 t (ix2 r k)) = fun k => A0 m c (ix3 b u k) := funext fun k => by
    rw [b0_at m c t r k R hR]; exact v78_at m c R k b u hb hu
  have e1 : ∀ k : Fin 1024, iblk m c 1 t (ix2 0 k) = A1 m c (ix2 0 k) := fun k => by
    rw [b1_at m c t k]; exact v81_at m c k
  have key : UU (HH (iblk m c 0 t) (iblk m c 1 t)) W r l.val = Cert.MixR.UR (A0 m c) (A1 m c) (A2 m c) b u ⟨l.val, by omega⟩ := by
    unfold UU Cert.MixR.UR
    rw [dif_pos (by omega)]
    refine Finset.sum_congr rfl fun k _ => ?_
    rw [hh_apply, e0, e1, hW]
    rfl
  unfold REF
  rw [Cert.MixR.ref_row _ _ _ R b u l hb hu, ← key]
  rfl

end Cert.Mix

end

end
-- ==== Proof.Mix.Fin.lean ====
/- The array of the projected blocks is the reference's. -/
module

public import proofs.«01_k».proof.Proof.Mix.Frame
public import proofs.«01_k».proof.Proof.Mix.RefAt

@[expose] public section

set_option maxRecDepth 16384

noncomputable section

namespace Cert.Mix

open Idealize.ShloMosaic Idealize.ShloMosaic.TcCoe Idealize.SL.Sem
open Cert.Kernel2Ideal Cert.Kernel2Ideal.Gen

variable (m : (ℓ : Loc nD τ sig) → Buf (Elt Ideal) ℓ)

theorem dma_at (c : Dev nD) (y : S1024x3200.Idx) :
    (kernelRun0_A.sl.dma0 (F := Ideal) c (V m c main_v82) : FVec Ideal S1024x3200 .bf16) y = A2 m c (ix3 0 (y 0) (y 1)) :=
  (A_dma c (V m c main_v82) y).trans (congrFun (v82_at m c) _)

theorem wv_at (c : Dev nD) (y : S1024x3200.Idx) : (wv m c : FVec Ideal S1024x3200 .bf16) y = A2 m c (ix3 0 (y 0) (y 1)) := by
  refine Eq.trans (congrFun ?_ y) (dma_at m c y)
  unfold wv wA
  apply A_w

theorem row_lt (c : Dev nD) (t : Fin cfg0.N) (ht : t.val ≤ 63) (r : Fin 512) (l : Fin 1152) (R : Fin 32768) (hR : R.val = 512 * min t.val 63 + r.val) :
    att m c t (ix2 r l) = REF m c (ix2 R l) := by
  by_cases h0 : t.val % 65 = 0
  · rw [att_A m c t h0 (by omega) (by omega)]
    refine Eq.trans (congrFun ?_ _) (attb_at m c t _ (dma_at m c) r l R hR)
    unfold valA
    apply A_att
  · rw [att_B m c t h0 (by omega) (by omega)]
    refine Eq.trans (congrFun ?_ _) (attb_at m c t _ (wv_at m c) r l R hR)
    unfold valB
    apply B_att

theorem row_at (c : Dev nD) (t : Fin cfg0.N) (r : Fin 512) (l : Fin 1152) (R : Fin 32768) (hR : R.val = 512 * min t.val 63 + r.val) :
    att m c t (ix2 r l) = REF m c (ix2 R l) := by
  have hN : t.val < 65 := lt_of_lt_of_eq t.isLt (show cfg0.N = 65 from N_0)
  by_cases h : t.val ≤ 63
  · exact row_lt m c t h r l R hR
  · rw [att_C m c t (by omega) (by omega) (by omega)]
    exact row_lt m c t63 (by show 63 ≤ 63; omega) r l R (hR.trans (by show 512 * min t.val 63 + r.val = 512 * min 63 63 + r.val; omega))

theorem final (c : Dev nD) : (dats m 0 c).arrAt 13 cfg0.N = REF m c := by
  refine (dats m 0 c).arrAt_eq_of_covers 13 (REF m c) (by decide +kernel) fun t hf y => ?_
  blk_simp
  rw [after0_13]
  have hN : t.val < 65 := lt_of_lt_of_eq t.isLt (show cfg0.N = 65 from N_0)
  have hy0 : (y 0).val < 512 := (y 0).isLt
  have hy1 : (y 1).val < 1152 := (y 1).isLt
  have ey : (y : S512x1152.Idx) = ix2 (⟨(y 0).val, hy0⟩ : Fin 512) (⟨(y 1).val, hy1⟩ : Fin 1152) := by
    funext a
    fin_cases a <;> rfl
  refine (congrArg (att m c t) ey).trans ((row_at m c t ⟨(y 0).val, hy0⟩ ⟨(y 1).val, hy1⟩ ⟨512 * min t.val 63 + (y 0).val, by omega⟩ rfl).trans ?_)
  blk_ext [idx t]

/-- The call's result array and arguments after a run. -/
theorem run_value (ρ : Dev nD → PrngReg) : θ_run defs (onTc (τ := τ) (main (F := Ideal))) ⟨m, fun _ => 0, ρ⟩ (fun r => ∀ c : Dev nD,
    r.2.mem ((c.tc : Thread nD τ).loc main_v94_0) = REF m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) :=
  (θ_run defs _ _).mono (fun _ h c => ⟨((Pipeline.Dat.toRForget_arrAt_iff (dats m 0 c) (by rfl) _ _).mp ((h c).1 13)).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.Mix

end

end
-- ==== Proof.Mix.Lit.lean ====
/- The constant table of `in_proj_mix` is the same one in the kernel's program and in the idealized program. -/
module

public import proofs.«01_k».proof.Proof.Gen.Kernel2
public import proofs.«01_k».proof.Proof.Gen.Kernel2Ideal

@[expose] public section

set_option maxRecDepth 1000000

noncomputable section

namespace Cert.Mix

open Idealize.ShloMosaic Idealize.ShloMosaic.TcCoe Idealize.SL.Sem

set_option maxHeartbeats 0 in
theorem lit_at (a b : Fin 128) : Cert.Kernel2.lit0 ⟨128 * a.val + b.val, by omega⟩ = Cert.Kernel2Ideal.lit0 ⟨128 * a.val + b.val, by omega⟩ := by
  revert a b
  decide +kernel

theorem lit_eq : Cert.Kernel2.lit0 = Cert.Kernel2Ideal.lit0 := funext fun i =>
  (congrArg Cert.Kernel2.lit0 (Fin.ext (Nat.div_add_mod i.val 128).symm)).trans
    ((lit_at ⟨i.val / 128, by omega⟩ ⟨i.val % 128, Nat.mod_lt _ (by decide)⟩).trans (congrArg Cert.Kernel2Ideal.lit0 (Fin.ext (Nat.div_add_mod i.val 128))))

end Cert.Mix

end

end
-- ==== Proof.Mix.Word.lean ====
/- `in_proj_mix` over the words: its program is the idealized one, part by part, so the one run serves both. -/
module

public import proofs.«01_k».proof.Proof.Gen.Kernel2
public import proofs.«01_k».proof.Proof.Mix.Frame
public import proofs.«01_k».proof.Proof.Mix.Lit

@[expose] public section

set_option maxRecDepth 1000000

noncomputable section

namespace Cert.Mix

open Idealize.ShloMosaic Idealize.ShloMosaic.TcCoe Idealize.SL.Sem

variable {F : FTy → Type} [FloatOps F]

attribute [local instance] Cert.Kernel2.Gen.facts Cert.Kernel2Ideal.Gen.facts

set_option maxHeartbeats 20000000

theorem bodies : Cert.Kernel2.defs₀ (F := F) = Cert.Kernel2Ideal.defs₀ (F := F) := by
  unfold Cert.Kernel2.defs₀ Cert.Kernel2Ideal.defs₀
  refine congrArg Defs.onTc (funext fun l => funext fun a => ?_)
  match l, a with
  | 0, (t, s) => exact rfl
  | ⟨n + 1, h⟩, _ => exact absurd h (Nat.not_lt.2 (Nat.le_add_left _ _))

theorem defs_eq : Cert.Kernel2.defs (F := F) = Cert.Kernel2Ideal.defs (F := F) := by
  unfold Cert.Kernel2.defs Cert.Kernel2Ideal.defs
  exact congrArg _ bodies

theorem part0_eq : Cert.Kernel2.main_part0 (F := F) = Cert.Kernel2Ideal.main_part0 (F := F) := by
  unfold Cert.Kernel2.main_part0 Cert.Kernel2Ideal.main_part0
  rw [lit_eq]
  rfl

theorem part1_eq : Cert.Kernel2.main_part1 (F := F) = Cert.Kernel2Ideal.main_part1 (F := F) := by
  unfold Cert.Kernel2.main_part1 Cert.Kernel2Ideal.main_part1
  rfl

theorem main_eq : Cert.Kernel2.main (F := F) = Cert.Kernel2Ideal.main (F := F) := by
  funext d
  exact congrArg₂ (fun p q => p >>= fun _ => q) (congrFun part0_eq d) (congrFun part1_eq d)

theorem frame_words (m : (ℓ : Loc Cert.Kernel2Ideal.nD Cert.Kernel2Ideal.τ Cert.Kernel2Ideal.sig) → Buf (Elt F) ℓ) (ρ : Dev Cert.Kernel2Ideal.nD → PrngReg)
    (D : Defs Cert.Kernel2Ideal.nD Cert.Kernel2Ideal.τ Cert.Kernel2Ideal.sig (Elt F) (Pipeline.Sig Cert.Kernel2Ideal.Λ₀ (Fin 1) fun p => (Cert.Kernel2Ideal.pcfgs (F := F) p).Adm))
    (M : Dev Cert.Kernel2Ideal.nD → Prog (TpuEff Cert.Kernel2Ideal.nD Cert.Kernel2Ideal.τ Cert.Kernel2Ideal.sig (Elt F) (Pipeline.Sig Cert.Kernel2Ideal.Λ₀ (Fin 1) fun p => (Cert.Kernel2Ideal.pcfgs (F := F) p).Adm) .tc) PUnit)
    (hD : D = Cert.Kernel2Ideal.defs) (hM : M = Cert.Kernel2Ideal.main) :
    θ_run D (onTc (τ := Cert.Kernel2Ideal.τ) M) ⟨m, fun _ => 0, ρ⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0) := by
  subst hD hM
  exact Cert.Kernel2Ideal.Gen.frame m ρ

end Cert.Mix

end

end
-- ==== Proof.lean ====
module

public import proofs.«01_k».proof.Defs
public import proofs.«01_k».proof.Proof.Gen.Kernel
public import proofs.«01_k».proof.Proof.Gen.KernelIdeal
public import proofs.«01_k».proof.Proof.Gen.Kernel2
public import proofs.«01_k».proof.Proof.Gen.Kernel2Ideal
public import proofs.«01_k».proof.Proof.Gen.Kernel2Ideal.Launch
public import proofs.«01_k».proof.Proof.Gen.Kernel2Ideal.Points
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Reference2Ideal.Read
public import proofs.«01_k».proof.Proof.Gen.ReferenceIdeal
public import proofs.«01_k».proof.Proof.Gen.ReferenceIdeal.Run
public import proofs.«01_k».proof.Proof.Gen.ReferenceIdeal.Read
public import proofs.«01_k».proof.Proof.Bits.Frame
public import proofs.«01_k».proof.Proof.Ideal.Value
public import proofs.«01_k».proof.Proof.Final
public import proofs.«01_k».proof.Proof.Pre
public import proofs.«01_k».proof.Proof.Mix.Frame
public import proofs.«01_k».proof.Proof.Mix.Fin
public import proofs.«01_k».proof.Proof.Mix.Word

@[expose] public section

set_option maxRecDepth 16384

noncomputable section

namespace Cert.Proof

open Idealize.ShloMosaic Idealize.ShloMosaic.TcCoe Idealize.SL.Sem

/-- The reference runs, and leaves its arguments as they were; it declares no semaphore. -/
theorem frame_r : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel's result is the reference's. -/
theorem value : haveI := Cert.Pre_finite_scores.facts; Cert.algebraic_KernelIdeal_ReferenceIdeal_pre_finite_scores := by
  intro m g m' g' hpre hagree
  refine ⟨fun c => Cert.Att.REF m c, (θ_run Cert.KernelIdeal.defs _ _).mono (fun r h c => ?_) (Cert.KernelIdeal.Value.run_blocks m g),
    (θ_run Cert.ReferenceIdeal.defs _ _).mono (fun r h c => ⟨((h c).1.trans (Cert.ReferenceIdeal.Read.val_main_v141_eq _)).trans ?_, (h c).2⟩)
      (Cert.ReferenceIdeal.Value.run (F := Ideal) m' g')⟩
  · obtain ⟨h1, h2, h9⟩ := @Cert.Pre_finite_scores.fin Cert.Pre_finite_scores.facts _ _ _ _ _ _ _ _ _ _ _ _ _ (hpre c)
    exact ⟨(h c).1.trans (Cert.Att.final m c h1 h2 h9), (h c).2⟩
  · obtain ⟨a0, a1, a2, a3, a4, a5, a6, a7, a8, a9, a10, a11, a12⟩ := hagree c
    have e0 : StableHlo.launchContents m' c (Proc.devRef .tc Cert.ReferenceIdeal.main_arg0) = Cert.Att.A0 m c := a0
    have e1 : StableHlo.launchContents m' c (Proc.devRef .tc Cert.ReferenceIdeal.main_arg1) = Cert.Att.A1 m c := a1
    have e2 : StableHlo.launchContents m' c (Proc.devRef .tc Cert.ReferenceIdeal.main_arg2) = Cert.Att.A2 m c := a2
    have e3 : StableHlo.launchContents m' c (Proc.devRef .tc Cert.ReferenceIdeal.main_arg3) = Cert.Att.A3 m c := a3
    have e4 : StableHlo.launchContents m' c (Proc.devRef .tc Cert.ReferenceIdeal.main_arg4) = Cert.Att.A4 m c := a4
    have e5 : StableHlo.launchContents m' c (Proc.devRef .tc Cert.ReferenceIdeal.main_arg5) = Cert.Att.A5 m c := a5
    have e6 : StableHlo.launchContents m' c (Proc.devRef .tc Cert.ReferenceIdeal.main_arg6) = Cert.Att.A6 m c := a6
    have e7 : StableHlo.launchContents m' c (Proc.devRef .tc Cert.ReferenceIdeal.main_arg7) = Cert.Att.A7 m c := a7
    have e8 : StableHlo.launchContents m' c (Proc.devRef .tc Cert.ReferenceIdeal.main_arg8) = Cert.Att.A8 m c := a8
    have e9 : StableHlo.launchContents m' c (Proc.devRef .tc Cert.ReferenceIdeal.main_arg9) = Cert.Att.A9 m c := a9
    have e10 : StableHlo.launchContents m' c (Proc.devRef .tc Cert.ReferenceIdeal.main_arg10) = Cert.Att.A10 m c := a10
    have e11 : StableHlo.launchContents m' c (Proc.devRef .tc Cert.ReferenceIdeal.main_arg11) = Cert.Att.A11 m c := a11
    have e12 : StableHlo.launchContents m' c (Proc.devRef .tc Cert.ReferenceIdeal.main_arg12) = Cert.Att.A12 m c := a12
    rw [e0, e1, e2, e3, e4, e5, e6, e7, e8, e9, e10, e11, e12]
    rfl

/-- The second reference runs, and leaves its arguments as they were; it declares no semaphore. -/
theorem frame_r2 : Cert.quiescent_Reference2Ideal := by
  intro m ρ _
  exact (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The queries, keys and values of `in_proj_mix` are the reference's. -/
theorem value2 : Cert.algebraic_Kernel2Ideal_Reference2Ideal := by
  intro m g m' g' hpre hagree
  refine ⟨fun c => Cert.Mix.REF m c, Cert.Mix.run_value m g,
    (θ_run Cert.Reference2Ideal.defs _ _).mono (fun r h c => ⟨((h c).1.trans (Cert.Reference2Ideal.Read.val_main_v26_eq m' c)).trans ?_, (h c).2⟩)
      (Cert.Reference2Ideal.Value.run (F := Ideal) m' g')⟩
  obtain ⟨a0, a1, a2, -⟩ := hagree c
  rw [a0, a1, a2]
  rfl

/-- `in_proj_mix` over the words runs and leaves its arguments and semaphores as they were. -/
theorem frame_kernel2 : haveI := Cert.Kernel2.Gen.facts; Cert.quiescent_Kernel2 :=
  fun m ρ _ => Cert.Mix.frame_words (F := Bits) m ρ Cert.Kernel2.defs Cert.Kernel2.main Cert.Mix.defs_eq Cert.Mix.main_eq

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_finite_scores.facts,
  fun m ρ _ => Cert.Kernel.Gen.frame m ρ, fun m ρ _ => Cert.KernelIdeal.Gen.frame m ρ, fun m ρ _ => Cert.KernelIdeal.Gen.frame m ρ,
  frame_r, fun m ρ _ => frame_r m ρ trivial,
  frame_kernel2, fun m ρ _ => Cert.Kernel2Ideal.Gen.frame m ρ, frame_r2,
  IdealRules.named_const.statement Cert.KernelIdeal.κ "mask" .f32 0xF149F2CA#32 ⊥ rfl, value, trivial, value2⟩

end Cert.Proof

end
